-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v3)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v4)) (v5 : (c : Dev Cert.KernelIdeal.nD) → Buf (Elt Ideal) ((c.tc : Thread Cert.KernelIdeal.nD Cert.KernelIdeal.τ).loc Cert.KernelIdeal.main_v2_5)) (v6 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v4) = v4 c
          ∧ r.2.mem ((c.tc : Thread Cert.KernelIdeal.nD Cert.KernelIdeal.τ).loc Cert.KernelIdeal.main_v2_5) = v5 c
          ∧ r.2.mem ((c.tc : Thread Cert.KernelIdeal.nD Cert.KernelIdeal.τ).loc Cert.KernelIdeal.main_v5) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_v22) = v3 c
          ∧ r.2.mem ((c.tc : Thread Cert.ReferenceIdeal.nD Cert.ReferenceIdeal.τ).loc Cert.ReferenceIdeal.main_v54) = v4 c
          ∧ r.2.mem ((c.tc : Thread Cert.ReferenceIdeal.nD Cert.ReferenceIdeal.τ).loc Cert.ReferenceIdeal.main_v59) = v5 c
          ∧ r.2.mem ((c.tc : Thread Cert.ReferenceIdeal.nD Cert.ReferenceIdeal.τ).loc Cert.ReferenceIdeal.main_v62) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1024x16384 : Shape := ⟨3, ![2, 1024, 16384]⟩
abbrev S2x1024 : Shape := ⟨2, ![2, 1024]⟩
abbrev S16384x128 : Shape := ⟨2, ![16384, 128]⟩
abbrev S2x1024x8 : Shape := ⟨3, ![2, 1024, 8]⟩
abbrev S2048x16384 : Shape := ⟨2, ![2048, 16384]⟩
abbrev S2x8x1024 : Shape := ⟨3, ![2, 8, 1024]⟩
abbrev S1x128 : Shape := ⟨2, ![1, 128]⟩
abbrev S2048x128 : Shape := ⟨2, ![2048, 128]⟩
abbrev S32x2048x512 : Shape := ⟨3, ![32, 2048, 512]⟩
abbrev S32x512x128 : Shape := ⟨3, ![32, 512, 128]⟩
abbrev S8x128x256 : Shape := ⟨3, ![8, 128, 256]⟩
abbrev S128x2048 : Shape := ⟨2, ![128, 2048]⟩
abbrev S3x2048x512 : Shape := ⟨3, ![3, 2048, 512]⟩
abbrev S2x512x128 : Shape := ⟨3, ![2, 512, 128]⟩
abbrev S32 : Shape := ⟨1, ![32]⟩
abbrev S2 : Shape := ⟨1, ![2]⟩
abbrev S5 : Shape := ⟨1, ![5]⟩
abbrev S3 : Shape := ⟨1, ![3]⟩
abbrev S1 : Shape := ⟨1, ![1]⟩
abbrev S_ : Shape := ⟨0, ![]⟩
abbrev S1x512x128 : Shape := ⟨3, ![1, 512, 128]⟩
abbrev S512x128 : Shape := ⟨2, ![512, 128]⟩
abbrev S1x2048x512 : Shape := ⟨3, ![1, 2048, 512]⟩
abbrev S2048x512 : Shape := ⟨2, ![2048, 512]⟩
abbrev S128x128 : Shape := ⟨2, ![128, 128]⟩
abbrev S1x1x128 : Shape := ⟨3, ![1, 1, 128]⟩
abbrev S128 : Shape := ⟨1, ![128]⟩
abbrev S128x1 : Shape := ⟨2, ![128, 1]⟩
abbrev S128x512 : Shape := ⟨2, ![128, 512]⟩
abbrev S1x128x256 : Shape := ⟨3, ![1, 128, 256]⟩
abbrev S128x256 : Shape := ⟨2, ![128, 256]⟩
abbrev S1x256x512 : Shape := ⟨3, ![1, 256, 512]⟩
abbrev S256x512 : Shape := ⟨2, ![256, 512]⟩
abbrev S1x256 : Shape := ⟨2, ![1, 256]⟩
abbrev S256 : Shape := ⟨1, ![256]⟩
abbrev S256x128 : Shape := ⟨2, ![256, 128]⟩
abbrev S2x1024x128 : Shape := ⟨3, ![2, 1024, 128]⟩

abbrev nBuf : Space → Nat
  | .hbm => 16
  | .vmem => 14
  | .smem => 0
  | _ => 0

abbrev bufTy : (tb : Table) → Fin (tcTables nBuf tb) → BufTy
  | .hbm, ⟨0, _⟩ => ⟨S2x1024x16384, .fp8e4m3⟩
  | .hbm, ⟨1, _⟩ => ⟨S2x1024, .f32⟩
  | .hbm, ⟨2, _⟩ => ⟨S16384x128, .bf16⟩
  | .hbm, ⟨3, _⟩ => ⟨S2x1024x8, .i32⟩
  | .hbm, ⟨4, _⟩ => ⟨S2048x16384, .fp8e4m3⟩
  | .hbm, ⟨5, _⟩ => ⟨S2x8x1024, .i32⟩
  | .hbm, ⟨6, _⟩ => ⟨S2x1024, .f32⟩
  | .hbm, ⟨7, _⟩ => ⟨S2x1024, .f32⟩
  | .hbm, ⟨8, _⟩ => ⟨S1x128, .f32⟩
  | .hbm, ⟨9, _⟩ => ⟨S2x1024, .f32⟩
  | .hbm, ⟨10, _⟩ => ⟨S2048x128, .f32⟩
  | .hbm, ⟨11, _⟩ => ⟨S16384x128, .f32⟩
  | .hbm, ⟨12, _⟩ => ⟨S2048x16384, .bf16⟩
  | .hbm, ⟨13, _⟩ => ⟨S128, .f32⟩
  | .hbm, ⟨14, _⟩ => ⟨S2x1024x128, .f32⟩
  | .hbm, ⟨15, _⟩ => ⟨S2x1024x16384, .bf16⟩
  | .local _ .vmem, ⟨0, _⟩ => ⟨S32x2048x512, .fp8e4m3⟩
  | .local _ .vmem, ⟨1, _⟩ => ⟨S32x512x128, .bf16⟩
  | .local _ .vmem, ⟨2, _⟩ => ⟨S2x1024, .f32⟩
  | .local _ .vmem, ⟨3, _⟩ => ⟨S2x8x1024, .i32⟩
  | .local _ .vmem, ⟨4, _⟩ => ⟨S8x128x256, .f32⟩
  | .local _ .vmem, ⟨5, _⟩ => ⟨S2048x128, .bf16⟩
  | .local _ .vmem, ⟨6, _⟩ => ⟨S128x2048, .bf16⟩
  | .local _ .vmem, ⟨7, _⟩ => ⟨S2048x128, .f32⟩
  | .local _ .vmem, ⟨8, _⟩ => ⟨S2x1024, .f32⟩
  | .local _ .vmem, ⟨9, _⟩ => ⟨S2x1024, .f32⟩
  | .local _ .vmem, ⟨10, _⟩ => ⟨S1x128, .f32⟩
  | .local _ .vmem, ⟨11, _⟩ => ⟨S2x1024, .f32⟩
  | .local _ .vmem, ⟨12, _⟩ => ⟨S3x2048x512, .bf16⟩
  | .local _ .vmem, ⟨13, _⟩ => ⟨S2x512x128, .f32⟩
  | _, _ => ⟨S2x1024x16384, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 76 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | _ => false

abbrev sig : RefSig :=
  ofTc nBuf bufTy 0 76 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v2_4 : Ref sig .tc := ⟨.hbm, 10, rfl⟩
abbrev main_v2_5 : Ref sig .tc := ⟨.hbm, 11, rfl⟩
abbrev main_v2_6 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev cc0_scratch12 : Ref sig .tc := ⟨.vmem, 12, rfl⟩
abbrev cc0_scratch13 : Ref sig .tc := ⟨.vmem, 13, rfl⟩

abbrev nD : Nat := 1
abbrev τ : Topo := Topo.v7x

variable {F : FTy → Type} [FloatOps F]

abbrev grid0 : Pipeline.Grid := .none

@[reducible] def k0_t1_loop : Scf.Loop 32 :=
  let c0_i32_0 : BitVec 32 := 0#32
  let c32_i32 : BitVec 32 := 32#32
  let v4 : BitVec 32 := Scalar.addi c0_i32_0 c32_i32
  let c1_i32_1 : BitVec 32 := 1#32
  ⟨c0_i32_0, v4, c1_i32_1⟩
def k0_off1 (k0_t1 : Fin k0_t1_loop.trips) : Fin 1 → Nat :=
  let c0_i32_880 : BitVec 32 := 0#32
  let c0_i32_0 : BitVec 32 := 0#32
  let c1_i32_1 : BitVec 32 := 1#32
  let arg31 : BitVec 32 := Scf.iv c0_i32_0 c1_i32_1 k0_t1
  let c1_i32_879 : BitVec 32 := 1#32
  let v1587 : BitVec 32 := Scalar.muli arg31 c1_i32_879
  let v1588 : BitVec 32 := Scalar.addi c0_i32_880 v1587
  ![v1588.toNat]
def k0_off2 (k0_t1 : Fin k0_t1_loop.trips) : Fin 3 → Nat :=
  let c0_i32_880 : BitVec 32 := 0#32
  let c0_i32_0 : BitVec 32 := 0#32
  let c1_i32_1 : BitVec 32 := 1#32
  let arg31 : BitVec 32 := Scf.iv c0_i32_0 c1_i32_1 k0_t1
  let c1_i32_879 : BitVec 32 := 1#32
  let v1587 : BitVec 32 := Scalar.muli arg31 c1_i32_879
  let v1588 : BitVec 32 := Scalar.addi c0_i32_880 v1587
  let c0_i32_881 : BitVec 32 := 0#32
  let c0_i32_882 : BitVec 32 := 0#32
  ![v1588.toNat, 0, 0]
def k0_off3 (k0_t1 : Fin k0_t1_loop.trips) : Fin 2 → Nat :=
  let c0_i32_880 : BitVec 32 := 0#32
  let c0_i32_0 : BitVec 32 := 0#32
  let c1_i32_1 : BitVec 32 := 1#32
  let arg31 : BitVec 32 := Scf.iv c0_i32_0 c1_i32_1 k0_t1
  let c1_i32_879 : BitVec 32 := 1#32
  let v1587 : BitVec 32 := Scalar.muli arg31 c1_i32_879
  let v1588 : BitVec 32 := Scalar.addi c0_i32_880 v1587
  let c512_i32 : BitVec 32 := 512#32
  let v1589 : BitVec 32 := Scalar.muli v1588 c512_i32
  let c0_i32_883 : BitVec 32 := 0#32
  ![v1589.toNat, 0]
def k0_off4 (k0_t1 : Fin k0_t1_loop.trips) : Fin 3 → Nat :=
  let c0_i32_880 : BitVec 32 := 0#32
  let c0_i32_0 : BitVec 32 := 0#32
  let c1_i32_1 : BitVec 32 := 1#32
  let arg31 : BitVec 32 := Scf.iv c0_i32_0 c1_i32_1 k0_t1
  let c1_i32_879 : BitVec 32 := 1#32
  let v1587 : BitVec 32 := Scalar.muli arg31 c1_i32_879
  let v1588 : BitVec 32 := Scalar.addi c0_i32_880 v1587
  let c0_i32_885 : BitVec 32 := 0#32
  let c0_i32_886 : BitVec 32 := 0#32
  ![v1588.toNat, 0, 0]
def k0_off5 (k0_t1 : Fin k0_t1_loop.trips) : Fin 2 → Nat :=
  let c0_i32_887 : BitVec 32 := 0#32
  let c0_i32_880 : BitVec 32 := 0#32
  let c0_i32_0 : BitVec 32 := 0#32
  let c1_i32_1 : BitVec 32 := 1#32
  let arg31 : BitVec 32 := Scf.iv c0_i32_0 c1_i32_1 k0_t1
  let c1_i32_879 : BitVec 32 := 1#32
  let v1587 : BitVec 32 := Scalar.muli arg31 c1_i32_879
  let v1588 : BitVec 32 := Scalar.addi c0_i32_880 v1587
  let c512_i32_884 : BitVec 32 := 512#32
  let v1595 : BitVec 32 := Scalar.muli v1588 c512_i32_884
  ![0, v1595.toNat]
@[reducible] def k0_t2_loop : Scf.Loop 32 :=
  let c0_i32_636 : BitVec 32 := 0#32
  let c32_i32_637 : BitVec 32 := 32#32
  let v1043 : BitVec 32 := Scalar.addi c0_i32_636 c32_i32_637
  let c1_i32_638 : BitVec 32 := 1#32
  ⟨c0_i32_636, v1043, c1_i32_638⟩
def k0_off6 (k0_t2 : Fin k0_t2_loop.trips) : Fin 1 → Nat :=
  let c0_i32_880 : BitVec 32 := 0#32
  let c0_i32_636 : BitVec 32 := 0#32
  let c1_i32_638 : BitVec 32 := 1#32
  let arg31 : BitVec 32 := Scf.iv c0_i32_636 c1_i32_638 k0_t2
  let c1_i32_879 : BitVec 32 := 1#32
  let v1587 : BitVec 32 := Scalar.muli arg31 c1_i32_879
  let v1588 : BitVec 32 := Scalar.addi c0_i32_880 v1587
  ![v1588.toNat]
def k0_off7 (k0_t2 : Fin k0_t2_loop.trips) : Fin 3 → Nat :=
  let c0_i32_880 : BitVec 32 := 0#32
  let c0_i32_636 : BitVec 32 := 0#32
  let c1_i32_638 : BitVec 32 := 1#32
  let arg31 : BitVec 32 := Scf.iv c0_i32_636 c1_i32_638 k0_t2
  let c1_i32_879 : BitVec 32 := 1#32
  let v1587 : BitVec 32 := Scalar.muli arg31 c1_i32_879
  let v1588 : BitVec 32 := Scalar.addi c0_i32_880 v1587
  let c0_i32_881 : BitVec 32 := 0#32
  let c0_i32_882 : BitVec 32 := 0#32
  ![v1588.toNat, 0, 0]
def k0_off8 (k0_t2 : Fin k0_t2_loop.trips) : Fin 2 → Nat :=
  let c0_i32_880 : BitVec 32 := 0#32
  let c0_i32_636 : BitVec 32 := 0#32
  let c1_i32_638 : BitVec 32 := 1#32
  let arg31 : BitVec 32 := Scf.iv c0_i32_636 c1_i32_638 k0_t2
  let c1_i32_879 : BitVec 32 := 1#32
  let v1587 : BitVec 32 := Scalar.muli arg31 c1_i32_879
  let v1588 : BitVec 32 := Scalar.addi c0_i32_880 v1587
  let c512_i32 : BitVec 32 := 512#32
  let v1589 : BitVec 32 := Scalar.muli v1588 c512_i32
  let c0_i32_883 : BitVec 32 := 0#32
  ![v1589.toNat, 0]
def k0_off9 (k0_t2 : Fin k0_t2_loop.trips) : Fin 3 → Nat :=
  let c0_i32_880 : BitVec 32 := 0#32
  let c0_i32_636 : BitVec 32 := 0#32
  let c1_i32_638 : BitVec 32 := 1#32
  let arg31 : BitVec 32 := Scf.iv c0_i32_636 c1_i32_638 k0_t2
  let c1_i32_879 : BitVec 32 := 1#32
  let v1587 : BitVec 32 := Scalar.muli arg31 c1_i32_879
  let v1588 : BitVec 32 := Scalar.addi c0_i32_880 v1587
  let c0_i32_885 : BitVec 32 := 0#32
  let c0_i32_886 : BitVec 32 := 0#32
  ![v1588.toNat, 0, 0]
def k0_off10 (k0_t2 : Fin k0_t2_loop.trips) : Fin 2 → Nat :=
  let c0_i32_887 : BitVec 32 := 0#32
  let c0_i32_880 : BitVec 32 := 0#32
  let c0_i32_636 : BitVec 32 := 0#32
  let c1_i32_638 : BitVec 32 := 1#32
  let arg31 : BitVec 32 := Scf.iv c0_i32_636 c1_i32_638 k0_t2
  let c1_i32_879 : BitVec 32 := 1#32
  let v1587 : BitVec 32 := Scalar.muli arg31 c1_i32_879
  let v1588 : BitVec 32 := Scalar.addi c0_i32_880 v1587
  let c512_i32_884 : BitVec 32 := 512#32
  let v1595 : BitVec 32 := Scalar.muli v1588 c512_i32_884
  ![0, v1595.toNat]
def k0_off11 (k0_t2 : Fin k0_t2_loop.trips) : Fin 3 → Nat :=
  let c0_i32_880 : BitVec 32 := 0#32
  let c0_i32_636 : BitVec 32 := 0#32
  let c1_i32_638 : BitVec 32 := 1#32
  let arg31 : BitVec 32 := Scf.iv c0_i32_636 c1_i32_638 k0_t2
  let c1_i32_879 : BitVec 32 := 1#32
  let v1587 : BitVec 32 := Scalar.muli arg31 c1_i32_879
  let v1588 : BitVec 32 := Scalar.addi c0_i32_880 v1587
  let v1601 : Index := Scalar.indexCast v1588
  let c0_888 : Index := 0#32
  let c0_889 : Index := 0#32
  ![v1601.toNat, 0, 0]
def k0_off12 (k0_t2 : Fin k0_t2_loop.trips) : Fin 3 → Nat :=
  let c0_i32_880 : BitVec 32 := 0#32
  let c0_i32_636 : BitVec 32 := 0#32
  let c1_i32_638 : BitVec 32 := 1#32
  let arg31 : BitVec 32 := Scf.iv c0_i32_636 c1_i32_638 k0_t2
  let c1_i32_879 : BitVec 32 := 1#32
  let v1587 : BitVec 32 := Scalar.muli arg31 c1_i32_879
  let v1588 : BitVec 32 := Scalar.addi c0_i32_880 v1587
  let v1607 : Index := Scalar.indexCast v1588
  let c0_893 : Index := 0#32
  let c0_894 : Index := 0#32
  ![v1607.toNat, 0, 0]
def k0_off13 (k0_t2 : Fin k0_t2_loop.trips) : Fin 3 → Nat :=
  let c0_i32_880 : BitVec 32 := 0#32
  let c0_i32_636 : BitVec 32 := 0#32
  let c1_i32_638 : BitVec 32 := 1#32
  let arg31 : BitVec 32 := Scf.iv c0_i32_636 c1_i32_638 k0_t2
  let c1_i32_879 : BitVec 32 := 1#32
  let v1587 : BitVec 32 := Scalar.muli arg31 c1_i32_879
  let v1588 : BitVec 32 := Scalar.addi c0_i32_880 v1587
  let v1617 : Index := Scalar.indexCast v1588
  let c256_902 : Index := 256#32
  let c0_903 : Index := 0#32
  ![v1617.toNat, 256, 0]
def k0_off14 (k0_t2 : Fin k0_t2_loop.trips) : Fin 3 → Nat :=
  let c0_i32_880 : BitVec 32 := 0#32
  let c0_i32_636 : BitVec 32 := 0#32
  let c1_i32_638 : BitVec 32 := 1#32
  let arg31 : BitVec 32 := Scf.iv c0_i32_636 c1_i32_638 k0_t2
  let c1_i32_879 : BitVec 32 := 1#32
  let v1587 : BitVec 32 := Scalar.muli arg31 c1_i32_879
  let v1588 : BitVec 32 := Scalar.addi c0_i32_880 v1587
  let v1627 : Index := Scalar.indexCast v1588
  let c512_911 : Index := 512#32
  let c0_912 : Index := 0#32
  ![v1627.toNat, 512, 0]
def k0_off15 (k0_t2 : Fin k0_t2_loop.trips) : Fin 3 → Nat :=
  let c0_i32_880 : BitVec 32 := 0#32
  let c0_i32_636 : BitVec 32 := 0#32
  let c1_i32_638 : BitVec 32 := 1#32
  let arg31 : BitVec 32 := Scf.iv c0_i32_636 c1_i32_638 k0_t2
  let c1_i32_879 : BitVec 32 := 1#32
  let v1587 : BitVec 32 := Scalar.muli arg31 c1_i32_879
  let v1588 : BitVec 32 := Scalar.addi c0_i32_880 v1587
  let v1637 : Index := Scalar.indexCast v1588
  let c768_920 : Index := 768#32
  let c0_921 : Index := 0#32
  ![v1637.toNat, 768, 0]
def k0_off16 (k0_t2 : Fin k0_t2_loop.trips) : Fin 3 → Nat :=
  let c0_i32_880 : BitVec 32 := 0#32
  let c0_i32_636 : BitVec 32 := 0#32
  let c1_i32_638 : BitVec 32 := 1#32
  let arg31 : BitVec 32 := Scf.iv c0_i32_636 c1_i32_638 k0_t2
  let c1_i32_879 : BitVec 32 := 1#32
  let v1587 : BitVec 32 := Scalar.muli arg31 c1_i32_879
  let v1588 : BitVec 32 := Scalar.addi c0_i32_880 v1587
  let v1647 : Index := Scalar.indexCast v1588
  let c1024_929 : Index := 1024#32
  let c0_930 : Index := 0#32
  ![v1647.toNat, 1024, 0]
def k0_off17 (k0_t2 : Fin k0_t2_loop.trips) : Fin 3 → Nat :=
  let c0_i32_880 : BitVec 32 := 0#32
  let c0_i32_636 : BitVec 32 := 0#32
  let c1_i32_638 : BitVec 32 := 1#32
  let arg31 : BitVec 32 := Scf.iv c0_i32_636 c1_i32_638 k0_t2
  let c1_i32_879 : BitVec 32 := 1#32
  let v1587 : BitVec 32 := Scalar.muli arg31 c1_i32_879
  let v1588 : BitVec 32 := Scalar.addi c0_i32_880 v1587
  let v1657 : Index := Scalar.indexCast v1588
  let c1280_938 : Index := 1280#32
  let c0_939 : Index := 0#32
  ![v1657.toNat, 1280, 0]
def k0_off18 (k0_t2 : Fin k0_t2_loop.trips) : Fin 3 → Nat :=
  let c0_i32_880 : BitVec 32 := 0#32
  let c0_i32_636 : BitVec 32 := 0#32
  let c1_i32_638 : BitVec 32 := 1#32
  let arg31 : BitVec 32 := Scf.iv c0_i32_636 c1_i32_638 k0_t2
  let c1_i32_879 : BitVec 32 := 1#32
  let v1587 : BitVec 32 := Scalar.muli arg31 c1_i32_879
  let v1588 : BitVec 32 := Scalar.addi c0_i32_880 v1587
  let v1667 : Index := Scalar.indexCast v1588
  let c1536_947 : Index := 1536#32
  let c0_948 : Index := 0#32
  ![v1667.toNat, 1536, 0]
def k0_off19 (k0_t2 : Fin k0_t2_loop.trips) : Fin 3 → Nat :=
  let c0_i32_880 : BitVec 32 := 0#32
  let c0_i32_636 : BitVec 32 := 0#32
  let c1_i32_638 : BitVec 32 := 1#32
  let arg31 : BitVec 32 := Scf.iv c0_i32_636 c1_i32_638 k0_t2
  let c1_i32_879 : BitVec 32 := 1#32
  let v1587 : BitVec 32 := Scalar.muli arg31 c1_i32_879
  let v1588 : BitVec 32 := Scalar.addi c0_i32_880 v1587
  let v1677 : Index := Scalar.indexCast v1588
  let c1792_956 : Index := 1792#32
  let c0_957 : Index := 0#32
  ![v1677.toNat, 1792, 0]
@[reducible] def k0_t3_loop : Scf.Loop 32 :=
  let c0_i32_843 : BitVec 32 := 0#32
  let c32_i32_844 : BitVec 32 := 32#32
  let v1551 : BitVec 32 := Scalar.addi c0_i32_843 c32_i32_844
  let c1_i32_845 : BitVec 32 := 1#32
  ⟨c0_i32_843, v1551, c1_i32_845⟩
def k0_cond1 (k0_t3 : Fin k0_t3_loop.trips) : BitVec 1 :=
  let c0_i32_880 : BitVec 32 := 0#32
  let c0_i32_843 : BitVec 32 := 0#32
  let c1_i32_845 : BitVec 32 := 1#32
  let arg31 : BitVec 32 := Scf.iv c0_i32_843 c1_i32_845 k0_t3
  let c1_i32_879 : BitVec 32 := 1#32
  let v1587 : BitVec 32 := Scalar.muli arg31 c1_i32_879
  let v1588 : BitVec 32 := Scalar.addi c0_i32_880 v1587
  let c3_i32_883 : BitVec 32 := 3#32
  let v1591 : BitVec 1 := Scalar.cmpi .sge v1588 c3_i32_883
  let v1592 : BitVec 32 := Scalar.extui v1591
  let c0_i32_884 : BitVec 32 := 0#32
  let v1593 : BitVec 1 := Scalar.cmpi .ne v1592 c0_i32_884
  v1593

def k0_off20 (k0_t3 : Fin k0_t3_loop.trips) : Fin 1 → Nat :=
  let c0_i32_880 : BitVec 32 := 0#32
  let c0_i32_843 : BitVec 32 := 0#32
  let c1_i32_845 : BitVec 32 := 1#32
  let arg31 : BitVec 32 := Scf.iv c0_i32_843 c1_i32_845 k0_t3
  let c1_i32_879 : BitVec 32 := 1#32
  let v1587 : BitVec 32 := Scalar.muli arg31 c1_i32_879
  let v1588 : BitVec 32 := Scalar.addi c0_i32_880 v1587
  let c3_i32_881 : BitVec 32 := 3#32
  let v1589 : BitVec 32 := Scalar.remsi v1588 c3_i32_881
  ![v1589.toNat]
def k0_off21 (k0_t3 : Fin k0_t3_loop.trips) : Fin 2 → Nat :=
  let c0_i32_945 : BitVec 32 := 0#32
  let c0_i32_880 : BitVec 32 := 0#32
  let c0_i32_843 : BitVec 32 := 0#32
  let c1_i32_845 : BitVec 32 := 1#32
  let arg31 : BitVec 32 := Scf.iv c0_i32_843 c1_i32_845 k0_t3
  let c1_i32_879 : BitVec 32 := 1#32
  let v1587 : BitVec 32 := Scalar.muli arg31 c1_i32_879
  let v1588 : BitVec 32 := Scalar.addi c0_i32_880 v1587
  let c3_i32_943 : BitVec 32 := 3#32
  let v1678 : BitVec 32 := Scalar.subi v1588 c3_i32_943
  let c512_i32_944 : BitVec 32 := 512#32
  let v1679 : BitVec 32 := Scalar.muli v1678 c512_i32_944
  ![0, v1679.toNat]
def k0_off22 (k0_t3 : Fin k0_t3_loop.trips) : Fin 3 → Nat :=
  let c0_i32_880 : BitVec 32 := 0#32
  let c0_i32_843 : BitVec 32 := 0#32
  let c1_i32_845 : BitVec 32 := 1#32
  let arg31 : BitVec 32 := Scf.iv c0_i32_843 c1_i32_845 k0_t3
  let c1_i32_879 : BitVec 32 := 1#32
  let v1587 : BitVec 32 := Scalar.muli arg31 c1_i32_879
  let v1588 : BitVec 32 := Scalar.addi c0_i32_880 v1587
  let c3_i32_881 : BitVec 32 := 3#32
  let v1589 : BitVec 32 := Scalar.remsi v1588 c3_i32_881
  let c0_i32_946 : BitVec 32 := 0#32
  let c0_i32_947 : BitVec 32 := 0#32
  ![v1589.toNat, 0, 0]
def k0_cond2 (k0_t3 : Fin k0_t3_loop.trips) : BitVec 1 :=
  let c0_i32_880 : BitVec 32 := 0#32
  let c0_i32_843 : BitVec 32 := 0#32
  let c1_i32_845 : BitVec 32 := 1#32
  let arg31 : BitVec 32 := Scf.iv c0_i32_843 c1_i32_845 k0_t3
  let c1_i32_879 : BitVec 32 := 1#32
  let v1587 : BitVec 32 := Scalar.muli arg31 c1_i32_879
  let v1588 : BitVec 32 := Scalar.addi c0_i32_880 v1587
  let c2_i32_885 : BitVec 32 := 2#32
  let v1594 : BitVec 1 := Scalar.cmpi .sge v1588 c2_i32_885
  let v1595 : BitVec 32 := Scalar.extui v1594
  let c0_i32_886 : BitVec 32 := 0#32
  let v1596 : BitVec 1 := Scalar.cmpi .ne v1595 c0_i32_886
  v1596

def k0_off23 (k0_t3 : Fin k0_t3_loop.trips) : Fin 1 → Nat :=
  let c0_i32_880 : BitVec 32 := 0#32
  let c0_i32_843 : BitVec 32 := 0#32
  let c1_i32_845 : BitVec 32 := 1#32
  let arg31 : BitVec 32 := Scf.iv c0_i32_843 c1_i32_845 k0_t3
  let c1_i32_879 : BitVec 32 := 1#32
  let v1587 : BitVec 32 := Scalar.muli arg31 c1_i32_879
  let v1588 : BitVec 32 := Scalar.addi c0_i32_880 v1587
  let c2_i32_882 : BitVec 32 := 2#32
  let v1590 : BitVec 32 := Scalar.remsi v1588 c2_i32_882
  ![v1590.toNat]
def k0_off24 (k0_t3 : Fin k0_t3_loop.trips) : Fin 2 → Nat :=
  let c0_i32_880 : BitVec 32 := 0#32
  let c0_i32_843 : BitVec 32 := 0#32
  let c1_i32_845 : BitVec 32 := 1#32
  let arg31 : BitVec 32 := Scf.iv c0_i32_843 c1_i32_845 k0_t3
  let c1_i32_879 : BitVec 32 := 1#32
  let v1587 : BitVec 32 := Scalar.muli arg31 c1_i32_879
  let v1588 : BitVec 32 := Scalar.addi c0_i32_880 v1587
  let c2_i32_943 : BitVec 32 := 2#32
  let v1678 : BitVec 32 := Scalar.subi v1588 c2_i32_943
  let c512_i32_944 : BitVec 32 := 512#32
  let v1679 : BitVec 32 := Scalar.muli v1678 c512_i32_944
  let c0_i32_945 : BitVec 32 := 0#32
  ![v1679.toNat, 0]
def k0_off25 (k0_t3 : Fin k0_t3_loop.trips) : Fin 3 → Nat :=
  let c0_i32_880 : BitVec 32 := 0#32
  let c0_i32_843 : BitVec 32 := 0#32
  let c1_i32_845 : BitVec 32 := 1#32
  let arg31 : BitVec 32 := Scf.iv c0_i32_843 c1_i32_845 k0_t3
  let c1_i32_879 : BitVec 32 := 1#32
  let v1587 : BitVec 32 := Scalar.muli arg31 c1_i32_879
  let v1588 : BitVec 32 := Scalar.addi c0_i32_880 v1587
  let c2_i32_882 : BitVec 32 := 2#32
  let v1590 : BitVec 32 := Scalar.remsi v1588 c2_i32_882
  let c0_i32_946 : BitVec 32 := 0#32
  let c0_i32_947 : BitVec 32 := 0#32
  ![v1590.toNat, 0, 0]
def k0_off26 (k0_t3 : Fin k0_t3_loop.trips) : Fin 3 → Nat :=
  let c0_i32_880 : BitVec 32 := 0#32
  let c0_i32_843 : BitVec 32 := 0#32
  let c1_i32_845 : BitVec 32 := 1#32
  let arg31 : BitVec 32 := Scf.iv c0_i32_843 c1_i32_845 k0_t3
  let c1_i32_879 : BitVec 32 := 1#32
  let v1587 : BitVec 32 := Scalar.muli arg31 c1_i32_879
  let v1588 : BitVec 32 := Scalar.addi c0_i32_880 v1587
  let v1597 : Index := Scalar.indexCast v1588
  let c0_887 : Index := 0#32
  let c0_888 : Index := 0#32
  ![v1597.toNat, 0, 0]
def k0_off27 (k0_t3 : Fin k0_t3_loop.trips) : Fin 3 → Nat :=
  let c0_i32_880 : BitVec 32 := 0#32
  let c0_i32_843 : BitVec 32 := 0#32
  let c1_i32_845 : BitVec 32 := 1#32
  let arg31 : BitVec 32 := Scf.iv c0_i32_843 c1_i32_845 k0_t3
  let c1_i32_879 : BitVec 32 := 1#32
  let v1587 : BitVec 32 := Scalar.muli arg31 c1_i32_879
  let v1588 : BitVec 32 := Scalar.addi c0_i32_880 v1587
  let c3_i32_881 : BitVec 32 := 3#32
  let v1589 : BitVec 32 := Scalar.remsi v1588 c3_i32_881
  let v1603 : Index := Scalar.indexCast v1589
  let c0_892 : Index := 0#32
  let c0_893 : Index := 0#32
  ![v1603.toNat, 0, 0]
def k0_off28 (k0_t3 : Fin k0_t3_loop.trips) : Fin 3 → Nat :=
  let c0_i32_880 : BitVec 32 := 0#32
  let c0_i32_843 : BitVec 32 := 0#32
  let c1_i32_845 : BitVec 32 := 1#32
  let arg31 : BitVec 32 := Scf.iv c0_i32_843 c1_i32_845 k0_t3
  let c1_i32_879 : BitVec 32 := 1#32
  let v1587 : BitVec 32 := Scalar.muli arg31 c1_i32_879
  let v1588 : BitVec 32 := Scalar.addi c0_i32_880 v1587
  let c3_i32_881 : BitVec 32 := 3#32
  let v1589 : BitVec 32 := Scalar.remsi v1588 c3_i32_881
  let v1610 : Index := Scalar.indexCast v1589
  let c256_897 : Index := 256#32
  let c0_898 : Index := 0#32
  ![v1610.toNat, 256, 0]
def k0_off29 (k0_t3 : Fin k0_t3_loop.trips) : Fin 3 → Nat :=
  let c0_i32_880 : BitVec 32 := 0#32
  let c0_i32_843 : BitVec 32 := 0#32
  let c1_i32_845 : BitVec 32 := 1#32
  let arg31 : BitVec 32 := Scf.iv c0_i32_843 c1_i32_845 k0_t3
  let c1_i32_879 : BitVec 32 := 1#32
  let v1587 : BitVec 32 := Scalar.muli arg31 c1_i32_879
  let v1588 : BitVec 32 := Scalar.addi c0_i32_880 v1587
  let c3_i32_881 : BitVec 32 := 3#32
  let v1589 : BitVec 32 := Scalar.remsi v1588 c3_i32_881
  let v1617 : Index := Scalar.indexCast v1589
  let c512_902 : Index := 512#32
  let c0_903 : Index := 0#32
  ![v1617.toNat, 512, 0]
def k0_off30 (k0_t3 : Fin k0_t3_loop.trips) : Fin 3 → Nat :=
  let c0_i32_880 : BitVec 32 := 0#32
  let c0_i32_843 : BitVec 32 := 0#32
  let c1_i32_845 : BitVec 32 := 1#32
  let arg31 : BitVec 32 := Scf.iv c0_i32_843 c1_i32_845 k0_t3
  let c1_i32_879 : BitVec 32 := 1#32
  let v1587 : BitVec 32 := Scalar.muli arg31 c1_i32_879
  let v1588 : BitVec 32 := Scalar.addi c0_i32_880 v1587
  let c3_i32_881 : BitVec 32 := 3#32
  let v1589 : BitVec 32 := Scalar.remsi v1588 c3_i32_881
  let v1624 : Index := Scalar.indexCast v1589
  let c768_907 : Index := 768#32
  let c0_908 : Index := 0#32
  ![v1624.toNat, 768, 0]
def k0_off31 (k0_t3 : Fin k0_t3_loop.trips) : Fin 3 → Nat :=
  let c0_i32_880 : BitVec 32 := 0#32
  let c0_i32_843 : BitVec 32 := 0#32
  let c1_i32_845 : BitVec 32 := 1#32
  let arg31 : BitVec 32 := Scf.iv c0_i32_843 c1_i32_845 k0_t3
  let c1_i32_879 : BitVec 32 := 1#32
  let v1587 : BitVec 32 := Scalar.muli arg31 c1_i32_879
  let v1588 : BitVec 32 := Scalar.addi c0_i32_880 v1587
  let c3_i32_881 : BitVec 32 := 3#32
  let v1589 : BitVec 32 := Scalar.remsi v1588 c3_i32_881
  let v1631 : Index := Scalar.indexCast v1589
  let c1024_912 : Index := 1024#32
  let c0_913 : Index := 0#32
  ![v1631.toNat, 1024, 0]
def k0_off32 (k0_t3 : Fin k0_t3_loop.trips) : Fin 3 → Nat :=
  let c0_i32_880 : BitVec 32 := 0#32
  let c0_i32_843 : BitVec 32 := 0#32
  let c1_i32_845 : BitVec 32 := 1#32
  let arg31 : BitVec 32 := Scf.iv c0_i32_843 c1_i32_845 k0_t3
  let c1_i32_879 : BitVec 32 := 1#32
  let v1587 : BitVec 32 := Scalar.muli arg31 c1_i32_879
  let v1588 : BitVec 32 := Scalar.addi c0_i32_880 v1587
  let c3_i32_881 : BitVec 32 := 3#32
  let v1589 : BitVec 32 := Scalar.remsi v1588 c3_i32_881
  let v1638 : Index := Scalar.indexCast v1589
  let c1280_917 : Index := 1280#32
  let c0_918 : Index := 0#32
  ![v1638.toNat, 1280, 0]
def k0_off33 (k0_t3 : Fin k0_t3_loop.trips) : Fin 3 → Nat :=
  let c0_i32_880 : BitVec 32 := 0#32
  let c0_i32_843 : BitVec 32 := 0#32
  let c1_i32_845 : BitVec 32 := 1#32
  let arg31 : BitVec 32 := Scf.iv c0_i32_843 c1_i32_845 k0_t3
  let c1_i32_879 : BitVec 32 := 1#32
  let v1587 : BitVec 32 := Scalar.muli arg31 c1_i32_879
  let v1588 : BitVec 32 := Scalar.addi c0_i32_880 v1587
  let c3_i32_881 : BitVec 32 := 3#32
  let v1589 : BitVec 32 := Scalar.remsi v1588 c3_i32_881
  let v1645 : Index := Scalar.indexCast v1589
  let c1536_922 : Index := 1536#32
  let c0_923 : Index := 0#32
  ![v1645.toNat, 1536, 0]
def k0_off34 (k0_t3 : Fin k0_t3_loop.trips) : Fin 3 → Nat :=
  let c0_i32_880 : BitVec 32 := 0#32
  let c0_i32_843 : BitVec 32 := 0#32
  let c1_i32_845 : BitVec 32 := 1#32
  let arg31 : BitVec 32 := Scf.iv c0_i32_843 c1_i32_845 k0_t3
  let c1_i32_879 : BitVec 32 := 1#32
  let v1587 : BitVec 32 := Scalar.muli arg31 c1_i32_879
  let v1588 : BitVec 32 := Scalar.addi c0_i32_880 v1587
  let c3_i32_881 : BitVec 32 := 3#32
  let v1589 : BitVec 32 := Scalar.remsi v1588 c3_i32_881
  let v1652 : Index := Scalar.indexCast v1589
  let c1792_927 : Index := 1792#32
  let c0_928 : Index := 0#32
  ![v1652.toNat, 1792, 0]
def k0_off35 (k0_t3 : Fin k0_t3_loop.trips) : Fin 3 → Nat :=
  let c0_i32_880 : BitVec 32 := 0#32
  let c0_i32_843 : BitVec 32 := 0#32
  let c1_i32_845 : BitVec 32 := 1#32
  let arg31 : BitVec 32 := Scf.iv c0_i32_843 c1_i32_845 k0_t3
  let c1_i32_879 : BitVec 32 := 1#32
  let v1587 : BitVec 32 := Scalar.muli arg31 c1_i32_879
  let v1588 : BitVec 32 := Scalar.addi c0_i32_880 v1587
  let v1657 : Index := Scalar.indexCast v1588
  let c0_931 : Index := 0#32
  let c0_932 : Index := 0#32
  ![v1657.toNat, 0, 0]
def k0_off36 (k0_t3 : Fin k0_t3_loop.trips) : Fin 3 → Nat :=
  let c0_i32_880 : BitVec 32 := 0#32
  let c0_i32_843 : BitVec 32 := 0#32
  let c1_i32_845 : BitVec 32 := 1#32
  let arg31 : BitVec 32 := Scf.iv c0_i32_843 c1_i32_845 k0_t3
  let c1_i32_879 : BitVec 32 := 1#32
  let v1587 : BitVec 32 := Scalar.muli arg31 c1_i32_879
  let v1588 : BitVec 32 := Scalar.addi c0_i32_880 v1587
  let c2_i32_882 : BitVec 32 := 2#32
  let v1590 : BitVec 32 := Scalar.remsi v1588 c2_i32_882
  let v1662 : Index := Scalar.indexCast v1590
  let c0_934 : Index := 0#32
  let c0_935 : Index := 0#32
  ![v1662.toNat, 0, 0]
def k0_off37 (k0_t3 : Fin k0_t3_loop.trips) : Fin 1 → Nat :=
  let c0_i32_880 : BitVec 32 := 0#32
  let c0_i32_843 : BitVec 32 := 0#32
  let c1_i32_845 : BitVec 32 := 1#32
  let arg31 : BitVec 32 := Scf.iv c0_i32_843 c1_i32_845 k0_t3
  let c1_i32_879 : BitVec 32 := 1#32
  let v1587 : BitVec 32 := Scalar.muli arg31 c1_i32_879
  let v1588 : BitVec 32 := Scalar.addi c0_i32_880 v1587
  let c3_i32_881 : BitVec 32 := 3#32
  let v1589 : BitVec 32 := Scalar.remsi v1588 c3_i32_881
  ![v1589.toNat]
def k0_off38 (k0_t3 : Fin k0_t3_loop.trips) : Fin 2 → Nat :=
  let c0_i32_936 : BitVec 32 := 0#32
  let c0_i32_880 : BitVec 32 := 0#32
  let c0_i32_843 : BitVec 32 := 0#32
  let c1_i32_845 : BitVec 32 := 1#32
  let arg31 : BitVec 32 := Scf.iv c0_i32_843 c1_i32_845 k0_t3
  let c1_i32_879 : BitVec 32 := 1#32
  let v1587 : BitVec 32 := Scalar.muli arg31 c1_i32_879
  let v1588 : BitVec 32 := Scalar.addi c0_i32_880 v1587
  let c512_i32 : BitVec 32 := 512#32
  let v1666 : BitVec 32 := Scalar.muli v1588 c512_i32
  ![0, v1666.toNat]
def k0_off39 (k0_t3 : Fin k0_t3_loop.trips) : Fin 3 → Nat :=
  let c0_i32_880 : BitVec 32 := 0#32
  let c0_i32_843 : BitVec 32 := 0#32
  let c1_i32_845 : BitVec 32 := 1#32
  let arg31 : BitVec 32 := Scf.iv c0_i32_843 c1_i32_845 k0_t3
  let c1_i32_879 : BitVec 32 := 1#32
  let v1587 : BitVec 32 := Scalar.muli arg31 c1_i32_879
  let v1588 : BitVec 32 := Scalar.addi c0_i32_880 v1587
  let c3_i32_881 : BitVec 32 := 3#32
  let v1589 : BitVec 32 := Scalar.remsi v1588 c3_i32_881
  let c0_i32_937 : BitVec 32 := 0#32
  let c0_i32_938 : BitVec 32 := 0#32
  ![v1589.toNat, 0, 0]
def k0_off40 (k0_t3 : Fin k0_t3_loop.trips) : Fin 1 → Nat :=
  let c0_i32_880 : BitVec 32 := 0#32
  let c0_i32_843 : BitVec 32 := 0#32
  let c1_i32_845 : BitVec 32 := 1#32
  let arg31 : BitVec 32 := Scf.iv c0_i32_843 c1_i32_845 k0_t3
  let c1_i32_879 : BitVec 32 := 1#32
  let v1587 : BitVec 32 := Scalar.muli arg31 c1_i32_879
  let v1588 : BitVec 32 := Scalar.addi c0_i32_880 v1587
  let c2_i32_882 : BitVec 32 := 2#32
  let v1590 : BitVec 32 := Scalar.remsi v1588 c2_i32_882
  ![v1590.toNat]
def k0_off41 (k0_t3 : Fin k0_t3_loop.trips) : Fin 2 → Nat :=
  let c0_i32_880 : BitVec 32 := 0#32
  let c0_i32_843 : BitVec 32 := 0#32
  let c1_i32_845 : BitVec 32 := 1#32
  let arg31 : BitVec 32 := Scf.iv c0_i32_843 c1_i32_845 k0_t3
  let c1_i32_879 : BitVec 32 := 1#32
  let v1587 : BitVec 32 := Scalar.muli arg31 c1_i32_879
  let v1588 : BitVec 32 := Scalar.addi c0_i32_880 v1587
  let c512_i32_939 : BitVec 32 := 512#32
  let v1672 : BitVec 32 := Scalar.muli v1588 c512_i32_939
  let c0_i32_940 : BitVec 32 := 0#32
  ![v1672.toNat, 0]
def k0_off42 (k0_t3 : Fin k0_t3_loop.trips) : Fin 3 → Nat :=
  let c0_i32_880 : BitVec 32 := 0#32
  let c0_i32_843 : BitVec 32 := 0#32
  let c1_i32_845 : BitVec 32 := 1#32
  let arg31 : BitVec 32 := Scf.iv c0_i32_843 c1_i32_845 k0_t3
  let c1_i32_879 : BitVec 32 := 1#32
  let v1587 : BitVec 32 := Scalar.muli arg31 c1_i32_879
  let v1588 : BitVec 32 := Scalar.addi c0_i32_880 v1587
  let c2_i32_882 : BitVec 32 := 2#32
  let v1590 : BitVec 32 := Scalar.remsi v1588 c2_i32_882
  let c0_i32_941 : BitVec 32 := 0#32
  let c0_i32_942 : BitVec 32 := 0#32
  ![v1590.toNat, 0, 0]
-- ==== ReferenceIdeal.lean ====
abbrev S2x1024x16384 : Shape := ⟨3, ![2, 1024, 16384]⟩
abbrev S2x1024 : Shape := ⟨2, ![2, 1024]⟩
abbrev S16384x128 : Shape := ⟨2, ![16384, 128]⟩
abbrev S2x1024x8 : Shape := ⟨3, ![2, 1024, 8]⟩
abbrev S2x1024x8x1 : Shape := ⟨4, ![2, 1024, 8, 1]⟩
abbrev S128 : Shape := ⟨1, ![128]⟩
abbrev S1x1x1x128 : Shape := ⟨4, ![1, 1, 1, 128]⟩
abbrev S2x1024x8x128 : Shape := ⟨4, ![2, 1024, 8, 128]⟩
abbrev S_ : Shape := ⟨0, ![]⟩
abbrev S2x1024x128 : Shape := ⟨3, ![2, 1024, 128]⟩
abbrev S2x1024x1 : Shape := ⟨3, ![2, 1024, 1]⟩
abbrev S1x1x128 : Shape := ⟨3, ![1, 1, 128]⟩

abbrev nBuf : Space → Nat
  | .hbm => 78
  | .vmem => 2
  | .smem => 0
  | _ => 0

abbrev bufTy : (tb : Table) → Fin (tcTables nBuf tb) → BufTy
  | .hbm, ⟨0, _⟩ => ⟨S2x1024x16384, .fp8e4m3⟩
  | .hbm, ⟨1, _⟩ => ⟨S2x1024, .f32⟩
  | .hbm, ⟨2, _⟩ => ⟨S16384x128, .bf16⟩
  | .hbm, ⟨3, _⟩ => ⟨S2x1024x8, .i32⟩
  | .hbm, ⟨4, _⟩ => ⟨S2x1024x8x1, .i32⟩
  | .hbm, ⟨5, _⟩ => ⟨S128, .i32⟩
  | .hbm, ⟨6, _⟩ => ⟨S1x1x1x128, .i32⟩
  | .hbm, ⟨7, _⟩ => ⟨S2x1024x8x128, .i32⟩
  | .hbm, ⟨8, _⟩ => ⟨S2x1024x8x128, .i32⟩
  | .hbm, ⟨9, _⟩ => ⟨S2x1024x8x128, .i1⟩
  | .hbm, ⟨10, _⟩ => ⟨S2x1024x8x128, .f32⟩
  | .hbm, ⟨11, _⟩ => ⟨S_, .f32⟩
  | .hbm, ⟨12, _⟩ => ⟨S128, .f32⟩
  | .hbm, ⟨13, _⟩ => ⟨S_, .f32⟩
  | .hbm, ⟨14, _⟩ => ⟨S128, .f32⟩
  | .hbm, ⟨15, _⟩ => ⟨S128, .f32⟩
  | .hbm, ⟨16, _⟩ => ⟨S2x1024x16384, .bf16⟩
  | .hbm, ⟨17, _⟩ => ⟨S2x1024x128, .f32⟩
  | .hbm, ⟨18, _⟩ => ⟨S2x1024x1, .f32⟩
  | .hbm, ⟨19, _⟩ => ⟨S2x1024x128, .f32⟩
  | .hbm, ⟨20, _⟩ => ⟨S2x1024x128, .f32⟩
  | .hbm, ⟨21, _⟩ => ⟨S_, .f32⟩
  | .hbm, ⟨22, _⟩ => ⟨S2x1024, .f32⟩
  | .hbm, ⟨23, _⟩ => ⟨S2x1024x1, .f32⟩
  | .hbm, ⟨24, _⟩ => ⟨S2x1024x128, .f32⟩
  | .hbm, ⟨25, _⟩ => ⟨S2x1024x128, .f32⟩
  | .hbm, ⟨26, _⟩ => ⟨S2x1024x128, .f32⟩
  | .hbm, ⟨27, _⟩ => ⟨S_, .f32⟩
  | .hbm, ⟨28, _⟩ => ⟨S2x1024, .f32⟩
  | .hbm, ⟨29, _⟩ => ⟨S2x1024, .f32⟩
  | .hbm, ⟨30, _⟩ => ⟨S2x1024, .f32⟩
  | .hbm, ⟨31, _⟩ => ⟨S2x1024x1, .f32⟩
  | .hbm, ⟨32, _⟩ => ⟨S2x1024x128, .f32⟩
  | .hbm, ⟨33, _⟩ => ⟨S2x1024x128, .f32⟩
  | .hbm, ⟨34, _⟩ => ⟨S2x1024x1, .f32⟩
  | .hbm, ⟨35, _⟩ => ⟨S2x1024x128, .f32⟩
  | .hbm, ⟨36, _⟩ => ⟨S2x1024x128, .f32⟩
  | .hbm, ⟨37, _⟩ => ⟨S2x1024x128, .f32⟩
  | .hbm, ⟨38, _⟩ => ⟨S_, .f32⟩
  | .hbm, ⟨39, _⟩ => ⟨S128, .f32⟩
  | .hbm, ⟨40, _⟩ => ⟨S_, .f32⟩
  | .hbm, ⟨41, _⟩ => ⟨S128, .f32⟩
  | .hbm, ⟨42, _⟩ => ⟨S128, .f32⟩
  | .hbm, ⟨43, _⟩ => ⟨S1x1x128, .f32⟩
  | .hbm, ⟨44, _⟩ => ⟨S2x1024x128, .f32⟩
  | .hbm, ⟨45, _⟩ => ⟨S2x1024x128, .f32⟩
  | .hbm, ⟨46, _⟩ => ⟨S_, .f32⟩
  | .hbm, ⟨47, _⟩ => ⟨S2x1024, .f32⟩
  | .hbm, ⟨48, _⟩ => ⟨S_, .f32⟩
  | .hbm, ⟨49, _⟩ => ⟨S2x1024, .f32⟩
  | .hbm, ⟨50, _⟩ => ⟨S2x1024, .f32⟩
  | .hbm, ⟨51, _⟩ => ⟨S_, .f32⟩
  | .hbm, ⟨52, _⟩ => ⟨S2x1024, .f32⟩
  | .hbm, ⟨53, _⟩ => ⟨S2x1024, .f32⟩
  | .hbm, ⟨54, _⟩ => ⟨S2x1024, .f32⟩
  | .hbm, ⟨55, _⟩ => ⟨S2x1024x1, .f32⟩
  | .hbm, ⟨56, _⟩ => ⟨S1x1x128, .f32⟩
  | .hbm, ⟨57, _⟩ => ⟨S2x1024x128, .f32⟩
  | .hbm, ⟨58, _⟩ => ⟨S2x1024x128, .f32⟩
  | .hbm, ⟨59, _⟩ => ⟨S2x1024x128, .f32⟩
  | .hbm, ⟨60, _⟩ => ⟨S_, .f32⟩
  | .hbm, ⟨61, _⟩ => ⟨S2x1024x128, .f32⟩
  | .hbm, ⟨62, _⟩ => ⟨S2x1024x128, .f32⟩
  | .hbm, ⟨63, _⟩ => ⟨S2x1024x1, .f32⟩
  | .hbm, ⟨64, _⟩ => ⟨S_, .f32⟩
  | .hbm, ⟨65, _⟩ => ⟨S2x1024x1, .f32⟩
  | .hbm, ⟨66, _⟩ => ⟨S2x1024x1, .f32⟩
  | .hbm, ⟨67, _⟩ => ⟨S2x1024x128, .f32⟩
  | .hbm, ⟨68, _⟩ => ⟨S2x1024x128, .f32⟩
  | .hbm, ⟨69, _⟩ => ⟨S2x1024x128, .f32⟩
  | .hbm, ⟨70, _⟩ => ⟨S2x1024x1, .f32⟩
  | .hbm, ⟨71, _⟩ => ⟨S2x1024x128, .f32⟩
  | .hbm, ⟨72, _⟩ => ⟨S2x1024x128, .f32⟩
  | .hbm, ⟨73, _⟩ => ⟨S2x1024x128, .bf16⟩
  | .hbm, ⟨74, _⟩ => ⟨S16384x128, .f32⟩
  | .hbm, ⟨75, _⟩ => ⟨S2x1024x128, .bf16⟩
  | .hbm, ⟨76, _⟩ => ⟨S2x1024x16384, .f32⟩
  | .hbm, ⟨77, _⟩ => ⟨S2x1024x16384, .bf16⟩
  | .local _ .vmem, ⟨0, _⟩ => ⟨S2x1024x16384, .fp8e4m3⟩
  | .local _ .vmem, ⟨1, _⟩ => ⟨S2x1024x16384, .bf16⟩
  | _, _ => ⟨S2x1024x16384, .fp8e4m3⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_5 : Ref sig .tc := ⟨.hbm, 46, rfl⟩
abbrev main_v36 : Ref sig .tc := ⟨.hbm, 47, rfl⟩
abbrev main_cst_6 : Ref sig .tc := ⟨.hbm, 48, rfl⟩
abbrev main_v37 : Ref sig .tc := ⟨.hbm, 49, rfl⟩
abbrev main_v38 : Ref sig .tc := ⟨.hbm, 50, rfl⟩
abbrev main_cst_7 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_8 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_9 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S2x1024x16384 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024x16384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.BitsNames.lean ====
/- Hand-written, untrusted. The kernel's buffers under short names, and the slices its transfers run between: chunk `b` of
   the tokens and of the router weights (in HBM and in VMEM), ring slot `s` of the two large results, and the DMA semaphore of
   each. The slices the body writes at a trip's computed offsets are equal to these names (`@[sl_canon]`). -/
module

public import proofs.«01_k».proof.Defs
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import proofs.«01_k».proof.Proof.Gen.Kernel.Frame
public import Idealize.ShloMosaic.Lib.Pipeline.FrameSuffixV
public import Idealize.ShloMosaic.Lib.Ring
public import Idealize.ShloMosaic.Lib.Affine
public import Idealize.ShloMosaic.Lib.Tactic

@[expose] public section

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the launch's, beside the counters the kernel's own transfers ride on. -/
abbrev UU (nD : Nat) (τ : Topo) : Type := UR sig nD τ × Counters
local notation "𝕄" => MT nD τ sig Unit (Elt F) ℕ (UU nD τ) ℕ
abbrev 𝒱₀ : Variants := Variants.none

/-! ## The buffers -/

abbrev xM : Memref sig .tc .hbm S2048x16384 .fp8e4m3 := Memref.whole main_v0
abbrev scM : Memref sig .tc .hbm S2x1024 .f32 := Memref.whole main_arg1
abbrev wM : Memref sig .tc .hbm S16384x128 .bf16 := Memref.whole main_arg2
abbrev idM : Memref sig .tc .hbm S2x8x1024 .i32 := Memref.whole main_v1
abbrev auxM : Memref sig .tc .hbm S2x1024 .f32 := Memref.whole main_v2_0
abbrev ztM : Memref sig .tc .hbm S2x1024 .f32 := Memref.whole main_v2_1
abbrev pM : Memref sig .tc .hbm S1x128 .f32 := Memref.whole main_v2_2
abbrev lseM : Memref sig .tc .hbm S2x1024 .f32 := Memref.whole main_v2_3
abbrev dlogM : Memref sig .tc .hbm S2048x128 .f32 := Memref.whole main_v2_4
abbrev dwM : Memref sig .tc .hbm S16384x128 .f32 := Memref.whole main_v2_5
abbrev dxM : Memref sig .tc .hbm S2048x16384 .bf16 := Memref.whole main_v2_6
abbrev xvM : Memref sig .tc .vmem S32x2048x512 .fp8e4m3 := Memref.whole cc0_scratch0
abbrev wvM : Memref sig .tc .vmem S32x512x128 .bf16 := Memref.whole cc0_scratch1
abbrev scvM : Memref sig .tc .vmem S2x1024 .f32 := Memref.whole cc0_scratch2
abbrev idvM : Memref sig .tc .vmem S2x8x1024 .i32 := Memref.whole cc0_scratch3
abbrev zvM : Memref sig .tc .vmem S8x128x256 .f32 := Memref.whole cc0_scratch4
abbrev dlvM : Memref sig .tc .vmem S2048x128 .bf16 := Memref.whole cc0_scratch5
abbrev dsvM : Memref sig .tc .vmem S128x2048 .bf16 := Memref.whole cc0_scratch6
abbrev dlogvM : Memref sig .tc .vmem S2048x128 .f32 := Memref.whole cc0_scratch7
abbrev auxvM : Memref sig .tc .vmem S2x1024 .f32 := Memref.whole cc0_scratch8
abbrev ztvM : Memref sig .tc .vmem S2x1024 .f32 := Memref.whole cc0_scratch9
abbrev pvM : Memref sig .tc .vmem S1x128 .f32 := Memref.whole cc0_scratch10
abbrev lsevM : Memref sig .tc .vmem S2x1024 .f32 := Memref.whole cc0_scratch11
abbrev dxvM : Memref sig .tc .vmem S3x2048x512 .bf16 := Memref.whole cc0_scratch12
abbrev dwvM : Memref sig .tc .vmem S2x512x128 .f32 := Memref.whole cc0_scratch13

/-! ## Chunks, ring slots and their semaphores -/

theorem trips1 : k0_t1_loop.trips = 32 := by decide
theorem trips2 : k0_t2_loop.trips = 32 := by decide
theorem trips3 : k0_t3_loop.trips = 32 := by decide
/-- The chunk a trip of each loop works on. -/
abbrev c1 (k : Fin k0_t1_loop.trips) : Fin 32 := ⟨k.val, Nat.lt_of_lt_of_eq k.isLt trips1⟩
abbrev c2 (k : Fin k0_t2_loop.trips) : Fin 32 := ⟨k.val, Nat.lt_of_lt_of_eq k.isLt trips2⟩
abbrev c3 (k : Fin k0_t3_loop.trips) : Fin 32 := ⟨k.val, Nat.lt_of_lt_of_eq k.isLt trips3⟩

abbrev slot3 {n : ℕ} (b : Fin n) : Fin 3 → Nat := ![b.val, 0, 0]
abbrev rowOff (b : Fin 32) : Fin 2 → Nat := ![512 * b.val, 0]
abbrev colOff (b : Fin 32) : Fin 2 → Nat := ![0, 512 * b.val]
abbrev sOff {n : ℕ} (b : Fin n) : Fin 1 → Nat := ![b.val]

theorem xslot_inb (b : Fin 32) : ∀ a, slot3 b a + S1x2048x512.size a ≤ S32x2048x512.size a := by
  have := b.isLt; intro a; fin_cases a
  · show b.val + 1 ≤ 32; omega
  · show 0 + 2048 ≤ 2048; omega
  · show 0 + 512 ≤ 512; omega
theorem wslot_inb (b : Fin 32) : ∀ a, slot3 b a + S1x512x128.size a ≤ S32x512x128.size a := by
  have := b.isLt; intro a; fin_cases a
  · show b.val + 1 ≤ 32; omega
  · show 0 + 512 ≤ 512; omega
  · show 0 + 128 ≤ 128; omega
theorem dxslot_inb (b : Fin 3) : ∀ a, slot3 b a + S1x2048x512.size a ≤ S3x2048x512.size a := by
  have := b.isLt; intro a; fin_cases a
  · show b.val + 1 ≤ 3; omega
  · show 0 + 2048 ≤ 2048; omega
  · show 0 + 512 ≤ 512; omega
theorem dwslot_inb (b : Fin 2) : ∀ a, slot3 b a + S1x512x128.size a ≤ S2x512x128.size a := by
  have := b.isLt; intro a; fin_cases a
  · show b.val + 1 ≤ 2; omega
  · show 0 + 512 ≤ 512; omega
  · show 0 + 128 ≤ 128; omega
theorem col_inb (b : Fin 32) : ∀ a, colOff b a + S2048x512.size a ≤ S2048x16384.size a := by
  have := b.isLt; intro a; fin_cases a
  · show 0 + 2048 ≤ 2048; omega
  · show 512 * b.val + 512 ≤ 16384; omega
theorem row_inb (b : Fin 32) : ∀ a, rowOff b a + S512x128.size a ≤ S16384x128.size a := by
  have := b.isLt; intro a; fin_cases a
  · show 512 * b.val + 512 ≤ 16384; omega
  · show 0 + 128 ≤ 128; omega
theorem s32_inb (b : Fin 32) : ∀ a, sOff b a + S1.size a ≤ S32.size a := by
  have := b.isLt; intro a; fin_cases a; show b.val + 1 ≤ 32; omega
theorem s3_inb (b : Fin 3) : ∀ a, sOff b a + S1.size a ≤ S3.size a := by
  have := b.isLt; intro a; fin_cases a; show b.val + 1 ≤ 3; omega
theorem s2_inb (b : Fin 2) : ∀ a, sOff b a + S1.size a ≤ S2.size a := by
  have := b.isLt; intro a; fin_cases a; show b.val + 1 ≤ 2; omega

/-- Chunk `b` of the tokens in HBM: columns `512 b` up to `512 b + 511`. -/
def xsrc (b : Fin 32) : Memref sig .tc .hbm S2048x512 .fp8e4m3 :=
  xM.slice (Rect.unit (s := S2048x16384) (colOff b) S2048x512.size (col_inb b)) (fun _ => rfl)
/-- Chunk `b` of the weights in HBM: rows `512 b` up to `512 b + 511`. -/
def wsrc (b : Fin 32) : Memref sig .tc .hbm S512x128 .bf16 :=
  wM.slice (Rect.unit (s := S16384x128) (rowOff b) S512x128.size (row_inb b)) (fun _ => rfl)
/-- Chunk `b` of the tokens in VMEM. -/
def xslot (b : Fin 32) : Memref sig .tc .vmem S2048x512 .fp8e4m3 :=
  (xvM.slice (Rect.unit (s := S32x2048x512) (slot3 b) S1x2048x512.size (xslot_inb b)) (fun _ => rfl)).squeeze S2048x512 squeezes_S1x2048x512_S2048x512
/-- Chunk `b` of the weights in VMEM. -/
def wslot (b : Fin 32) : Memref sig .tc .vmem S512x128 .bf16 :=
  (wvM.slice (Rect.unit (s := S32x512x128) (slot3 b) S1x512x128.size (wslot_inb b)) (fun _ => rfl)).squeeze S512x128 squeezes_S1x512x128_S512x128
/-- Slot `s` of the ring the tokens' gradient leaves through. -/
def dxslot (s : Fin 3) : Memref sig .tc .vmem S2048x512 .bf16 :=
  (dxvM.slice (Rect.unit (s := S3x2048x512) (slot3 s) S1x2048x512.size (dxslot_inb s)) (fun _ => rfl)).squeeze S2048x512 squeezes_S1x2048x512_S2048x512
/-- Slot `s` of the ring the weights' gradient leaves through. -/
def dwslot (s : Fin 2) : Memref sig .tc .vmem S512x128 .f32 :=
  (dwvM.slice (Rect.unit (s := S2x512x128) (slot3 s) S1x512x128.size (dwslot_inb s)) (fun _ => rfl)).squeeze S512x128 squeezes_S1x512x128_S512x128
/-- Chunk `b` of the tokens' gradient in HBM. -/
def dxdst (b : Fin 32) : Memref sig .tc .hbm S2048x512 .bf16 :=
  dxM.slice (Rect.unit (s := S2048x16384) (colOff b) S2048x512.size (col_inb b)) (fun _ => rfl)
/-- Chunk `b` of the weights' gradient in HBM. -/
def dwdst (b : Fin 32) : Memref sig .tc .hbm S512x128 .f32 :=
  dwM.slice (Rect.unit (s := S16384x128) (rowOff b) S512x128.size (row_inb b)) (fun _ => rfl)

/-- The semaphores of chunk `b`'s two copies in, and of each ring slot's copy out. -/
def xsem (b : Fin 32) : DmaSems sig S_ := (cc0_scratch14.slice (Rect.unit (s := S32) (sOff b) S1.size (s32_inb b))).squeeze S_ squeezes_S1_S_
def wsem (b : Fin 32) : DmaSems sig S_ := (cc0_scratch15.slice (Rect.unit (s := S32) (sOff b) S1.size (s32_inb b))).squeeze S_ squeezes_S1_S_
def dxsem (s : Fin 3) : DmaSems sig S_ := (cc0_scratch18.slice (Rect.unit (s := S3) (sOff s) S1.size (s3_inb s))).squeeze S_ squeezes_S1_S_
def dwsem (s : Fin 2) : DmaSems sig S_ := (cc0_scratch19.slice (Rect.unit (s := S2) (sOff s) S1.size (s2_inb s))).squeeze S_ squeezes_S1_S_

instance {n : ℕ} (b : Fin n) : ClosedOff (slot3 b) := ⟨![b.val, 0, 0], rfl⟩
instance (k : Fin k0_t2_loop.trips) : ClosedOff (slot3 (c2 k)) := ⟨![k.val, 0, 0], rfl⟩
instance (k : Fin k0_t3_loop.trips) : ClosedOff (slot3 (c3 k)) := ⟨![k.val, 0, 0], rfl⟩
instance (b : Fin 32) : ClosedOff (rowOff b) := ⟨![512 * b.val, 0], rfl⟩
instance (b : Fin 32) : ClosedOff (colOff b) := ⟨![0, 512 * b.val], rfl⟩

/-! ## The body's slices are these -/

section Canon

theorem xsem_congr {off : Fin 1 → Nat} {b : Fin 32} (e : off = sOff b) (hh) :
    (cc0_scratch14.slice (Rect.unit (s := S32) off S1.size hh)).squeeze S_ squeezes_S1_S_ = xsem b :=
  congrArg (fun A : DmaSems sig S1 => A.squeeze S_ squeezes_S1_S_) (SemArray.slice_unit_congr _ e _ _)
theorem wsem_congr {off : Fin 1 → Nat} {b : Fin 32} (e : off = sOff b) (hh) :
    (cc0_scratch15.slice (Rect.unit (s := S32) off S1.size hh)).squeeze S_ squeezes_S1_S_ = wsem b :=
  congrArg (fun A : DmaSems sig S1 => A.squeeze S_ squeezes_S1_S_) (SemArray.slice_unit_congr _ e _ _)
theorem dxsem_congr {off : Fin 1 → Nat} {b : Fin 3} (e : off = sOff b) (hh) :
    (cc0_scratch18.slice (Rect.unit (s := S3) off S1.size hh)).squeeze S_ squeezes_S1_S_ = dxsem b :=
  congrArg (fun A : DmaSems sig S1 => A.squeeze S_ squeezes_S1_S_) (SemArray.slice_unit_congr _ e _ _)
theorem dwsem_congr {off : Fin 1 → Nat} {b : Fin 2} (e : off = sOff b) (hh) :
    (cc0_scratch19.slice (Rect.unit (s := S2) off S1.size hh)).squeeze S_ squeezes_S1_S_ = dwsem b :=
  congrArg (fun A : DmaSems sig S1 => A.squeeze S_ squeezes_S1_S_) (SemArray.slice_unit_congr _ e _ _)
theorem xslot_congr {off : Fin 3 → Nat} {b : Fin 32} (e : off = slot3 b) (hh hs) :
    (xvM.slice (Rect.unit (s := S32x2048x512) off S1x2048x512.size hh) hs).squeeze S2048x512 squeezes_S1x2048x512_S2048x512 = xslot b :=
  congrArg (fun M : Memref sig .tc .vmem S1x2048x512 .fp8e4m3 => M.squeeze S2048x512 squeezes_S1x2048x512_S2048x512) (Memref.slice_unit_congr _ e _ _ hs (fun _ => rfl))
theorem wslot_congr {off : Fin 3 → Nat} {b : Fin 32} (e : off = slot3 b) (hh hs) :
    (wvM.slice (Rect.unit (s := S32x512x128) off S1x512x128.size hh) hs).squeeze S512x128 squeezes_S1x512x128_S512x128 = wslot b :=
  congrArg (fun M : Memref sig .tc .vmem S1x512x128 .bf16 => M.squeeze S512x128 squeezes_S1x512x128_S512x128) (Memref.slice_unit_congr _ e _ _ hs (fun _ => rfl))
theorem dxslot_congr {off : Fin 3 → Nat} {b : Fin 3} (e : off = slot3 b) (hh hs) :
    (dxvM.slice (Rect.unit (s := S3x2048x512) off S1x2048x512.size hh) hs).squeeze S2048x512 squeezes_S1x2048x512_S2048x512 = dxslot b :=
  congrArg (fun M : Memref sig .tc .vmem S1x2048x512 .bf16 => M.squeeze S2048x512 squeezes_S1x2048x512_S2048x512) (Memref.slice_unit_congr _ e _ _ hs (fun _ => rfl))
theorem dwslot_congr {off : Fin 3 → Nat} {b : Fin 2} (e : off = slot3 b) (hh hs) :
    (dwvM.slice (Rect.unit (s := S2x512x128) off S1x512x128.size hh) hs).squeeze S512x128 squeezes_S1x512x128_S512x128 = dwslot b :=
  congrArg (fun M : Memref sig .tc .vmem S1x512x128 .f32 => M.squeeze S512x128 squeezes_S1x512x128_S512x128) (Memref.slice_unit_congr _ e _ _ hs (fun _ => rfl))
theorem xsrc_congr {off : Fin 2 → Nat} {b : Fin 32} (e : off = colOff b) (hh hs) :
    xM.slice (Rect.unit (s := S2048x16384) off S2048x512.size hh) hs = xsrc b := Memref.slice_unit_congr _ e _ _ hs (fun _ => rfl)
theorem wsrc_congr {off : Fin 2 → Nat} {b : Fin 32} (e : off = rowOff b) (hh hs) :
    wM.slice (Rect.unit (s := S16384x128) off S512x128.size hh) hs = wsrc b := Memref.slice_unit_congr _ e _ _ hs (fun _ => rfl)
theorem dxdst_congr {off : Fin 2 → Nat} {b : Fin 32} (e : off = colOff b) (hh hs) :
    dxM.slice (Rect.unit (s := S2048x16384) off S2048x512.size hh) hs = dxdst b := Memref.slice_unit_congr _ e _ _ hs (fun _ => rfl)
theorem dwdst_congr {off : Fin 2 → Nat} {b : Fin 32} (e : off = rowOff b) (hh hs) :
    dwM.slice (Rect.unit (s := S16384x128) off S512x128.size hh) hs = dwdst b := Memref.slice_unit_congr _ e _ _ hs (fun _ => rfl)

/-- The first loop's trip `k`. -/
@[sl_canon] theorem c1_wsem (k : Fin k0_t1_loop.trips) (hh) :
    (cc0_scratch15.slice (Rect.unit (s := S32) (k0_off1 k) S1.size hh)).squeeze S_ squeezes_S1_S_ = wsem (c1 k) := wsem_congr (k0_off1_eq k) _
@[sl_canon] theorem c1_xsem (k : Fin k0_t1_loop.trips) (hh) :
    (cc0_scratch14.slice (Rect.unit (s := S32) (k0_off1 k) S1.size hh)).squeeze S_ squeezes_S1_S_ = xsem (c1 k) := xsem_congr (k0_off1_eq k) _
@[sl_canon] theorem c1_wslot (k : Fin k0_t1_loop.trips) (hh hs) :
    (wvM.slice (Rect.unit (s := S32x512x128) (k0_off2 k) S1x512x128.size hh) hs).squeeze S512x128 squeezes_S1x512x128_S512x128 = wslot (c1 k) := wslot_congr (k0_off2_eq k) _ _
@[sl_canon] theorem c1_wsrc (k : Fin k0_t1_loop.trips) (hh hs) :
    wM.slice (Rect.unit (s := S16384x128) (k0_off3 k) S512x128.size hh) hs = wsrc (c1 k) := wsrc_congr (k0_off3_eq k) _ _
@[sl_canon] theorem c1_xslot (k : Fin k0_t1_loop.trips) (hh hs) :
    (xvM.slice (Rect.unit (s := S32x2048x512) (k0_off4 k) S1x2048x512.size hh) hs).squeeze S2048x512 squeezes_S1x2048x512_S2048x512 = xslot (c1 k) := xslot_congr (k0_off4_eq k) _ _
@[sl_canon] theorem c1_xsrc (k : Fin k0_t1_loop.trips) (hh hs) :
    xM.slice (Rect.unit (s := S2048x16384) (k0_off5 k) S2048x512.size hh) hs = xsrc (c1 k) := xsrc_congr (k0_off5_eq k) _ _

/-- The second loop's trip `k`. -/
@[sl_canon] theorem c2_wsem (k : Fin k0_t2_loop.trips) (hh) :
    (cc0_scratch15.slice (Rect.unit (s := S32) (k0_off6 k) S1.size hh)).squeeze S_ squeezes_S1_S_ = wsem (c2 k) := wsem_congr (k0_off6_eq k) _
@[sl_canon] theorem c2_xsem (k : Fin k0_t2_loop.trips) (hh) :
    (cc0_scratch14.slice (Rect.unit (s := S32) (k0_off6 k) S1.size hh)).squeeze S_ squeezes_S1_S_ = xsem (c2 k) := xsem_congr (k0_off6_eq k) _
@[sl_canon] theorem c2_wslot (k : Fin k0_t2_loop.trips) (hh hs) :
    (wvM.slice (Rect.unit (s := S32x512x128) (k0_off7 k) S1x512x128.size hh) hs).squeeze S512x128 squeezes_S1x512x128_S512x128 = wslot (c2 k) := wslot_congr (k0_off7_eq k) _ _
@[sl_canon] theorem c2_wsrc (k : Fin k0_t2_loop.trips) (hh hs) :
    wM.slice (Rect.unit (s := S16384x128) (k0_off8 k) S512x128.size hh) hs = wsrc (c2 k) := wsrc_congr (k0_off8_eq k) _ _
@[sl_canon] theorem c2_xslot (k : Fin k0_t2_loop.trips) (hh hs) :
    (xvM.slice (Rect.unit (s := S32x2048x512) (k0_off9 k) S1x2048x512.size hh) hs).squeeze S2048x512 squeezes_S1x2048x512_S2048x512 = xslot (c2 k) := xslot_congr (k0_off9_eq k) _ _
@[sl_canon] theorem c2_xsrc (k : Fin k0_t2_loop.trips) (hh hs) :
    xM.slice (Rect.unit (s := S2048x16384) (k0_off10 k) S2048x512.size hh) hs = xsrc (c2 k) := xsrc_congr (k0_off10_eq k) _ _

end Canon

end Cert.Proof.Kernel

end
-- ==== Proof.BitsStart.lean ====
/- Hand-written, untrusted. The first loop: it starts the copies of all 32 chunks of the tokens and of the weights. Before
   trip `k` the chunks below `k` are in flight and the others wait: their VMEM slots, HBM sources and semaphores are held. -/
module

public import proofs.«01_k».proof.Proof.BitsNames

@[expose] public section

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Pieces
variable (c : Dev nD) (X : Buf (Elt F) (xM.view.loc (c : Thread nD τ))) (Wt : Buf (Elt F) (wM.view.loc (c : Thread nD τ)))

abbrev xhome (b : Fin 32) : sProp 𝕄 := (xsrc b).view.loc (c : Thread nD τ) ↦[(xsrc b).view.set]{fullShare} X
abbrev whome (b : Fin 32) : sProp 𝕄 := (wsrc b).view.loc (c : Thread nD τ) ↦[(wsrc b).view.set]{fullShare} Wt
abbrev xheld (b : Fin 32) (f : Buf (Elt F) ((xslot b).view.loc (c : Thread nD τ))) : sProp 𝕄 :=
  (xslot b).view.loc (c : Thread nD τ) ↦[(xslot b).view.set]{fullShare} f
abbrev wheld (b : Fin 32) (f : Buf (Elt F) ((wslot b).view.loc (c : Thread nD τ))) : sProp 𝕄 :=
  (wslot b).view.loc (c : Thread nD τ) ↦[(wslot b).view.set]{fullShare} f
abbrev xcell (b : Fin 32) : sProp 𝕄 := semVal ((c : Thread nD τ), SemLoc.dma (xsem b).sem) 0
abbrev wcell (b : Fin 32) : sProp 𝕄 := semVal ((c : Thread nD τ), SemLoc.dma (wsem b).sem) 0
/-- What chunk `b`'s copy leaves in its slot over prior contents `f`. -/
abbrev xlanded (b : Fin 32) (f : Buf (Elt F) ((xslot b).view.loc (c : Thread nD τ))) : Buf (Elt F) ((xslot b).view.loc (c : Thread nD τ)) :=
  (xslot b).view.writes (Elt F) f [⟨Rect.whole S2048x512, ReadAs.same.apply ((xsrc b).view.read (Elt F) X)⟩]
abbrev wlanded (b : Fin 32) (f : Buf (Elt F) ((wslot b).view.loc (c : Thread nD τ))) : Buf (Elt F) ((wslot b).view.loc (c : Thread nD τ)) :=
  (wslot b).view.writes (Elt F) f [⟨Rect.whole S512x128, ReadAs.same.apply ((wsrc b).view.read (Elt F) Wt)⟩]
/-- Chunk `b`'s copy in flight, issued over `f`. -/
abbrev xflight (b : Fin 32) (f : Buf (Elt F) ((xslot b).view.loc (c : Thread nD τ))) : sProp 𝕄 :=
  Transfers.Flight countersEmb (c : Thread nD τ) (SemLoc.dma (xsem b).sem) () 32768 iprop(xheld c b (xlanded c X b f) ∗ xhome c X b)
abbrev wflight (b : Fin 32) (f : Buf (Elt F) ((wslot b).view.loc (c : Thread nD τ))) : sProp 𝕄 :=
  Transfers.Flight countersEmb (c : Thread nD τ) (SemLoc.dma (wsem b).sem) () 4096 iprop(wheld c b (wlanded c Wt b f) ∗ whome c Wt b)

/-- Chunk `b` before its copies start. -/
def waiting (b : Fin 32) : sProp 𝕄 :=
  iprop((∃ f, xheld c b f) ∗ xhome c X b ∗ xcell c b ∗ (∃ f, wheld c b f) ∗ whome c Wt b ∗ wcell c b)
/-- Chunk `b` with both copies under way. -/
def flying (b : Fin 32) : sProp 𝕄 := iprop((∃ f, xflight c X b f) ∗ (∃ f, wflight c Wt b f))

/-- Before trip `k` of the first loop. -/
def inv1 (k : ℕ) : sProp 𝕄 :=
  iprop(bigSep (Ring.rangeSet 32 0 k) (flying c X Wt) ∗ bigSep (Ring.rangeSet 32 k 32) (waiting c X Wt) ∗ ∃ W, owes (c : Thread nD τ) 0 W)

theorem upTo_succ (Φ : Fin 32 → sProp 𝕄) (b : Fin 32) :
    bigSep (Ring.rangeSet 32 0 (b.val + 1)) Φ = iprop(Φ b ∗ bigSep (Ring.rangeSet 32 0 b.val) Φ) := by
  rw [Ring.bigSep_rangeSet_last (Φ := Φ) (Nat.succ_pos _) b.isLt]
  rfl
theorem from_succ (Φ : Fin 32 → sProp 𝕄) (b : Fin 32) :
    bigSep (Ring.rangeSet 32 b.val 32) Φ = iprop(Φ b ∗ bigSep (Ring.rangeSet 32 (b.val + 1) 32) Φ) := by
  rw [Ring.bigSep_rangeSet_head (Φ := Φ) b.isLt b.isLt]

abbrev t1G (k : Fin k0_t1_loop.trips) : Prog (TpuEff nD τ sig (Elt F) Λ₀ .tc) Unit := k0_t1_body (F := F) xM (Memref.isWhole_whole _) scM (Memref.isWhole_whole _) wM (Memref.isWhole_whole _) idM (Memref.isWhole_whole _) auxM (Memref.isWhole_whole _) ztM (Memref.isWhole_whole _) pM (Memref.isWhole_whole _) lseM (Memref.isWhole_whole _) dlogM (Memref.isWhole_whole _) dwM (Memref.isWhole_whole _) dxM (Memref.isWhole_whole _) xvM (Memref.isWhole_whole _) wvM (Memref.isWhole_whole _) scvM (Memref.isWhole_whole _) idvM (Memref.isWhole_whole _) zvM (Memref.isWhole_whole _) dlvM (Memref.isWhole_whole _) dsvM (Memref.isWhole_whole _) dlogvM (Memref.isWhole_whole _) auxvM (Memref.isWhole_whole _) ztvM (Memref.isWhole_whole _) pvM (Memref.isWhole_whole _) lsevM (Memref.isWhole_whole _) dxvM (Memref.isWhole_whole _) dwvM (Memref.isWhole_whole _) cc0_scratch14 cc0_scratch15 cc0_scratch16 cc0_scratch17 cc0_scratch18 cc0_scratch19 k ()

/-- One trip, at any `k`: chunk `k`'s weights, then its tokens, go into flight. -/
theorem trip1 (k : Fin k0_t1_loop.trips) :
    inv1 c X Wt k.val ⊢ wp Idealize.ShloMosaic.frame (wpE (defs₀ (F := F)) 𝒱₀ (c : Thread nD τ) none) Set.univ (t1G k) (fun _ => inv1 c X Wt (k.val + 1)) := by
  unfold inv1
  rw [show k.val = (c1 k).val from rfl, upTo_succ (flying c X Wt) (c1 k), from_succ (waiting c X Wt) (c1 k)]
  unfold waiting flying
  iintro ⟨HF, ⟨⟨⟨%fx, Hx⟩, Hxh, Hxc, ⟨%fw, Hw⟩, Hwh, Hwc⟩, HR⟩, ⟨%W, Ho⟩⟩
  dsimp only [t1G]
  sl_unfold [k0_t1_body]
  sl_exec
  sl_step
  isplitl [Hxc Hwc HF]
  · isplitl [Hxc Hwc]
    · isplitl [Hxc]
      · iexists fx; iexact Hxc
      · iexists fw; iexact Hwc
    · iexact HF
  isplitl [HR]; · iexact HR
  iexists W; iexact Ho

set_option warn.classDefReducibility false in
/-- The first loop's invariant. -/
@[sl_loop] def loopInv1 : LoopInvTy_k0_t1 (F := F) Unit ℕ (UU nD τ) ℕ 𝒱₀ c none Set.univ xM (Memref.isWhole_whole _) scM (Memref.isWhole_whole _) wM (Memref.isWhole_whole _) idM (Memref.isWhole_whole _) auxM (Memref.isWhole_whole _) ztM (Memref.isWhole_whole _) pM (Memref.isWhole_whole _) lseM (Memref.isWhole_whole _) dlogM (Memref.isWhole_whole _) dwM (Memref.isWhole_whole _) dxM (Memref.isWhole_whole _) xvM (Memref.isWhole_whole _) wvM (Memref.isWhole_whole _) scvM (Memref.isWhole_whole _) idvM (Memref.isWhole_whole _) zvM (Memref.isWhole_whole _) dlvM (Memref.isWhole_whole _) dsvM (Memref.isWhole_whole _) dlogvM (Memref.isWhole_whole _) auxvM (Memref.isWhole_whole _) ztvM (Memref.isWhole_whole _) pvM (Memref.isWhole_whole _) lsevM (Memref.isWhole_whole _) dxvM (Memref.isWhole_whole _) dwvM (Memref.isWhole_whole _) cc0_scratch14 cc0_scratch15 cc0_scratch16 cc0_scratch17 cc0_scratch18 cc0_scratch19 where
  inv k _ := inv1 c X Wt k
  step k _ := trip1 c X Wt k

end Pieces

end Cert.Proof.Kernel

end
-- ==== Proof.BitsLogits.lean ====
/- Hand-written, untrusted. The second loop: before trip `k` the chunks below `k` have landed, the others are still in
   flight, and the logits' accumulator holds the sum over the landed chunks. -/
module

public import proofs.«01_k».proof.Proof.BitsStart
public import Idealize.ShloMosaic.Lib.ValueLayout
public import Idealize.ShloMosaic.Lib.Exec.Geometry

@[expose] public section

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

open Idealize.ShloMosaic.ValueIdx
section Landed
variable (c : Dev nD) (X : Buf (Elt F) (xM.view.loc (c : Thread nD τ))) (Wt : Buf (Elt F) (wM.view.loc (c : Thread nD τ)))

/-- The tokens as VMEM holds them once every chunk has landed: chunk, row, column within the chunk. -/
def XV : Buf (Elt F) (xvM.view.loc (c : Thread nD τ)) := fun i : S32x2048x512.Idx =>
  X (ix2 (⟨(i 1).val, (i 1).isLt⟩ : Fin 2048) (⟨512 * (i 0).val + (i 2).val, by have h0 : (i 0).val < 32 := (i 0).isLt; have h2 : (i 2).val < 512 := (i 2).isLt; omega⟩ : Fin 16384))
/-- The weights as VMEM holds them once every chunk has landed. -/
def WV : Buf (Elt F) (wvM.view.loc (c : Thread nD τ)) := fun i : S32x512x128.Idx =>
  Wt (ix2 (⟨512 * (i 0).val + (i 1).val, by have h0 : (i 0).val < 32 := (i 0).isLt; have h2 : (i 1).val < 512 := (i 1).isLt; omega⟩ : Fin 16384) (⟨(i 2).val, (i 2).isLt⟩ : Fin 128))

theorem xslot_emb (b : Fin 32) (i : Fin 2048) (j : Fin 512) : (xslot b).view.emb (ix2 i j) = (ix3 b i j : S32x2048x512.Idx) := by
  show (Rect.unit (s := S32x2048x512) (slot3 b) S1x2048x512.size (xslot_inb b)).emb (Shape.reshapeEquiv _ (ix2 i j)) = _
  rw [reshapeEquiv_ix2_1ab]
  funext a; apply Fin.ext
  rw [Rect.emb_apply]
  fin_cases a <;> simp [ix3, slot3]
theorem wslot_emb (b : Fin 32) (i : Fin 512) (j : Fin 128) : (wslot b).view.emb (ix2 i j) = (ix3 b i j : S32x512x128.Idx) := by
  show (Rect.unit (s := S32x512x128) (slot3 b) S1x512x128.size (wslot_inb b)).emb (Shape.reshapeEquiv _ (ix2 i j)) = _
  rw [reshapeEquiv_ix2_1ab]
  funext a; apply Fin.ext
  rw [Rect.emb_apply]
  fin_cases a <;> simp [ix3, slot3]

theorem xslot_emb' (b : Fin 32) (j : S2048x512.Idx) : (xslot b).view.emb j = (ix3 b (j 0 : Fin 2048) (j 1 : Fin 512) : S32x2048x512.Idx) :=
  (congrArg (xslot b).view.emb (eq_ix2 (n0 := 2048) (n1 := 512) j)).trans (xslot_emb b (j 0) (j 1))
theorem xsrc_read (b : Fin 32) (p : Fin 2048) (q : Fin 512) : (xsrc b).view.read (Elt F) X (ix2 p q) = XV c X (ix3 b p q : S32x2048x512.Idx) := by
  show X ((Rect.unit (s := S2048x16384) (colOff b) S2048x512.size (col_inb b)).emb (ix2 p q)) = X _
  congr 1
  funext a; apply Fin.ext
  rw [Rect.emb_apply]
  fin_cases a <;> simp [colOff]
theorem xlanded_at (b : Fin 32) (f : Buf (Elt F) ((xslot b).view.loc (c : Thread nD τ))) (p : Fin 2048) (q : Fin 512) :
    xlanded c X b f (ix3 b p q : S32x2048x512.Idx) = XV c X (ix3 b p q : S32x2048x512.Idx) := by
  have h := congrFun (View.read_writes_whole (xslot b).view f (ReadAs.same.apply ((xsrc b).view.read (Elt F) X))) (ix2 p q)
  rw [View.read_apply, xslot_emb] at h
  have h2 : ReadAs.same.apply ((xsrc b).view.read (Elt F) X) (ix2 p q) = (xsrc b).view.read (Elt F) X (ix2 p q) := rfl
  have h3 := h.trans (h2.trans (xsrc_read c X b p q))
  exact eq_of_heq ((cast_heq _ _).symm.trans (heq_of_eq h3))
theorem xheld_landed (b : Fin 32) (f : Buf (Elt F) ((xslot b).view.loc (c : Thread nD τ))) :
    xheld c b (xlanded c X b f) = xheld c b (XV c X) := by
  refine pointsTo_congr fun i hi => ?_
  obtain ⟨j, -, rfl⟩ := Finset.mem_map.mp hi
  rw [xslot_emb' b j]
  exact xlanded_at c X b f (j 0) (j 1)
theorem wslot_emb' (b : Fin 32) (j : S512x128.Idx) : (wslot b).view.emb j = (ix3 b (j 0 : Fin 512) (j 1 : Fin 128) : S32x512x128.Idx) :=
  (congrArg (wslot b).view.emb (eq_ix2 (n0 := 512) (n1 := 128) j)).trans (wslot_emb b (j 0) (j 1))
theorem wsrc_read (b : Fin 32) (p : Fin 512) (q : Fin 128) : (wsrc b).view.read (Elt F) Wt (ix2 p q) = WV c Wt (ix3 b p q : S32x512x128.Idx) := by
  show Wt ((Rect.unit (s := S16384x128) (rowOff b) S512x128.size (row_inb b)).emb (ix2 p q)) = Wt _
  congr 1
  funext a; apply Fin.ext
  rw [Rect.emb_apply]
  fin_cases a <;> simp [rowOff]
theorem wlanded_at (b : Fin 32) (f : Buf (Elt F) ((wslot b).view.loc (c : Thread nD τ))) (p : Fin 512) (q : Fin 128) :
    wlanded c Wt b f (ix3 b p q : S32x512x128.Idx) = WV c Wt (ix3 b p q : S32x512x128.Idx) := by
  have h := congrFun (View.read_writes_whole (wslot b).view f (ReadAs.same.apply ((wsrc b).view.read (Elt F) Wt))) (ix2 p q)
  rw [View.read_apply, wslot_emb] at h
  have h2 : ReadAs.same.apply ((wsrc b).view.read (Elt F) Wt) (ix2 p q) = (wsrc b).view.read (Elt F) Wt (ix2 p q) := rfl
  have h3 := h.trans (h2.trans (wsrc_read c Wt b p q))
  exact eq_of_heq ((cast_heq _ _).symm.trans (heq_of_eq h3))
theorem wheld_landed (b : Fin 32) (f : Buf (Elt F) ((wslot b).view.loc (c : Thread nD τ))) :
    wheld c b (wlanded c Wt b f) = wheld c b (WV c Wt) := by
  refine pointsTo_congr fun i hi => ?_
  obtain ⟨j, -, rfl⟩ := Finset.mem_map.mp hi
  rw [wslot_emb' b j]
  exact wlanded_at c Wt b f (j 0) (j 1)
/-- Chunk `b` landed. -/
def landed (b : Fin 32) : sProp 𝕄 :=
  iprop(xheld c b (XV c X) ∗ xhome c X b ∗ xcell c b ∗ wheld c b (WV c Wt) ∗ whome c Wt b ∗ wcell c b)
abbrev zP (f : Buf (Elt F) (zvM.view.loc (c : Thread nD τ))) : sProp 𝕄 := zvM.view.loc (c : Thread nD τ) ↦{fullShare} f
/-- Before trip `k` of the second loop, the accumulator at `f`. -/
def inv2 (k : ℕ) (f : Buf (Elt F) (zvM.view.loc (c : Thread nD τ))) : sProp 𝕄 :=
  iprop(bigSep (Ring.rangeSet 32 0 k) (landed c X Wt) ∗ bigSep (Ring.rangeSet 32 k 32) (flying c X Wt) ∗ zP c f ∗ ∃ W, owes (c : Thread nD τ) 0 W)

variable (v9 : IVec S128x128 32) (v1026 : FVec F S128x128 .f32) (v1027 : Vec F S1x1x128 .i32)
abbrev t2G (k : Fin k0_t2_loop.trips) : Prog (TpuEff nD τ sig (Elt F) Λ₀ .tc) Unit := k0_t2_body (F := F) xM (Memref.isWhole_whole _) scM (Memref.isWhole_whole _) wM (Memref.isWhole_whole _) idM (Memref.isWhole_whole _) auxM (Memref.isWhole_whole _) ztM (Memref.isWhole_whole _) pM (Memref.isWhole_whole _) lseM (Memref.isWhole_whole _) dlogM (Memref.isWhole_whole _) dwM (Memref.isWhole_whole _) dxM (Memref.isWhole_whole _) xvM (Memref.isWhole_whole _) wvM (Memref.isWhole_whole _) scvM (Memref.isWhole_whole _) idvM (Memref.isWhole_whole _) zvM (Memref.isWhole_whole _) dlvM (Memref.isWhole_whole _) dsvM (Memref.isWhole_whole _) dlogvM (Memref.isWhole_whole _) auxvM (Memref.isWhole_whole _) ztvM (Memref.isWhole_whole _) pvM (Memref.isWhole_whole _) lsevM (Memref.isWhole_whole _) dxvM (Memref.isWhole_whole _) dwvM (Memref.isWhole_whole _) cc0_scratch14 cc0_scratch15 cc0_scratch16 cc0_scratch17 cc0_scratch18 cc0_scratch19 v9 v1026 v1027 k ()

/-- One trip, at any `k`: chunk `k` lands and its product is added to the accumulator, tile by tile; the contents the trip
    leaves there are found by the run. -/
def trip2 (k : Fin k0_t2_loop.trips) (f : Buf (Elt F) (zvM.view.loc (c : Thread nD τ))) :
    { g : Buf (Elt F) (zvM.view.loc (c : Thread nD τ)) //
      inv2 c X Wt k.val f ⊢ wp Idealize.ShloMosaic.frame (wpE (defs₀ (F := F)) 𝒱₀ (c : Thread nD τ) none) Set.univ (t2G v9 v1026 v1027 k) (fun _ => inv2 c X Wt (k.val + 1) g) } := by
  refine ⟨?_, ?run⟩
  case run =>
    unfold inv2
    rw [show k.val = (c2 k).val from rfl, upTo_succ (landed c X Wt) (c2 k), from_succ (flying c X Wt) (c2 k)]
    rw [flying]
    iintro ⟨HL, ⟨⟨⟨%fx, Hx⟩, ⟨%fw, Hw⟩⟩, HF⟩, Hz, ⟨%W, Ho⟩⟩
    dsimp only [t2G]
    sl_unfold [k0_t2_body]
    sl_exec
    sl_step
    rw [landed, ← xheld_landed c X (c2 k) (xslot (c2 k)).view.junk, ← wheld_landed c Wt (c2 k) (wslot (c2 k)).view.junk]
    isplitl [Hw_dst Hw_src Hw Hx_dst Hx_src Hx HL]
    · isplitl [Hw_dst Hw_src Hw Hx_dst Hx_src Hx]
      · isplitl [Hx_dst]; · iexact Hx_dst
        isplitl [Hx_src]; · iexact Hx_src
        isplitl [Hx]; · iexact Hx
        isplitl [Hw_dst]; · iexact Hw_dst
        isplitl [Hw_src]; · iexact Hw_src
        iexact Hw
      · iexact HL
    isplitl [HF]; · iexact HF
    isplitl [Hz]; · iexact Hz
    iexists _; iexact Ho

/-- The accumulator before trip `k`, from its contents `z0` at the loop's entry. -/
def zAcc (z0 : Buf (Elt F) (zvM.view.loc (c : Thread nD τ))) : ℕ → Buf (Elt F) (zvM.view.loc (c : Thread nD τ))
  | 0 => z0
  | k + 1 => if h : k < k0_t2_loop.trips then (trip2 c X Wt v9 v1026 v1027 ⟨k, h⟩ (zAcc z0 k)).1 else zAcc z0 k

set_option warn.classDefReducibility false in
/-- The second loop's invariant. -/
@[sl_loop] def loopInv2 (z0 : Buf (Elt F) (zvM.view.loc (c : Thread nD τ))) : LoopInvTy_k0_t2 (F := F) Unit ℕ (UU nD τ) ℕ 𝒱₀ c none Set.univ xM (Memref.isWhole_whole _) scM (Memref.isWhole_whole _) wM (Memref.isWhole_whole _) idM (Memref.isWhole_whole _) auxM (Memref.isWhole_whole _) ztM (Memref.isWhole_whole _) pM (Memref.isWhole_whole _) lseM (Memref.isWhole_whole _) dlogM (Memref.isWhole_whole _) dwM (Memref.isWhole_whole _) dxM (Memref.isWhole_whole _) xvM (Memref.isWhole_whole _) wvM (Memref.isWhole_whole _) scvM (Memref.isWhole_whole _) idvM (Memref.isWhole_whole _) zvM (Memref.isWhole_whole _) dlvM (Memref.isWhole_whole _) dsvM (Memref.isWhole_whole _) dlogvM (Memref.isWhole_whole _) auxvM (Memref.isWhole_whole _) ztvM (Memref.isWhole_whole _) pvM (Memref.isWhole_whole _) lsevM (Memref.isWhole_whole _) dxvM (Memref.isWhole_whole _) dwvM (Memref.isWhole_whole _) cc0_scratch14 cc0_scratch15 cc0_scratch16 cc0_scratch17 cc0_scratch18 cc0_scratch19 v9 v1026 v1027 where
  inv k _ := inv2 c X Wt k (zAcc c X Wt v9 v1026 v1027 z0 k)
  step k _ := by
    have e : zAcc c X Wt v9 v1026 v1027 z0 (k.val + 1) = (trip2 c X Wt v9 v1026 v1027 k (zAcc c X Wt v9 v1026 v1027 z0 k)).1 := by
      rw [zAcc, dif_pos k.isLt]
    rw [e]
    exact (trip2 c X Wt v9 v1026 v1027 k _).2

end Landed
end Cert.Proof.Kernel

end
-- ==== Proof.BitsGrad.lean ====
/- Hand-written, untrusted. The third loop: trip `k` forms chunk `k` of the tokens' gradient and of the weights' gradient in a
   ring slot each (three slots for the first, two for the second) and starts the copies that carry them to HBM, after waiting
   for the copy that used the slot last. -/
module

public import proofs.«01_k».proof.Proof.BitsLogits
public import Idealize.ShloMosaic.Lib.WritesUnit

@[expose] public section

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

open Idealize.ShloMosaic.ValueIdx

/-! ## The third loop's slices -/

/-- The ring slots trip `k` uses. -/
abbrev d3 (k : Fin k0_t3_loop.trips) : Fin 3 := ⟨k.val % 3, Nat.mod_lt _ (by decide)⟩
abbrev e3 (k : Fin k0_t3_loop.trips) : Fin 2 := ⟨k.val % 2, Nat.mod_lt _ (by decide)⟩
instance (k : Fin k0_t3_loop.trips) : ClosedOff (slot3 (d3 k)) := ⟨![k.val % 3, 0, 0], rfl⟩
instance (k : Fin k0_t3_loop.trips) : ClosedOff (slot3 (e3 k)) := ⟨![k.val % 2, 0, 0], rfl⟩

theorem cond1_iff : ∀ k : Fin k0_t3_loop.trips, k0_cond1 k = 1#1 ↔ 3 ≤ k.val := by decide +kernel
theorem cond2_iff : ∀ k : Fin k0_t3_loop.trips, k0_cond2 k = 1#1 ↔ 2 ≤ k.val := by decide +kernel

@[sl_canon] theorem c3_dxsem (k : Fin k0_t3_loop.trips) (hh) :
    (cc0_scratch18.slice (Rect.unit (s := S3) (k0_off20 k) S1.size hh)).squeeze S_ squeezes_S1_S_ = dxsem (d3 k) := dxsem_congr (k0_off20_eq k) _
@[sl_canon] theorem c3_dwsem (k : Fin k0_t3_loop.trips) (hh) :
    (cc0_scratch19.slice (Rect.unit (s := S2) (k0_off23 k) S1.size hh)).squeeze S_ squeezes_S1_S_ = dwsem (e3 k) := dwsem_congr (k0_off23_eq k) _
@[sl_canon] theorem c3_dxsem' (k : Fin k0_t3_loop.trips) (hh) :
    (cc0_scratch18.slice (Rect.unit (s := S3) (k0_off37 k) S1.size hh)).squeeze S_ squeezes_S1_S_ = dxsem (d3 k) := dxsem_congr (k0_off37_eq k) _
@[sl_canon] theorem c3_dwsem' (k : Fin k0_t3_loop.trips) (hh) :
    (cc0_scratch19.slice (Rect.unit (s := S2) (k0_off40 k) S1.size hh)).squeeze S_ squeezes_S1_S_ = dwsem (e3 k) := dwsem_congr (k0_off40_eq k) _
@[sl_canon] theorem c3_dxslot (k : Fin k0_t3_loop.trips) (hh hs) :
    (dxvM.slice (Rect.unit (s := S3x2048x512) (k0_off22 k) S1x2048x512.size hh) hs).squeeze S2048x512 squeezes_S1x2048x512_S2048x512 = dxslot (d3 k) := dxslot_congr (k0_off22_eq k) _ _
@[sl_canon] theorem c3_dwslot (k : Fin k0_t3_loop.trips) (hh hs) :
    (dwvM.slice (Rect.unit (s := S2x512x128) (k0_off25 k) S1x512x128.size hh) hs).squeeze S512x128 squeezes_S1x512x128_S512x128 = dwslot (e3 k) := dwslot_congr (k0_off25_eq k) _ _
@[sl_canon] theorem c3_dxslot' (k : Fin k0_t3_loop.trips) (hh hs) :
    (dxvM.slice (Rect.unit (s := S3x2048x512) (k0_off39 k) S1x2048x512.size hh) hs).squeeze S2048x512 squeezes_S1x2048x512_S2048x512 = dxslot (d3 k) := dxslot_congr (k0_off39_eq k) _ _
@[sl_canon] theorem c3_dwslot' (k : Fin k0_t3_loop.trips) (hh hs) :
    (dwvM.slice (Rect.unit (s := S2x512x128) (k0_off42 k) S1x512x128.size hh) hs).squeeze S512x128 squeezes_S1x512x128_S512x128 = dwslot (e3 k) := dwslot_congr (k0_off42_eq k) _ _
@[sl_canon] theorem c3_dxdst (k : Fin k0_t3_loop.trips) (hh hs) :
    dxM.slice (Rect.unit (s := S2048x16384) (k0_off38 k) S2048x512.size hh) hs = dxdst (c3 k) := dxdst_congr (k0_off38_eq k) _ _
@[sl_canon] theorem c3_dwdst (k : Fin k0_t3_loop.trips) (hh hs) :
    dwM.slice (Rect.unit (s := S16384x128) (k0_off41 k) S512x128.size hh) hs = dwdst (c3 k) := dwdst_congr (k0_off41_eq k) _ _

section Grad
variable (c : Dev nD)
variable (Xv : Buf (Elt F) (xvM.view.loc (c : Thread nD τ))) (Wv : Buf (Elt F) (wvM.view.loc (c : Thread nD τ)))
variable (Dl : Buf (Elt F) (dlvM.view.loc (c : Thread nD τ))) (Ds : Buf (Elt F) (dsvM.view.loc (c : Thread nD τ)))

/-- Chunk `b` of the weights and of the tokens, and tile `j` of the logits' gradient, as the body loads them. -/
def wload (b : Fin 32) : Vec F S1x512x128 .bf16 := fun i => Wv (ix3 b (⟨(i 1).val, (i 1).isLt⟩ : Fin 512) (⟨(i 2).val, (i 2).isLt⟩ : Fin 128) : S32x512x128.Idx)
def xload (b : Fin 32) : Vec F S1x2048x512 .fp8e4m3 := fun i => Xv (ix3 b (⟨(i 1).val, (i 1).isLt⟩ : Fin 2048) (⟨(i 2).val, (i 2).isLt⟩ : Fin 512) : S32x2048x512.Idx)
def dltile (j : Fin 8) : Vec F S256x128 .bf16 := fun i =>
  Dl (ix2 (⟨256 * j.val + (i 0).val, by have h : (i 0).val < 256 := (i 0).isLt; have := j.isLt; omega⟩ : Fin 2048) (⟨(i 1).val, (i 1).isLt⟩ : Fin 128) : S2048x128.Idx)
def dsload : Vec F S128x2048 .bf16 := fun i => Ds i

/-- Chunk `b` of the tokens' gradient as its ring slot holds it. -/
def DXc (b : Fin 32) (t : Fin 2048) (d : Fin 512) : Elt F .bf16 :=
  k0_pay13 (F := F) (wload c Wv b) (dltile c Dl ⟨t.val / 256, by have := t.isLt; omega⟩) (ix3 (0 : Fin 1) (⟨t.val % 256, Nat.mod_lt _ (by decide)⟩ : Fin 256) d)
/-- The tokens' gradient. -/
def DX : Buf (Elt F) (dxM.view.loc (c : Thread nD τ)) := fun i : S2048x16384.Idx =>
  DXc c Wv Dl ⟨(i 1).val / 512, by have h : (i 1).val < 16384 := (i 1).isLt; omega⟩ ⟨(i 0).val, (i 0).isLt⟩ ⟨(i 1).val % 512, Nat.mod_lt _ (by decide)⟩
/-- Chunk `b` of the weights' gradient as its ring slot holds it. -/
def DWc (b : Fin 32) (d : Fin 512) (n : Fin 128) : Elt F .f32 :=
  k0_pay213 (F := F) (dsload c Ds) (xload c Xv b) (ix3 (0 : Fin 1) d n)
/-- The weights' gradient. -/
def DW : Buf (Elt F) (dwM.view.loc (c : Thread nD τ)) := fun i : S16384x128.Idx =>
  DWc c Xv Ds ⟨(i 0).val / 512, by have h : (i 0).val < 16384 := (i 0).isLt; omega⟩ ⟨(i 0).val % 512, Nat.mod_lt _ (by decide)⟩ ⟨(i 1).val, (i 1).isLt⟩

abbrev xvP (f : Buf (Elt F) (xvM.view.loc (c : Thread nD τ))) : sProp 𝕄 := xvM.view.loc (c : Thread nD τ) ↦{fullShare} f
abbrev wvP (f : Buf (Elt F) (wvM.view.loc (c : Thread nD τ))) : sProp 𝕄 := wvM.view.loc (c : Thread nD τ) ↦{fullShare} f
abbrev dlvP (f : Buf (Elt F) (dlvM.view.loc (c : Thread nD τ))) : sProp 𝕄 := dlvM.view.loc (c : Thread nD τ) ↦{fullShare} f
abbrev dsvP (f : Buf (Elt F) (dsvM.view.loc (c : Thread nD τ))) : sProp 𝕄 := dsvM.view.loc (c : Thread nD τ) ↦{fullShare} f
abbrev dxhome (b : Fin 32) (f : Buf (Elt F) (dxM.view.loc (c : Thread nD τ))) : sProp 𝕄 := (dxdst b).view.loc (c : Thread nD τ) ↦[(dxdst b).view.set]{fullShare} f
abbrev dwhome (b : Fin 32) (f : Buf (Elt F) (dwM.view.loc (c : Thread nD τ))) : sProp 𝕄 := (dwdst b).view.loc (c : Thread nD τ) ↦[(dwdst b).view.set]{fullShare} f
abbrev dxheld (s : Fin 3) (f : Buf (Elt F) (dxvM.view.loc (c : Thread nD τ))) : sProp 𝕄 := (dxslot s).view.loc (c : Thread nD τ) ↦[(dxslot s).view.set]{fullShare} f
abbrev dwheld (s : Fin 2) (f : Buf (Elt F) (dwvM.view.loc (c : Thread nD τ))) : sProp 𝕄 := (dwslot s).view.loc (c : Thread nD τ) ↦[(dwslot s).view.set]{fullShare} f
abbrev dxcell (s : Fin 3) : sProp 𝕄 := semVal ((c : Thread nD τ), SemLoc.dma (dxsem s).sem) 0
abbrev dwcell (s : Fin 2) : sProp 𝕄 := semVal ((c : Thread nD τ), SemLoc.dma (dwsem s).sem) 0
/-- Chunk `b` of each gradient on its way out of slot `s`. -/
def dxflyAt (b : Fin 32) (s : Fin 3) : sProp 𝕄 :=
  iprop(∃ h, Transfers.Flight countersEmb (c : Thread nD τ) (SemLoc.dma (dxsem s).sem) () 65536 iprop(dxhome c b (DX c Wv Dl) ∗ dxheld c s h))
def dwflyAt (b : Fin 32) (s : Fin 2) : sProp 𝕄 :=
  iprop(∃ h, Transfers.Flight countersEmb (c : Thread nD τ) (SemLoc.dma (dwsem s).sem) () 8192 iprop(dwhome c b (DW c Xv Ds) ∗ dwheld c s h))
def dxfly (b : Fin 32) : sProp 𝕄 := dxflyAt c Wv Dl b ⟨b.val % 3, Nat.mod_lt _ (by decide)⟩
def dwfly (b : Fin 32) : sProp 𝕄 := dwflyAt c Xv Ds b ⟨b.val % 2, Nat.mod_lt _ (by decide)⟩
def dxfree (s : Fin 3) : sProp 𝕄 := iprop((∃ f, dxheld c s f) ∗ dxcell c s)
def dwfree (s : Fin 2) : sProp 𝕄 := iprop((∃ f, dwheld c s f) ∗ dwcell c s)
def dxwait (b : Fin 32) : sProp 𝕄 := iprop(∃ f, dxhome c b f)
def dwwait (b : Fin 32) : sProp 𝕄 := iprop(∃ f, dwhome c b f)

/-! ## What a trip leaves in its slots -/

theorem wload_eq (k : Fin k0_t3_loop.trips) :
    wvM.view.readAt (Elt F) (Rect.unit (s := S32x512x128) (k0_off26 k) S1x512x128.size (k0_off26_inb k)).toLoadRect Wv = wload c Wv (c3 k) := by
  funext i
  show Wv ((Rect.unit (s := S32x512x128) (k0_off26 k) S1x512x128.size (k0_off26_inb k)).emb i) = Wv _
  congr 1
  funext a; apply Fin.ext
  rw [Rect.emb_apply]
  have h0 : (i 0).val < 1 := (i 0).isLt
  fin_cases a <;> simp [ix3, k0_off26_eq] <;> omega
theorem xload_eq (k : Fin k0_t3_loop.trips) :
    xvM.view.readAt (Elt F) (Rect.unit (s := S32x2048x512) (k0_off35 k) S1x2048x512.size (k0_off35_inb k)).toLoadRect Xv = xload c Xv (c3 k) := by
  funext i
  show Xv ((Rect.unit (s := S32x2048x512) (k0_off35 k) S1x2048x512.size (k0_off35_inb k)).emb i) = Xv _
  congr 1
  funext a; apply Fin.ext
  rw [Rect.emb_apply]
  have h0 : (i 0).val < 1 := (i 0).isLt
  fin_cases a <;> simp [ix3, k0_off35_eq] <;> omega
theorem dltile_eq (j : Fin 8) {o : ℕ} (ho : o = 256 * j.val) (hh) :
    dlvM.view.readAt (Elt F) (Rect.unit (s := S2048x128) ![o, 0] S256x128.size hh).toLoadRect Dl = dltile c Dl j := by
  funext i
  show Dl ((Rect.unit (s := S2048x128) ![o, 0] S256x128.size hh).emb i) = Dl _
  congr 1
  funext a; apply Fin.ext
  rw [Rect.emb_apply]
  fin_cases a <;> simp [ix2, ho]
theorem dsload_eq (hh) :
    dsvM.view.readAt (Elt F) (Rect.unit (s := S128x2048) ![0, 0] S128x2048.size hh).toLoadRect Ds = dsload c Ds := by
  funext i
  show Ds ((Rect.unit (s := S128x2048) ![0, 0] S128x2048.size hh).emb i) = Ds _
  congr 1
  funext a; apply Fin.ext
  rw [Rect.emb_apply]
  fin_cases a <;> simp

/-- Chunk `k` of the tokens' gradient at an index of the ring. -/
def dxring (k : Fin k0_t3_loop.trips) : S3x2048x512.Idx → Elt F .bf16 := fun i =>
  DXc c Wv Dl (c3 k) ⟨(i 1).val, (i 1).isLt⟩ ⟨(i 2).val, (i 2).isLt⟩
def dwring (k : Fin k0_t3_loop.trips) : S2x512x128.Idx → Elt F .f32 := fun i =>
  DWc c Xv Ds (c3 k) ⟨(i 1).val, (i 1).isLt⟩ ⟨(i 2).val, (i 2).isLt⟩

theorem dxpiece_at (k : Fin k0_t3_loop.trips) {off : Fin 3 → ℕ} {j : Fin 8} {o : ℕ} (e : off = ![k.val % 3, o, 0]) (ho : o = 256 * j.val) (hh)
    (w : (Rect.unit (s := S3x2048x512) off S1x256x512.size hh).shape.Idx → Elt F .bf16)
    (hw : w = k0_pay13 (F := F) (wload c Wv (c3 k)) (dltile c Dl j)) (x : (Rect.unit (s := S3x2048x512) off S1x256x512.size hh).shape.Idx) :
    w x = dxring c Wv Dl k ((Rect.unit (s := S3x2048x512) off S1x256x512.size hh).emb x) := by
  subst e ho
  rw [hw, dxring, DXc]
  have h0 : (x 0).val < 1 := (x 0).isLt
  have h1 : (x 1).val < 256 := (x 1).isLt
  have e1 : ((Rect.unit (s := S3x2048x512) ![k.val % 3, 256 * j.val, 0] S1x256x512.size hh).emb x 1).val = 256 * j.val + (x 1).val := by
    rw [Rect.emb_apply]; simp
  have e2 : ((Rect.unit (s := S3x2048x512) ![k.val % 3, 256 * j.val, 0] S1x256x512.size hh).emb x 2).val = (x 2).val := by
    rw [Rect.emb_apply]; simp
  have ej : (⟨((Rect.unit (s := S3x2048x512) ![k.val % 3, 256 * j.val, 0] S1x256x512.size hh).emb x 1).val / 256, by rw [e1]; have := j.isLt; omega⟩ : Fin 8) = j := by
    apply Fin.ext; show _ / 256 = _; rw [e1]; omega
  rw [ej]
  congr 1
  funext a; apply Fin.ext
  fin_cases a
  · show (x 0).val = 0; omega
  · show (x 1).val = _ % 256; rw [e1]; omega
  · exact e2.symm

/-- The ring of the tokens' gradient after a trip's eight stores over `f`. -/
def dxfull (k : Fin k0_t3_loop.trips) (f : Buf (Elt F) (dxvM.view.loc (c : Thread nD τ))) : Buf (Elt F) (dxvM.view.loc (c : Thread nD τ)) :=
  dxvM.view.writes (Elt F) f [⟨Rect.unit (s := S3x2048x512) (k0_off34 k) S1x256x512.size (k0_off34_inb k), k0_pay212 (k0_pay12 (wvM.view.readAt (Elt F) (Rect.unit (s := S32x512x128) (k0_off26 k) S1x512x128.size (k0_off26_inb k)).toLoadRect Wv)) (dlvM.view.readAt (Elt F) (Rect.unit (s := S2048x128) ![1792, 0] S256x128.size inb_S2048x128_S256x128_1792_0).toLoadRect Dl)⟩,
    ⟨Rect.unit (s := S3x2048x512) (k0_off33 k) S1x256x512.size (k0_off33_inb k), k0_pay20 (k0_pay12 (wvM.view.readAt (Elt F) (Rect.unit (s := S32x512x128) (k0_off26 k) S1x512x128.size (k0_off26_inb k)).toLoadRect Wv)) (dlvM.view.readAt (Elt F) (Rect.unit (s := S2048x128) ![1536, 0] S256x128.size inb_S2048x128_S256x128_1536_0).toLoadRect Dl)⟩,
    ⟨Rect.unit (s := S3x2048x512) (k0_off32 k) S1x256x512.size (k0_off32_inb k), k0_pay19 (k0_pay12 (wvM.view.readAt (Elt F) (Rect.unit (s := S32x512x128) (k0_off26 k) S1x512x128.size (k0_off26_inb k)).toLoadRect Wv)) (dlvM.view.readAt (Elt F) (Rect.unit (s := S2048x128) ![1280, 0] S256x128.size inb_S2048x128_S256x128_1280_0).toLoadRect Dl)⟩,
    ⟨Rect.unit (s := S3x2048x512) (k0_off31 k) S1x256x512.size (k0_off31_inb k), k0_pay18 (k0_pay12 (wvM.view.readAt (Elt F) (Rect.unit (s := S32x512x128) (k0_off26 k) S1x512x128.size (k0_off26_inb k)).toLoadRect Wv)) (dlvM.view.readAt (Elt F) (Rect.unit (s := S2048x128) ![1024, 0] S256x128.size inb_S2048x128_S256x128_1024_0).toLoadRect Dl)⟩,
    ⟨Rect.unit (s := S3x2048x512) (k0_off30 k) S1x256x512.size (k0_off30_inb k), k0_pay17 (k0_pay12 (wvM.view.readAt (Elt F) (Rect.unit (s := S32x512x128) (k0_off26 k) S1x512x128.size (k0_off26_inb k)).toLoadRect Wv)) (dlvM.view.readAt (Elt F) (Rect.unit (s := S2048x128) ![768, 0] S256x128.size inb_S2048x128_S256x128_768_0).toLoadRect Dl)⟩,
    ⟨Rect.unit (s := S3x2048x512) (k0_off29 k) S1x256x512.size (k0_off29_inb k), k0_pay16 (k0_pay15 (wvM.view.readAt (Elt F) (Rect.unit (s := S32x512x128) (k0_off26 k) S1x512x128.size (k0_off26_inb k)).toLoadRect Wv) (dlvM.view.readAt (Elt F) (Rect.unit (s := S2048x128) ![512, 0] S256x128.size inb_S2048x128_S256x128_512_0).toLoadRect Dl))⟩,
    ⟨Rect.unit (s := S3x2048x512) (k0_off28 k) S1x256x512.size (k0_off28_inb k), k0_pay14 (wvM.view.readAt (Elt F) (Rect.unit (s := S32x512x128) (k0_off26 k) S1x512x128.size (k0_off26_inb k)).toLoadRect Wv) (dlvM.view.readAt (Elt F) (Rect.unit (s := S2048x128) ![256, 0] S256x128.size inb_S2048x128_S256x128_256_0).toLoadRect Dl)⟩,
    ⟨Rect.unit (s := S3x2048x512) (k0_off27 k) S1x256x512.size (k0_off27_inb k), k0_pay13 (wvM.view.readAt (Elt F) (Rect.unit (s := S32x512x128) (k0_off26 k) S1x512x128.size (k0_off26_inb k)).toLoadRect Wv) (dlvM.view.readAt (Elt F) (Rect.unit (s := S2048x128) ![0, 0] S256x128.size inb_S2048x128_S256x128_0_0).toLoadRect Dl)⟩]
def dwfull (k : Fin k0_t3_loop.trips) (f : Buf (Elt F) (dwvM.view.loc (c : Thread nD τ))) : Buf (Elt F) (dwvM.view.loc (c : Thread nD τ)) :=
  dwvM.view.writes (Elt F) f [⟨Rect.unit (s := S2x512x128) (k0_off36 k) S1x512x128.size (k0_off36_inb k),
    k0_pay213 (dsvM.view.readAt (Elt F) (Rect.unit (s := S128x2048) ![0, 0] S128x2048.size inb_S128x2048_S128x2048_0_0).toLoadRect Ds)
      (xvM.view.readAt (Elt F) (Rect.unit (s := S32x2048x512) (k0_off35 k) S1x2048x512.size (k0_off35_inb k)).toLoadRect Xv)⟩]

theorem dxv_read (g : Buf (Elt F) (dxvM.view.loc (c : Thread nD τ))) (y : S3x2048x512.Idx) : dxvM.view.read (Elt F) g y = g y := rfl
theorem dwv_read (g : Buf (Elt F) (dwvM.view.loc (c : Thread nD τ))) (y : S2x512x128.Idx) : dwvM.view.read (Elt F) g y = g y := rfl
theorem dxfull_at (k : Fin k0_t3_loop.trips) (f : Buf (Elt F) (dxvM.view.loc (c : Thread nD τ))) (p : Fin 2048) (q : Fin 512) :
    dxfull c Wv Dl k f (ix3 (d3 k) p q : S3x2048x512.Idx) = DXc c Wv Dl (c3 k) p q := by
  have h : dxvM.view.read (Elt F) (dxfull c Wv Dl k f) (ix3 (d3 k) p q : S3x2048x512.Idx) = dxring c Wv Dl k (ix3 (d3 k) p q) := by
    unfold dxfull
    refine View.read_writes_apply_of_pieces dxvM.view f (dxring c Wv Dl k) _ ?_ (ix3 (d3 k) p q : S3x2048x512.Idx) ?_
    · simp only [List.forall_mem_cons, List.not_mem_nil, false_imp_iff, implies_true, and_true]
      refine ⟨?_, ?_, ?_, ?_, ?_, ?_, ?_, ?_⟩ <;> intro x
      · refine dxpiece_at c Wv Dl k (k0_off34_eq k) (j := 7) (by decide) _ _ ?_ x; rw [wload_eq c Wv k, dltile_eq c Dl 7 (by norm_num) _]; rfl
      · refine dxpiece_at c Wv Dl k (k0_off33_eq k) (j := 6) (by decide) _ _ ?_ x; rw [wload_eq c Wv k, dltile_eq c Dl 6 (by norm_num) _]; rfl
      · refine dxpiece_at c Wv Dl k (k0_off32_eq k) (j := 5) (by decide) _ _ ?_ x; rw [wload_eq c Wv k, dltile_eq c Dl 5 (by norm_num) _]; rfl
      · refine dxpiece_at c Wv Dl k (k0_off31_eq k) (j := 4) (by decide) _ _ ?_ x; rw [wload_eq c Wv k, dltile_eq c Dl 4 (by norm_num) _]; rfl
      · refine dxpiece_at c Wv Dl k (k0_off30_eq k) (j := 3) (by decide) _ _ ?_ x; rw [wload_eq c Wv k, dltile_eq c Dl 3 (by norm_num) _]; rfl
      · refine dxpiece_at c Wv Dl k (k0_off29_eq k) (j := 2) (by decide) _ _ ?_ x; rw [wload_eq c Wv k, dltile_eq c Dl 2 (by norm_num) _]; rfl
      · refine dxpiece_at c Wv Dl k (k0_off28_eq k) (j := 1) (by decide) _ _ ?_ x; rw [wload_eq c Wv k, dltile_eq c Dl 1 (by norm_num) _]; rfl
      · refine dxpiece_at c Wv Dl k (k0_off27_eq k) (j := 0) (by decide) _ _ ?_ x; rw [wload_eq c Wv k, dltile_eq c Dl 0 (by norm_num) _]
    · have hp := p.isLt
      have hq := q.isLt
      have hj : p.val / 256 < 8 := by omega
      simp only [List.exists_mem_cons_iff, List.not_mem_nil, _root_.false_and, exists_false, _root_.or_false, Rect.mem_set_unit, Fin.forall_fin_succ, k0_off27_eq, k0_off28_eq, k0_off29_eq, k0_off30_eq, k0_off31_eq, k0_off32_eq, k0_off33_eq, k0_off34_eq]
      simp [ix3]
      omega
  have e : dxring c Wv Dl k (ix3 (d3 k) p q : S3x2048x512.Idx) = DXc c Wv Dl (c3 k) p q := rfl
  exact (dxv_read c _ _).symm.trans (h.trans e)
theorem dwfull_at (k : Fin k0_t3_loop.trips) (f : Buf (Elt F) (dwvM.view.loc (c : Thread nD τ))) (p : Fin 512) (q : Fin 128) :
    dwfull c Xv Ds k f (ix3 (e3 k) p q : S2x512x128.Idx) = DWc c Xv Ds (c3 k) p q := by
  have h : dwvM.view.read (Elt F) (dwfull c Xv Ds k f) (ix3 (e3 k) p q : S2x512x128.Idx) = k0_pay213 (F := F) (dsload c Ds) (xload c Xv (c3 k)) (ix3 (0 : Fin 1) p q) := by
    unfold dwfull
    rw [xload_eq c Xv k, dsload_eq c Ds]
    exact View.read_writes_cons_unit_of_mem dwvM.view f (k0_off36_inb k) _ [] _ _ (k0_off36_eq k) (fun a => by fin_cases a <;> simp [ix3])
  exact (dwv_read c _ _).symm.trans h

theorem dxslot_emb (s : Fin 3) (i : Fin 2048) (j : Fin 512) : (dxslot s).view.emb (ix2 i j) = (ix3 s i j : S3x2048x512.Idx) := by
  show (Rect.unit (s := S3x2048x512) (slot3 s) S1x2048x512.size (dxslot_inb s)).emb (Shape.reshapeEquiv _ (ix2 i j)) = _
  rw [reshapeEquiv_ix2_1ab]
  funext a; apply Fin.ext
  rw [Rect.emb_apply]
  fin_cases a <;> simp [ix3, slot3]
theorem dwslot_emb (s : Fin 2) (i : Fin 512) (j : Fin 128) : (dwslot s).view.emb (ix2 i j) = (ix3 s i j : S2x512x128.Idx) := by
  show (Rect.unit (s := S2x512x128) (slot3 s) S1x512x128.size (dwslot_inb s)).emb (Shape.reshapeEquiv _ (ix2 i j)) = _
  rw [reshapeEquiv_ix2_1ab]
  funext a; apply Fin.ext
  rw [Rect.emb_apply]
  fin_cases a <;> simp [ix3, slot3]
theorem dxdst_emb (b : Fin 32) (p : Fin 2048) (q : Fin 512) :
    (dxdst b).view.emb (ix2 p q) = (ix2 p (⟨512 * b.val + q.val, by have := b.isLt; have := q.isLt; omega⟩ : Fin 16384) : S2048x16384.Idx) := by
  show (Rect.unit (s := S2048x16384) (colOff b) S2048x512.size (col_inb b)).emb (ix2 p q) = _
  funext a; apply Fin.ext
  rw [Rect.emb_apply]
  fin_cases a <;> simp [colOff]
theorem dwdst_emb (b : Fin 32) (p : Fin 512) (q : Fin 128) :
    (dwdst b).view.emb (ix2 p q) = (ix2 (⟨512 * b.val + p.val, by have := b.isLt; have := p.isLt; omega⟩ : Fin 16384) q : S16384x128.Idx) := by
  show (Rect.unit (s := S16384x128) (rowOff b) S512x128.size (row_inb b)).emb (ix2 p q) = _
  funext a; apply Fin.ext
  rw [Rect.emb_apply]
  fin_cases a <;> simp [rowOff]

/-- What chunk `b`'s copy out leaves over `f`, its slot `s` holding `v`. -/
abbrev dxout (b : Fin 32) (s : Fin 3) (f : Buf (Elt F) (dxM.view.loc (c : Thread nD τ))) (v : Buf (Elt F) (dxvM.view.loc (c : Thread nD τ))) : Buf (Elt F) (dxM.view.loc (c : Thread nD τ)) :=
  (dxdst b).view.writes (Elt F) f [⟨Rect.whole S2048x512, ReadAs.same.apply ((dxslot s).view.read (Elt F) v)⟩]
abbrev dwout (b : Fin 32) (s : Fin 2) (f : Buf (Elt F) (dwM.view.loc (c : Thread nD τ))) (v : Buf (Elt F) (dwvM.view.loc (c : Thread nD τ))) : Buf (Elt F) (dwM.view.loc (c : Thread nD τ)) :=
  (dwdst b).view.writes (Elt F) f [⟨Rect.whole S512x128, ReadAs.same.apply ((dwslot s).view.read (Elt F) v)⟩]

theorem dxout_at (b : Fin 32) (s : Fin 3) (f : Buf (Elt F) (dxM.view.loc (c : Thread nD τ))) (v : Buf (Elt F) (dxvM.view.loc (c : Thread nD τ))) (p : Fin 2048) (q : Fin 512)
    (hv : v (ix3 s p q : S3x2048x512.Idx) = DXc c Wv Dl b p q) :
    dxout c b s f v (ix2 p (⟨512 * b.val + q.val, by have := b.isLt; have := q.isLt; omega⟩ : Fin 16384) : S2048x16384.Idx) = DXc c Wv Dl b p q := by
  have h := congrFun (View.read_writes_whole (dxdst b).view f (ReadAs.same.apply ((dxslot s).view.read (Elt F) v))) (ix2 p q)
  rw [View.read_apply, dxdst_emb] at h
  have h2 : ReadAs.same.apply ((dxslot s).view.read (Elt F) v) (ix2 p q) = (dxslot s).view.read (Elt F) v (ix2 p q) := rfl
  have h3 : (dxslot s).view.read (Elt F) v (ix2 p q) = v (ix3 s p q : S3x2048x512.Idx) := by
    exact congrArg v (dxslot_emb s p q)
  exact eq_of_heq ((cast_heq _ _).symm.trans (heq_of_eq (h.trans (h2.trans (h3.trans hv)))))
theorem dwout_at (b : Fin 32) (s : Fin 2) (f : Buf (Elt F) (dwM.view.loc (c : Thread nD τ))) (v : Buf (Elt F) (dwvM.view.loc (c : Thread nD τ))) (p : Fin 512) (q : Fin 128)
    (hv : v (ix3 s p q : S2x512x128.Idx) = DWc c Xv Ds b p q) :
    dwout c b s f v (ix2 (⟨512 * b.val + p.val, by have := b.isLt; have := p.isLt; omega⟩ : Fin 16384) q : S16384x128.Idx) = DWc c Xv Ds b p q := by
  have h := congrFun (View.read_writes_whole (dwdst b).view f (ReadAs.same.apply ((dwslot s).view.read (Elt F) v))) (ix2 p q)
  rw [View.read_apply, dwdst_emb] at h
  have h2 : ReadAs.same.apply ((dwslot s).view.read (Elt F) v) (ix2 p q) = (dwslot s).view.read (Elt F) v (ix2 p q) := rfl
  have h3 : (dwslot s).view.read (Elt F) v (ix2 p q) = v (ix3 s p q : S2x512x128.Idx) := by
    exact congrArg v (dwslot_emb s p q)
  exact eq_of_heq ((cast_heq _ _).symm.trans (heq_of_eq (h.trans (h2.trans (h3.trans hv)))))

theorem DX_at (b : Fin 32) (p : Fin 2048) (q : Fin 512) :
    DX c Wv Dl (ix2 p (⟨512 * b.val + q.val, by have := b.isLt; have := q.isLt; omega⟩ : Fin 16384) : S2048x16384.Idx) = DXc c Wv Dl b p q := by
  have hq := q.isLt
  rw [DX]
  congr 1
  · apply Fin.ext; show (512 * b.val + q.val) / 512 = b.val; omega
  · apply Fin.ext; show (512 * b.val + q.val) % 512 = q.val; omega
theorem DW_at (b : Fin 32) (p : Fin 512) (q : Fin 128) :
    DW c Xv Ds (ix2 (⟨512 * b.val + p.val, by have := b.isLt; have := p.isLt; omega⟩ : Fin 16384) q : S16384x128.Idx) = DWc c Xv Ds b p q := by
  have hq := p.isLt
  rw [DW]
  congr 1
  · apply Fin.ext; show (512 * b.val + p.val) / 512 = b.val; omega
  · apply Fin.ext; show (512 * b.val + p.val) % 512 = p.val; omega

theorem dxhome_out (k : Fin k0_t3_loop.trips) (f : Buf (Elt F) (dxM.view.loc (c : Thread nD τ))) (fs : Buf (Elt F) (dxvM.view.loc (c : Thread nD τ))) :
    dxhome c (c3 k) (dxout c (c3 k) (d3 k) f (dxfull c Wv Dl k fs)) = dxhome c (c3 k) (DX c Wv Dl) := by
  refine pointsTo_congr fun i hi => ?_
  obtain ⟨j, -, rfl⟩ := Finset.mem_map.mp hi
  rw [(congrArg (dxdst (c3 k)).view.emb (eq_ix2 (n0 := 2048) (n1 := 512) j)).trans (dxdst_emb (c3 k) (j 0) (j 1))]
  exact (dxout_at c Wv Dl (c3 k) (d3 k) f _ (j 0) (j 1) (dxfull_at c Wv Dl k fs (j 0) (j 1))).trans (DX_at c Wv Dl (c3 k) (j 0) (j 1)).symm
theorem dwhome_out (k : Fin k0_t3_loop.trips) (f : Buf (Elt F) (dwM.view.loc (c : Thread nD τ))) (fs : Buf (Elt F) (dwvM.view.loc (c : Thread nD τ))) :
    dwhome c (c3 k) (dwout c (c3 k) (e3 k) f (dwfull c Xv Ds k fs)) = dwhome c (c3 k) (DW c Xv Ds) := by
  refine pointsTo_congr fun i hi => ?_
  obtain ⟨j, -, rfl⟩ := Finset.mem_map.mp hi
  rw [(congrArg (dwdst (c3 k)).view.emb (eq_ix2 (n0 := 512) (n1 := 128) j)).trans (dwdst_emb (c3 k) (j 0) (j 1))]
  exact (dwout_at c Xv Ds (c3 k) (e3 k) f _ (j 0) (j 1) (dwfull_at c Xv Ds k fs (j 0) (j 1))).trans (DW_at c Xv Ds (c3 k) (j 0) (j 1)).symm

variable (v1540 : Vec F S1x128 .f32)
abbrev t3G (k : Fin k0_t3_loop.trips) : Prog (TpuEff nD τ sig (Elt F) Λ₀ .tc) Unit := k0_t3_body (F := F) xM (Memref.isWhole_whole _) scM (Memref.isWhole_whole _) wM (Memref.isWhole_whole _) idM (Memref.isWhole_whole _) auxM (Memref.isWhole_whole _) ztM (Memref.isWhole_whole _) pM (Memref.isWhole_whole _) lseM (Memref.isWhole_whole _) dlogM (Memref.isWhole_whole _) dwM (Memref.isWhole_whole _) dxM (Memref.isWhole_whole _) xvM (Memref.isWhole_whole _) wvM (Memref.isWhole_whole _) scvM (Memref.isWhole_whole _) idvM (Memref.isWhole_whole _) zvM (Memref.isWhole_whole _) dlvM (Memref.isWhole_whole _) dsvM (Memref.isWhole_whole _) dlogvM (Memref.isWhole_whole _) auxvM (Memref.isWhole_whole _) ztvM (Memref.isWhole_whole _) pvM (Memref.isWhole_whole _) lsevM (Memref.isWhole_whole _) dxvM (Memref.isWhole_whole _) dwvM (Memref.isWhole_whole _) cc0_scratch14 cc0_scratch15 cc0_scratch16 cc0_scratch17 cc0_scratch18 cc0_scratch19 v1540 k ()

/-- What a trip's run ends with. -/
def ends3 (k : Fin k0_t3_loop.trips) : sProp 𝕄 :=
  iprop(dxfly c Wv Dl (c3 k) ∗ dwfly c Xv Ds (c3 k) ∗ xvP c Xv ∗ wvP c Wv ∗ dlvP c Dl ∗ dsvP c Ds ∗ ∃ W, owes (c : Thread nD τ) 0 W)
/-- What every trip's run begins with. -/
def begins3 (k : Fin k0_t3_loop.trips) : sProp 𝕄 :=
  iprop(dxwait c (c3 k) ∗ dwwait c (c3 k) ∗ xvP c Xv ∗ wvP c Wv ∗ dlvP c Dl ∗ dsvP c Ds ∗ ∃ W, owes (c : Thread nD τ) 0 W)

end Grad
end Cert.Proof.Kernel

end
-- ==== Proof.BitsRing.lean ====
/- Hand-written, untrusted. The third loop's trips, run: at first from fresh ring slots, later after waiting for the copy that
   used the slot last; and the loop's invariant over the chunks already out, on their way and still to come. -/
module

public import proofs.«01_k».proof.Proof.BitsGrad

@[expose] public section

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

open Idealize.ShloMosaic.ValueIdx
section Grad
variable (c : Dev nD)
variable (Xv : Buf (Elt F) (xvM.view.loc (c : Thread nD τ))) (Wv : Buf (Elt F) (wvM.view.loc (c : Thread nD τ)))
variable (Dl : Buf (Elt F) (dlvM.view.loc (c : Thread nD τ))) (Ds : Buf (Elt F) (dsvM.view.loc (c : Thread nD τ)))
variable (v1540 : Vec F S1x128 .f32)

/-- The first two trips use fresh slots of both rings, -/
theorem run3_first (k : Fin k0_t3_loop.trips) (hk : k.val < 2) :
    iprop(begins3 c Xv Wv Dl Ds k ∗ dxfree c (d3 k) ∗ dwfree c (e3 k))
    ⊢ wp Idealize.ShloMosaic.frame (wpE (defs₀ (F := F)) 𝒱₀ (c : Thread nD τ) none) Set.univ (t3G v1540 k) (fun _ => ends3 c Xv Wv Dl Ds k) := by
  have h1 : ¬ k0_cond1 k = 1#1 := fun h => by have := (cond1_iff k).mp h; omega
  have h2 : ¬ k0_cond2 k = 1#1 := fun h => by have := (cond2_iff k).mp h; omega
  rw [begins3, dxwait, dwwait, dxfree, dwfree]
  iintro ⟨⟨⟨%fxo, HXo⟩, ⟨%fwo, HWo⟩, Hx, Hw, Hdl, Hds, ⟨%W, Ho⟩⟩, ⟨⟨%fxs, HXs⟩, HXc⟩, ⟨⟨%fws, HWs⟩, HWc⟩⟩
  dsimp only [t3G]
  sl_unfold [k0_t3_body]
  sl_exec
  sl_step
  rw [ends3, dxfly, dwfly, dxflyAt, dwflyAt, ← dxhome_out c Wv Dl k fxo fxs, ← dwhome_out c Xv Ds k fwo fws]
  isplitl [HXc]; · iexists _; iexact HXc
  isplitl [HWc]; · iexists _; iexact HWc
  isplitl [Hx]; · iexact Hx
  isplitl [Hw]; · iexact Hw
  isplitl [Hdl]; · iexact Hdl
  isplitl [Hds]; · iexact Hds
  iexists _; iexact Ho

/-- the third waits for the first chunk of the weights' gradient, -/
theorem run3_mid (k : Fin k0_t3_loop.trips) (hk : k.val = 2) (bw : Fin 32) :
    iprop(begins3 c Xv Wv Dl Ds k ∗ dxfree c (d3 k) ∗ dwflyAt c Xv Ds bw (e3 k))
    ⊢ wp Idealize.ShloMosaic.frame (wpE (defs₀ (F := F)) 𝒱₀ (c : Thread nD τ) none) Set.univ (t3G v1540 k) (fun _ => iprop(ends3 c Xv Wv Dl Ds k ∗ dwhome c bw (DW c Xv Ds))) := by
  have h1 : ¬ k0_cond1 k = 1#1 := fun h => by have := (cond1_iff k).mp h; omega
  have h2 : k0_cond2 k = 1#1 := (cond2_iff k).mpr (by omega)
  rw [begins3, dxwait, dwwait, dxfree, dwflyAt]
  iintro ⟨⟨⟨%fxo, HXo⟩, ⟨%fwo, HWo⟩, Hx, Hw, Hdl, Hds, ⟨%W, Ho⟩⟩, ⟨⟨%fxs, HXs⟩, HXc⟩, ⟨%hw, HWf⟩⟩
  dsimp only [t3G]
  sl_unfold [k0_t3_body]
  sl_exec
  sl_step
  rw [ends3, dxfly, dwfly, dxflyAt, dwflyAt, ← dxhome_out c Wv Dl k fxo fxs, ← dwhome_out c Xv Ds k fwo hw]
  isplitr [HWf_dst]
  · isplitl [HXc]; · iexists _; iexact HXc
    isplitl [HWf]; · iexists _; iexact HWf
    isplitl [Hx]; · iexact Hx
    isplitl [Hw]; · iexact Hw
    isplitl [Hdl]; · iexact Hdl
    isplitl [Hds]; · iexact Hds
    iexists _; iexact Ho
  iexact HWf_dst

/-- and every later one for a chunk of each. -/
theorem run3_late (k : Fin k0_t3_loop.trips) (hk : 3 ≤ k.val) (bx bw : Fin 32) :
    iprop(begins3 c Xv Wv Dl Ds k ∗ dxflyAt c Wv Dl bx (d3 k) ∗ dwflyAt c Xv Ds bw (e3 k))
    ⊢ wp Idealize.ShloMosaic.frame (wpE (defs₀ (F := F)) 𝒱₀ (c : Thread nD τ) none) Set.univ (t3G v1540 k) (fun _ => iprop(ends3 c Xv Wv Dl Ds k ∗ dxhome c bx (DX c Wv Dl) ∗ dwhome c bw (DW c Xv Ds))) := by
  have h1 : k0_cond1 k = 1#1 := (cond1_iff k).mpr hk
  have h2 : k0_cond2 k = 1#1 := (cond2_iff k).mpr (by omega)
  rw [begins3, dxwait, dwwait, dxflyAt, dwflyAt]
  iintro ⟨⟨⟨%fxo, HXo⟩, ⟨%fwo, HWo⟩, Hx, Hw, Hdl, Hds, ⟨%W, Ho⟩⟩, ⟨%hx, HXf⟩, ⟨%hw, HWf⟩⟩
  dsimp only [t3G]
  sl_unfold [k0_t3_body]
  sl_exec
  sl_step
  rw [ends3, dxfly, dwfly, dxflyAt, dwflyAt, ← dxhome_out c Wv Dl k fxo hx, ← dwhome_out c Xv Ds k fwo hw]
  isplitr [HXf_dst HWf_dst]
  · isplitl [HXf]; · iexists _; iexact HXf
    isplitl [HWf]; · iexists _; iexact HWf
    isplitl [Hx]; · iexact Hx
    isplitl [Hw]; · iexact Hw
    isplitl [Hdl]; · iexact Hdl
    isplitl [Hds]; · iexact Hds
    iexists _; iexact Ho
  isplitl [HXf_dst]; · iexact HXf_dst
  iexact HWf_dst

/-! ## The invariant, one gradient at a time -/

section Side
variable {n : ℕ} (D fly wait : Fin 32 → sProp (MT nD τ sig Unit (Elt F) ℕ (UU nD τ) ℕ)) (free : Fin n → sProp (MT nD τ sig Unit (Elt F) ℕ (UU nD τ) ℕ))
/-- The chunks of one gradient whose ring has `n` slots, before trip `k`. -/
def side (k : ℕ) : sProp 𝕄 :=
  iprop(bigSep (Ring.rangeSet 32 0 (k - n)) D ∗ bigSep (Ring.rangeSet 32 (k - n) k) fly ∗ bigSep (Ring.rangeSet 32 k 32) wait ∗ bigSep (Ring.rangeSet n k n) free)
/-- The chunks a trip leaves alone. -/
def sideFree (k : ℕ) : sProp 𝕄 :=
  iprop(bigSep (Ring.rangeSet 32 0 (k - n)) D ∗ bigSep (Ring.rangeSet 32 (k - n) k) fly ∗ bigSep (Ring.rangeSet 32 (k + 1) 32) wait ∗ bigSep (Ring.rangeSet n (k + 1) n) free)
def sideLate (k : ℕ) : sProp 𝕄 :=
  iprop(bigSep (Ring.rangeSet 32 0 (k - n)) D ∗ bigSep (Ring.rangeSet 32 (k - n + 1) k) fly ∗ bigSep (Ring.rangeSet 32 (k + 1) 32) wait ∗ bigSep (Ring.rangeSet n k n) free)

theorem last_succ (Φ : Fin 32 → sProp (MT nD τ sig Unit (Elt F) ℕ (UU nD τ) ℕ)) (lo : ℕ) (b : Fin 32) (h : lo ≤ b.val) :
    bigSep (Ring.rangeSet 32 lo (b.val + 1)) Φ = iprop(Φ b ∗ bigSep (Ring.rangeSet 32 lo b.val) Φ) := by
  rw [Ring.bigSep_rangeSet_last (Φ := Φ) (by omega) b.isLt]
  rfl
theorem side_open_free (k : Fin 32) (h : k.val < n) :
    side D fly wait free k.val ⊢ iprop(sideFree D fly wait free k.val ∗ wait k ∗ free ⟨k.val, h⟩) := by
  rw [side, sideFree, from_succ wait k, Ring.bigSep_rangeSet_head (Φ := free) h h]
  iintro ⟨HD, HF, ⟨Hk, HW⟩, ⟨Hs, HS⟩⟩
  isplitl [HD HF HW HS]
  · isplitl [HD]; · iexact HD
    isplitl [HF]; · iexact HF
    isplitl [HW]; · iexact HW
    iexact HS
  isplitl [Hk]; · iexact Hk
  iexact Hs
theorem side_close_free (k : Fin 32) (h : k.val < n) :
    iprop(sideFree D fly wait free k.val ∗ fly k) ⊢ side D fly wait free (k.val + 1) := by
  have e : k.val + 1 - n = k.val - n := by omega
  rw [side, sideFree, e, last_succ fly (k.val - n) k (by omega)]
  iintro ⟨⟨HD, HF, HW, HS⟩, Hk⟩
  isplitl [HD]; · iexact HD
  isplitl [HF Hk]
  · isplitl [Hk]; · iexact Hk
    iexact HF
  isplitl [HW]; · iexact HW
  iexact HS
theorem side_open_late (k : Fin 32) (h : n ≤ k.val) (hn : 0 < n) :
    side D fly wait free k.val ⊢ iprop(sideLate D fly wait free k.val ∗ wait k ∗ fly ⟨k.val - n, by omega⟩) := by
  rw [side, sideLate, from_succ wait k, Ring.bigSep_rangeSet_head (Φ := fly) (lo := k.val - n) (hi := k.val) (by omega) (by omega)]
  iintro ⟨HD, ⟨Hf, HF⟩, ⟨Hk, HW⟩, HS⟩
  isplitl [HD HF HW HS]
  · isplitl [HD]; · iexact HD
    isplitl [HF]; · iexact HF
    isplitl [HW]; · iexact HW
    iexact HS
  isplitl [Hk]; · iexact Hk
  iexact Hf
theorem side_close_late (k : Fin 32) (h : n ≤ k.val) (hn : 0 < n) :
    iprop(sideLate D fly wait free k.val ∗ fly k ∗ D ⟨k.val - n, by omega⟩) ⊢ side D fly wait free (k.val + 1) := by
  have e : k.val + 1 - n = k.val - n + 1 := by omega
  rw [side, sideLate, e, last_succ fly (k.val - n + 1) k (by omega),
    last_succ D 0 ⟨k.val - n, by omega⟩ (Nat.zero_le _),
    Ring.bigSep_rangeSet_empty (Φ := free) (lo := k.val) h, Ring.bigSep_rangeSet_empty (Φ := free) (lo := k.val + 1) (by omega)]
  iintro ⟨⟨HD, HF, HW, HS⟩, Hk, Hd⟩
  isplitl [HD Hd]
  · isplitl [Hd]; · iexact Hd
    iexact HD
  isplitl [HF Hk]
  · isplitl [Hk]; · iexact Hk
    iexact HF
  isplitl [HW]; · iexact HW
  iexact HS
end Side

abbrev dxside (k : ℕ) : sProp 𝕄 := side (n := 3) (fun b => dxhome c b (DX c Wv Dl)) (dxfly c Wv Dl) (dxwait c) (dxfree c) k
abbrev dwside (k : ℕ) : sProp 𝕄 := side (n := 2) (fun b => dwhome c b (DW c Xv Ds)) (dwfly c Xv Ds) (dwwait c) (dwfree c) k
abbrev held3 : sProp 𝕄 := iprop(xvP c Xv ∗ wvP c Wv ∗ dlvP c Dl ∗ dsvP c Ds ∗ ∃ W, owes (c : Thread nD τ) 0 W)
/-- Before trip `k` of the third loop: the chunks below `k - 3` (below `k - 2` for the weights) are out, the following ones
    below `k` on their way, and the slots no trip has used yet are free. -/
def inv3 (k : ℕ) : sProp 𝕄 := iprop(dxside c Wv Dl k ∗ dwside c Xv Ds k ∗ held3 c Xv Wv Dl Ds)

theorem trip3 (k : Fin k0_t3_loop.trips) :
    inv3 c Xv Wv Dl Ds k.val ⊢ wp Idealize.ShloMosaic.frame (wpE (defs₀ (F := F)) 𝒱₀ (c : Thread nD τ) none) Set.univ (t3G v1540 k) (fun _ => inv3 c Xv Wv Dl Ds (k.val + 1)) := by
  have hk := k.isLt
  have ht := trips3
  rcases Nat.lt_or_ge k.val 2 with h | h
  · have ed : (⟨(c3 k).val, by show k.val < 3; omega⟩ : Fin 3) = d3 k := Fin.ext (by show k.val = k.val % 3; omega)
    have ee : (⟨(c3 k).val, by show k.val < 2; omega⟩ : Fin 2) = e3 k := Fin.ext (by show k.val = k.val % 2; omega)
    have ox := side_open_free (n := 3) (fun b => dxhome c b (DX c Wv Dl)) (dxfly c Wv Dl) (dxwait c) (dxfree c) (c3 k) (by show k.val < 3; omega)
    have ow := side_open_free (n := 2) (fun b => dwhome c b (DW c Xv Ds)) (dwfly c Xv Ds) (dwwait c) (dwfree c) (c3 k) (by show k.val < 2; omega)
    have cx := side_close_free (n := 3) (fun b => dxhome c b (DX c Wv Dl)) (dxfly c Wv Dl) (dxwait c) (dxfree c) (c3 k) (by show k.val < 3; omega)
    have cw := side_close_free (n := 2) (fun b => dwhome c b (DW c Xv Ds)) (dwfly c Xv Ds) (dwwait c) (dwfree c) (c3 k) (by show k.val < 2; omega)
    rw [ed] at ox
    rw [ee] at ow
    rw [inv3]
    iintro ⟨HX, HW, HH⟩
    ihave HX := ox $$ HX
    ihave HW := ow $$ HW
    icases HX with ⟨HXr, HXw, HXf⟩
    icases HW with ⟨HWr, HWw, HWf⟩
    ihave Hw := (run3_first c Xv Wv Dl Ds v1540 k h) $$ [HXw HWw HH HXf HWf]
    · rw [begins3]
      isplitl [HXw HWw HH]
      · isplitl [HXw]; · iexact HXw
        isplitl [HWw]; · iexact HWw
        iexact HH
      isplitl [HXf]; · iexact HXf
      iexact HWf
    iapply (wp_wand_r Idealize.ShloMosaic.frame (wpE (defs₀ (F := F)) 𝒱₀ (c : Thread nD τ) none) Set.univ)
    isplitl [Hw]; · iexact Hw
    iintro %_
    rw [ends3, inv3]
    iintro ⟨Hx, Hy, HH⟩
    isplitl [HXr Hx]
    · iapply cx; isplitl [HXr]; · iexact HXr
      iexact Hx
    isplitl [HWr Hy]
    · iapply cw; isplitl [HWr]; · iexact HWr
      iexact Hy
    iexact HH
  rcases Nat.lt_or_ge k.val 3 with h3 | h3
  · have h2 : k.val = 2 := by omega
    have ed : (⟨(c3 k).val, by show k.val < 3; omega⟩ : Fin 3) = d3 k := Fin.ext (by show k.val = k.val % 3; omega)
    have ee : dwfly c Xv Ds ⟨(c3 k).val - 2, by show k.val - 2 < 32; omega⟩ = dwflyAt c Xv Ds ⟨(c3 k).val - 2, by show k.val - 2 < 32; omega⟩ (e3 k) := by
      rw [dwfly]; congr 1; exact Fin.ext (by show (k.val - 2) % 2 = k.val % 2; omega)
    have ox := side_open_free (n := 3) (fun b => dxhome c b (DX c Wv Dl)) (dxfly c Wv Dl) (dxwait c) (dxfree c) (c3 k) (by show k.val < 3; omega)
    have ow := side_open_late (n := 2) (fun b => dwhome c b (DW c Xv Ds)) (dwfly c Xv Ds) (dwwait c) (dwfree c) (c3 k) (by show 2 ≤ k.val; omega) (by omega)
    have cx := side_close_free (n := 3) (fun b => dxhome c b (DX c Wv Dl)) (dxfly c Wv Dl) (dxwait c) (dxfree c) (c3 k) (by show k.val < 3; omega)
    have cw := side_close_late (n := 2) (fun b => dwhome c b (DW c Xv Ds)) (dwfly c Xv Ds) (dwwait c) (dwfree c) (c3 k) (by show 2 ≤ k.val; omega) (by omega)
    rw [ed] at ox
    rw [ee] at ow
    rw [inv3]
    iintro ⟨HX, HW, HH⟩
    ihave HX := ox $$ HX
    ihave HW := ow $$ HW
    icases HX with ⟨HXr, HXw, HXf⟩
    icases HW with ⟨HWr, HWw, HWf⟩
    ihave Hw := (run3_mid c Xv Wv Dl Ds v1540 k h2 _) $$ [HXw HWw HH HXf HWf]
    · rw [begins3]
      isplitl [HXw HWw HH]
      · isplitl [HXw]; · iexact HXw
        isplitl [HWw]; · iexact HWw
        iexact HH
      isplitl [HXf]; · iexact HXf
      iexact HWf
    iapply (wp_wand_r Idealize.ShloMosaic.frame (wpE (defs₀ (F := F)) 𝒱₀ (c : Thread nD τ) none) Set.univ)
    isplitl [Hw]; · iexact Hw
    iintro %_
    rw [ends3, inv3]
    iintro ⟨⟨Hx, Hy, HH⟩, HD⟩
    isplitl [HXr Hx]
    · iapply cx; isplitl [HXr]; · iexact HXr
      iexact Hx
    isplitl [HWr Hy HD]
    · iapply cw; isplitl [HWr]; · iexact HWr
      isplitl [Hy]; · iexact Hy
      iexact HD
    iexact HH
  · have ed : dxfly c Wv Dl ⟨(c3 k).val - 3, by show k.val - 3 < 32; omega⟩ = dxflyAt c Wv Dl ⟨(c3 k).val - 3, by show k.val - 3 < 32; omega⟩ (d3 k) := by
      rw [dxfly]; congr 1; exact Fin.ext (by show (k.val - 3) % 3 = k.val % 3; omega)
    have ee : dwfly c Xv Ds ⟨(c3 k).val - 2, by show k.val - 2 < 32; omega⟩ = dwflyAt c Xv Ds ⟨(c3 k).val - 2, by show k.val - 2 < 32; omega⟩ (e3 k) := by
      rw [dwfly]; congr 1; exact Fin.ext (by show (k.val - 2) % 2 = k.val % 2; omega)
    have ox := side_open_late (n := 3) (fun b => dxhome c b (DX c Wv Dl)) (dxfly c Wv Dl) (dxwait c) (dxfree c) (c3 k) (by show 3 ≤ k.val; omega) (by omega)
    have ow := side_open_late (n := 2) (fun b => dwhome c b (DW c Xv Ds)) (dwfly c Xv Ds) (dwwait c) (dwfree c) (c3 k) (by show 2 ≤ k.val; omega) (by omega)
    have cx := side_close_late (n := 3) (fun b => dxhome c b (DX c Wv Dl)) (dxfly c Wv Dl) (dxwait c) (dxfree c) (c3 k) (by show 3 ≤ k.val; omega) (by omega)
    have cw := side_close_late (n := 2) (fun b => dwhome c b (DW c Xv Ds)) (dwfly c Xv Ds) (dwwait c) (dwfree c) (c3 k) (by show 2 ≤ k.val; omega) (by omega)
    rw [ed] at ox
    rw [ee] at ow
    rw [inv3]
    iintro ⟨HX, HW, HH⟩
    ihave HX := ox $$ HX
    ihave HW := ow $$ HW
    icases HX with ⟨HXr, HXw, HXf⟩
    icases HW with ⟨HWr, HWw, HWf⟩
    ihave Hw := (run3_late c Xv Wv Dl Ds v1540 k h3 _ _) $$ [HXw HWw HH HXf HWf]
    · rw [begins3]
      isplitl [HXw HWw HH]
      · isplitl [HXw]; · iexact HXw
        isplitl [HWw]; · iexact HWw
        iexact HH
      isplitl [HXf]; · iexact HXf
      iexact HWf
    iapply (wp_wand_r Idealize.ShloMosaic.frame (wpE (defs₀ (F := F)) 𝒱₀ (c : Thread nD τ) none) Set.univ)
    isplitl [Hw]; · iexact Hw
    iintro %_
    rw [ends3, inv3]
    iintro ⟨⟨Hx, Hy, HH⟩, HDx, HDw⟩
    isplitl [HXr Hx HDx]
    · iapply cx; isplitl [HXr]; · iexact HXr
      isplitl [Hx]; · iexact Hx
      iexact HDx
    isplitl [HWr Hy HDw]
    · iapply cw; isplitl [HWr]; · iexact HWr
      isplitl [Hy]; · iexact Hy
      iexact HDw
    iexact HH

set_option warn.classDefReducibility false in
/-- The third loop's invariant. -/
@[sl_loop] def loopInv3 : LoopInvTy_k0_t3 (F := F) Unit ℕ (UU nD τ) ℕ 𝒱₀ c none Set.univ xM (Memref.isWhole_whole _) scM (Memref.isWhole_whole _) wM (Memref.isWhole_whole _) idM (Memref.isWhole_whole _) auxM (Memref.isWhole_whole _) ztM (Memref.isWhole_whole _) pM (Memref.isWhole_whole _) lseM (Memref.isWhole_whole _) dlogM (Memref.isWhole_whole _) dwM (Memref.isWhole_whole _) dxM (Memref.isWhole_whole _) xvM (Memref.isWhole_whole _) wvM (Memref.isWhole_whole _) scvM (Memref.isWhole_whole _) idvM (Memref.isWhole_whole _) zvM (Memref.isWhole_whole _) dlvM (Memref.isWhole_whole _) dsvM (Memref.isWhole_whole _) dlogvM (Memref.isWhole_whole _) auxvM (Memref.isWhole_whole _) ztvM (Memref.isWhole_whole _) pvM (Memref.isWhole_whole _) lsevM (Memref.isWhole_whole _) dxvM (Memref.isWhole_whole _) dwvM (Memref.isWhole_whole _) cc0_scratch14 cc0_scratch15 cc0_scratch16 cc0_scratch17 cc0_scratch18 cc0_scratch19 v1540 where
  inv k _ := inv3 c Xv Wv Dl Ds k
  step k _ := trip3 c Xv Wv Dl Ds v1540 k

end Grad
end Cert.Proof.Kernel

end
-- ==== Proof.BitsBlocks.lean ====
/- Hand-written, untrusted. The buffers the kernel moves chunk by chunk, held whole and held by their chunks or slots. -/
module

public import proofs.«01_k».proof.Proof.BitsRing

@[expose] public section

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Key
variable {ℓ : Loc nD τ sig} {n : ℕ} (I : Fin n → Finset (Idx ℓ)) (key : Idx ℓ → Fin n) (hk : ∀ b i, i ∈ I b ↔ key i = b)

include hk in
theorem key_disjoint (b b' : Fin n) (h : b ≠ b') : Disjoint (I b) (I b') :=
  Finset.disjoint_left.mpr fun i hi hi' => h (((hk b i).mp hi).symm.trans ((hk b' i).mp hi'))
include hk in
theorem key_cover : Finset.univ.biUnion I = Finset.univ := by
  ext i
  exact ⟨fun _ => Finset.mem_univ i, fun _ => Finset.mem_biUnion.mpr ⟨key i, Finset.mem_univ _, (hk _ i).mpr rfl⟩⟩
include hk in
/-- A buffer held whole is held piece by piece; -/
theorem key_blocks (f : Buf (Elt F) ℓ) :
    (ℓ ↦{fullShare} f : sProp 𝕄) = bigSep (Ring.rangeSet n 0 n) fun b => ℓ ↦[I b]{fullShare} f := by
  rw [Ring.rangeSet_univ]
  exact Ring.pointsTo_blocks I (key_disjoint I key hk) (key_cover I key hk) f
include hk in
/-- and pieces at contents of their own make it whole again. -/
theorem key_join (f₀ : Buf (Elt F) ℓ) :
    bigSep (Ring.rangeSet n 0 n) (fun b => iprop(∃ f, ℓ ↦[I b]{fullShare} f)) ⊢ (iprop(∃ g, ℓ ↦{fullShare} g) : sProp 𝕄) := by
  rw [Ring.rangeSet_univ]
  exact Ring.pointsTo_blocks_join_exists I (key_disjoint I key hk) (key_cover I key hk) f₀
include hk in
theorem key_split (f : Buf (Elt F) ℓ) :
    (ℓ ↦{fullShare} f : sProp 𝕄) ⊢ bigSep (Ring.rangeSet n 0 n) (fun b => iprop(∃ f, ℓ ↦[I b]{fullShare} f)) := by
  rw [key_blocks I key hk f]
  have h : ∀ b, (ℓ ↦[I b]{fullShare} f : sProp 𝕄) ⊢ iprop(∃ f, ℓ ↦[I b]{fullShare} f) := fun b => by iintro H; iexists f; iexact H
  exact BI.bigSep_mono fun b _ => h b
end Key

/-! ## The element sets -/

theorem xslot_mem (b : Fin 32) (i : S32x2048x512.Idx) : i ∈ (xslot b).view.set ↔ (i 0 : Fin 32) = b := by
  have e : (xslot b).view.set = (Rect.unit (s := S32x2048x512) (slot3 b) S1x2048x512.size (xslot_inb b)).set := (View.set_reshape _ _).trans (View.set_slice_whole _ _)
  refine (Eq.subst (motive := fun A => i ∈ (xslot b).view.set ↔ i ∈ A) e Iff.rfl).trans (Rect.mem_set_unit.trans ⟨fun h => ?_, fun h a => ?_⟩)
  · have h0 := h 0
    exact Fin.ext (by change b.val ≤ (i 0).val ∧ (i 0).val < b.val + 1 at h0; omega)
  · subst h
    have h1 : (i 1).val < 2048 := (i 1).isLt
    have h2 : (i 2).val < 512 := (i 2).isLt
    fin_cases a
    · change (i 0).val ≤ (i 0).val ∧ (i 0).val < (i 0).val + 1; omega
    · change 0 ≤ (i 1).val ∧ (i 1).val < 0 + 2048; omega
    · change 0 ≤ (i 2).val ∧ (i 2).val < 0 + 512; omega
theorem wslot_mem (b : Fin 32) (i : S32x512x128.Idx) : i ∈ (wslot b).view.set ↔ (i 0 : Fin 32) = b := by
  have e : (wslot b).view.set = (Rect.unit (s := S32x512x128) (slot3 b) S1x512x128.size (wslot_inb b)).set := (View.set_reshape _ _).trans (View.set_slice_whole _ _)
  refine (Eq.subst (motive := fun A => i ∈ (wslot b).view.set ↔ i ∈ A) e Iff.rfl).trans (Rect.mem_set_unit.trans ⟨fun h => ?_, fun h a => ?_⟩)
  · have h0 := h 0
    exact Fin.ext (by change b.val ≤ (i 0).val ∧ (i 0).val < b.val + 1 at h0; omega)
  · subst h
    have h1 : (i 1).val < 512 := (i 1).isLt
    have h2 : (i 2).val < 128 := (i 2).isLt
    fin_cases a
    · change (i 0).val ≤ (i 0).val ∧ (i 0).val < (i 0).val + 1; omega
    · change 0 ≤ (i 1).val ∧ (i 1).val < 0 + 512; omega
    · change 0 ≤ (i 2).val ∧ (i 2).val < 0 + 128; omega
theorem dxslot_mem (b : Fin 3) (i : S3x2048x512.Idx) : i ∈ (dxslot b).view.set ↔ (i 0 : Fin 3) = b := by
  have e : (dxslot b).view.set = (Rect.unit (s := S3x2048x512) (slot3 b) S1x2048x512.size (dxslot_inb b)).set := (View.set_reshape _ _).trans (View.set_slice_whole _ _)
  refine (Eq.subst (motive := fun A => i ∈ (dxslot b).view.set ↔ i ∈ A) e Iff.rfl).trans (Rect.mem_set_unit.trans ⟨fun h => ?_, fun h a => ?_⟩)
  · have h0 := h 0
    exact Fin.ext (by change b.val ≤ (i 0).val ∧ (i 0).val < b.val + 1 at h0; omega)
  · subst h
    have h1 : (i 1).val < 2048 := (i 1).isLt
    have h2 : (i 2).val < 512 := (i 2).isLt
    fin_cases a
    · change (i 0).val ≤ (i 0).val ∧ (i 0).val < (i 0).val + 1; omega
    · change 0 ≤ (i 1).val ∧ (i 1).val < 0 + 2048; omega
    · change 0 ≤ (i 2).val ∧ (i 2).val < 0 + 512; omega
theorem dwslot_mem (b : Fin 2) (i : S2x512x128.Idx) : i ∈ (dwslot b).view.set ↔ (i 0 : Fin 2) = b := by
  have e : (dwslot b).view.set = (Rect.unit (s := S2x512x128) (slot3 b) S1x512x128.size (dwslot_inb b)).set := (View.set_reshape _ _).trans (View.set_slice_whole _ _)
  refine (Eq.subst (motive := fun A => i ∈ (dwslot b).view.set ↔ i ∈ A) e Iff.rfl).trans (Rect.mem_set_unit.trans ⟨fun h => ?_, fun h a => ?_⟩)
  · have h0 := h 0
    exact Fin.ext (by change b.val ≤ (i 0).val ∧ (i 0).val < b.val + 1 at h0; omega)
  · subst h
    have h1 : (i 1).val < 512 := (i 1).isLt
    have h2 : (i 2).val < 128 := (i 2).isLt
    fin_cases a
    · change (i 0).val ≤ (i 0).val ∧ (i 0).val < (i 0).val + 1; omega
    · change 0 ≤ (i 1).val ∧ (i 1).val < 0 + 512; omega
    · change 0 ≤ (i 2).val ∧ (i 2).val < 0 + 128; omega
theorem xsrc_mem (b : Fin 32) (i : S2048x16384.Idx) : i ∈ (xsrc b).view.set ↔ (⟨(i 1).val / 512, Nat.div_lt_of_lt_mul (i 1).isLt⟩ : Fin 32) = b := by
  have e : (xsrc b).view.set = (Rect.unit (s := S2048x16384) (colOff b) S2048x512.size (col_inb b)).set := View.set_slice_whole _ _
  refine (Eq.subst (motive := fun A => i ∈ (xsrc b).view.set ↔ i ∈ A) e Iff.rfl).trans (Rect.mem_set_unit.trans ⟨fun h => ?_, fun h a => ?_⟩)
  · have h0 := h 1
    exact Fin.ext (by change 512 * b.val ≤ (i 1).val ∧ (i 1).val < 512 * b.val + 512 at h0; show (i 1).val / 512 = b.val; omega)
  · have hb : b.val = (i 1).val / 512 := (congrArg Fin.val h).symm
    have h1 : (i 0).val < 2048 := (i 0).isLt
    fin_cases a
    · change 0 ≤ (i 0).val ∧ (i 0).val < 0 + 2048; omega
    · change 512 * b.val ≤ (i 1).val ∧ (i 1).val < 512 * b.val + 512; omega
theorem dxdst_mem (b : Fin 32) (i : S2048x16384.Idx) : i ∈ (dxdst b).view.set ↔ (⟨(i 1).val / 512, Nat.div_lt_of_lt_mul (i 1).isLt⟩ : Fin 32) = b := by
  have e : (dxdst b).view.set = (Rect.unit (s := S2048x16384) (colOff b) S2048x512.size (col_inb b)).set := View.set_slice_whole _ _
  refine (Eq.subst (motive := fun A => i ∈ (dxdst b).view.set ↔ i ∈ A) e Iff.rfl).trans (Rect.mem_set_unit.trans ⟨fun h => ?_, fun h a => ?_⟩)
  · have h0 := h 1
    exact Fin.ext (by change 512 * b.val ≤ (i 1).val ∧ (i 1).val < 512 * b.val + 512 at h0; show (i 1).val / 512 = b.val; omega)
  · have hb : b.val = (i 1).val / 512 := (congrArg Fin.val h).symm
    have h1 : (i 0).val < 2048 := (i 0).isLt
    fin_cases a
    · change 0 ≤ (i 0).val ∧ (i 0).val < 0 + 2048; omega
    · change 512 * b.val ≤ (i 1).val ∧ (i 1).val < 512 * b.val + 512; omega
theorem wsrc_mem (b : Fin 32) (i : S16384x128.Idx) : i ∈ (wsrc b).view.set ↔ (⟨(i 0).val / 512, Nat.div_lt_of_lt_mul (i 0).isLt⟩ : Fin 32) = b := by
  have e : (wsrc b).view.set = (Rect.unit (s := S16384x128) (rowOff b) S512x128.size (row_inb b)).set := View.set_slice_whole _ _
  refine (Eq.subst (motive := fun A => i ∈ (wsrc b).view.set ↔ i ∈ A) e Iff.rfl).trans (Rect.mem_set_unit.trans ⟨fun h => ?_, fun h a => ?_⟩)
  · have h0 := h 0
    exact Fin.ext (by change 512 * b.val ≤ (i 0).val ∧ (i 0).val < 512 * b.val + 512 at h0; show (i 0).val / 512 = b.val; omega)
  · have hb : b.val = (i 0).val / 512 := (congrArg Fin.val h).symm
    have h1 : (i 1).val < 128 := (i 1).isLt
    fin_cases a
    · change 512 * b.val ≤ (i 0).val ∧ (i 0).val < 512 * b.val + 512; omega
    · change 0 ≤ (i 1).val ∧ (i 1).val < 0 + 128; omega
theorem dwdst_mem (b : Fin 32) (i : S16384x128.Idx) : i ∈ (dwdst b).view.set ↔ (⟨(i 0).val / 512, Nat.div_lt_of_lt_mul (i 0).isLt⟩ : Fin 32) = b := by
  have e : (dwdst b).view.set = (Rect.unit (s := S16384x128) (rowOff b) S512x128.size (row_inb b)).set := View.set_slice_whole _ _
  refine (Eq.subst (motive := fun A => i ∈ (dwdst b).view.set ↔ i ∈ A) e Iff.rfl).trans (Rect.mem_set_unit.trans ⟨fun h => ?_, fun h a => ?_⟩)
  · have h0 := h 0
    exact Fin.ext (by change 512 * b.val ≤ (i 0).val ∧ (i 0).val < 512 * b.val + 512 at h0; show (i 0).val / 512 = b.val; omega)
  · have hb : b.val = (i 0).val / 512 := (congrArg Fin.val h).symm
    have h1 : (i 1).val < 128 := (i 1).isLt
    fin_cases a
    · change 512 * b.val ≤ (i 0).val ∧ (i 0).val < 512 * b.val + 512; omega
    · change 0 ≤ (i 1).val ∧ (i 1).val < 0 + 128; omega

/-! ## Whole and in pieces -/

section Pieces
variable (c : Dev nD)

theorem xslot_blocks (f : Buf (Elt F) (xvM.view.loc (c : Thread nD τ))) :
    (xvM.view.loc (c : Thread nD τ) ↦{fullShare} f : sProp 𝕄) = bigSep (Ring.rangeSet 32 0 32) fun b => xheld c b f :=
  key_blocks (ℓ := xvM.view.loc (c : Thread nD τ)) (fun b => (xslot b).view.set) _ (xslot_mem) f
theorem xslot_split (f : Buf (Elt F) (xvM.view.loc (c : Thread nD τ))) :
    (xvM.view.loc (c : Thread nD τ) ↦{fullShare} f : sProp 𝕄) ⊢ bigSep (Ring.rangeSet 32 0 32) fun b => iprop(∃ f, xheld c b f) :=
  key_split (ℓ := xvM.view.loc (c : Thread nD τ)) (fun b => (xslot b).view.set) _ (xslot_mem) f
theorem wslot_blocks (f : Buf (Elt F) (wvM.view.loc (c : Thread nD τ))) :
    (wvM.view.loc (c : Thread nD τ) ↦{fullShare} f : sProp 𝕄) = bigSep (Ring.rangeSet 32 0 32) fun b => wheld c b f :=
  key_blocks (ℓ := wvM.view.loc (c : Thread nD τ)) (fun b => (wslot b).view.set) _ (wslot_mem) f
theorem wslot_split (f : Buf (Elt F) (wvM.view.loc (c : Thread nD τ))) :
    (wvM.view.loc (c : Thread nD τ) ↦{fullShare} f : sProp 𝕄) ⊢ bigSep (Ring.rangeSet 32 0 32) fun b => iprop(∃ f, wheld c b f) :=
  key_split (ℓ := wvM.view.loc (c : Thread nD τ)) (fun b => (wslot b).view.set) _ (wslot_mem) f
theorem dxslot_blocks (f : Buf (Elt F) (dxvM.view.loc (c : Thread nD τ))) :
    (dxvM.view.loc (c : Thread nD τ) ↦{fullShare} f : sProp 𝕄) = bigSep (Ring.rangeSet 3 0 3) fun b => dxheld c b f :=
  key_blocks (ℓ := dxvM.view.loc (c : Thread nD τ)) (fun b => (dxslot b).view.set) _ (dxslot_mem) f
theorem dxslot_split (f : Buf (Elt F) (dxvM.view.loc (c : Thread nD τ))) :
    (dxvM.view.loc (c : Thread nD τ) ↦{fullShare} f : sProp 𝕄) ⊢ bigSep (Ring.rangeSet 3 0 3) fun b => iprop(∃ f, dxheld c b f) :=
  key_split (ℓ := dxvM.view.loc (c : Thread nD τ)) (fun b => (dxslot b).view.set) _ (dxslot_mem) f
theorem dxslot_join [∀ e, Nonempty (Elt F e)] :
    bigSep (Ring.rangeSet 3 0 3) (fun b => iprop(∃ f, dxheld c b f)) ⊢ (iprop(∃ f, dxvM.view.loc (c : Thread nD τ) ↦{fullShare} f) : sProp 𝕄) :=
  key_join (ℓ := dxvM.view.loc (c : Thread nD τ)) (fun b => (dxslot b).view.set) _ (dxslot_mem) dxvM.view.junk
theorem dwslot_blocks (f : Buf (Elt F) (dwvM.view.loc (c : Thread nD τ))) :
    (dwvM.view.loc (c : Thread nD τ) ↦{fullShare} f : sProp 𝕄) = bigSep (Ring.rangeSet 2 0 2) fun b => dwheld c b f :=
  key_blocks (ℓ := dwvM.view.loc (c : Thread nD τ)) (fun b => (dwslot b).view.set) _ (dwslot_mem) f
theorem dwslot_split (f : Buf (Elt F) (dwvM.view.loc (c : Thread nD τ))) :
    (dwvM.view.loc (c : Thread nD τ) ↦{fullShare} f : sProp 𝕄) ⊢ bigSep (Ring.rangeSet 2 0 2) fun b => iprop(∃ f, dwheld c b f) :=
  key_split (ℓ := dwvM.view.loc (c : Thread nD τ)) (fun b => (dwslot b).view.set) _ (dwslot_mem) f
theorem dwslot_join [∀ e, Nonempty (Elt F e)] :
    bigSep (Ring.rangeSet 2 0 2) (fun b => iprop(∃ f, dwheld c b f)) ⊢ (iprop(∃ f, dwvM.view.loc (c : Thread nD τ) ↦{fullShare} f) : sProp 𝕄) :=
  key_join (ℓ := dwvM.view.loc (c : Thread nD τ)) (fun b => (dwslot b).view.set) _ (dwslot_mem) dwvM.view.junk
theorem xsrc_blocks (f : Buf (Elt F) (xM.view.loc (c : Thread nD τ))) :
    (xM.view.loc (c : Thread nD τ) ↦{fullShare} f : sProp 𝕄) = bigSep (Ring.rangeSet 32 0 32) fun b => xhome c f b :=
  key_blocks (ℓ := xM.view.loc (c : Thread nD τ)) (fun b => (xsrc b).view.set) _ (xsrc_mem) f
theorem wsrc_blocks (f : Buf (Elt F) (wM.view.loc (c : Thread nD τ))) :
    (wM.view.loc (c : Thread nD τ) ↦{fullShare} f : sProp 𝕄) = bigSep (Ring.rangeSet 32 0 32) fun b => whome c f b :=
  key_blocks (ℓ := wM.view.loc (c : Thread nD τ)) (fun b => (wsrc b).view.set) _ (wsrc_mem) f
theorem dxdst_blocks (f : Buf (Elt F) (dxM.view.loc (c : Thread nD τ))) :
    (dxM.view.loc (c : Thread nD τ) ↦{fullShare} f : sProp 𝕄) = bigSep (Ring.rangeSet 32 0 32) fun b => dxhome c b f :=
  key_blocks (ℓ := dxM.view.loc (c : Thread nD τ)) (fun b => (dxdst b).view.set) _ (dxdst_mem) f
theorem dxdst_split (f : Buf (Elt F) (dxM.view.loc (c : Thread nD τ))) :
    (dxM.view.loc (c : Thread nD τ) ↦{fullShare} f : sProp 𝕄) ⊢ bigSep (Ring.rangeSet 32 0 32) fun b => iprop(∃ f, dxhome c b f) :=
  key_split (ℓ := dxM.view.loc (c : Thread nD τ)) (fun b => (dxdst b).view.set) _ (dxdst_mem) f
theorem dwdst_blocks (f : Buf (Elt F) (dwM.view.loc (c : Thread nD τ))) :
    (dwM.view.loc (c : Thread nD τ) ↦{fullShare} f : sProp 𝕄) = bigSep (Ring.rangeSet 32 0 32) fun b => dwhome c b f :=
  key_blocks (ℓ := dwM.view.loc (c : Thread nD τ)) (fun b => (dwdst b).view.set) _ (dwdst_mem) f
theorem dwdst_split (f : Buf (Elt F) (dwM.view.loc (c : Thread nD τ))) :
    (dwM.view.loc (c : Thread nD τ) ↦{fullShare} f : sProp 𝕄) ⊢ bigSep (Ring.rangeSet 32 0 32) fun b => iprop(∃ f, dwhome c b f) :=
  key_split (ℓ := dwM.view.loc (c : Thread nD τ)) (fun b => (dwdst b).view.set) _ (dwdst_mem) f
end Pieces

end Cert.Proof.Kernel

end
-- ==== Proof.BitsEnds.lean ====
/- Hand-written, untrusted. What the body's run begins and ends with, and the lemmas that open and close it. -/
module

public import proofs.«01_k».proof.Proof.BitsBlocks

@[expose] public section

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

open Idealize.ShloMosaic.ValueIdx

/-! ## The other semaphores and the last waits' names -/

abbrev idsem : DmaSems sig S_ := (cc0_scratch16.slice (Rect.unit (s := S2) ![1] S1.size inb_S2_S1_1)).squeeze S_ squeezes_S1_S_
abbrev scsem : DmaSems sig S_ := (cc0_scratch16.slice (Rect.unit (s := S2) ![0] S1.size inb_S2_S1_0)).squeeze S_ squeezes_S1_S_
abbrev auxsem : DmaSems sig S_ := (cc0_scratch17.slice (Rect.unit (s := S5) ![0] S1.size inb_S5_S1_0)).squeeze S_ squeezes_S1_S_
abbrev ztsem : DmaSems sig S_ := (cc0_scratch17.slice (Rect.unit (s := S5) ![1] S1.size inb_S5_S1_1)).squeeze S_ squeezes_S1_S_
abbrev psem : DmaSems sig S_ := (cc0_scratch17.slice (Rect.unit (s := S5) ![2] S1.size inb_S5_S1_2)).squeeze S_ squeezes_S1_S_
abbrev lsesem : DmaSems sig S_ := (cc0_scratch17.slice (Rect.unit (s := S5) ![3] S1.size inb_S5_S1_3)).squeeze S_ squeezes_S1_S_
abbrev dlogsem : DmaSems sig S_ := (cc0_scratch17.slice (Rect.unit (s := S5) ![4] S1.size inb_S5_S1_4)).squeeze S_ squeezes_S1_S_

@[sl_canon] theorem e_dxsem2 (hh : ∀ a : Fin 1, (![2] : Fin 1 → Nat) a + S1.size a ≤ S3.size a) :
    (cc0_scratch18.slice (Rect.unit (s := S3) ![2] S1.size hh)).squeeze S_ squeezes_S1_S_ = dxsem (2 : Fin 3) :=
  dxsem_congr (off := ![2]) (b := (2 : Fin 3)) rfl hh
@[sl_canon] theorem e_dxsem0 (hh : ∀ a : Fin 1, (![0] : Fin 1 → Nat) a + S1.size a ≤ S3.size a) :
    (cc0_scratch18.slice (Rect.unit (s := S3) ![0] S1.size hh)).squeeze S_ squeezes_S1_S_ = dxsem (0 : Fin 3) :=
  dxsem_congr (off := ![0]) (b := (0 : Fin 3)) rfl hh
@[sl_canon] theorem e_dxsem1 (hh : ∀ a : Fin 1, (![1] : Fin 1 → Nat) a + S1.size a ≤ S3.size a) :
    (cc0_scratch18.slice (Rect.unit (s := S3) ![1] S1.size hh)).squeeze S_ squeezes_S1_S_ = dxsem (1 : Fin 3) :=
  dxsem_congr (off := ![1]) (b := (1 : Fin 3)) rfl hh
@[sl_canon] theorem e_dwsem0 (hh : ∀ a : Fin 1, (![0] : Fin 1 → Nat) a + S1.size a ≤ S2.size a) :
    (cc0_scratch19.slice (Rect.unit (s := S2) ![0] S1.size hh)).squeeze S_ squeezes_S1_S_ = dwsem (0 : Fin 2) :=
  dwsem_congr (off := ![0]) (b := (0 : Fin 2)) rfl hh
@[sl_canon] theorem e_dwsem1 (hh : ∀ a : Fin 1, (![1] : Fin 1 → Nat) a + S1.size a ≤ S2.size a) :
    (cc0_scratch19.slice (Rect.unit (s := S2) ![1] S1.size hh)).squeeze S_ squeezes_S1_S_ = dwsem (1 : Fin 2) :=
  dwsem_congr (off := ![1]) (b := (1 : Fin 2)) rfl hh

section Body
variable (c : Dev nD)
variable (X : Buf (Elt F) (xM.view.loc (c : Thread nD τ))) (Wt : Buf (Elt F) (wM.view.loc (c : Thread nD τ)))
variable (Sc : Buf (Elt F) (scM.view.loc (c : Thread nD τ))) (Id : Buf (Elt F) (idM.view.loc (c : Thread nD τ)))

abbrev cell0 (s : DmaSems sig S_) : sProp 𝕄 := semVal ((c : Thread nD τ), SemLoc.dma s.sem) 0
abbrev P {sp s e} (m : Memref sig .tc sp s e) (f : Buf (Elt F) (m.view.loc (c : Thread nD τ))) : sProp 𝕄 := m.view.loc (c : Thread nD τ) ↦{fullShare} f

/-- The copy counters of the single transfers, all at rest. -/
def small0 : sProp 𝕄 := iprop(cell0 c idsem ∗ cell0 c scsem ∗ cell0 c auxsem ∗ cell0 c ztsem ∗ cell0 c psem ∗ cell0 c lsesem ∗ cell0 c dlogsem)
/-- The rings at rest. -/
def rings0 : sProp 𝕄 := iprop(bigSep (Ring.rangeSet 3 0 3) (dxfree (F := F) c) ∗ bigSep (Ring.rangeSet 2 0 2) (dwfree (F := F) c))
/-- The VMEM scratch the body writes before it reads. -/
def scratch0 : sProp 𝕄 :=
  iprop((∃ f, P c scvM f) ∗ (∃ f, P c idvM f) ∗ (∃ f, P c zvM f) ∗ (∃ f, P c dlvM f) ∗ (∃ f, P c dsvM f) ∗ (∃ f, P c dlogvM f)
    ∗ (∃ f, P c auxvM f) ∗ (∃ f, P c ztvM f) ∗ (∃ f, P c pvM f) ∗ (∃ f, P c lsevM f))

def bodyPre : sProp 𝕄 :=
  iprop(bigSep (Ring.rangeSet 32 0 32) (waiting c X Wt) ∗ P c scM Sc ∗ P c idM Id ∗ scratch0 c
    ∗ (∃ f, P c auxM f) ∗ (∃ f, P c ztM f) ∗ (∃ f, P c pM f) ∗ (∃ f, P c lseM f) ∗ (∃ f, P c dlogM f)
    ∗ bigSep (Ring.rangeSet 32 0 32) (dxwait (F := F) c) ∗ bigSep (Ring.rangeSet 32 0 32) (dwwait (F := F) c)
    ∗ rings0 c ∗ small0 c ∗ ∃ W, owes (c : Thread nD τ) 0 W)

abbrev bodyG : Prog (TpuEff nD τ sig (Elt F) Λ₀ .tc) PUnit := cc0_router_backward (F := F) xM (Memref.isWhole_whole _) scM (Memref.isWhole_whole _) wM (Memref.isWhole_whole _) idM (Memref.isWhole_whole _) auxM (Memref.isWhole_whole _) ztM (Memref.isWhole_whole _) pM (Memref.isWhole_whole _) lseM (Memref.isWhole_whole _) dlogM (Memref.isWhole_whole _) dwM (Memref.isWhole_whole _) dxM (Memref.isWhole_whole _) xvM (Memref.isWhole_whole _) wvM (Memref.isWhole_whole _) scvM (Memref.isWhole_whole _) idvM (Memref.isWhole_whole _) zvM (Memref.isWhole_whole _) dlvM (Memref.isWhole_whole _) dsvM (Memref.isWhole_whole _) dlogvM (Memref.isWhole_whole _) auxvM (Memref.isWhole_whole _) ztvM (Memref.isWhole_whole _) pvM (Memref.isWhole_whole _) lsevM (Memref.isWhole_whole _) dxvM (Memref.isWhole_whole _) dwvM (Memref.isWhole_whole _) cc0_scratch14 cc0_scratch15 cc0_scratch16 cc0_scratch17 cc0_scratch18 cc0_scratch19

/-- A chunk's sources and counters, at rest again. -/
def home (b : Fin 32) : sProp 𝕄 := iprop(xhome c X b ∗ xcell c b ∗ whome c Wt b ∗ wcell c b)

theorem landed_out {k : ℕ} (hk : k = 32) : bigSep (Ring.rangeSet 32 0 k) (landed c X Wt)
    ⊢ iprop(xvP c (XV c X) ∗ wvP c (WV c Wt) ∗ bigSep (Ring.rangeSet 32 0 32) (home c X Wt)) := by
  subst hk
  have h : ∀ b, landed c X Wt b ⊢ iprop(xheld c b (XV c X) ∗ wheld c b (WV c Wt) ∗ home c X Wt b) := fun b => by
    rw [landed, home]
    iintro ⟨H1, H2, H3, H4, H5, H6⟩
    isplitl [H1]; · iexact H1
    isplitl [H4]; · iexact H4
    isplitl [H2]; · iexact H2
    isplitl [H3]; · iexact H3
    isplitl [H5]; · iexact H5
    iexact H6
  have e1 : bigSep (Ring.rangeSet 32 0 32) (fun b => iprop(xheld c b (XV c X) ∗ wheld c b (WV c Wt) ∗ home c X Wt b))
      = (iprop(bigSep (Ring.rangeSet 32 0 32) (fun b => xheld c b (XV c X)) ∗ bigSep (Ring.rangeSet 32 0 32) (fun b => iprop(wheld c b (WV c Wt) ∗ home c X Wt b))) : sProp 𝕄) :=
    BI.bigSep_sep _ _ _
  have e2 : bigSep (Ring.rangeSet 32 0 32) (fun b => iprop(wheld c b (WV c Wt) ∗ home c X Wt b))
      = (iprop(bigSep (Ring.rangeSet 32 0 32) (fun b => wheld c b (WV c Wt)) ∗ bigSep (Ring.rangeSet 32 0 32) (home c X Wt)) : sProp 𝕄) :=
    BI.bigSep_sep _ _ _
  refine (BI.bigSep_mono fun b _ => h b).trans ?_
  rw [e1, e2, ← xslot_blocks c (XV c X), ← wslot_blocks c (WV c Wt)]
  exact fun _ h => h

theorem none_yet (Φ : Fin 32 → sProp (MT nD τ sig Unit (Elt F) ℕ (UU nD τ) ℕ)) {lo hi : ℕ} (h : hi ≤ lo) :
    (iprop(emp) : sProp 𝕄) ⊢ bigSep (Ring.rangeSet 32 lo hi) Φ := by
  rw [Ring.bigSep_rangeSet_empty (Φ := Φ) h]

/-- Overwriting a whole buffer leaves what is written. -/
theorem write_whole (b : Ref sig .tc) (f w : b.ty.Contents (Elt F)) : (View.whole b : View sig .tc _ _ _).write (Elt F) f w Finset.univ = w := by
  funext i
  exact View.write_emb_of_mem (v := (View.whole b : View sig .tc _ _ _)) (Val := Elt F) f w (M := Finset.univ) (x := i) (Finset.mem_univ _)

/-- A whole buffer whose listed writes cover it holds what they wrote, whatever it held before. -/
theorem rebased {sp s e} (m : Memref sig .tc sp s e) (hw : m.IsWhole) (f : Buf (Elt F) (m.view.loc (c : Thread nD τ))) (L : List (View.Piece (Elt F) s e)) (t : LoadRect.Cov) :
    P c m (m.view.writes (Elt F) f L)
      ⊢ iprop(∃ g, ⌜LoadRect.covChk (L.map Sigma.fst) (LoadRect.whole s) t = true → g = m.view.writes (Elt F) m.view.junk L⌝ ∗ P c m g) := by
  iintro H; iexists _; isplitr
  · ipureintro; intro hc; exact Memref.writes_eq_junk_of_covChk hw f L t hc
  iexact H
theorem rebased_read {sp s e} (m : Memref sig .tc sp s e) (hw : m.IsWhole) (f : Buf (Elt F) (m.view.loc (c : Thread nD τ))) (L : List (View.Piece (Elt F) s e)) (t : LoadRect.Cov)
    (hc : LoadRect.covChk (L.map Sigma.fst) (LoadRect.whole s) t = true) :
    ReadAs.same.apply (m.view.read (Elt F) (m.view.writes (Elt F) f L)) = ReadAs.same.apply (m.view.read (Elt F) (m.view.writes (Elt F) m.view.junk L)) :=
  congrArg (fun g => ReadAs.same.apply (m.view.read (Elt F) g)) (Memref.writes_eq_junk_of_covChk hw f L t hc)

/-- Two rows of four tiles, listed from the last. -/
def covRow : LoadRect.Cov :=
  .split 0 1 (.split 1 256 (.leaf 7) (.split 1 256 (.leaf 6) (.split 1 256 (.leaf 5) (.leaf 4))))
    (.split 1 256 (.leaf 3) (.split 1 256 (.leaf 2) (.split 1 256 (.leaf 1) (.leaf 0))))
/-- Eight tiles along axis `a`, listed from the last. -/
def covCol (a : ℕ) : LoadRect.Cov :=
  .split a 256 (.leaf 7) (.split a 256 (.leaf 6) (.split a 256 (.leaf 5) (.split a 256 (.leaf 4) (.split a 256 (.leaf 3) (.split a 256 (.leaf 2) (.split a 256 (.leaf 1) (.leaf 0)))))))

theorem dx_open (Wv Dl) {k : ℕ} (hk : k = 32) : bigSep (Ring.rangeSet 32 (k - 3) k) (dxfly (F := F) c Wv Dl)
    ⊢ iprop(dxflyAt c Wv Dl 29 2 ∗ dxflyAt c Wv Dl 30 0 ∗ dxflyAt c Wv Dl 31 1) := by
  subst hk
  rw [show (32 - 3 : ℕ) = (29 : Fin 32).val from rfl, from_succ _ 29, show ((29 : Fin 32).val + 1 : ℕ) = (30 : Fin 32).val from rfl, from_succ _ 30,
    show ((30 : Fin 32).val + 1 : ℕ) = (31 : Fin 32).val from rfl, from_succ _ 31,
    show dxfly c Wv Dl 29 = dxflyAt c Wv Dl 29 2 from by rw [dxfly]; rfl, show dxfly c Wv Dl 30 = dxflyAt c Wv Dl 30 0 from by rw [dxfly]; rfl,
    show dxfly c Wv Dl 31 = dxflyAt c Wv Dl 31 1 from by rw [dxfly]; rfl]
  iintro ⟨H1, H2, H3, -⟩
  isplitl [H1]; · iexact H1
  isplitl [H2]; · iexact H2
  iexact H3
theorem dw_open (Xv Ds) {k : ℕ} (hk : k = 32) : bigSep (Ring.rangeSet 32 (k - 2) k) (dwfly (F := F) c Xv Ds)
    ⊢ iprop(dwflyAt c Xv Ds 30 0 ∗ dwflyAt c Xv Ds 31 1) := by
  subst hk
  rw [show (32 - 2 : ℕ) = (30 : Fin 32).val from rfl, from_succ _ 30, show ((30 : Fin 32).val + 1 : ℕ) = (31 : Fin 32).val from rfl, from_succ _ 31,
    show dwfly c Xv Ds 30 = dwflyAt c Xv Ds 30 0 from by rw [dwfly]; rfl, show dwfly c Xv Ds 31 = dwflyAt c Xv Ds 31 1 from by rw [dwfly]; rfl]
  iintro ⟨H1, H2, -⟩
  isplitl [H1]; · iexact H1
  iexact H2
theorem dx_close (Φ : Fin 32 → sProp (MT nD τ sig Unit (Elt F) ℕ (UU nD τ) ℕ)) {k : ℕ} (hk : k = 32) :
    iprop(bigSep (Ring.rangeSet 32 0 (k - 3)) Φ ∗ Φ 29 ∗ Φ 30 ∗ Φ 31) ⊢ bigSep (Ring.rangeSet 32 0 32) Φ := by
  subst hk
  rw [show bigSep (Ring.rangeSet 32 0 32) Φ = bigSep (Ring.rangeSet 32 0 ((31 : Fin 32).val + 1)) Φ from rfl, upTo_succ Φ 31,
    show (31 : Fin 32).val = (30 : Fin 32).val + 1 from rfl, upTo_succ Φ 30, show (30 : Fin 32).val = (29 : Fin 32).val + 1 from rfl, upTo_succ Φ 29]
  iintro ⟨H, H1, H2, H3⟩
  isplitl [H3]; · iexact H3
  isplitl [H2]; · iexact H2
  isplitl [H1]; · iexact H1
  iexact H
theorem dw_close (Φ : Fin 32 → sProp (MT nD τ sig Unit (Elt F) ℕ (UU nD τ) ℕ)) {k : ℕ} (hk : k = 32) :
    iprop(bigSep (Ring.rangeSet 32 0 (k - 2)) Φ ∗ Φ 30 ∗ Φ 31) ⊢ bigSep (Ring.rangeSet 32 0 32) Φ := by
  subst hk
  rw [show bigSep (Ring.rangeSet 32 0 32) Φ = bigSep (Ring.rangeSet 32 0 ((31 : Fin 32).val + 1)) Φ from rfl, upTo_succ Φ 31,
    show (31 : Fin 32).val = (30 : Fin 32).val + 1 from rfl, upTo_succ Φ 30]
  iintro ⟨H, H2, H3⟩
  isplitl [H3]; · iexact H3
  isplitl [H2]; · iexact H2
  iexact H
theorem rings_close : iprop((dxfree (F := F) c 0 ∗ dxfree (F := F) c 1 ∗ dxfree (F := F) c 2) ∗ dwfree (F := F) c 0 ∗ dwfree (F := F) c 1) ⊢ rings0 (F := F) c := by
  have e3 : bigSep (Ring.rangeSet 3 0 3) (dxfree (F := F) c) = (iprop(dxfree (F := F) c 0 ∗ dxfree (F := F) c 1 ∗ dxfree (F := F) c 2) : sProp 𝕄) := by
    rw [show Ring.rangeSet 3 0 3 = {0, 1, 2} by decide, BI.bigSep_insert (by decide), BI.bigSep_insert (by decide), BI.bigSep_singleton]; rfl
  have e2 : bigSep (Ring.rangeSet 2 0 2) (dwfree (F := F) c) = (iprop(dwfree (F := F) c 0 ∗ dwfree (F := F) c 1) : sProp 𝕄) := by
    rw [show Ring.rangeSet 2 0 2 = {0, 1} by decide, BI.bigSep_insert (by decide), BI.bigSep_singleton]; rfl
  rw [rings0, e3, e2]

/-- What the run leaves: the five small results' contents and the logits' gradient in the two layouts the big ones are computed from. -/
structure Outs (F : FTy → Type) [FloatOps F] (c : Dev nD) where
  aux : Buf (Elt F) (auxM.view.loc (c : Thread nD τ))
  zt : Buf (Elt F) (ztM.view.loc (c : Thread nD τ))
  p : Buf (Elt F) (pM.view.loc (c : Thread nD τ))
  lse : Buf (Elt F) (lseM.view.loc (c : Thread nD τ))
  dlog : Buf (Elt F) (dlogM.view.loc (c : Thread nD τ))
  dl : Buf (Elt F) (dlvM.view.loc (c : Thread nD τ))
  ds : Buf (Elt F) (dsvM.view.loc (c : Thread nD τ))

def bodyPost (v : Outs F c) : sProp 𝕄 :=
  iprop(bigSep (Ring.rangeSet 32 0 32) (home c X Wt) ∗ (∃ f, xvP c f) ∗ (∃ f, wvP c f) ∗ P c scM Sc ∗ P c idM Id ∗ scratch0 c
    ∗ P c auxM v.aux ∗ P c ztM v.zt ∗ P c pM v.p ∗ P c lseM v.lse ∗ P c dlogM v.dlog
    ∗ bigSep (Ring.rangeSet 32 0 32) (fun b => dxhome c b (DX c (WV c Wt) v.dl)) ∗ bigSep (Ring.rangeSet 32 0 32) (fun b => dwhome c b (DW c (XV c X) v.ds))
    ∗ rings0 c ∗ small0 c ∗ ∃ W, owes (c : Thread nD τ) 0 W)

end Body
end Cert.Proof.Kernel

end
-- ==== Proof.BitsBody.lean ====
/- Hand-written, untrusted. The kernel's body, run once: the copies in, the histogram of the expert ids, the logits, the
   softmax tiles and the gradients. The contents it leaves in the seven VMEM buffers its results leave through are found by the run. -/
module

public import proofs.«01_k».proof.Proof.BitsEnds

@[expose] public section

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

open Idealize.ShloMosaic.ValueIdx

section Body
variable (c : Dev nD)
variable (X : Buf (Elt F) (xM.view.loc (c : Thread nD τ))) (Wt : Buf (Elt F) (wM.view.loc (c : Thread nD τ)))
variable (Sc : Buf (Elt F) (scM.view.loc (c : Thread nD τ))) (Id : Buf (Elt F) (idM.view.loc (c : Thread nD τ)))

set_option maxHeartbeats 0 in
/-- The body's run, and the contents it leaves. -/
def bodyRun : { v : Outs F c // bodyPre c X Wt Sc Id ⊢ wp Idealize.ShloMosaic.frame (wpE (defs₀ (F := F)) 𝒱₀ (c : Thread nD τ) none) Set.univ bodyG (fun _ => bodyPost c X Wt Sc Id v) } := by
  refine ⟨⟨?aux, ?zt, ?p, ?lse, ?dlog, ?dl, ?ds⟩, ?run⟩
  case run =>
    rw [bodyPre, scratch0, rings0, small0]
    iintro ⟨HW, Hsc, Hid, ⟨⟨%f1, Hscv⟩, ⟨%f2, Hidv⟩, ⟨%f3, Hzv⟩, ⟨%f4, Hdlv⟩, ⟨%f5, Hdsv⟩, ⟨%f6, Hdlogv⟩, ⟨%f7, Hauxv⟩, ⟨%f8, Hztv⟩, ⟨%f9, Hpv⟩, ⟨%f10, Hlsev⟩⟩,
      ⟨%g1, Haux⟩, ⟨%g2, Hzt⟩, ⟨%g3, Hp⟩, ⟨%g4, Hlse⟩, ⟨%g5, Hdlog⟩, HX, HWw, ⟨HRx, HRw⟩, ⟨Hc1, Hc2, Hc3, Hc4, Hc5, Hc6, Hc7⟩, Ho⟩
    ihave HF : bigSep (Ring.rangeSet 32 0 0) (flying c X Wt) $$ []
    · rw [Ring.bigSep_rangeSet_empty (Φ := flying c X Wt) (lo := 0) (hi := 0) (by omega)]
      iempintro
    ihave HL : bigSep (Ring.rangeSet 32 0 0) (landed c X Wt) $$ []
    · rw [Ring.bigSep_rangeSet_empty (Φ := landed c X Wt) (lo := 0) (hi := 0) (by omega)]
      iempintro
    icases Ho with ⟨%W, Ho⟩
    dsimp only [bodyG]
    sl_unfold [cc0_router_backward, k0_part48, k0_part6]
    set_option sl_exec.maxSteps 6 in sl_exec
    have eid : ∀ w, View.write (Elt F) idvM.view f2 w Finset.univ = w := fun w => write_whole (F := F) cc0_scratch3 f2 w
    have esc : ∀ w, View.write (Elt F) scvM.view f1 w Finset.univ = w := fun w => write_whole (F := F) cc0_scratch2 f1 w
    rw [eid, esc, show bodyRun.sl.dma0 c Id = Id from rfl, show bodyRun.sl.dma0_1 c Sc = Sc from rfl]
    sl_unfold [k0_part7, k0_part8, k0_part9, k0_part10, k0_part11, k0_part12, k0_part13, k0_part14, k0_part15, k0_part16, k0_part17, k0_part18, k0_part19, k0_part20, k0_part21, k0_part22, k0_part23, k0_part24, k0_part25, k0_part26, k0_part27, k0_part28, k0_part29, k0_part30, k0_part31, k0_part32, k0_part33, k0_part34, k0_part35, k0_part36, k0_part37, k0_part38, k0_part39, k0_part40, k0_part41, k0_part42, k0_part43, k0_part44, k0_part45, k0_part46]
    set_option sl_exec.stopBefore "k0_part47" in sl_exec!
    ihave HL := (landed_out c X Wt trips2) $$ HL
    icases HL with ⟨Hxv, Hwv, Hhome⟩
    ihave Hauxv := (rebased c auxvM (Memref.isWhole_whole _) _ _ covRow) $$ Hauxv
    icases Hauxv with ⟨%dauxv, %hdauxv, Hauxv⟩
    have hdauxv := hdauxv (rfl)
    subst hdauxv
    ihave Hztv := (rebased c ztvM (Memref.isWhole_whole _) _ _ covRow) $$ Hztv
    icases Hztv with ⟨%dztv, %hdztv, Hztv⟩
    have hdztv := hdztv (rfl)
    subst hdztv
    ihave Hlsev := (rebased c lsevM (Memref.isWhole_whole _) _ _ covRow) $$ Hlsev
    icases Hlsev with ⟨%dlsev, %hdlsev, Hlsev⟩
    have hdlsev := hdlsev (rfl)
    subst hdlsev
    ihave Hdlogv := (rebased c dlogvM (Memref.isWhole_whole _) _ _ (covCol 0)) $$ Hdlogv
    icases Hdlogv with ⟨%ddlogv, %hddlogv, Hdlogv⟩
    have hddlogv := hddlogv (rfl)
    subst hddlogv
    ihave Hdlv := (rebased c dlvM (Memref.isWhole_whole _) _ _ (covCol 0)) $$ Hdlv
    icases Hdlv with ⟨%Dl, %hDl, Hdlv⟩
    have hDl := hDl rfl
    ihave Hdsv := (rebased c dsvM (Memref.isWhole_whole _) _ _ (covCol 1)) $$ Hdsv
    icases Hdsv with ⟨%Ds, %hDs, Hdsv⟩
    have hDs := hDs rfl
    ihave HE1 := (none_yet (fun b => dxhome c b (DX c (WV c Wt) Dl)) (lo := 0) (hi := 0 - 3) (by omega)) $$ []
    · iempintro
    ihave HE2 := (none_yet (dxfly c (WV c Wt) Dl) (lo := 0 - 3) (hi := 0) (by omega)) $$ []
    · iempintro
    ihave HE3 := (none_yet (fun b => dwhome c b (DW c (XV c X) Ds)) (lo := 0) (hi := 0 - 2) (by omega)) $$ []
    · iempintro
    ihave HE4 := (none_yet (dwfly c (XV c X) Ds) (lo := 0 - 2) (hi := 0) (by omega)) $$ []
    · iempintro
    sl_unfold [k0_part47]
    sl_exec
    ihave HE2 := (dx_open c (WV c Wt) Dl trips3) $$ HE2
    ihave HE4 := (dw_open c (XV c X) Ds trips3) $$ HE4
    rw [dxflyAt, dxflyAt, dxflyAt, dwflyAt, dwflyAt]
    icases HE2 with ⟨⟨%h1, Hx2⟩, ⟨%h2, Hx0⟩, ⟨%h3, Hx1⟩⟩
    icases HE4 with ⟨⟨%h4, Hw0⟩, ⟨%h5, Hw1⟩⟩
    sl_exec
    sl_step
    have eg1 : ∀ w, View.write (Elt F) auxM.view g1 w Finset.univ = w := fun w => write_whole (F := F) main_v2_0 g1 w
    have eg2 : ∀ w, View.write (Elt F) ztM.view g2 w Finset.univ = w := fun w => write_whole (F := F) main_v2_1 g2 w
    have eg3 : ∀ w, View.write (Elt F) pM.view g3 w Finset.univ = w := fun w => write_whole (F := F) main_v2_2 g3 w
    have eg4 : ∀ w, View.write (Elt F) lseM.view g4 w Finset.univ = w := fun w => write_whole (F := F) main_v2_3 g4 w
    have eg5 : ∀ w, View.write (Elt F) dlogM.view g5 w Finset.univ = w := fun w => write_whole (F := F) main_v2_4 g5 w
    rw [eg1, eg2, eg3, eg4, eg5]
    have ep := rebased_read c pvM (Memref.isWhole_whole _) f9 (bodyRun.sl.Hpv_1 c X Wt Sc Id) (.leaf 0) (rfl)
    ihave HX := (dx_close (fun b => dxhome c b (DX c (WV c Wt) Dl)) trips3) $$ [HE1 Hx2_dst Hx0_dst Hx1_dst]
    · isplitl [HE1]; · iexact HE1
      isplitl [Hx2_dst]; · iexact Hx2_dst
      isplitl [Hx0_dst]; · iexact Hx0_dst
      iexact Hx1_dst
    ihave HWw := (dw_close (fun b => dwhome c b (DW c (XV c X) Ds)) trips3) $$ [HE3 Hw0_dst Hw1_dst]
    · isplitl [HE3]; · iexact HE3
      isplitl [Hw0_dst]; · iexact Hw0_dst
      iexact Hw1_dst
    ihave HR := (rings_close c) $$ [Hx0 Hx0_src Hx1 Hx1_src Hx2 Hx2_src Hw0 Hw0_src Hw1 Hw1_src]
    · rw [dxfree, dxfree, dxfree, dwfree, dwfree]
      isplitl [Hx0 Hx0_src Hx1 Hx1_src Hx2 Hx2_src]
      · isplitl [Hx0 Hx0_src]
        · isplitl [Hx0_src]; · iexists _; iexact Hx0_src
          iexact Hx0
        isplitl [Hx1 Hx1_src]
        · isplitl [Hx1_src]; · iexists _; iexact Hx1_src
          iexact Hx1
        isplitl [Hx2_src]; · iexists _; iexact Hx2_src
        iexact Hx2
      isplitl [Hw0 Hw0_src]
      · isplitl [Hw0_src]; · iexists _; iexact Hw0_src
        iexact Hw0
      isplitl [Hw1_src]; · iexists _; iexact Hw1_src
      iexact Hw1
    subst hDl
    subst hDs
    rw [show bodyRun.sl.dma1_2 c X Wt Sc Id f9 = _ from ep, bodyPost, scratch0, small0]
    isplitl [Hhome]; · iexact Hhome
    isplitl [Hxv]; · iexists _; iexact Hxv
    isplitl [Hwv]; · iexists _; iexact Hwv
    isplitl [Hsc]; · iexact Hsc
    isplitl [Hid]; · iexact Hid
    isplitl [Hscv Hidv Hzv Hdlv Hdsv Hdlogv Hauxv Hztv Hpv Hlsev]
    · isplitl [Hscv]; · iexists _; iexact Hscv
      isplitl [Hidv]; · iexists _; iexact Hidv
      isplitl [Hzv]; · iexists _; iexact Hzv
      isplitl [Hdlv]; · iexists _; iexact Hdlv
      isplitl [Hdsv]; · iexists _; iexact Hdsv
      isplitl [Hdlogv]; · iexists _; iexact Hdlogv
      isplitl [Hauxv]; · iexists _; iexact Hauxv
      isplitl [Hztv]; · iexists _; iexact Hztv
      isplitl [Hpv]; · iexists _; iexact Hpv
      iexists _; iexact Hlsev
    isplitl [Haux]; · iexact Haux
    isplitl [Hzt]; · iexact Hzt
    isplitl [Hp]; · iexact Hp
    isplitl [Hlse]; · iexact Hlse
    isplitl [Hdlog]; · iexact Hdlog
    isplitl [HX]; · iexact HX
    isplitl [HWw]; · iexact HWw
    isplitl [HR]; · iexact HR
    isplitl [Hc1 Hc2 Hc3 Hc4 Hc5 Hc6 Hc7]
    · isplitl [Hc1]; · iexact Hc1
      isplitl [Hc2]; · iexact Hc2
      isplitl [Hc3]; · iexact Hc3
      isplitl [Hc4]; · iexact Hc4
      isplitl [Hc5]; · iexact Hc5
      isplitl [Hc6]; · iexact Hc6
      iexact Hc7
    iexists _; iexact Ho

end Body
end Cert.Proof.Kernel

end
-- ==== Proof.BitsCells.lean ====
/- Hand-written, untrusted. The copy counters the kernel owns, kind by kind. -/
module

public import proofs.«01_k».proof.Proof.BitsBlocks

@[expose] public section

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! ## The kernel's own copy counters -/

/-- The counters of the single transfers: the two copies in, then the five results copied out whole. -/
def lone : Fin 7 → DmaSems sig S_
  | 0 => (cc0_scratch16.slice (Rect.unit (s := S2) ![1] S1.size inb_S2_S1_1)).squeeze S_ squeezes_S1_S_
  | 1 => (cc0_scratch16.slice (Rect.unit (s := S2) ![0] S1.size inb_S2_S1_0)).squeeze S_ squeezes_S1_S_
  | 2 => (cc0_scratch17.slice (Rect.unit (s := S5) ![0] S1.size inb_S5_S1_0)).squeeze S_ squeezes_S1_S_
  | 3 => (cc0_scratch17.slice (Rect.unit (s := S5) ![1] S1.size inb_S5_S1_1)).squeeze S_ squeezes_S1_S_
  | 4 => (cc0_scratch17.slice (Rect.unit (s := S5) ![2] S1.size inb_S5_S1_2)).squeeze S_ squeezes_S1_S_
  | 5 => (cc0_scratch17.slice (Rect.unit (s := S5) ![3] S1.size inb_S5_S1_3)).squeeze S_ squeezes_S1_S_
  | 6 => (cc0_scratch17.slice (Rect.unit (s := S5) ![4] S1.size inb_S5_S1_4)).squeeze S_ squeezes_S1_S_

/-- Every counter the kernel uses: one per chunk of the tokens and of the weights, the rings' and the single transfers'. -/
abbrev Own : Type := Fin 32 ⊕ (Fin 32 ⊕ (Fin 3 ⊕ (Fin 2 ⊕ Fin 7)))
def osem : Own → SemLoc sig
  | .inl b => .dma (xsem b).sem
  | .inr (.inl b) => .dma (wsem b).sem
  | .inr (.inr (.inl s)) => .dma (dxsem s).sem
  | .inr (.inr (.inr (.inl s))) => .dma (dwsem s).sem
  | .inr (.inr (.inr (.inr k))) => .dma (lone k).sem

set_option maxRecDepth 100000 in
theorem ownSemFacts : Pipeline.OwnSemFacts cfg0.spec osem := by decide +kernel

omit [FloatOps F] in
theorem bigSep_inl_inr {A B : Type} [Fintype A] [Fintype B] [DecidableEq A] [DecidableEq B] (Φ : A ⊕ B → sProp (MT nD τ sig Unit (Elt F) ℕ (UU nD τ) ℕ)) :
    bigSep Finset.univ Φ = (iprop(bigSep Finset.univ (fun a => Φ (.inl a)) ∗ bigSep Finset.univ (fun b => Φ (.inr b))) : sProp 𝕄) := by
  have e : (Finset.univ : Finset (A ⊕ B)) = Finset.univ.image Sum.inl ∪ Finset.univ.image Sum.inr := by
    ext x; rcases x with x | x <;> simp
  have hd : Disjoint (Finset.univ.image (Sum.inl : A → A ⊕ B)) (Finset.univ.image (Sum.inr : B → A ⊕ B)) := by
    rw [Finset.disjoint_left]; intro x hx hy
    obtain ⟨a, -, rfl⟩ := Finset.mem_image.mp hx
    obtain ⟨b, -, h⟩ := Finset.mem_image.mp hy
    exact absurd h (by simp)
  rw [e, BI.bigSep_union hd]
  congr 1
  · unfold BI.bigSep; rw [Finset.fold_image (fun a _ b _ h => Sum.inl.inj h)]; rfl
  · unfold BI.bigSep; rw [Finset.fold_image (fun a _ b _ h => Sum.inr.inj h)]; rfl

omit [FloatOps F] in
/-- The counters all at rest, kind by kind. -/
theorem ownSems0_kinds (c : Dev nD) :
    (Pipeline.ownSems0 (Ix := Unit) (Name := ℕ) (U := UU nD τ) (Lvl := ℕ) (Val := Elt F) (τ := τ) osem c : sProp 𝕄)
      = iprop(bigSep (Ring.rangeSet 32 0 32) (xcell (F := F) c) ∗ bigSep (Ring.rangeSet 32 0 32) (wcell (F := F) c)
          ∗ bigSep (Ring.rangeSet 3 0 3) (dxcell (F := F) c) ∗ bigSep (Ring.rangeSet 2 0 2) (dwcell (F := F) c)
          ∗ bigSep Finset.univ fun k => semVal ((c : Thread nD τ), SemLoc.dma (lone k).sem) 0) := by
  rw [Ring.rangeSet_univ, Ring.rangeSet_univ, Ring.rangeSet_univ]
  unfold Pipeline.ownSems0
  rw [bigSep_inl_inr, bigSep_inl_inr, bigSep_inl_inr, bigSep_inl_inr]
  rfl

omit [FloatOps F] in
theorem bigSep_seven (Φ : Fin 7 → sProp (MT nD τ sig Unit (Elt F) ℕ (UU nD τ) ℕ)) :
    bigSep Finset.univ Φ = (iprop(Φ 0 ∗ Φ 1 ∗ Φ 2 ∗ Φ 3 ∗ Φ 4 ∗ Φ 5 ∗ Φ 6) : sProp 𝕄) := by
  rw [bigSep_univ_eq_bigSepL [0, 1, 2, 3, 4, 5, 6] (by decide) (by decide)]
  rfl

end Cert.Proof.Kernel

end
-- ==== Proof.BitsHand.lean ====
/- Hand-written, untrusted. The kernel launched: what its region is handed is what the body starts from, what the body ends
   with is what the region gives back, and so what every buffer holds when @main has ended. -/
module

public import proofs.«01_k».proof.Proof.BitsEnds
public import proofs.«01_k».proof.Proof.BitsCells

@[expose] public section

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! ## The buffers that go round the pipeline -/

/-- The inputs the body reads by itself. -/
def ins : Finset (Ref sig .tc) := {main_v0, main_arg1, main_arg2, main_v1}
/-- The results it writes by itself. -/
def outs : Finset (Ref sig .tc) := {main_v2_0, main_v2_1, main_v2_2, main_v2_3, main_v2_4, main_v2_5, main_v2_6}

omit [FloatOps F] in
/-- A product of pairs is the pair of the products. -/
theorem sep_pair {n : ℕ} (s : Finset (Fin n)) (Φ Ψ : Fin n → sProp (MT nD τ sig Unit (Elt F) ℕ (UU nD τ) ℕ)) :
    bigSep s (fun b => iprop(Φ b ∗ Ψ b)) = (iprop(bigSep s Φ ∗ bigSep s Ψ) : sProp 𝕄) := BI.bigSep_sep s Φ Ψ

omit [FloatOps F] in
theorem bigSep_ins (Φ : Ref sig .tc → sProp (MT nD τ sig Unit (Elt F) ℕ (UU nD τ) ℕ)) :
    bigSep ins Φ = (iprop(Φ main_v0 ∗ Φ main_arg1 ∗ Φ main_arg2 ∗ Φ main_v1) : sProp 𝕄) := by
  unfold ins
  rw [bigSep_insert (by decide), bigSep_insert (by decide), bigSep_insert (by decide), bigSep_singleton]; rfl
omit [FloatOps F] in
theorem bigSep_outs (Φ : Ref sig .tc → sProp (MT nD τ sig Unit (Elt F) ℕ (UU nD τ) ℕ)) :
    bigSep outs Φ = (iprop(Φ main_v2_0 ∗ Φ main_v2_1 ∗ Φ main_v2_2 ∗ Φ main_v2_3 ∗ Φ main_v2_4 ∗ Φ main_v2_5 ∗ Φ main_v2_6) : sProp 𝕄) := by
  unfold outs
  rw [bigSep_insert (by decide), bigSep_insert (by decide), bigSep_insert (by decide), bigSep_insert (by decide), bigSep_insert (by decide),
    bigSep_insert (by decide), bigSep_singleton]
  rfl

section Region
variable (m : (ℓ : Loc nD τ sig) → Buf (Elt F) ℓ) (c : Dev nD)

/-- Every result's contents after the region; any other buffer's as the region finds them. -/
def G (v : Outs F c) (b : Ref sig .tc) : Buf (Elt F) ((c : Thread nD τ).loc b) :=
  if h0 : b = main_v2_0 then h0 ▸ v.aux
  else if h1 : b = main_v2_1 then h1 ▸ v.zt
  else if h2 : b = main_v2_2 then h2 ▸ v.p
  else if h3 : b = main_v2_3 then h3 ▸ v.lse
  else if h4 : b = main_v2_4 then h4 ▸ v.dlog
  else if h5 : b = main_v2_5 then h5 ▸ DW c (XV c (V m c main_v0)) v.ds
  else if h6 : b = main_v2_6 then h6 ▸ DX c (WV c (V m c main_arg2)) v.dl
  else V m c b

theorem G0 (v : Outs F c) : G m c v main_v2_0 = v.aux := by unfold G; rw [dif_pos rfl]
theorem G1 (v : Outs F c) : G m c v main_v2_1 = v.zt := by unfold G; rw [dif_neg (by decide), dif_pos rfl]
theorem G2 (v : Outs F c) : G m c v main_v2_2 = v.p := by unfold G; rw [dif_neg (by decide), dif_neg (by decide), dif_pos rfl]
theorem G3 (v : Outs F c) : G m c v main_v2_3 = v.lse := by unfold G; rw [dif_neg (by decide), dif_neg (by decide), dif_neg (by decide), dif_pos rfl]
theorem G4 (v : Outs F c) : G m c v main_v2_4 = v.dlog := by
  unfold G; rw [dif_neg (by decide), dif_neg (by decide), dif_neg (by decide), dif_neg (by decide), dif_pos rfl]
theorem G5 (v : Outs F c) : G m c v main_v2_5 = DW c (XV c (V m c main_v0)) v.ds := by
  unfold G; rw [dif_neg (by decide), dif_neg (by decide), dif_neg (by decide), dif_neg (by decide), dif_neg (by decide), dif_pos rfl]
theorem G6 (v : Outs F c) : G m c v main_v2_6 = DX c (WV c (V m c main_arg2)) v.dl := by
  unfold G; rw [dif_neg (by decide), dif_neg (by decide), dif_neg (by decide), dif_neg (by decide), dif_neg (by decide), dif_neg (by decide), dif_pos rfl]

/-- The region's state before and after the body: the scratch at anything, the counters at rest, the inputs as found, the
    results as found or as left. -/
abbrev held (W : (c : Dev nD) → (b : Ref sig .tc) → Buf (Elt F) ((c : Thread nD τ).loc b)) : sProp 𝕄 :=
  Pipeline.ΦDRV osem cfg0.spec ins outs (fun c b => V0 m c (Proc.devRef .tc b)) W c

/-- The chunks' pieces and counters, gathered from the whole buffers. -/
theorem to_waiting (X : Buf (Elt F) (xM.view.loc (c : Thread nD τ))) (Wt : Buf (Elt F) (wM.view.loc (c : Thread nD τ))) :
    (iprop((∃ f, xvP c f) ∗ P c xM X ∗ bigSep (Ring.rangeSet 32 0 32) (xcell (F := F) c)
      ∗ (∃ f, wvP c f) ∗ P c wM Wt ∗ bigSep (Ring.rangeSet 32 0 32) (wcell (F := F) c)) : sProp 𝕄)
      ⊢ bigSep (Ring.rangeSet 32 0 32) (waiting c X Wt) := by
  have e1 := sep_pair (Ring.rangeSet 32 0 32) (fun b => (iprop(∃ f, xheld c b f) : sProp 𝕄)) (fun b => iprop(xhome c X b ∗ xcell c b ∗ (∃ f, wheld c b f) ∗ whome c Wt b ∗ wcell c b))
  have e2 := sep_pair (Ring.rangeSet 32 0 32) (fun b => (xhome c X b : sProp 𝕄)) (fun b => iprop(xcell c b ∗ (∃ f, wheld c b f) ∗ whome c Wt b ∗ wcell c b))
  have e3 := sep_pair (Ring.rangeSet 32 0 32) (fun b => (xcell c b : sProp 𝕄)) (fun b => iprop((∃ f, wheld c b f) ∗ whome c Wt b ∗ wcell c b))
  have e4 := sep_pair (Ring.rangeSet 32 0 32) (fun b => (iprop(∃ f, wheld c b f) : sProp 𝕄)) (fun b => iprop(whome c Wt b ∗ wcell c b))
  have e5 := sep_pair (Ring.rangeSet 32 0 32) (fun b => (whome c Wt b : sProp 𝕄)) (fun b => (wcell c b : sProp 𝕄))
  have h : iprop(bigSep (Ring.rangeSet 32 0 32) (fun b => (iprop(∃ f, xheld c b f) : sProp 𝕄)) ∗ bigSep (Ring.rangeSet 32 0 32) (fun b => (xhome c X b : sProp 𝕄))
      ∗ bigSep (Ring.rangeSet 32 0 32) (fun b => (xcell c b : sProp 𝕄)) ∗ bigSep (Ring.rangeSet 32 0 32) (fun b => (iprop(∃ f, wheld c b f) : sProp 𝕄))
      ∗ bigSep (Ring.rangeSet 32 0 32) (fun b => (whome c Wt b : sProp 𝕄)) ∗ bigSep (Ring.rangeSet 32 0 32) (fun b => (wcell c b : sProp 𝕄)))
      ⊢ bigSep (Ring.rangeSet 32 0 32) (waiting c X Wt) := by
    rw [← e5, ← e4, ← e3, ← e2, ← e1]
    exact fun _ h => h
  refine BIBase.Entails.trans ?_ h
  iintro ⟨⟨%f, Hx⟩, HX, Hxc, ⟨%g, Hw⟩, HW, Hwc⟩
  isplitl [Hx]; · iapply (xslot_split c f); iexact Hx
  isplitl [HX]; · iapply (Entails.of_eq (xsrc_blocks c X)); iexact HX
  isplitl [Hxc]; · iexact Hxc
  isplitl [Hw]; · iapply (wslot_split c g); iexact Hw
  isplitl [HW]; · iapply (Entails.of_eq (wsrc_blocks c Wt)); iexact HW
  iexact Hwc

/-- And given back. -/
theorem of_home (X : Buf (Elt F) (xM.view.loc (c : Thread nD τ))) (Wt : Buf (Elt F) (wM.view.loc (c : Thread nD τ))) :
    (bigSep (Ring.rangeSet 32 0 32) (home c X Wt) : sProp 𝕄)
      ⊢ iprop(P c xM X ∗ bigSep (Ring.rangeSet 32 0 32) (xcell (F := F) c) ∗ P c wM Wt ∗ bigSep (Ring.rangeSet 32 0 32) (wcell (F := F) c)) := by
  have e2 := sep_pair (Ring.rangeSet 32 0 32) (fun b => (xhome c X b : sProp 𝕄)) (fun b => iprop(xcell c b ∗ whome c Wt b ∗ wcell c b))
  have e3 := sep_pair (Ring.rangeSet 32 0 32) (fun b => (xcell c b : sProp 𝕄)) (fun b => iprop(whome c Wt b ∗ wcell c b))
  have e5 := sep_pair (Ring.rangeSet 32 0 32) (fun b => (whome c Wt b : sProp 𝕄)) (fun b => (wcell c b : sProp 𝕄))
  have h : (bigSep (Ring.rangeSet 32 0 32) (home c X Wt) : sProp 𝕄) ⊢ iprop(bigSep (Ring.rangeSet 32 0 32) (fun b => (xhome c X b : sProp 𝕄))
      ∗ bigSep (Ring.rangeSet 32 0 32) (fun b => (xcell c b : sProp 𝕄))
      ∗ bigSep (Ring.rangeSet 32 0 32) (fun b => (whome c Wt b : sProp 𝕄)) ∗ bigSep (Ring.rangeSet 32 0 32) (fun b => (wcell c b : sProp 𝕄))) := by
    rw [← e5, ← e3, ← e2]
    exact fun _ h => h
  refine h.trans ?_
  iintro ⟨HX, Hxc, HW, Hwc⟩
  isplitl [HX]; · iapply (Entails.of_eq (xsrc_blocks c X).symm); iexact HX
  isplitl [Hxc]; · iexact Hxc
  isplitl [HW]; · iapply (Entails.of_eq (wsrc_blocks c Wt).symm); iexact HW
  iexact Hwc

/-- The rings gathered from the whole buffers, -/
theorem to_rings : (iprop((∃ f, P c dxvM f) ∗ (∃ f, P c dwvM f) ∗ bigSep (Ring.rangeSet 3 0 3) (dxcell (F := F) c) ∗ bigSep (Ring.rangeSet 2 0 2) (dwcell (F := F) c)) : sProp 𝕄)
    ⊢ rings0 (F := F) c := by
  have e1 := sep_pair (Ring.rangeSet 3 0 3) (fun s => (iprop(∃ f, dxheld c s f) : sProp 𝕄)) (fun s => (dxcell c s : sProp 𝕄))
  have e2 := sep_pair (Ring.rangeSet 2 0 2) (fun s => (iprop(∃ f, dwheld c s f) : sProp 𝕄)) (fun s => (dwcell c s : sProp 𝕄))
  rw [rings0]
  iintro ⟨⟨%f, Hf⟩, ⟨%g, Hg⟩, Hc, Hd⟩
  isplitl [Hf Hc]
  · iapply (Entails.of_eq e1.symm)
    isplitl [Hf]; · iapply (dxslot_split c f); iexact Hf
    iexact Hc
  iapply (Entails.of_eq e2.symm)
  isplitl [Hg]; · iapply (dwslot_split c g); iexact Hg
  iexact Hd
/-- and given back. -/
theorem of_rings [∀ e, Nonempty (Elt F e)] : rings0 (F := F) c ⊢ (iprop((∃ f, P c dxvM f) ∗ (∃ f, P c dwvM f) ∗ bigSep (Ring.rangeSet 3 0 3) (dxcell (F := F) c) ∗ bigSep (Ring.rangeSet 2 0 2) (dwcell (F := F) c)) : sProp 𝕄) := by
  have e1 := sep_pair (Ring.rangeSet 3 0 3) (fun s => (iprop(∃ f, dxheld c s f) : sProp 𝕄)) (fun s => (dxcell c s : sProp 𝕄))
  have e2 := sep_pair (Ring.rangeSet 2 0 2) (fun s => (iprop(∃ f, dwheld c s f) : sProp 𝕄)) (fun s => (dwcell c s : sProp 𝕄))
  rw [rings0]
  iintro ⟨H1, H2⟩
  ihave H1 := (Entails.of_eq (show bigSep (Ring.rangeSet 3 0 3) (dxfree (F := F) c) = _ from e1)) $$ H1
  ihave H2 := (Entails.of_eq (show bigSep (Ring.rangeSet 2 0 2) (dwfree (F := F) c) = _ from e2)) $$ H2
  icases H1 with ⟨H1, Hc⟩
  icases H2 with ⟨H2, Hd⟩
  isplitl [H1]; · iapply (dxslot_join c); iexact H1
  isplitl [H2]; · iapply (dwslot_join c); iexact H2
  isplitl [Hc]; · iexact Hc
  iexact Hd

/-- What the region hands the body is what the body starts from. -/
theorem start : iprop(held m c (fun c b => V0 m c (Proc.devRef .tc b)) ∗ ∃ W, owes (c : Thread nD τ) 0 W)
    ⊢ (bodyPre c (V m c main_v0) (V m c main_arg2) (V m c main_arg1) (V m c main_v1) : sProp 𝕄) := by
  unfold held Pipeline.ΦDRV
  rw [scopedRest0_eq, ownSems0_kinds, bigSep_ins, bigSep_outs, bigSep_seven, bodyPre, scratch0, small0]
  iintro ⟨⟨⟨S0, S1, S2, S3, S4, S5, S6, S7, S8, S9, S10, S11, S12, S13⟩, ⟨Cx, Cw, Cdx, Cdw, C1, C2, C3, C4, C5, C6, C7⟩, ⟨I0, I1, I2, I3⟩, ⟨R0, R1, R2, R3, R4, R5, R6⟩⟩, Ho⟩
  isplitl [S0 S1 Cx Cw I0 I2]
  · iapply (to_waiting c (V m c main_v0) (V m c main_arg2))
    isplitl [S0]; · iexact S0
    isplitl [I0]; · iexact I0
    isplitl [Cx]; · iexact Cx
    isplitl [S1]; · iexact S1
    isplitl [I2]; · iexact I2
    iexact Cw
  isplitl [I1]; · iexact I1
  isplitl [I3]; · iexact I3
  isplitl [S2 S3 S4 S5 S6 S7 S8 S9 S10 S11]
  · isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    iexact S11
  isplitl [R0]; · iexists _; iexact R0
  isplitl [R1]; · iexists _; iexact R1
  isplitl [R2]; · iexists _; iexact R2
  isplitl [R3]; · iexists _; iexact R3
  isplitl [R4]; · iexists _; iexact R4
  isplitl [R6]; · iapply (dxdst_split c _); iexact R6
  isplitl [R5]; · iapply (dwdst_split c _); iexact R5
  isplitl [S12 S13 Cdx Cdw]
  · iapply (to_rings c)
    isplitl [S12]; · iexact S12
    isplitl [S13]; · iexact S13
    isplitl [Cdx]; · iexact Cdx
    iexact Cdw
  isplitl [C1 C2 C3 C4 C5 C6 C7]
  · isplitl [C1]; · iexact C1
    isplitl [C2]; · iexact C2
    isplitl [C3]; · iexact C3
    isplitl [C4]; · iexact C4
    isplitl [C5]; · iexact C5
    isplitl [C6]; · iexact C6
    iexact C7
  iexact Ho

/-- And what it ends with is what the region gives back. -/
theorem finish (w : (c : Dev nD) → Outs F c) [∀ e, Nonempty (Elt F e)] : (bodyPost c (V m c main_v0) (V m c main_arg2) (V m c main_arg1) (V m c main_v1) (w c) : sProp 𝕄)
    ⊢ iprop(held m c (fun c => G m c (w c)) ∗ ∃ W, owes (c : Thread nD τ) 0 W) := by
  unfold held Pipeline.ΦDRV
  rw [scopedRest0_eq, ownSems0_kinds, bigSep_ins, bigSep_outs, bigSep_seven, bodyPost, scratch0, small0]
  beta_reduce
  rw [G0, G1, G2, G3, G4, G5, G6]
  iintro ⟨Hh, S0, S1, I1, I3, ⟨S2, S3, S4, S5, S6, S7, S8, S9, S10, S11⟩, R0, R1, R2, R3, R4, R6, R5, Hr, ⟨C1, C2, C3, C4, C5, C6, C7⟩, Ho⟩
  ihave Hh := (of_home c _ _) $$ Hh
  icases Hh with ⟨I0, Cx, I2, Cw⟩
  ihave Hr := (of_rings c) $$ Hr
  icases Hr with ⟨S12, S13, Cdx, Cdw⟩
  isplitr [Ho]
  · isplitl [S0 S1 S2 S3 S4 S5 S6 S7 S8 S9 S10 S11 S12 S13]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]; · iexact S11
      isplitl [S12]; · iexact S12
      iexact S13
    isplitl [Cx Cw Cdx Cdw C1 C2 C3 C4 C5 C6 C7]
    · isplitl [Cx]; · iexact Cx
      isplitl [Cw]; · iexact Cw
      isplitl [Cdx]; · iexact Cdx
      isplitl [Cdw]; · iexact Cdw
      isplitl [C1]; · iexact C1
      isplitl [C2]; · iexact C2
      isplitl [C3]; · iexact C3
      isplitl [C4]; · iexact C4
      isplitl [C5]; · iexact C5
      isplitl [C6]; · iexact C6
      iexact C7
    isplitl [I0 I1 I2 I3]
    · isplitl [I0]; · iexact I0
      isplitl [I1]; · iexact I1
      isplitl [I2]; · iexact I2
      iexact I3
    isplitl [R0]; · iexact R0
    isplitl [R1]; · iexact R1
    isplitl [R2]; · iexact R2
    isplitl [R3]; · iexact R3
    isplitl [R4]; · iexact R4
    isplitl [R5]; · iapply (Entails.of_eq (dwdst_blocks c _).symm); iexact R5
    iapply (Entails.of_eq (dxdst_blocks c _).symm); iexact R6
  iexact Ho

end Region
end Cert.Proof.Kernel

end
-- ==== Proof.BitsLaunch.lean ====
/- Hand-written, untrusted. The kernel launched: what every buffer holds when @main has ended, from the body's run. -/
module

public import proofs.«01_k».proof.Proof.BitsHand

@[expose] public section

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Region
variable (m : (ℓ : Loc nD τ sig) → Buf (Elt F) ℓ) (w : (c : Dev nD) → Outs F c) (c : Dev nD)

/-- The body, from the launch memory `m`, leaves `w`. -/
def runs : Prop := ∀ c : Dev nD, (bodyPre c (V m c main_v0) (V m c main_arg2) (V m c main_arg1) (V m c main_v1) : sProp 𝕄)
  ⊢ wp Idealize.ShloMosaic.frame (wpE (defs₀ (F := F)) 𝒱₀ (c : Thread nD τ) none) Set.univ bodyG
    (fun _ => bodyPost c (V m c main_v0) (V m c main_arg2) (V m c main_arg1) (V m c main_v1) (w c))

/-! ## The region's proof data and its one point -/

/-- No window: only the state before and after the one point. -/
def dats (_ : Fin 1) (c : Dev nD) : Pipeline.Dat τ (Elt F) Unit ℕ (UU nD τ) ℕ cfg0 c where
  A w := w.elim0
  after w _ := w.elim0
  Φ t := if t = 0 then held m c (fun c b => V0 m c (Proc.devRef .tc b)) else held m c (fun c => G m c (w c))
  q _ := fullShare
  owed _ := 0

theorem Φ_first : (dats m w 0 c).Φ 0 = held m c (fun c b => V0 m c (Proc.devRef .tc b)) := by
  unfold dats; dsimp only; exact if_pos rfl
theorem Φ_last : (dats m w 0 c).Φ (Fin.last cfg0.N) = held m c (fun c => G m c (w c)) := by
  unfold dats; dsimp only; exact if_neg (by decide)

theorem defs_tc : (defs₀ (F := F)) .tc cfg0.body = fun _ => bodyG := rfl
theorem prog_eq (t : Fin cfg0.N) : (defs₀ (F := F)) .tc cfg0.body (cfg0.bodyArgs t (cfg0.slots t)) = bodyG :=
  congrFun defs_tc _

set_option backward.isDefEq.respectTransparency.types false in
theorem body_obligation (hb : runs m w) [∀ e, Nonempty (Elt F e)] : Pipeline.BodyObligation (dats m w 0 c) (defs₀ (F := F)) 𝒱₀ () Set.univ := fun t => by
  obtain rfl := fin_N0 t
  have h0 : (dats m w 0 c).Φ (Fin.castSucc t0_0) = held m c (fun c b => V0 m c (Proc.devRef .tc b)) := Φ_first m w c
  have h1 : (dats m w 0 c).Φ (Fin.succ t0_0) = held m c (fun c => G m c (w c)) := Φ_last m w c
  have hb := hb c
  have hs := start m c
  have hf := finish m c w
  rw [h0, h1]
  unfold Pipeline.Dat.owesAt Pipeline.owesWithin
  rw [show (dats m w 0 c).owed (Fin.castSucc t0_0) = 0 from rfl, show (dats m w 0 c).owed (Fin.succ t0_0) = 0 from rfl]
  iintro ⟨HΦ, ⟨%W, -, HW⟩, -⟩
  sl_rw [prog_eq t0_0]
  iapply (wp_wand_r Idealize.ShloMosaic.frame (wpE (defs₀ (F := F)) 𝒱₀ (c : Thread nD τ) none) Set.univ)
  isplitl [HΦ HW]
  · iapply hb
    iapply hs
    isplitl [HΦ]; · iexact HΦ
    iexists _; iexact HW
  iintro %_ HP
  ihave HP := hf $$ HP
  icases HP with ⟨HΦ, ⟨%W', HW⟩⟩
  isplitl [HΦ]; · iexact HΦ
  isplitl [HW]
  · iexists W'; isplitr
    · ipureintro; exact fun _ _ => Or.inl trivial
    iexact HW
  rw [show (Finset.univ : Finset (Fin cfg0.W)) = ∅ from rfl, BI.bigSep_empty]
  iempintro

/-! ## @main's run -/

/-- The contents the lines after the region run from. -/
def after1 : Valuation τ sig (Elt F) := Pipeline.withArrays cfg0.spec c (Pipeline.withR (V0 m c) outs c (G m c (w c))) fun k => (dats m w 0 c).arrAt k cfg0.N

theorem after1_out (b : Ref sig .tc) (hb : b ∈ outs) : after1 m w c (Proc.devRef .tc b) = G m c (w c) b :=
  (Pipeline.withArrays_of_ne _ c _ _ b (fun k => k.elim0)).trans (Pipeline.withR_of_mem _ _ c _ b hb)
theorem after1_other (b : Ref sig .tc) (hb : b ∉ outs) : after1 m w c (Proc.devRef .tc b) = V m c b :=
  (Pipeline.withArrays_of_ne _ c _ _ b (fun k => k.elim0)).trans (Pipeline.withR_of_not_mem _ _ c _ b hb)

/-- A buffer the last lines do not write ends as the region leaves it. -/
theorem final_ne (b : Ref sig .tc) (h3 : b ≠ main_v3) (h4 : b ≠ main_v4) (h5 : b ≠ main_v5) :
    StableHlo.after ([hostOps1 (F := F)] : List (List (HloOp τ sig (Elt F)))).flatten (after1 m w c) (Proc.devRef .tc b) = after1 m w c (Proc.devRef .tc b) :=
  StableHlo.after_of_forall_not_mem (b := Proc.devRef .tc b) _ _ (List.forall_iff_forall_mem.mp (by
    simp only [hostOps1, List.flatten_cons, List.flatten_nil, List.append_nil, List.cons_append,
      List.nil_append, List.Forall, StableHlo.reshape_writes, Finset.mem_singleton]
    exact ⟨StableHlo.devRef_ne_of_ne h3, StableHlo.devRef_ne_of_ne h4, StableHlo.devRef_ne_of_ne h5⟩))
theorem final_v3 : StableHlo.after ([hostOps1 (F := F)] : List (List (HloOp τ sig (Elt F)))).flatten (after1 m w c) (Proc.devRef .tc main_v3)
    = shapeCast S128 (after1 m w c (Proc.devRef .tc main_v2_2)) shapeCasts_S1x128_S128 := by
  simp only [hostOps1, List.flatten_cons, List.flatten_nil, List.append_nil, List.cons_append, List.nil_append]
  after_results <;> rfl
theorem final_v4 : StableHlo.after ([hostOps1 (F := F)] : List (List (HloOp τ sig (Elt F)))).flatten (after1 m w c) (Proc.devRef .tc main_v4)
    = shapeCast S2x1024x128 (after1 m w c (Proc.devRef .tc main_v2_4)) shapeCasts_S2048x128_S2x1024x128 := by
  simp only [hostOps1, List.flatten_cons, List.flatten_nil, List.append_nil, List.cons_append, List.nil_append]
  after_results <;> rfl
theorem final_v5 : StableHlo.after ([hostOps1 (F := F)] : List (List (HloOp τ sig (Elt F)))).flatten (after1 m w c) (Proc.devRef .tc main_v5)
    = shapeCast S2x1024x16384 (after1 m w c (Proc.devRef .tc main_v2_6)) shapeCasts_S2048x16384_S2x1024x16384 := by
  simp only [hostOps1, List.flatten_cons, List.flatten_nil, List.append_nil, List.cons_append, List.nil_append]
  after_results <;> rfl

/-- What the run leaves: the results, the arguments as launched, every semaphore at zero. -/
def Ends (r : PUnit × MemSt nD τ sig (Elt F)) : Prop :=
  (∀ c : Dev nD, (r.2.mem ((c.tc : Thread nD τ).loc main_v2_0) = (w c).aux
      ∧ r.2.mem ((c.tc : Thread nD τ).loc main_v2_1) = (w c).zt
      ∧ r.2.mem ((c.tc : Thread nD τ).loc main_v3) = shapeCast S128 (w c).p shapeCasts_S1x128_S128
      ∧ r.2.mem ((c.tc : Thread nD τ).loc main_v2_3) = (w c).lse
      ∧ r.2.mem ((c.tc : Thread nD τ).loc main_v4) = shapeCast S2x1024x128 (w c).dlog shapeCasts_S2048x128_S2x1024x128
      ∧ r.2.mem ((c.tc : Thread nD τ).loc main_v2_5) = DW c (XV c (V m c main_v0)) (w c).ds
      ∧ r.2.mem ((c.tc : Thread nD τ).loc main_v5) = shapeCast S2x1024x16384 (DX c (WV c (V m c main_arg2)) (w c).dl) shapeCasts_S2048x16384_S2x1024x16384)
    ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
  ∧ r.2.sem = fun _ => 0

theorem ins_sub : ins ⊆ Pipeline.restRefs sig cfg0.spec := by
  intro b hb
  simp only [ins, Finset.mem_insert, Finset.mem_singleton] at hb
  rcases hb with rfl | rfl | rfl | rfl
  all_goals exact Pipeline.mem_restRefs_of _ (by decide) (by decide)
theorem outs_sub : outs ⊆ Pipeline.restRefs sig cfg0.spec \ ins := by
  intro b hb
  simp only [outs, Finset.mem_insert, Finset.mem_singleton] at hb
  rcases hb with rfl | rfl | rfl | rfl | rfl | rfl | rfl
  all_goals exact Finset.mem_sdiff.mpr ⟨Pipeline.mem_restRefs_of _ (by decide) (by decide), by decide⟩

theorem run_ends (ρ : Dev nD → PrngReg) (hb : runs m w) [∀ e, Nonempty (Elt F e)] :
    θ_run defs (onTc (τ := τ) (main (F := F))) ⟨m, fun _ => 0, ρ⟩ (Ends m w) := by
  refine Pipeline.θ_run_frame_dmaR_aroundV cfgs (dats m w) 0 launch0 osem defs₀ 𝒱₀ ownSemFacts ins outs ins_sub outs_sub m ρ main
    (hbody := fun c => (body_obligation m w c hb).loose) (hshare := fun c => (dats m w 0 c).share_full fun _ => rfl) (howed := fun _ _ => rfl)
    (V₀ := V0 m) (opss := [hostOps1]) (hsub := sfx_sub) (hfresh := sfx_fresh) (hkeep := sfx_keeps) (G := fun c => G m c (w c)) (hmain := Pipeline.hmain_around cfgs 0 defs₀ 𝒱₀ m main [hostOps0] [hostOps1] (by simp only [List.Forall]; exact hostOps0_sub)
      (by simp only [List.Forall]; exact hostOps0_fresh) main_chain)
    (hA := fun _ k => k.elim0) (hin := fun c => Entails.of_eq (Φ_first m w c).symm) (hout := fun c => Entails.of_eq (Φ_last m w c)) (Q' := Ends m w) (hQ' := ?_)
  rintro r ⟨h, hz⟩
  refine ⟨fun c => ?_, hz⟩
  have hr : ∀ b ∈ Pipeline.restRefs sig cfg0.spec, r.2.mem ((c.tc : Thread nD τ).loc b)
      = StableHlo.after ([hostOps1 (F := F)] : List (List (HloOp τ sig (Elt F)))).flatten (after1 m w c) (Proc.devRef .tc b) := (h c).2
  have hin : ∀ b ∈ Pipeline.restRefs sig cfg0.spec, b ≠ main_v3 → b ≠ main_v4 → b ≠ main_v5 → b ∉ outs → r.2.mem ((c.tc : Thread nD τ).loc b) = V m c b :=
    fun b hb h3 h4 h5 ho => (hr b hb).trans ((final_ne m w c b h3 h4 h5).trans (after1_other m w c b ho))
  have hout : ∀ b ∈ Pipeline.restRefs sig cfg0.spec, b ≠ main_v3 → b ≠ main_v4 → b ≠ main_v5 → b ∈ outs → r.2.mem ((c.tc : Thread nD τ).loc b) = G m c (w c) b :=
    fun b hb h3 h4 h5 ho => (hr b hb).trans ((final_ne m w c b h3 h4 h5).trans (after1_out m w c b ho))
  have e2 : after1 m w c (Proc.devRef .tc main_v2_2) = (w c).p := (after1_out m w c main_v2_2 (by decide)).trans (G2 m c (w c))
  have e4 : after1 m w c (Proc.devRef .tc main_v2_4) = (w c).dlog := (after1_out m w c main_v2_4 (by decide)).trans (G4 m c (w c))
  have e6 : after1 m w c (Proc.devRef .tc main_v2_6) = DX c (WV c (V m c main_arg2)) (w c).dl := (after1_out m w c main_v2_6 (by decide)).trans (G6 m c (w c))
  refine ⟨⟨?_, ?_, ?_, ?_, ?_, ?_, ?_⟩, ?_, ?_, ?_, ?_⟩
  · exact (hout main_v2_0 (Pipeline.mem_restRefs_of _ (by decide) (by decide)) (by decide) (by decide) (by decide) (by decide)).trans (G0 m c (w c))
  · exact (hout main_v2_1 (Pipeline.mem_restRefs_of _ (by decide) (by decide)) (by decide) (by decide) (by decide) (by decide)).trans (G1 m c (w c))
  · rw [hr main_v3 (Pipeline.mem_restRefs_of _ (by decide) (by decide)), final_v3, e2]
  · exact (hout main_v2_3 (Pipeline.mem_restRefs_of _ (by decide) (by decide)) (by decide) (by decide) (by decide) (by decide)).trans (G3 m c (w c))
  · rw [hr main_v4 (Pipeline.mem_restRefs_of _ (by decide) (by decide)), final_v4, e4]
  · exact (hout main_v2_5 (Pipeline.mem_restRefs_of _ (by decide) (by decide)) (by decide) (by decide) (by decide) (by decide)).trans (G5 m c (w c))
  · rw [hr main_v5 (Pipeline.mem_restRefs_of _ (by decide) (by decide)), final_v5, e6]
  · exact (hin main_arg0 (Pipeline.mem_restRefs_of _ (by decide) (by decide)) (by decide) (by decide) (by decide) (by decide)).trans (V_main_arg0 m c)
  · exact (hin main_arg1 (Pipeline.mem_restRefs_of _ (by decide) (by decide)) (by decide) (by decide) (by decide) (by decide)).trans (V_main_arg1 m c)
  · exact (hin main_arg2 (Pipeline.mem_restRefs_of _ (by decide) (by decide)) (by decide) (by decide) (by decide) (by decide)).trans (V_main_arg2 m c)
  · exact (hin main_arg3 (Pipeline.mem_restRefs_of _ (by decide) (by decide)) (by decide) (by decide) (by decide) (by decide)).trans (V_main_arg3 m c)

end Region
end Cert.Proof.Kernel

end
-- ==== Proof.BitsRun.lean ====
/- Hand-written, untrusted. The whole run of @main: its results as the body's run leaves them, and the frame claim. -/
module

public import proofs.«01_k».proof.Proof.BitsBody
public import proofs.«01_k».proof.Proof.BitsLaunch

@[expose] public section

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Run
variable (m : (ℓ : Loc nD τ sig) → Buf (Elt F) ℓ)

/-- What the body leaves behind on core `c`. -/
def found (c : Dev nD) : Outs F c := (bodyRun c (V m c main_v0) (V m c main_arg2) (V m c main_arg1) (V m c main_v1)).val

theorem found_runs : runs m (found m) := fun c => (bodyRun c (V m c main_v0) (V m c main_arg2) (V m c main_arg1) (V m c main_v1)).property

theorem run (ρ : Dev nD → PrngReg) [∀ e, Nonempty (Elt F e)] :
    θ_run defs (onTc (τ := τ) (main (F := F))) ⟨m, fun _ => 0, ρ⟩ (Ends m (found m)) := run_ends m (found m) ρ (found_runs m)

/-- The run comes to rest with the arguments as launched and every semaphore at zero. -/
theorem frame (ρ : Dev nD → PrngReg) [∀ e, Nonempty (Elt F e)] :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).2, h.2⟩) (run m ρ)

end Run
end Cert.Proof.Kernel

end
-- ==== Proof.IdealNames.lean ====
/- Hand-written, untrusted. The kernel's buffers under short names, and the slices its transfers run between: chunk `b` of
   the tokens and of the router weights (in HBM and in VMEM), ring slot `s` of the two large results, and the DMA semaphore of
   each. The slices the body writes at a trip's computed offsets are equal to these names (`@[sl_canon]`). -/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameSuffixV
public import Idealize.ShloMosaic.Lib.Ring
public import Idealize.ShloMosaic.Lib.Affine
public import Idealize.ShloMosaic.Lib.Tactic

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the launch's, beside the counters the kernel's own transfers ride on. -/
abbrev UU (nD : Nat) (τ : Topo) : Type := UR sig nD τ × Counters
local notation "𝕄" => MT nD τ sig Unit (Elt F) ℕ (UU nD τ) ℕ
abbrev 𝒱₀ : Variants := Variants.none

/-! ## The buffers -/

abbrev xM : Memref sig .tc .hbm S2048x16384 .fp8e4m3 := Memref.whole main_v0
abbrev scM : Memref sig .tc .hbm S2x1024 .f32 := Memref.whole main_arg1
abbrev wM : Memref sig .tc .hbm S16384x128 .bf16 := Memref.whole main_arg2
abbrev idM : Memref sig .tc .hbm S2x8x1024 .i32 := Memref.whole main_v1
abbrev auxM : Memref sig .tc .hbm S2x1024 .f32 := Memref.whole main_v2_0
abbrev ztM : Memref sig .tc .hbm S2x1024 .f32 := Memref.whole main_v2_1
abbrev pM : Memref sig .tc .hbm S1x128 .f32 := Memref.whole main_v2_2
abbrev lseM : Memref sig .tc .hbm S2x1024 .f32 := Memref.whole main_v2_3
abbrev dlogM : Memref sig .tc .hbm S2048x128 .f32 := Memref.whole main_v2_4
abbrev dwM : Memref sig .tc .hbm S16384x128 .f32 := Memref.whole main_v2_5
abbrev dxM : Memref sig .tc .hbm S2048x16384 .bf16 := Memref.whole main_v2_6
abbrev xvM : Memref sig .tc .vmem S32x2048x512 .fp8e4m3 := Memref.whole cc0_scratch0
abbrev wvM : Memref sig .tc .vmem S32x512x128 .bf16 := Memref.whole cc0_scratch1
abbrev scvM : Memref sig .tc .vmem S2x1024 .f32 := Memref.whole cc0_scratch2
abbrev idvM : Memref sig .tc .vmem S2x8x1024 .i32 := Memref.whole cc0_scratch3
abbrev zvM : Memref sig .tc .vmem S8x128x256 .f32 := Memref.whole cc0_scratch4
abbrev dlvM : Memref sig .tc .vmem S2048x128 .bf16 := Memref.whole cc0_scratch5
abbrev dsvM : Memref sig .tc .vmem S128x2048 .bf16 := Memref.whole cc0_scratch6
abbrev dlogvM : Memref sig .tc .vmem S2048x128 .f32 := Memref.whole cc0_scratch7
abbrev auxvM : Memref sig .tc .vmem S2x1024 .f32 := Memref.whole cc0_scratch8
abbrev ztvM : Memref sig .tc .vmem S2x1024 .f32 := Memref.whole cc0_scratch9
abbrev pvM : Memref sig .tc .vmem S1x128 .f32 := Memref.whole cc0_scratch10
abbrev lsevM : Memref sig .tc .vmem S2x1024 .f32 := Memref.whole cc0_scratch11
abbrev dxvM : Memref sig .tc .vmem S3x2048x512 .bf16 := Memref.whole cc0_scratch12
abbrev dwvM : Memref sig .tc .vmem S2x512x128 .f32 := Memref.whole cc0_scratch13

/-! ## Chunks, ring slots and their semaphores -/

theorem trips1 : k0_t1_loop.trips = 32 := by decide
theorem trips2 : k0_t2_loop.trips = 32 := by decide
theorem trips3 : k0_t3_loop.trips = 32 := by decide
/-- The chunk a trip of each loop works on. -/
abbrev c1 (k : Fin k0_t1_loop.trips) : Fin 32 := ⟨k.val, Nat.lt_of_lt_of_eq k.isLt trips1⟩
abbrev c2 (k : Fin k0_t2_loop.trips) : Fin 32 := ⟨k.val, Nat.lt_of_lt_of_eq k.isLt trips2⟩
abbrev c3 (k : Fin k0_t3_loop.trips) : Fin 32 := ⟨k.val, Nat.lt_of_lt_of_eq k.isLt trips3⟩

abbrev slot3 {n : ℕ} (b : Fin n) : Fin 3 → Nat := ![b.val, 0, 0]
abbrev rowOff (b : Fin 32) : Fin 2 → Nat := ![512 * b.val, 0]
abbrev colOff (b : Fin 32) : Fin 2 → Nat := ![0, 512 * b.val]
abbrev sOff {n : ℕ} (b : Fin n) : Fin 1 → Nat := ![b.val]

theorem xslot_inb (b : Fin 32) : ∀ a, slot3 b a + S1x2048x512.size a ≤ S32x2048x512.size a := by
  have := b.isLt; intro a; fin_cases a
  · show b.val + 1 ≤ 32; omega
  · show 0 + 2048 ≤ 2048; omega
  · show 0 + 512 ≤ 512; omega
theorem wslot_inb (b : Fin 32) : ∀ a, slot3 b a + S1x512x128.size a ≤ S32x512x128.size a := by
  have := b.isLt; intro a; fin_cases a
  · show b.val + 1 ≤ 32; omega
  · show 0 + 512 ≤ 512; omega
  · show 0 + 128 ≤ 128; omega
theorem dxslot_inb (b : Fin 3) : ∀ a, slot3 b a + S1x2048x512.size a ≤ S3x2048x512.size a := by
  have := b.isLt; intro a; fin_cases a
  · show b.val + 1 ≤ 3; omega
  · show 0 + 2048 ≤ 2048; omega
  · show 0 + 512 ≤ 512; omega
theorem dwslot_inb (b : Fin 2) : ∀ a, slot3 b a + S1x512x128.size a ≤ S2x512x128.size a := by
  have := b.isLt; intro a; fin_cases a
  · show b.val + 1 ≤ 2; omega
  · show 0 + 512 ≤ 512; omega
  · show 0 + 128 ≤ 128; omega
theorem col_inb (b : Fin 32) : ∀ a, colOff b a + S2048x512.size a ≤ S2048x16384.size a := by
  have := b.isLt; intro a; fin_cases a
  · show 0 + 2048 ≤ 2048; omega
  · show 512 * b.val + 512 ≤ 16384; omega
theorem row_inb (b : Fin 32) : ∀ a, rowOff b a + S512x128.size a ≤ S16384x128.size a := by
  have := b.isLt; intro a; fin_cases a
  · show 512 * b.val + 512 ≤ 16384; omega
  · show 0 + 128 ≤ 128; omega
theorem s32_inb (b : Fin 32) : ∀ a, sOff b a + S1.size a ≤ S32.size a := by
  have := b.isLt; intro a; fin_cases a; show b.val + 1 ≤ 32; omega
theorem s3_inb (b : Fin 3) : ∀ a, sOff b a + S1.size a ≤ S3.size a := by
  have := b.isLt; intro a; fin_cases a; show b.val + 1 ≤ 3; omega
theorem s2_inb (b : Fin 2) : ∀ a, sOff b a + S1.size a ≤ S2.size a := by
  have := b.isLt; intro a; fin_cases a; show b.val + 1 ≤ 2; omega

/-- Chunk `b` of the tokens in HBM: columns `512 b` up to `512 b + 511`. -/
def xsrc (b : Fin 32) : Memref sig .tc .hbm S2048x512 .fp8e4m3 :=
  xM.slice (Rect.unit (s := S2048x16384) (colOff b) S2048x512.size (col_inb b)) (fun _ => rfl)
/-- Chunk `b` of the weights in HBM: rows `512 b` up to `512 b + 511`. -/
def wsrc (b : Fin 32) : Memref sig .tc .hbm S512x128 .bf16 :=
  wM.slice (Rect.unit (s := S16384x128) (rowOff b) S512x128.size (row_inb b)) (fun _ => rfl)
/-- Chunk `b` of the tokens in VMEM. -/
def xslot (b : Fin 32) : Memref sig .tc .vmem S2048x512 .fp8e4m3 :=
  (xvM.slice (Rect.unit (s := S32x2048x512) (slot3 b) S1x2048x512.size (xslot_inb b)) (fun _ => rfl)).squeeze S2048x512 squeezes_S1x2048x512_S2048x512
/-- Chunk `b` of the weights in VMEM. -/
def wslot (b : Fin 32) : Memref sig .tc .vmem S512x128 .bf16 :=
  (wvM.slice (Rect.unit (s := S32x512x128) (slot3 b) S1x512x128.size (wslot_inb b)) (fun _ => rfl)).squeeze S512x128 squeezes_S1x512x128_S512x128
/-- Slot `s` of the ring the tokens' gradient leaves through. -/
def dxslot (s : Fin 3) : Memref sig .tc .vmem S2048x512 .bf16 :=
  (dxvM.slice (Rect.unit (s := S3x2048x512) (slot3 s) S1x2048x512.size (dxslot_inb s)) (fun _ => rfl)).squeeze S2048x512 squeezes_S1x2048x512_S2048x512
/-- Slot `s` of the ring the weights' gradient leaves through. -/
def dwslot (s : Fin 2) : Memref sig .tc .vmem S512x128 .f32 :=
  (dwvM.slice (Rect.unit (s := S2x512x128) (slot3 s) S1x512x128.size (dwslot_inb s)) (fun _ => rfl)).squeeze S512x128 squeezes_S1x512x128_S512x128
/-- Chunk `b` of the tokens' gradient in HBM. -/
def dxdst (b : Fin 32) : Memref sig .tc .hbm S2048x512 .bf16 :=
  dxM.slice (Rect.unit (s := S2048x16384) (colOff b) S2048x512.size (col_inb b)) (fun _ => rfl)
/-- Chunk `b` of the weights' gradient in HBM. -/
def dwdst (b : Fin 32) : Memref sig .tc .hbm S512x128 .f32 :=
  dwM.slice (Rect.unit (s := S16384x128) (rowOff b) S512x128.size (row_inb b)) (fun _ => rfl)

/-- The semaphores of chunk `b`'s two copies in, and of each ring slot's copy out. -/
def xsem (b : Fin 32) : DmaSems sig S_ := (cc0_scratch14.slice (Rect.unit (s := S32) (sOff b) S1.size (s32_inb b))).squeeze S_ squeezes_S1_S_
def wsem (b : Fin 32) : DmaSems sig S_ := (cc0_scratch15.slice (Rect.unit (s := S32) (sOff b) S1.size (s32_inb b))).squeeze S_ squeezes_S1_S_
def dxsem (s : Fin 3) : DmaSems sig S_ := (cc0_scratch18.slice (Rect.unit (s := S3) (sOff s) S1.size (s3_inb s))).squeeze S_ squeezes_S1_S_
def dwsem (s : Fin 2) : DmaSems sig S_ := (cc0_scratch19.slice (Rect.unit (s := S2) (sOff s) S1.size (s2_inb s))).squeeze S_ squeezes_S1_S_

instance {n : ℕ} (b : Fin n) : ClosedOff (slot3 b) := ⟨![b.val, 0, 0], rfl⟩
instance (k : Fin k0_t2_loop.trips) : ClosedOff (slot3 (c2 k)) := ⟨![k.val, 0, 0], rfl⟩
instance (k : Fin k0_t3_loop.trips) : ClosedOff (slot3 (c3 k)) := ⟨![k.val, 0, 0], rfl⟩
instance (b : Fin 32) : ClosedOff (rowOff b) := ⟨![512 * b.val, 0], rfl⟩
instance (b : Fin 32) : ClosedOff (colOff b) := ⟨![0, 512 * b.val], rfl⟩

/-! ## The body's slices are these -/

section Canon

theorem xsem_congr {off : Fin 1 → Nat} {b : Fin 32} (e : off = sOff b) (hh) :
    (cc0_scratch14.slice (Rect.unit (s := S32) off S1.size hh)).squeeze S_ squeezes_S1_S_ = xsem b :=
  congrArg (fun A : DmaSems sig S1 => A.squeeze S_ squeezes_S1_S_) (SemArray.slice_unit_congr _ e _ _)
theorem wsem_congr {off : Fin 1 → Nat} {b : Fin 32} (e : off = sOff b) (hh) :
    (cc0_scratch15.slice (Rect.unit (s := S32) off S1.size hh)).squeeze S_ squeezes_S1_S_ = wsem b :=
  congrArg (fun A : DmaSems sig S1 => A.squeeze S_ squeezes_S1_S_) (SemArray.slice_unit_congr _ e _ _)
theorem dxsem_congr {off : Fin 1 → Nat} {b : Fin 3} (e : off = sOff b) (hh) :
    (cc0_scratch18.slice (Rect.unit (s := S3) off S1.size hh)).squeeze S_ squeezes_S1_S_ = dxsem b :=
  congrArg (fun A : DmaSems sig S1 => A.squeeze S_ squeezes_S1_S_) (SemArray.slice_unit_congr _ e _ _)
theorem dwsem_congr {off : Fin 1 → Nat} {b : Fin 2} (e : off = sOff b) (hh) :
    (cc0_scratch19.slice (Rect.unit (s := S2) off S1.size hh)).squeeze S_ squeezes_S1_S_ = dwsem b :=
  congrArg (fun A : DmaSems sig S1 => A.squeeze S_ squeezes_S1_S_) (SemArray.slice_unit_congr _ e _ _)
theorem xslot_congr {off : Fin 3 → Nat} {b : Fin 32} (e : off = slot3 b) (hh hs) :
    (xvM.slice (Rect.unit (s := S32x2048x512) off S1x2048x512.size hh) hs).squeeze S2048x512 squeezes_S1x2048x512_S2048x512 = xslot b :=
  congrArg (fun M : Memref sig .tc .vmem S1x2048x512 .fp8e4m3 => M.squeeze S2048x512 squeezes_S1x2048x512_S2048x512) (Memref.slice_unit_congr _ e _ _ hs (fun _ => rfl))
theorem wslot_congr {off : Fin 3 → Nat} {b : Fin 32} (e : off = slot3 b) (hh hs) :
    (wvM.slice (Rect.unit (s := S32x512x128) off S1x512x128.size hh) hs).squeeze S512x128 squeezes_S1x512x128_S512x128 = wslot b :=
  congrArg (fun M : Memref sig .tc .vmem S1x512x128 .bf16 => M.squeeze S512x128 squeezes_S1x512x128_S512x128) (Memref.slice_unit_congr _ e _ _ hs (fun _ => rfl))
theorem dxslot_congr {off : Fin 3 → Nat} {b : Fin 3} (e : off = slot3 b) (hh hs) :
    (dxvM.slice (Rect.unit (s := S3x2048x512) off S1x2048x512.size hh) hs).squeeze S2048x512 squeezes_S1x2048x512_S2048x512 = dxslot b :=
  congrArg (fun M : Memref sig .tc .vmem S1x2048x512 .bf16 => M.squeeze S2048x512 squeezes_S1x2048x512_S2048x512) (Memref.slice_unit_congr _ e _ _ hs (fun _ => rfl))
theorem dwslot_congr {off : Fin 3 → Nat} {b : Fin 2} (e : off = slot3 b) (hh hs) :
    (dwvM.slice (Rect.unit (s := S2x512x128) off S1x512x128.size hh) hs).squeeze S512x128 squeezes_S1x512x128_S512x128 = dwslot b :=
  congrArg (fun M : Memref sig .tc .vmem S1x512x128 .f32 => M.squeeze S512x128 squeezes_S1x512x128_S512x128) (Memref.slice_unit_congr _ e _ _ hs (fun _ => rfl))
theorem xsrc_congr {off : Fin 2 → Nat} {b : Fin 32} (e : off = colOff b) (hh hs) :
    xM.slice (Rect.unit (s := S2048x16384) off S2048x512.size hh) hs = xsrc b := Memref.slice_unit_congr _ e _ _ hs (fun _ => rfl)
theorem wsrc_congr {off : Fin 2 → Nat} {b : Fin 32} (e : off = rowOff b) (hh hs) :
    wM.slice (Rect.unit (s := S16384x128) off S512x128.size hh) hs = wsrc b := Memref.slice_unit_congr _ e _ _ hs (fun _ => rfl)
theorem dxdst_congr {off : Fin 2 → Nat} {b : Fin 32} (e : off = colOff b) (hh hs) :
    dxM.slice (Rect.unit (s := S2048x16384) off S2048x512.size hh) hs = dxdst b := Memref.slice_unit_congr _ e _ _ hs (fun _ => rfl)
theorem dwdst_congr {off : Fin 2 → Nat} {b : Fin 32} (e : off = rowOff b) (hh hs) :
    dwM.slice (Rect.unit (s := S16384x128) off S512x128.size hh) hs = dwdst b := Memref.slice_unit_congr _ e _ _ hs (fun _ => rfl)

/-- The first loop's trip `k`. -/
@[sl_canon] theorem c1_wsem (k : Fin k0_t1_loop.trips) (hh) :
    (cc0_scratch15.slice (Rect.unit (s := S32) (k0_off1 k) S1.size hh)).squeeze S_ squeezes_S1_S_ = wsem (c1 k) := wsem_congr (k0_off1_eq k) _
@[sl_canon] theorem c1_xsem (k : Fin k0_t1_loop.trips) (hh) :
    (cc0_scratch14.slice (Rect.unit (s := S32) (k0_off1 k) S1.size hh)).squeeze S_ squeezes_S1_S_ = xsem (c1 k) := xsem_congr (k0_off1_eq k) _
@[sl_canon] theorem c1_wslot (k : Fin k0_t1_loop.trips) (hh hs) :
    (wvM.slice (Rect.unit (s := S32x512x128) (k0_off2 k) S1x512x128.size hh) hs).squeeze S512x128 squeezes_S1x512x128_S512x128 = wslot (c1 k) := wslot_congr (k0_off2_eq k) _ _
@[sl_canon] theorem c1_wsrc (k : Fin k0_t1_loop.trips) (hh hs) :
    wM.slice (Rect.unit (s := S16384x128) (k0_off3 k) S512x128.size hh) hs = wsrc (c1 k) := wsrc_congr (k0_off3_eq k) _ _
@[sl_canon] theorem c1_xslot (k : Fin k0_t1_loop.trips) (hh hs) :
    (xvM.slice (Rect.unit (s := S32x2048x512) (k0_off4 k) S1x2048x512.size hh) hs).squeeze S2048x512 squeezes_S1x2048x512_S2048x512 = xslot (c1 k) := xslot_congr (k0_off4_eq k) _ _
@[sl_canon] theorem c1_xsrc (k : Fin k0_t1_loop.trips) (hh hs) :
    xM.slice (Rect.unit (s := S2048x16384) (k0_off5 k) S2048x512.size hh) hs = xsrc (c1 k) := xsrc_congr (k0_off5_eq k) _ _

/-- The second loop's trip `k`. -/
@[sl_canon] theorem c2_wsem (k : Fin k0_t2_loop.trips) (hh) :
    (cc0_scratch15.slice (Rect.unit (s := S32) (k0_off6 k) S1.size hh)).squeeze S_ squeezes_S1_S_ = wsem (c2 k) := wsem_congr (k0_off6_eq k) _
@[sl_canon] theorem c2_xsem (k : Fin k0_t2_loop.trips) (hh) :
    (cc0_scratch14.slice (Rect.unit (s := S32) (k0_off6 k) S1.size hh)).squeeze S_ squeezes_S1_S_ = xsem (c2 k) := xsem_congr (k0_off6_eq k) _
@[sl_canon] theorem c2_wslot (k : Fin k0_t2_loop.trips) (hh hs) :
    (wvM.slice (Rect.unit (s := S32x512x128) (k0_off7 k) S1x512x128.size hh) hs).squeeze S512x128 squeezes_S1x512x128_S512x128 = wslot (c2 k) := wslot_congr (k0_off7_eq k) _ _
@[sl_canon] theorem c2_wsrc (k : Fin k0_t2_loop.trips) (hh hs) :
    wM.slice (Rect.unit (s := S16384x128) (k0_off8 k) S512x128.size hh) hs = wsrc (c2 k) := wsrc_congr (k0_off8_eq k) _ _
@[sl_canon] theorem c2_xslot (k : Fin k0_t2_loop.trips) (hh hs) :
    (xvM.slice (Rect.unit (s := S32x2048x512) (k0_off9 k) S1x2048x512.size hh) hs).squeeze S2048x512 squeezes_S1x2048x512_S2048x512 = xslot (c2 k) := xslot_congr (k0_off9_eq k) _ _
@[sl_canon] theorem c2_xsrc (k : Fin k0_t2_loop.trips) (hh hs) :
    xM.slice (Rect.unit (s := S2048x16384) (k0_off10 k) S2048x512.size hh) hs = xsrc (c2 k) := xsrc_congr (k0_off10_eq k) _ _

end Canon

end Cert.Proof.KernelIdeal

end
-- ==== Proof.IdealStart.lean ====
/- Hand-written, untrusted. The first loop: it starts the copies of all 32 chunks of the tokens and of the weights. Before
   trip `k` the chunks below `k` are in flight and the others wait: their VMEM slots, HBM sources and semaphores are held. -/
module

public import proofs.«01_k».proof.Proof.IdealNames

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Pieces
variable (c : Dev nD) (X : Buf (Elt F) (xM.view.loc (c : Thread nD τ))) (Wt : Buf (Elt F) (wM.view.loc (c : Thread nD τ)))

abbrev xhome (b : Fin 32) : sProp 𝕄 := (xsrc b).view.loc (c : Thread nD τ) ↦[(xsrc b).view.set]{fullShare} X
abbrev whome (b : Fin 32) : sProp 𝕄 := (wsrc b).view.loc (c : Thread nD τ) ↦[(wsrc b).view.set]{fullShare} Wt
abbrev xheld (b : Fin 32) (f : Buf (Elt F) ((xslot b).view.loc (c : Thread nD τ))) : sProp 𝕄 :=
  (xslot b).view.loc (c : Thread nD τ) ↦[(xslot b).view.set]{fullShare} f
abbrev wheld (b : Fin 32) (f : Buf (Elt F) ((wslot b).view.loc (c : Thread nD τ))) : sProp 𝕄 :=
  (wslot b).view.loc (c : Thread nD τ) ↦[(wslot b).view.set]{fullShare} f
abbrev xcell (b : Fin 32) : sProp 𝕄 := semVal ((c : Thread nD τ), SemLoc.dma (xsem b).sem) 0
abbrev wcell (b : Fin 32) : sProp 𝕄 := semVal ((c : Thread nD τ), SemLoc.dma (wsem b).sem) 0
/-- What chunk `b`'s copy leaves in its slot over prior contents `f`. -/
abbrev xlanded (b : Fin 32) (f : Buf (Elt F) ((xslot b).view.loc (c : Thread nD τ))) : Buf (Elt F) ((xslot b).view.loc (c : Thread nD τ)) :=
  (xslot b).view.writes (Elt F) f [⟨Rect.whole S2048x512, ReadAs.same.apply ((xsrc b).view.read (Elt F) X)⟩]
abbrev wlanded (b : Fin 32) (f : Buf (Elt F) ((wslot b).view.loc (c : Thread nD τ))) : Buf (Elt F) ((wslot b).view.loc (c : Thread nD τ)) :=
  (wslot b).view.writes (Elt F) f [⟨Rect.whole S512x128, ReadAs.same.apply ((wsrc b).view.read (Elt F) Wt)⟩]
/-- Chunk `b`'s copy in flight, issued over `f`. -/
abbrev xflight (b : Fin 32) (f : Buf (Elt F) ((xslot b).view.loc (c : Thread nD τ))) : sProp 𝕄 :=
  Transfers.Flight countersEmb (c : Thread nD τ) (SemLoc.dma (xsem b).sem) () 32768 iprop(xheld c b (xlanded c X b f) ∗ xhome c X b)
abbrev wflight (b : Fin 32) (f : Buf (Elt F) ((wslot b).view.loc (c : Thread nD τ))) : sProp 𝕄 :=
  Transfers.Flight countersEmb (c : Thread nD τ) (SemLoc.dma (wsem b).sem) () 4096 iprop(wheld c b (wlanded c Wt b f) ∗ whome c Wt b)

/-- Chunk `b` before its copies start. -/
def waiting (b : Fin 32) : sProp 𝕄 :=
  iprop((∃ f, xheld c b f) ∗ xhome c X b ∗ xcell c b ∗ (∃ f, wheld c b f) ∗ whome c Wt b ∗ wcell c b)
/-- Chunk `b` with both copies under way. -/
def flying (b : Fin 32) : sProp 𝕄 := iprop((∃ f, xflight c X b f) ∗ (∃ f, wflight c Wt b f))

/-- Before trip `k` of the first loop. -/
def inv1 (k : ℕ) : sProp 𝕄 :=
  iprop(bigSep (Ring.rangeSet 32 0 k) (flying c X Wt) ∗ bigSep (Ring.rangeSet 32 k 32) (waiting c X Wt) ∗ ∃ W, owes (c : Thread nD τ) 0 W)

theorem upTo_succ (Φ : Fin 32 → sProp 𝕄) (b : Fin 32) :
    bigSep (Ring.rangeSet 32 0 (b.val + 1)) Φ = iprop(Φ b ∗ bigSep (Ring.rangeSet 32 0 b.val) Φ) := by
  rw [Ring.bigSep_rangeSet_last (Φ := Φ) (Nat.succ_pos _) b.isLt]
  rfl
theorem from_succ (Φ : Fin 32 → sProp 𝕄) (b : Fin 32) :
    bigSep (Ring.rangeSet 32 b.val 32) Φ = iprop(Φ b ∗ bigSep (Ring.rangeSet 32 (b.val + 1) 32) Φ) := by
  rw [Ring.bigSep_rangeSet_head (Φ := Φ) b.isLt b.isLt]

abbrev t1G (k : Fin k0_t1_loop.trips) : Prog (TpuEff nD τ sig (Elt F) Λ₀ .tc) Unit := k0_t1_body (F := F) xM (Memref.isWhole_whole _) scM (Memref.isWhole_whole _) wM (Memref.isWhole_whole _) idM (Memref.isWhole_whole _) auxM (Memref.isWhole_whole _) ztM (Memref.isWhole_whole _) pM (Memref.isWhole_whole _) lseM (Memref.isWhole_whole _) dlogM (Memref.isWhole_whole _) dwM (Memref.isWhole_whole _) dxM (Memref.isWhole_whole _) xvM (Memref.isWhole_whole _) wvM (Memref.isWhole_whole _) scvM (Memref.isWhole_whole _) idvM (Memref.isWhole_whole _) zvM (Memref.isWhole_whole _) dlvM (Memref.isWhole_whole _) dsvM (Memref.isWhole_whole _) dlogvM (Memref.isWhole_whole _) auxvM (Memref.isWhole_whole _) ztvM (Memref.isWhole_whole _) pvM (Memref.isWhole_whole _) lsevM (Memref.isWhole_whole _) dxvM (Memref.isWhole_whole _) dwvM (Memref.isWhole_whole _) cc0_scratch14 cc0_scratch15 cc0_scratch16 cc0_scratch17 cc0_scratch18 cc0_scratch19 k ()

/-- One trip, at any `k`: chunk `k`'s weights, then its tokens, go into flight. -/
theorem trip1 (k : Fin k0_t1_loop.trips) :
    inv1 c X Wt k.val ⊢ wp Idealize.ShloMosaic.frame (wpE (defs₀ (F := F)) 𝒱₀ (c : Thread nD τ) none) Set.univ (t1G k) (fun _ => inv1 c X Wt (k.val + 1)) := by
  unfold inv1
  rw [show k.val = (c1 k).val from rfl, upTo_succ (flying c X Wt) (c1 k), from_succ (waiting c X Wt) (c1 k)]
  unfold waiting flying
  iintro ⟨HF, ⟨⟨⟨%fx, Hx⟩, Hxh, Hxc, ⟨%fw, Hw⟩, Hwh, Hwc⟩, HR⟩, ⟨%W, Ho⟩⟩
  dsimp only [t1G]
  sl_unfold [k0_t1_body]
  sl_exec
  sl_step
  isplitl [Hxc Hwc HF]
  · isplitl [Hxc Hwc]
    · isplitl [Hxc]
      · iexists fx; iexact Hxc
      · iexists fw; iexact Hwc
    · iexact HF
  isplitl [HR]; · iexact HR
  iexists W; iexact Ho

set_option warn.classDefReducibility false in
/-- The first loop's invariant. -/
@[sl_loop] def loopInv1 : LoopInvTy_k0_t1 (F := F) Unit ℕ (UU nD τ) ℕ 𝒱₀ c none Set.univ xM (Memref.isWhole_whole _) scM (Memref.isWhole_whole _) wM (Memref.isWhole_whole _) idM (Memref.isWhole_whole _) auxM (Memref.isWhole_whole _) ztM (Memref.isWhole_whole _) pM (Memref.isWhole_whole _) lseM (Memref.isWhole_whole _) dlogM (Memref.isWhole_whole _) dwM (Memref.isWhole_whole _) dxM (Memref.isWhole_whole _) xvM (Memref.isWhole_whole _) wvM (Memref.isWhole_whole _) scvM (Memref.isWhole_whole _) idvM (Memref.isWhole_whole _) zvM (Memref.isWhole_whole _) dlvM (Memref.isWhole_whole _) dsvM (Memref.isWhole_whole _) dlogvM (Memref.isWhole_whole _) auxvM (Memref.isWhole_whole _) ztvM (Memref.isWhole_whole _) pvM (Memref.isWhole_whole _) lsevM (Memref.isWhole_whole _) dxvM (Memref.isWhole_whole _) dwvM (Memref.isWhole_whole _) cc0_scratch14 cc0_scratch15 cc0_scratch16 cc0_scratch17 cc0_scratch18 cc0_scratch19 where
  inv k _ := inv1 c X Wt k
  step k _ := trip1 c X Wt k

end Pieces

end Cert.Proof.KernelIdeal

end
-- ==== Proof.IdealLogits.lean ====
/- Hand-written, untrusted. The second loop: before trip `k` the chunks below `k` have landed, the others are still in
   flight, and the logits' accumulator holds the sum over the landed chunks. -/
module

public import proofs.«01_k».proof.Proof.IdealStart
public import Idealize.ShloMosaic.Lib.ValueLayout
public import Idealize.ShloMosaic.Lib.Exec.Geometry

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

open Idealize.ShloMosaic.ValueIdx
section Landed
variable (c : Dev nD) (X : Buf (Elt F) (xM.view.loc (c : Thread nD τ))) (Wt : Buf (Elt F) (wM.view.loc (c : Thread nD τ)))

/-- The tokens as VMEM holds them once every chunk has landed: chunk, row, column within the chunk. -/
def XV : Buf (Elt F) (xvM.view.loc (c : Thread nD τ)) := fun i : S32x2048x512.Idx =>
  X (ix2 (⟨(i 1).val, (i 1).isLt⟩ : Fin 2048) (⟨512 * (i 0).val + (i 2).val, by have h0 : (i 0).val < 32 := (i 0).isLt; have h2 : (i 2).val < 512 := (i 2).isLt; omega⟩ : Fin 16384))
/-- The weights as VMEM holds them once every chunk has landed. -/
def WV : Buf (Elt F) (wvM.view.loc (c : Thread nD τ)) := fun i : S32x512x128.Idx =>
  Wt (ix2 (⟨512 * (i 0).val + (i 1).val, by have h0 : (i 0).val < 32 := (i 0).isLt; have h2 : (i 1).val < 512 := (i 1).isLt; omega⟩ : Fin 16384) (⟨(i 2).val, (i 2).isLt⟩ : Fin 128))

theorem xslot_emb (b : Fin 32) (i : Fin 2048) (j : Fin 512) : (xslot b).view.emb (ix2 i j) = (ix3 b i j : S32x2048x512.Idx) := by
  show (Rect.unit (s := S32x2048x512) (slot3 b) S1x2048x512.size (xslot_inb b)).emb (Shape.reshapeEquiv _ (ix2 i j)) = _
  rw [reshapeEquiv_ix2_1ab]
  funext a; apply Fin.ext
  rw [Rect.emb_apply]
  fin_cases a <;> simp [ix3, slot3]
theorem wslot_emb (b : Fin 32) (i : Fin 512) (j : Fin 128) : (wslot b).view.emb (ix2 i j) = (ix3 b i j : S32x512x128.Idx) := by
  show (Rect.unit (s := S32x512x128) (slot3 b) S1x512x128.size (wslot_inb b)).emb (Shape.reshapeEquiv _ (ix2 i j)) = _
  rw [reshapeEquiv_ix2_1ab]
  funext a; apply Fin.ext
  rw [Rect.emb_apply]
  fin_cases a <;> simp [ix3, slot3]

theorem xslot_emb' (b : Fin 32) (j : S2048x512.Idx) : (xslot b).view.emb j = (ix3 b (j 0 : Fin 2048) (j 1 : Fin 512) : S32x2048x512.Idx) :=
  (congrArg (xslot b).view.emb (eq_ix2 (n0 := 2048) (n1 := 512) j)).trans (xslot_emb b (j 0) (j 1))
theorem xsrc_read (b : Fin 32) (p : Fin 2048) (q : Fin 512) : (xsrc b).view.read (Elt F) X (ix2 p q) = XV c X (ix3 b p q : S32x2048x512.Idx) := by
  show X ((Rect.unit (s := S2048x16384) (colOff b) S2048x512.size (col_inb b)).emb (ix2 p q)) = X _
  congr 1
  funext a; apply Fin.ext
  rw [Rect.emb_apply]
  fin_cases a <;> simp [colOff]
theorem xlanded_at (b : Fin 32) (f : Buf (Elt F) ((xslot b).view.loc (c : Thread nD τ))) (p : Fin 2048) (q : Fin 512) :
    xlanded c X b f (ix3 b p q : S32x2048x512.Idx) = XV c X (ix3 b p q : S32x2048x512.Idx) := by
  have h := congrFun (View.read_writes_whole (xslot b).view f (ReadAs.same.apply ((xsrc b).view.read (Elt F) X))) (ix2 p q)
  rw [View.read_apply, xslot_emb] at h
  have h2 : ReadAs.same.apply ((xsrc b).view.read (Elt F) X) (ix2 p q) = (xsrc b).view.read (Elt F) X (ix2 p q) := rfl
  have h3 := h.trans (h2.trans (xsrc_read c X b p q))
  exact eq_of_heq ((cast_heq _ _).symm.trans (heq_of_eq h3))
theorem xheld_landed (b : Fin 32) (f : Buf (Elt F) ((xslot b).view.loc (c : Thread nD τ))) :
    xheld c b (xlanded c X b f) = xheld c b (XV c X) := by
  refine pointsTo_congr fun i hi => ?_
  obtain ⟨j, -, rfl⟩ := Finset.mem_map.mp hi
  rw [xslot_emb' b j]
  exact xlanded_at c X b f (j 0) (j 1)
theorem wslot_emb' (b : Fin 32) (j : S512x128.Idx) : (wslot b).view.emb j = (ix3 b (j 0 : Fin 512) (j 1 : Fin 128) : S32x512x128.Idx) :=
  (congrArg (wslot b).view.emb (eq_ix2 (n0 := 512) (n1 := 128) j)).trans (wslot_emb b (j 0) (j 1))
theorem wsrc_read (b : Fin 32) (p : Fin 512) (q : Fin 128) : (wsrc b).view.read (Elt F) Wt (ix2 p q) = WV c Wt (ix3 b p q : S32x512x128.Idx) := by
  show Wt ((Rect.unit (s := S16384x128) (rowOff b) S512x128.size (row_inb b)).emb (ix2 p q)) = Wt _
  congr 1
  funext a; apply Fin.ext
  rw [Rect.emb_apply]
  fin_cases a <;> simp [rowOff]
theorem wlanded_at (b : Fin 32) (f : Buf (Elt F) ((wslot b).view.loc (c : Thread nD τ))) (p : Fin 512) (q : Fin 128) :
    wlanded c Wt b f (ix3 b p q : S32x512x128.Idx) = WV c Wt (ix3 b p q : S32x512x128.Idx) := by
  have h := congrFun (View.read_writes_whole (wslot b).view f (ReadAs.same.apply ((wsrc b).view.read (Elt F) Wt))) (ix2 p q)
  rw [View.read_apply, wslot_emb] at h
  have h2 : ReadAs.same.apply ((wsrc b).view.read (Elt F) Wt) (ix2 p q) = (wsrc b).view.read (Elt F) Wt (ix2 p q) := rfl
  have h3 := h.trans (h2.trans (wsrc_read c Wt b p q))
  exact eq_of_heq ((cast_heq _ _).symm.trans (heq_of_eq h3))
theorem wheld_landed (b : Fin 32) (f : Buf (Elt F) ((wslot b).view.loc (c : Thread nD τ))) :
    wheld c b (wlanded c Wt b f) = wheld c b (WV c Wt) := by
  refine pointsTo_congr fun i hi => ?_
  obtain ⟨j, -, rfl⟩ := Finset.mem_map.mp hi
  rw [wslot_emb' b j]
  exact wlanded_at c Wt b f (j 0) (j 1)
/-- Chunk `b` landed. -/
def landed (b : Fin 32) : sProp 𝕄 :=
  iprop(xheld c b (XV c X) ∗ xhome c X b ∗ xcell c b ∗ wheld c b (WV c Wt) ∗ whome c Wt b ∗ wcell c b)
abbrev zP (f : Buf (Elt F) (zvM.view.loc (c : Thread nD τ))) : sProp 𝕄 := zvM.view.loc (c : Thread nD τ) ↦{fullShare} f
/-- Before trip `k` of the second loop, the accumulator at `f`. -/
def inv2 (k : ℕ) (f : Buf (Elt F) (zvM.view.loc (c : Thread nD τ))) : sProp 𝕄 :=
  iprop(bigSep (Ring.rangeSet 32 0 k) (landed c X Wt) ∗ bigSep (Ring.rangeSet 32 k 32) (flying c X Wt) ∗ zP c f ∗ ∃ W, owes (c : Thread nD τ) 0 W)

variable (v9 : IVec S128x128 32) (v1026 : FVec F S128x128 .f32) (v1027 : Vec F S1x1x128 .i32)
abbrev t2G (k : Fin k0_t2_loop.trips) : Prog (TpuEff nD τ sig (Elt F) Λ₀ .tc) Unit := k0_t2_body (F := F) xM (Memref.isWhole_whole _) scM (Memref.isWhole_whole _) wM (Memref.isWhole_whole _) idM (Memref.isWhole_whole _) auxM (Memref.isWhole_whole _) ztM (Memref.isWhole_whole _) pM (Memref.isWhole_whole _) lseM (Memref.isWhole_whole _) dlogM (Memref.isWhole_whole _) dwM (Memref.isWhole_whole _) dxM (Memref.isWhole_whole _) xvM (Memref.isWhole_whole _) wvM (Memref.isWhole_whole _) scvM (Memref.isWhole_whole _) idvM (Memref.isWhole_whole _) zvM (Memref.isWhole_whole _) dlvM (Memref.isWhole_whole _) dsvM (Memref.isWhole_whole _) dlogvM (Memref.isWhole_whole _) auxvM (Memref.isWhole_whole _) ztvM (Memref.isWhole_whole _) pvM (Memref.isWhole_whole _) lsevM (Memref.isWhole_whole _) dxvM (Memref.isWhole_whole _) dwvM (Memref.isWhole_whole _) cc0_scratch14 cc0_scratch15 cc0_scratch16 cc0_scratch17 cc0_scratch18 cc0_scratch19 v9 v1026 v1027 k ()

/-- One trip, at any `k`: chunk `k` lands and its product is added to the accumulator, tile by tile; the contents the trip
    leaves there are found by the run. -/
def trip2 (k : Fin k0_t2_loop.trips) (f : Buf (Elt F) (zvM.view.loc (c : Thread nD τ))) :
    { g : Buf (Elt F) (zvM.view.loc (c : Thread nD τ)) //
      inv2 c X Wt k.val f ⊢ wp Idealize.ShloMosaic.frame (wpE (defs₀ (F := F)) 𝒱₀ (c : Thread nD τ) none) Set.univ (t2G v9 v1026 v1027 k) (fun _ => inv2 c X Wt (k.val + 1) g) } := by
  refine ⟨?_, ?run⟩
  case run =>
    unfold inv2
    rw [show k.val = (c2 k).val from rfl, upTo_succ (landed c X Wt) (c2 k), from_succ (flying c X Wt) (c2 k)]
    rw [flying]
    iintro ⟨HL, ⟨⟨⟨%fx, Hx⟩, ⟨%fw, Hw⟩⟩, HF⟩, Hz, ⟨%W, Ho⟩⟩
    dsimp only [t2G]
    sl_unfold [k0_t2_body]
    sl_exec
    sl_step
    rw [landed, ← xheld_landed c X (c2 k) (xslot (c2 k)).view.junk, ← wheld_landed c Wt (c2 k) (wslot (c2 k)).view.junk]
    isplitl [Hw_dst Hw_src Hw Hx_dst Hx_src Hx HL]
    · isplitl [Hw_dst Hw_src Hw Hx_dst Hx_src Hx]
      · isplitl [Hx_dst]; · iexact Hx_dst
        isplitl [Hx_src]; · iexact Hx_src
        isplitl [Hx]; · iexact Hx
        isplitl [Hw_dst]; · iexact Hw_dst
        isplitl [Hw_src]; · iexact Hw_src
        iexact Hw
      · iexact HL
    isplitl [HF]; · iexact HF
    isplitl [Hz]; · iexact Hz
    iexists _; iexact Ho

/-- The accumulator before trip `k`, from its contents `z0` at the loop's entry. -/
def zAcc (z0 : Buf (Elt F) (zvM.view.loc (c : Thread nD τ))) : ℕ → Buf (Elt F) (zvM.view.loc (c : Thread nD τ))
  | 0 => z0
  | k + 1 => if h : k < k0_t2_loop.trips then (trip2 c X Wt v9 v1026 v1027 ⟨k, h⟩ (zAcc z0 k)).1 else zAcc z0 k

set_option warn.classDefReducibility false in
/-- The second loop's invariant. -/
@[sl_loop] def loopInv2 (z0 : Buf (Elt F) (zvM.view.loc (c : Thread nD τ))) : LoopInvTy_k0_t2 (F := F) Unit ℕ (UU nD τ) ℕ 𝒱₀ c none Set.univ xM (Memref.isWhole_whole _) scM (Memref.isWhole_whole _) wM (Memref.isWhole_whole _) idM (Memref.isWhole_whole _) auxM (Memref.isWhole_whole _) ztM (Memref.isWhole_whole _) pM (Memref.isWhole_whole _) lseM (Memref.isWhole_whole _) dlogM (Memref.isWhole_whole _) dwM (Memref.isWhole_whole _) dxM (Memref.isWhole_whole _) xvM (Memref.isWhole_whole _) wvM (Memref.isWhole_whole _) scvM (Memref.isWhole_whole _) idvM (Memref.isWhole_whole _) zvM (Memref.isWhole_whole _) dlvM (Memref.isWhole_whole _) dsvM (Memref.isWhole_whole _) dlogvM (Memref.isWhole_whole _) auxvM (Memref.isWhole_whole _) ztvM (Memref.isWhole_whole _) pvM (Memref.isWhole_whole _) lsevM (Memref.isWhole_whole _) dxvM (Memref.isWhole_whole _) dwvM (Memref.isWhole_whole _) cc0_scratch14 cc0_scratch15 cc0_scratch16 cc0_scratch17 cc0_scratch18 cc0_scratch19 v9 v1026 v1027 where
  inv k _ := inv2 c X Wt k (zAcc c X Wt v9 v1026 v1027 z0 k)
  step k _ := by
    have e : zAcc c X Wt v9 v1026 v1027 z0 (k.val + 1) = (trip2 c X Wt v9 v1026 v1027 k (zAcc c X Wt v9 v1026 v1027 z0 k)).1 := by
      rw [zAcc, dif_pos k.isLt]
    rw [e]
    exact (trip2 c X Wt v9 v1026 v1027 k _).2

end Landed
end Cert.Proof.KernelIdeal

end
-- ==== Proof.IdealGrad.lean ====
/- Hand-written, untrusted. The third loop: trip `k` forms chunk `k` of the tokens' gradient and of the weights' gradient in a
   ring slot each (three slots for the first, two for the second) and starts the copies that carry them to HBM, after waiting
   for the copy that used the slot last. -/
module

public import proofs.«01_k».proof.Proof.IdealLogits
public import Idealize.ShloMosaic.Lib.WritesUnit

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

open Idealize.ShloMosaic.ValueIdx

/-! ## The third loop's slices -/

/-- The ring slots trip `k` uses. -/
abbrev d3 (k : Fin k0_t3_loop.trips) : Fin 3 := ⟨k.val % 3, Nat.mod_lt _ (by decide)⟩
abbrev e3 (k : Fin k0_t3_loop.trips) : Fin 2 := ⟨k.val % 2, Nat.mod_lt _ (by decide)⟩
instance (k : Fin k0_t3_loop.trips) : ClosedOff (slot3 (d3 k)) := ⟨![k.val % 3, 0, 0], rfl⟩
instance (k : Fin k0_t3_loop.trips) : ClosedOff (slot3 (e3 k)) := ⟨![k.val % 2, 0, 0], rfl⟩

theorem cond1_iff : ∀ k : Fin k0_t3_loop.trips, k0_cond1 k = 1#1 ↔ 3 ≤ k.val := by decide +kernel
theorem cond2_iff : ∀ k : Fin k0_t3_loop.trips, k0_cond2 k = 1#1 ↔ 2 ≤ k.val := by decide +kernel

@[sl_canon] theorem c3_dxsem (k : Fin k0_t3_loop.trips) (hh) :
    (cc0_scratch18.slice (Rect.unit (s := S3) (k0_off20 k) S1.size hh)).squeeze S_ squeezes_S1_S_ = dxsem (d3 k) := dxsem_congr (k0_off20_eq k) _
@[sl_canon] theorem c3_dwsem (k : Fin k0_t3_loop.trips) (hh) :
    (cc0_scratch19.slice (Rect.unit (s := S2) (k0_off23 k) S1.size hh)).squeeze S_ squeezes_S1_S_ = dwsem (e3 k) := dwsem_congr (k0_off23_eq k) _
@[sl_canon] theorem c3_dxsem' (k : Fin k0_t3_loop.trips) (hh) :
    (cc0_scratch18.slice (Rect.unit (s := S3) (k0_off37 k) S1.size hh)).squeeze S_ squeezes_S1_S_ = dxsem (d3 k) := dxsem_congr (k0_off37_eq k) _
@[sl_canon] theorem c3_dwsem' (k : Fin k0_t3_loop.trips) (hh) :
    (cc0_scratch19.slice (Rect.unit (s := S2) (k0_off40 k) S1.size hh)).squeeze S_ squeezes_S1_S_ = dwsem (e3 k) := dwsem_congr (k0_off40_eq k) _
@[sl_canon] theorem c3_dxslot (k : Fin k0_t3_loop.trips) (hh hs) :
    (dxvM.slice (Rect.unit (s := S3x2048x512) (k0_off22 k) S1x2048x512.size hh) hs).squeeze S2048x512 squeezes_S1x2048x512_S2048x512 = dxslot (d3 k) := dxslot_congr (k0_off22_eq k) _ _
@[sl_canon] theorem c3_dwslot (k : Fin k0_t3_loop.trips) (hh hs) :
    (dwvM.slice (Rect.unit (s := S2x512x128) (k0_off25 k) S1x512x128.size hh) hs).squeeze S512x128 squeezes_S1x512x128_S512x128 = dwslot (e3 k) := dwslot_congr (k0_off25_eq k) _ _
@[sl_canon] theorem c3_dxslot' (k : Fin k0_t3_loop.trips) (hh hs) :
    (dxvM.slice (Rect.unit (s := S3x2048x512) (k0_off39 k) S1x2048x512.size hh) hs).squeeze S2048x512 squeezes_S1x2048x512_S2048x512 = dxslot (d3 k) := dxslot_congr (k0_off39_eq k) _ _
@[sl_canon] theorem c3_dwslot' (k : Fin k0_t3_loop.trips) (hh hs) :
    (dwvM.slice (Rect.unit (s := S2x512x128) (k0_off42 k) S1x512x128.size hh) hs).squeeze S512x128 squeezes_S1x512x128_S512x128 = dwslot (e3 k) := dwslot_congr (k0_off42_eq k) _ _
@[sl_canon] theorem c3_dxdst (k : Fin k0_t3_loop.trips) (hh hs) :
    dxM.slice (Rect.unit (s := S2048x16384) (k0_off38 k) S2048x512.size hh) hs = dxdst (c3 k) := dxdst_congr (k0_off38_eq k) _ _
@[sl_canon] theorem c3_dwdst (k : Fin k0_t3_loop.trips) (hh hs) :
    dwM.slice (Rect.unit (s := S16384x128) (k0_off41 k) S512x128.size hh) hs = dwdst (c3 k) := dwdst_congr (k0_off41_eq k) _ _

section Grad
variable (c : Dev nD)
variable (Xv : Buf (Elt F) (xvM.view.loc (c : Thread nD τ))) (Wv : Buf (Elt F) (wvM.view.loc (c : Thread nD τ)))
variable (Dl : Buf (Elt F) (dlvM.view.loc (c : Thread nD τ))) (Ds : Buf (Elt F) (dsvM.view.loc (c : Thread nD τ)))

/-- Chunk `b` of the weights and of the tokens, and tile `j` of the logits' gradient, as the body loads them. -/
def wload (b : Fin 32) : Vec F S1x512x128 .bf16 := fun i => Wv (ix3 b (⟨(i 1).val, (i 1).isLt⟩ : Fin 512) (⟨(i 2).val, (i 2).isLt⟩ : Fin 128) : S32x512x128.Idx)
def xload (b : Fin 32) : Vec F S1x2048x512 .fp8e4m3 := fun i => Xv (ix3 b (⟨(i 1).val, (i 1).isLt⟩ : Fin 2048) (⟨(i 2).val, (i 2).isLt⟩ : Fin 512) : S32x2048x512.Idx)
def dltile (j : Fin 8) : Vec F S256x128 .bf16 := fun i =>
  Dl (ix2 (⟨256 * j.val + (i 0).val, by have h : (i 0).val < 256 := (i 0).isLt; have := j.isLt; omega⟩ : Fin 2048) (⟨(i 1).val, (i 1).isLt⟩ : Fin 128) : S2048x128.Idx)
def dsload : Vec F S128x2048 .bf16 := fun i => Ds i

/-- Chunk `b` of the tokens' gradient as its ring slot holds it. -/
def DXc (b : Fin 32) (t : Fin 2048) (d : Fin 512) : Elt F .bf16 :=
  k0_pay13 (F := F) (wload c Wv b) (dltile c Dl ⟨t.val / 256, by have := t.isLt; omega⟩) (ix3 (0 : Fin 1) (⟨t.val % 256, Nat.mod_lt _ (by decide)⟩ : Fin 256) d)
/-- The tokens' gradient. -/
def DX : Buf (Elt F) (dxM.view.loc (c : Thread nD τ)) := fun i : S2048x16384.Idx =>
  DXc c Wv Dl ⟨(i 1).val / 512, by have h : (i 1).val < 16384 := (i 1).isLt; omega⟩ ⟨(i 0).val, (i 0).isLt⟩ ⟨(i 1).val % 512, Nat.mod_lt _ (by decide)⟩
/-- Chunk `b` of the weights' gradient as its ring slot holds it. -/
def DWc (b : Fin 32) (d : Fin 512) (n : Fin 128) : Elt F .f32 :=
  k0_pay213 (F := F) (dsload c Ds) (xload c Xv b) (ix3 (0 : Fin 1) d n)
/-- The weights' gradient. -/
def DW : Buf (Elt F) (dwM.view.loc (c : Thread nD τ)) := fun i : S16384x128.Idx =>
  DWc c Xv Ds ⟨(i 0).val / 512, by have h : (i 0).val < 16384 := (i 0).isLt; omega⟩ ⟨(i 0).val % 512, Nat.mod_lt _ (by decide)⟩ ⟨(i 1).val, (i 1).isLt⟩

abbrev xvP (f : Buf (Elt F) (xvM.view.loc (c : Thread nD τ))) : sProp 𝕄 := xvM.view.loc (c : Thread nD τ) ↦{fullShare} f
abbrev wvP (f : Buf (Elt F) (wvM.view.loc (c : Thread nD τ))) : sProp 𝕄 := wvM.view.loc (c : Thread nD τ) ↦{fullShare} f
abbrev dlvP (f : Buf (Elt F) (dlvM.view.loc (c : Thread nD τ))) : sProp 𝕄 := dlvM.view.loc (c : Thread nD τ) ↦{fullShare} f
abbrev dsvP (f : Buf (Elt F) (dsvM.view.loc (c : Thread nD τ))) : sProp 𝕄 := dsvM.view.loc (c : Thread nD τ) ↦{fullShare} f
abbrev dxhome (b : Fin 32) (f : Buf (Elt F) (dxM.view.loc (c : Thread nD τ))) : sProp 𝕄 := (dxdst b).view.loc (c : Thread nD τ) ↦[(dxdst b).view.set]{fullShare} f
abbrev dwhome (b : Fin 32) (f : Buf (Elt F) (dwM.view.loc (c : Thread nD τ))) : sProp 𝕄 := (dwdst b).view.loc (c : Thread nD τ) ↦[(dwdst b).view.set]{fullShare} f
abbrev dxheld (s : Fin 3) (f : Buf (Elt F) (dxvM.view.loc (c : Thread nD τ))) : sProp 𝕄 := (dxslot s).view.loc (c : Thread nD τ) ↦[(dxslot s).view.set]{fullShare} f
abbrev dwheld (s : Fin 2) (f : Buf (Elt F) (dwvM.view.loc (c : Thread nD τ))) : sProp 𝕄 := (dwslot s).view.loc (c : Thread nD τ) ↦[(dwslot s).view.set]{fullShare} f
abbrev dxcell (s : Fin 3) : sProp 𝕄 := semVal ((c : Thread nD τ), SemLoc.dma (dxsem s).sem) 0
abbrev dwcell (s : Fin 2) : sProp 𝕄 := semVal ((c : Thread nD τ), SemLoc.dma (dwsem s).sem) 0
/-- Chunk `b` of each gradient on its way out of slot `s`. -/
def dxflyAt (b : Fin 32) (s : Fin 3) : sProp 𝕄 :=
  iprop(∃ h, Transfers.Flight countersEmb (c : Thread nD τ) (SemLoc.dma (dxsem s).sem) () 65536 iprop(dxhome c b (DX c Wv Dl) ∗ dxheld c s h))
def dwflyAt (b : Fin 32) (s : Fin 2) : sProp 𝕄 :=
  iprop(∃ h, Transfers.Flight countersEmb (c : Thread nD τ) (SemLoc.dma (dwsem s).sem) () 8192 iprop(dwhome c b (DW c Xv Ds) ∗ dwheld c s h))
def dxfly (b : Fin 32) : sProp 𝕄 := dxflyAt c Wv Dl b ⟨b.val % 3, Nat.mod_lt _ (by decide)⟩
def dwfly (b : Fin 32) : sProp 𝕄 := dwflyAt c Xv Ds b ⟨b.val % 2, Nat.mod_lt _ (by decide)⟩
def dxfree (s : Fin 3) : sProp 𝕄 := iprop((∃ f, dxheld c s f) ∗ dxcell c s)
def dwfree (s : Fin 2) : sProp 𝕄 := iprop((∃ f, dwheld c s f) ∗ dwcell c s)
def dxwait (b : Fin 32) : sProp 𝕄 := iprop(∃ f, dxhome c b f)
def dwwait (b : Fin 32) : sProp 𝕄 := iprop(∃ f, dwhome c b f)

/-! ## What a trip leaves in its slots -/

theorem wload_eq (k : Fin k0_t3_loop.trips) :
    wvM.view.readAt (Elt F) (Rect.unit (s := S32x512x128) (k0_off26 k) S1x512x128.size (k0_off26_inb k)).toLoadRect Wv = wload c Wv (c3 k) := by
  funext i
  show Wv ((Rect.unit (s := S32x512x128) (k0_off26 k) S1x512x128.size (k0_off26_inb k)).emb i) = Wv _
  congr 1
  funext a; apply Fin.ext
  rw [Rect.emb_apply]
  have h0 : (i 0).val < 1 := (i 0).isLt
  fin_cases a <;> simp [ix3, k0_off26_eq] <;> omega
theorem xload_eq (k : Fin k0_t3_loop.trips) :
    xvM.view.readAt (Elt F) (Rect.unit (s := S32x2048x512) (k0_off35 k) S1x2048x512.size (k0_off35_inb k)).toLoadRect Xv = xload c Xv (c3 k) := by
  funext i
  show Xv ((Rect.unit (s := S32x2048x512) (k0_off35 k) S1x2048x512.size (k0_off35_inb k)).emb i) = Xv _
  congr 1
  funext a; apply Fin.ext
  rw [Rect.emb_apply]
  have h0 : (i 0).val < 1 := (i 0).isLt
  fin_cases a <;> simp [ix3, k0_off35_eq] <;> omega
theorem dltile_eq (j : Fin 8) {o : ℕ} (ho : o = 256 * j.val) (hh) :
    dlvM.view.readAt (Elt F) (Rect.unit (s := S2048x128) ![o, 0] S256x128.size hh).toLoadRect Dl = dltile c Dl j := by
  funext i
  show Dl ((Rect.unit (s := S2048x128) ![o, 0] S256x128.size hh).emb i) = Dl _
  congr 1
  funext a; apply Fin.ext
  rw [Rect.emb_apply]
  fin_cases a <;> simp [ix2, ho]
theorem dsload_eq (hh) :
    dsvM.view.readAt (Elt F) (Rect.unit (s := S128x2048) ![0, 0] S128x2048.size hh).toLoadRect Ds = dsload c Ds := by
  funext i
  show Ds ((Rect.unit (s := S128x2048) ![0, 0] S128x2048.size hh).emb i) = Ds _
  congr 1
  funext a; apply Fin.ext
  rw [Rect.emb_apply]
  fin_cases a <;> simp

/-- Chunk `k` of the tokens' gradient at an index of the ring. -/
def dxring (k : Fin k0_t3_loop.trips) : S3x2048x512.Idx → Elt F .bf16 := fun i =>
  DXc c Wv Dl (c3 k) ⟨(i 1).val, (i 1).isLt⟩ ⟨(i 2).val, (i 2).isLt⟩
def dwring (k : Fin k0_t3_loop.trips) : S2x512x128.Idx → Elt F .f32 := fun i =>
  DWc c Xv Ds (c3 k) ⟨(i 1).val, (i 1).isLt⟩ ⟨(i 2).val, (i 2).isLt⟩

theorem dxpiece_at (k : Fin k0_t3_loop.trips) {off : Fin 3 → ℕ} {j : Fin 8} {o : ℕ} (e : off = ![k.val % 3, o, 0]) (ho : o = 256 * j.val) (hh)
    (w : (Rect.unit (s := S3x2048x512) off S1x256x512.size hh).shape.Idx → Elt F .bf16)
    (hw : w = k0_pay13 (F := F) (wload c Wv (c3 k)) (dltile c Dl j)) (x : (Rect.unit (s := S3x2048x512) off S1x256x512.size hh).shape.Idx) :
    w x = dxring c Wv Dl k ((Rect.unit (s := S3x2048x512) off S1x256x512.size hh).emb x) := by
  subst e ho
  rw [hw, dxring, DXc]
  have h0 : (x 0).val < 1 := (x 0).isLt
  have h1 : (x 1).val < 256 := (x 1).isLt
  have e1 : ((Rect.unit (s := S3x2048x512) ![k.val % 3, 256 * j.val, 0] S1x256x512.size hh).emb x 1).val = 256 * j.val + (x 1).val := by
    rw [Rect.emb_apply]; simp
  have e2 : ((Rect.unit (s := S3x2048x512) ![k.val % 3, 256 * j.val, 0] S1x256x512.size hh).emb x 2).val = (x 2).val := by
    rw [Rect.emb_apply]; simp
  have ej : (⟨((Rect.unit (s := S3x2048x512) ![k.val % 3, 256 * j.val, 0] S1x256x512.size hh).emb x 1).val / 256, by rw [e1]; have := j.isLt; omega⟩ : Fin 8) = j := by
    apply Fin.ext; show _ / 256 = _; rw [e1]; omega
  rw [ej]
  congr 1
  funext a; apply Fin.ext
  fin_cases a
  · show (x 0).val = 0; omega
  · show (x 1).val = _ % 256; rw [e1]; omega
  · exact e2.symm

/-- The ring of the tokens' gradient after a trip's eight stores over `f`. -/
def dxfull (k : Fin k0_t3_loop.trips) (f : Buf (Elt F) (dxvM.view.loc (c : Thread nD τ))) : Buf (Elt F) (dxvM.view.loc (c : Thread nD τ)) :=
  dxvM.view.writes (Elt F) f [⟨Rect.unit (s := S3x2048x512) (k0_off34 k) S1x256x512.size (k0_off34_inb k), k0_pay212 (k0_pay12 (wvM.view.readAt (Elt F) (Rect.unit (s := S32x512x128) (k0_off26 k) S1x512x128.size (k0_off26_inb k)).toLoadRect Wv)) (dlvM.view.readAt (Elt F) (Rect.unit (s := S2048x128) ![1792, 0] S256x128.size inb_S2048x128_S256x128_1792_0).toLoadRect Dl)⟩,
    ⟨Rect.unit (s := S3x2048x512) (k0_off33 k) S1x256x512.size (k0_off33_inb k), k0_pay20 (k0_pay12 (wvM.view.readAt (Elt F) (Rect.unit (s := S32x512x128) (k0_off26 k) S1x512x128.size (k0_off26_inb k)).toLoadRect Wv)) (dlvM.view.readAt (Elt F) (Rect.unit (s := S2048x128) ![1536, 0] S256x128.size inb_S2048x128_S256x128_1536_0).toLoadRect Dl)⟩,
    ⟨Rect.unit (s := S3x2048x512) (k0_off32 k) S1x256x512.size (k0_off32_inb k), k0_pay19 (k0_pay12 (wvM.view.readAt (Elt F) (Rect.unit (s := S32x512x128) (k0_off26 k) S1x512x128.size (k0_off26_inb k)).toLoadRect Wv)) (dlvM.view.readAt (Elt F) (Rect.unit (s := S2048x128) ![1280, 0] S256x128.size inb_S2048x128_S256x128_1280_0).toLoadRect Dl)⟩,
    ⟨Rect.unit (s := S3x2048x512) (k0_off31 k) S1x256x512.size (k0_off31_inb k), k0_pay18 (k0_pay12 (wvM.view.readAt (Elt F) (Rect.unit (s := S32x512x128) (k0_off26 k) S1x512x128.size (k0_off26_inb k)).toLoadRect Wv)) (dlvM.view.readAt (Elt F) (Rect.unit (s := S2048x128) ![1024, 0] S256x128.size inb_S2048x128_S256x128_1024_0).toLoadRect Dl)⟩,
    ⟨Rect.unit (s := S3x2048x512) (k0_off30 k) S1x256x512.size (k0_off30_inb k), k0_pay17 (k0_pay12 (wvM.view.readAt (Elt F) (Rect.unit (s := S32x512x128) (k0_off26 k) S1x512x128.size (k0_off26_inb k)).toLoadRect Wv)) (dlvM.view.readAt (Elt F) (Rect.unit (s := S2048x128) ![768, 0] S256x128.size inb_S2048x128_S256x128_768_0).toLoadRect Dl)⟩,
    ⟨Rect.unit (s := S3x2048x512) (k0_off29 k) S1x256x512.size (k0_off29_inb k), k0_pay16 (k0_pay15 (wvM.view.readAt (Elt F) (Rect.unit (s := S32x512x128) (k0_off26 k) S1x512x128.size (k0_off26_inb k)).toLoadRect Wv) (dlvM.view.readAt (Elt F) (Rect.unit (s := S2048x128) ![512, 0] S256x128.size inb_S2048x128_S256x128_512_0).toLoadRect Dl))⟩,
    ⟨Rect.unit (s := S3x2048x512) (k0_off28 k) S1x256x512.size (k0_off28_inb k), k0_pay14 (wvM.view.readAt (Elt F) (Rect.unit (s := S32x512x128) (k0_off26 k) S1x512x128.size (k0_off26_inb k)).toLoadRect Wv) (dlvM.view.readAt (Elt F) (Rect.unit (s := S2048x128) ![256, 0] S256x128.size inb_S2048x128_S256x128_256_0).toLoadRect Dl)⟩,
    ⟨Rect.unit (s := S3x2048x512) (k0_off27 k) S1x256x512.size (k0_off27_inb k), k0_pay13 (wvM.view.readAt (Elt F) (Rect.unit (s := S32x512x128) (k0_off26 k) S1x512x128.size (k0_off26_inb k)).toLoadRect Wv) (dlvM.view.readAt (Elt F) (Rect.unit (s := S2048x128) ![0, 0] S256x128.size inb_S2048x128_S256x128_0_0).toLoadRect Dl)⟩]
def dwfull (k : Fin k0_t3_loop.trips) (f : Buf (Elt F) (dwvM.view.loc (c : Thread nD τ))) : Buf (Elt F) (dwvM.view.loc (c : Thread nD τ)) :=
  dwvM.view.writes (Elt F) f [⟨Rect.unit (s := S2x512x128) (k0_off36 k) S1x512x128.size (k0_off36_inb k),
    k0_pay213 (dsvM.view.readAt (Elt F) (Rect.unit (s := S128x2048) ![0, 0] S128x2048.size inb_S128x2048_S128x2048_0_0).toLoadRect Ds)
      (xvM.view.readAt (Elt F) (Rect.unit (s := S32x2048x512) (k0_off35 k) S1x2048x512.size (k0_off35_inb k)).toLoadRect Xv)⟩]

theorem dxv_read (g : Buf (Elt F) (dxvM.view.loc (c : Thread nD τ))) (y : S3x2048x512.Idx) : dxvM.view.read (Elt F) g y = g y := rfl
theorem dwv_read (g : Buf (Elt F) (dwvM.view.loc (c : Thread nD τ))) (y : S2x512x128.Idx) : dwvM.view.read (Elt F) g y = g y := rfl
theorem dxfull_at (k : Fin k0_t3_loop.trips) (f : Buf (Elt F) (dxvM.view.loc (c : Thread nD τ))) (p : Fin 2048) (q : Fin 512) :
    dxfull c Wv Dl k f (ix3 (d3 k) p q : S3x2048x512.Idx) = DXc c Wv Dl (c3 k) p q := by
  have h : dxvM.view.read (Elt F) (dxfull c Wv Dl k f) (ix3 (d3 k) p q : S3x2048x512.Idx) = dxring c Wv Dl k (ix3 (d3 k) p q) := by
    unfold dxfull
    refine View.read_writes_apply_of_pieces dxvM.view f (dxring c Wv Dl k) _ ?_ (ix3 (d3 k) p q : S3x2048x512.Idx) ?_
    · simp only [List.forall_mem_cons, List.not_mem_nil, false_imp_iff, implies_true, and_true]
      refine ⟨?_, ?_, ?_, ?_, ?_, ?_, ?_, ?_⟩ <;> intro x
      · refine dxpiece_at c Wv Dl k (k0_off34_eq k) (j := 7) (by decide) _ _ ?_ x; rw [wload_eq c Wv k, dltile_eq c Dl 7 (by norm_num) _]; rfl
      · refine dxpiece_at c Wv Dl k (k0_off33_eq k) (j := 6) (by decide) _ _ ?_ x; rw [wload_eq c Wv k, dltile_eq c Dl 6 (by norm_num) _]; rfl
      · refine dxpiece_at c Wv Dl k (k0_off32_eq k) (j := 5) (by decide) _ _ ?_ x; rw [wload_eq c Wv k, dltile_eq c Dl 5 (by norm_num) _]; rfl
      · refine dxpiece_at c Wv Dl k (k0_off31_eq k) (j := 4) (by decide) _ _ ?_ x; rw [wload_eq c Wv k, dltile_eq c Dl 4 (by norm_num) _]; rfl
      · refine dxpiece_at c Wv Dl k (k0_off30_eq k) (j := 3) (by decide) _ _ ?_ x; rw [wload_eq c Wv k, dltile_eq c Dl 3 (by norm_num) _]; rfl
      · refine dxpiece_at c Wv Dl k (k0_off29_eq k) (j := 2) (by decide) _ _ ?_ x; rw [wload_eq c Wv k, dltile_eq c Dl 2 (by norm_num) _]; rfl
      · refine dxpiece_at c Wv Dl k (k0_off28_eq k) (j := 1) (by decide) _ _ ?_ x; rw [wload_eq c Wv k, dltile_eq c Dl 1 (by norm_num) _]; rfl
      · refine dxpiece_at c Wv Dl k (k0_off27_eq k) (j := 0) (by decide) _ _ ?_ x; rw [wload_eq c Wv k, dltile_eq c Dl 0 (by norm_num) _]
    · have hp := p.isLt
      have hq := q.isLt
      have hj : p.val / 256 < 8 := by omega
      simp only [List.exists_mem_cons_iff, List.not_mem_nil, _root_.false_and, exists_false, _root_.or_false, Rect.mem_set_unit, Fin.forall_fin_succ, k0_off27_eq, k0_off28_eq, k0_off29_eq, k0_off30_eq, k0_off31_eq, k0_off32_eq, k0_off33_eq, k0_off34_eq]
      simp [ix3]
      omega
  have e : dxring c Wv Dl k (ix3 (d3 k) p q : S3x2048x512.Idx) = DXc c Wv Dl (c3 k) p q := rfl
  exact (dxv_read c _ _).symm.trans (h.trans e)
theorem dwfull_at (k : Fin k0_t3_loop.trips) (f : Buf (Elt F) (dwvM.view.loc (c : Thread nD τ))) (p : Fin 512) (q : Fin 128) :
    dwfull c Xv Ds k f (ix3 (e3 k) p q : S2x512x128.Idx) = DWc c Xv Ds (c3 k) p q := by
  have h : dwvM.view.read (Elt F) (dwfull c Xv Ds k f) (ix3 (e3 k) p q : S2x512x128.Idx) = k0_pay213 (F := F) (dsload c Ds) (xload c Xv (c3 k)) (ix3 (0 : Fin 1) p q) := by
    unfold dwfull
    rw [xload_eq c Xv k, dsload_eq c Ds]
    exact View.read_writes_cons_unit_of_mem dwvM.view f (k0_off36_inb k) _ [] _ _ (k0_off36_eq k) (fun a => by fin_cases a <;> simp [ix3])
  exact (dwv_read c _ _).symm.trans h

theorem dxslot_emb (s : Fin 3) (i : Fin 2048) (j : Fin 512) : (dxslot s).view.emb (ix2 i j) = (ix3 s i j : S3x2048x512.Idx) := by
  show (Rect.unit (s := S3x2048x512) (slot3 s) S1x2048x512.size (dxslot_inb s)).emb (Shape.reshapeEquiv _ (ix2 i j)) = _
  rw [reshapeEquiv_ix2_1ab]
  funext a; apply Fin.ext
  rw [Rect.emb_apply]
  fin_cases a <;> simp [ix3, slot3]
theorem dwslot_emb (s : Fin 2) (i : Fin 512) (j : Fin 128) : (dwslot s).view.emb (ix2 i j) = (ix3 s i j : S2x512x128.Idx) := by
  show (Rect.unit (s := S2x512x128) (slot3 s) S1x512x128.size (dwslot_inb s)).emb (Shape.reshapeEquiv _ (ix2 i j)) = _
  rw [reshapeEquiv_ix2_1ab]
  funext a; apply Fin.ext
  rw [Rect.emb_apply]
  fin_cases a <;> simp [ix3, slot3]
theorem dxdst_emb (b : Fin 32) (p : Fin 2048) (q : Fin 512) :
    (dxdst b).view.emb (ix2 p q) = (ix2 p (⟨512 * b.val + q.val, by have := b.isLt; have := q.isLt; omega⟩ : Fin 16384) : S2048x16384.Idx) := by
  show (Rect.unit (s := S2048x16384) (colOff b) S2048x512.size (col_inb b)).emb (ix2 p q) = _
  funext a; apply Fin.ext
  rw [Rect.emb_apply]
  fin_cases a <;> simp [colOff]
theorem dwdst_emb (b : Fin 32) (p : Fin 512) (q : Fin 128) :
    (dwdst b).view.emb (ix2 p q) = (ix2 (⟨512 * b.val + p.val, by have := b.isLt; have := p.isLt; omega⟩ : Fin 16384) q : S16384x128.Idx) := by
  show (Rect.unit (s := S16384x128) (rowOff b) S512x128.size (row_inb b)).emb (ix2 p q) = _
  funext a; apply Fin.ext
  rw [Rect.emb_apply]
  fin_cases a <;> simp [rowOff]

/-- What chunk `b`'s copy out leaves over `f`, its slot `s` holding `v`. -/
abbrev dxout (b : Fin 32) (s : Fin 3) (f : Buf (Elt F) (dxM.view.loc (c : Thread nD τ))) (v : Buf (Elt F) (dxvM.view.loc (c : Thread nD τ))) : Buf (Elt F) (dxM.view.loc (c : Thread nD τ)) :=
  (dxdst b).view.writes (Elt F) f [⟨Rect.whole S2048x512, ReadAs.same.apply ((dxslot s).view.read (Elt F) v)⟩]
abbrev dwout (b : Fin 32) (s : Fin 2) (f : Buf (Elt F) (dwM.view.loc (c : Thread nD τ))) (v : Buf (Elt F) (dwvM.view.loc (c : Thread nD τ))) : Buf (Elt F) (dwM.view.loc (c : Thread nD τ)) :=
  (dwdst b).view.writes (Elt F) f [⟨Rect.whole S512x128, ReadAs.same.apply ((dwslot s).view.read (Elt F) v)⟩]

theorem dxout_at (b : Fin 32) (s : Fin 3) (f : Buf (Elt F) (dxM.view.loc (c : Thread nD τ))) (v : Buf (Elt F) (dxvM.view.loc (c : Thread nD τ))) (p : Fin 2048) (q : Fin 512)
    (hv : v (ix3 s p q : S3x2048x512.Idx) = DXc c Wv Dl b p q) :
    dxout c b s f v (ix2 p (⟨512 * b.val + q.val, by have := b.isLt; have := q.isLt; omega⟩ : Fin 16384) : S2048x16384.Idx) = DXc c Wv Dl b p q := by
  have h := congrFun (View.read_writes_whole (dxdst b).view f (ReadAs.same.apply ((dxslot s).view.read (Elt F) v))) (ix2 p q)
  rw [View.read_apply, dxdst_emb] at h
  have h2 : ReadAs.same.apply ((dxslot s).view.read (Elt F) v) (ix2 p q) = (dxslot s).view.read (Elt F) v (ix2 p q) := rfl
  have h3 : (dxslot s).view.read (Elt F) v (ix2 p q) = v (ix3 s p q : S3x2048x512.Idx) := by
    exact congrArg v (dxslot_emb s p q)
  exact eq_of_heq ((cast_heq _ _).symm.trans (heq_of_eq (h.trans (h2.trans (h3.trans hv)))))
theorem dwout_at (b : Fin 32) (s : Fin 2) (f : Buf (Elt F) (dwM.view.loc (c : Thread nD τ))) (v : Buf (Elt F) (dwvM.view.loc (c : Thread nD τ))) (p : Fin 512) (q : Fin 128)
    (hv : v (ix3 s p q : S2x512x128.Idx) = DWc c Xv Ds b p q) :
    dwout c b s f v (ix2 (⟨512 * b.val + p.val, by have := b.isLt; have := p.isLt; omega⟩ : Fin 16384) q : S16384x128.Idx) = DWc c Xv Ds b p q := by
  have h := congrFun (View.read_writes_whole (dwdst b).view f (ReadAs.same.apply ((dwslot s).view.read (Elt F) v))) (ix2 p q)
  rw [View.read_apply, dwdst_emb] at h
  have h2 : ReadAs.same.apply ((dwslot s).view.read (Elt F) v) (ix2 p q) = (dwslot s).view.read (Elt F) v (ix2 p q) := rfl
  have h3 : (dwslot s).view.read (Elt F) v (ix2 p q) = v (ix3 s p q : S2x512x128.Idx) := by
    exact congrArg v (dwslot_emb s p q)
  exact eq_of_heq ((cast_heq _ _).symm.trans (heq_of_eq (h.trans (h2.trans (h3.trans hv)))))

theorem DX_at (b : Fin 32) (p : Fin 2048) (q : Fin 512) :
    DX c Wv Dl (ix2 p (⟨512 * b.val + q.val, by have := b.isLt; have := q.isLt; omega⟩ : Fin 16384) : S2048x16384.Idx) = DXc c Wv Dl b p q := by
  have hq := q.isLt
  rw [DX]
  congr 1
  · apply Fin.ext; show (512 * b.val + q.val) / 512 = b.val; omega
  · apply Fin.ext; show (512 * b.val + q.val) % 512 = q.val; omega
theorem DW_at (b : Fin 32) (p : Fin 512) (q : Fin 128) :
    DW c Xv Ds (ix2 (⟨512 * b.val + p.val, by have := b.isLt; have := p.isLt; omega⟩ : Fin 16384) q : S16384x128.Idx) = DWc c Xv Ds b p q := by
  have hq := p.isLt
  rw [DW]
  congr 1
  · apply Fin.ext; show (512 * b.val + p.val) / 512 = b.val; omega
  · apply Fin.ext; show (512 * b.val + p.val) % 512 = p.val; omega

theorem dxhome_out (k : Fin k0_t3_loop.trips) (f : Buf (Elt F) (dxM.view.loc (c : Thread nD τ))) (fs : Buf (Elt F) (dxvM.view.loc (c : Thread nD τ))) :
    dxhome c (c3 k) (dxout c (c3 k) (d3 k) f (dxfull c Wv Dl k fs)) = dxhome c (c3 k) (DX c Wv Dl) := by
  refine pointsTo_congr fun i hi => ?_
  obtain ⟨j, -, rfl⟩ := Finset.mem_map.mp hi
  rw [(congrArg (dxdst (c3 k)).view.emb (eq_ix2 (n0 := 2048) (n1 := 512) j)).trans (dxdst_emb (c3 k) (j 0) (j 1))]
  exact (dxout_at c Wv Dl (c3 k) (d3 k) f _ (j 0) (j 1) (dxfull_at c Wv Dl k fs (j 0) (j 1))).trans (DX_at c Wv Dl (c3 k) (j 0) (j 1)).symm
theorem dwhome_out (k : Fin k0_t3_loop.trips) (f : Buf (Elt F) (dwM.view.loc (c : Thread nD τ))) (fs : Buf (Elt F) (dwvM.view.loc (c : Thread nD τ))) :
    dwhome c (c3 k) (dwout c (c3 k) (e3 k) f (dwfull c Xv Ds k fs)) = dwhome c (c3 k) (DW c Xv Ds) := by
  refine pointsTo_congr fun i hi => ?_
  obtain ⟨j, -, rfl⟩ := Finset.mem_map.mp hi
  rw [(congrArg (dwdst (c3 k)).view.emb (eq_ix2 (n0 := 512) (n1 := 128) j)).trans (dwdst_emb (c3 k) (j 0) (j 1))]
  exact (dwout_at c Xv Ds (c3 k) (e3 k) f _ (j 0) (j 1) (dwfull_at c Xv Ds k fs (j 0) (j 1))).trans (DW_at c Xv Ds (c3 k) (j 0) (j 1)).symm

variable (v1540 : Vec F S1x128 .f32)
abbrev t3G (k : Fin k0_t3_loop.trips) : Prog (TpuEff nD τ sig (Elt F) Λ₀ .tc) Unit := k0_t3_body (F := F) xM (Memref.isWhole_whole _) scM (Memref.isWhole_whole _) wM (Memref.isWhole_whole _) idM (Memref.isWhole_whole _) auxM (Memref.isWhole_whole _) ztM (Memref.isWhole_whole _) pM (Memref.isWhole_whole _) lseM (Memref.isWhole_whole _) dlogM (Memref.isWhole_whole _) dwM (Memref.isWhole_whole _) dxM (Memref.isWhole_whole _) xvM (Memref.isWhole_whole _) wvM (Memref.isWhole_whole _) scvM (Memref.isWhole_whole _) idvM (Memref.isWhole_whole _) zvM (Memref.isWhole_whole _) dlvM (Memref.isWhole_whole _) dsvM (Memref.isWhole_whole _) dlogvM (Memref.isWhole_whole _) auxvM (Memref.isWhole_whole _) ztvM (Memref.isWhole_whole _) pvM (Memref.isWhole_whole _) lsevM (Memref.isWhole_whole _) dxvM (Memref.isWhole_whole _) dwvM (Memref.isWhole_whole _) cc0_scratch14 cc0_scratch15 cc0_scratch16 cc0_scratch17 cc0_scratch18 cc0_scratch19 v1540 k ()

/-- What a trip's run ends with. -/
def ends3 (k : Fin k0_t3_loop.trips) : sProp 𝕄 :=
  iprop(dxfly c Wv Dl (c3 k) ∗ dwfly c Xv Ds (c3 k) ∗ xvP c Xv ∗ wvP c Wv ∗ dlvP c Dl ∗ dsvP c Ds ∗ ∃ W, owes (c : Thread nD τ) 0 W)
/-- What every trip's run begins with. -/
def begins3 (k : Fin k0_t3_loop.trips) : sProp 𝕄 :=
  iprop(dxwait c (c3 k) ∗ dwwait c (c3 k) ∗ xvP c Xv ∗ wvP c Wv ∗ dlvP c Dl ∗ dsvP c Ds ∗ ∃ W, owes (c : Thread nD τ) 0 W)

end Grad
end Cert.Proof.KernelIdeal

end
-- ==== Proof.IdealRing.lean ====
/- Hand-written, untrusted. The third loop's trips, run: at first from fresh ring slots, later after waiting for the copy that
   used the slot last; and the loop's invariant over the chunks already out, on their way and still to come. -/
module

public import proofs.«01_k».proof.Proof.IdealGrad

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

open Idealize.ShloMosaic.ValueIdx
section Grad
variable (c : Dev nD)
variable (Xv : Buf (Elt F) (xvM.view.loc (c : Thread nD τ))) (Wv : Buf (Elt F) (wvM.view.loc (c : Thread nD τ)))
variable (Dl : Buf (Elt F) (dlvM.view.loc (c : Thread nD τ))) (Ds : Buf (Elt F) (dsvM.view.loc (c : Thread nD τ)))
variable (v1540 : Vec F S1x128 .f32)

/-- The first two trips use fresh slots of both rings, -/
theorem run3_first (k : Fin k0_t3_loop.trips) (hk : k.val < 2) :
    iprop(begins3 c Xv Wv Dl Ds k ∗ dxfree c (d3 k) ∗ dwfree c (e3 k))
    ⊢ wp Idealize.ShloMosaic.frame (wpE (defs₀ (F := F)) 𝒱₀ (c : Thread nD τ) none) Set.univ (t3G v1540 k) (fun _ => ends3 c Xv Wv Dl Ds k) := by
  have h1 : ¬ k0_cond1 k = 1#1 := fun h => by have := (cond1_iff k).mp h; omega
  have h2 : ¬ k0_cond2 k = 1#1 := fun h => by have := (cond2_iff k).mp h; omega
  rw [begins3, dxwait, dwwait, dxfree, dwfree]
  iintro ⟨⟨⟨%fxo, HXo⟩, ⟨%fwo, HWo⟩, Hx, Hw, Hdl, Hds, ⟨%W, Ho⟩⟩, ⟨⟨%fxs, HXs⟩, HXc⟩, ⟨⟨%fws, HWs⟩, HWc⟩⟩
  dsimp only [t3G]
  sl_unfold [k0_t3_body]
  sl_exec
  sl_step
  rw [ends3, dxfly, dwfly, dxflyAt, dwflyAt, ← dxhome_out c Wv Dl k fxo fxs, ← dwhome_out c Xv Ds k fwo fws]
  isplitl [HXc]; · iexists _; iexact HXc
  isplitl [HWc]; · iexists _; iexact HWc
  isplitl [Hx]; · iexact Hx
  isplitl [Hw]; · iexact Hw
  isplitl [Hdl]; · iexact Hdl
  isplitl [Hds]; · iexact Hds
  iexists _; iexact Ho

/-- the third waits for the first chunk of the weights' gradient, -/
theorem run3_mid (k : Fin k0_t3_loop.trips) (hk : k.val = 2) (bw : Fin 32) :
    iprop(begins3 c Xv Wv Dl Ds k ∗ dxfree c (d3 k) ∗ dwflyAt c Xv Ds bw (e3 k))
    ⊢ wp Idealize.ShloMosaic.frame (wpE (defs₀ (F := F)) 𝒱₀ (c : Thread nD τ) none) Set.univ (t3G v1540 k) (fun _ => iprop(ends3 c Xv Wv Dl Ds k ∗ dwhome c bw (DW c Xv Ds))) := by
  have h1 : ¬ k0_cond1 k = 1#1 := fun h => by have := (cond1_iff k).mp h; omega
  have h2 : k0_cond2 k = 1#1 := (cond2_iff k).mpr (by omega)
  rw [begins3, dxwait, dwwait, dxfree, dwflyAt]
  iintro ⟨⟨⟨%fxo, HXo⟩, ⟨%fwo, HWo⟩, Hx, Hw, Hdl, Hds, ⟨%W, Ho⟩⟩, ⟨⟨%fxs, HXs⟩, HXc⟩, ⟨%hw, HWf⟩⟩
  dsimp only [t3G]
  sl_unfold [k0_t3_body]
  sl_exec
  sl_step
  rw [ends3, dxfly, dwfly, dxflyAt, dwflyAt, ← dxhome_out c Wv Dl k fxo fxs, ← dwhome_out c Xv Ds k fwo hw]
  isplitr [HWf_dst]
  · isplitl [HXc]; · iexists _; iexact HXc
    isplitl [HWf]; · iexists _; iexact HWf
    isplitl [Hx]; · iexact Hx
    isplitl [Hw]; · iexact Hw
    isplitl [Hdl]; · iexact Hdl
    isplitl [Hds]; · iexact Hds
    iexists _; iexact Ho
  iexact HWf_dst

/-- and every later one for a chunk of each. -/
theorem run3_late (k : Fin k0_t3_loop.trips) (hk : 3 ≤ k.val) (bx bw : Fin 32) :
    iprop(begins3 c Xv Wv Dl Ds k ∗ dxflyAt c Wv Dl bx (d3 k) ∗ dwflyAt c Xv Ds bw (e3 k))
    ⊢ wp Idealize.ShloMosaic.frame (wpE (defs₀ (F := F)) 𝒱₀ (c : Thread nD τ) none) Set.univ (t3G v1540 k) (fun _ => iprop(ends3 c Xv Wv Dl Ds k ∗ dxhome c bx (DX c Wv Dl) ∗ dwhome c bw (DW c Xv Ds))) := by
  have h1 : k0_cond1 k = 1#1 := (cond1_iff k).mpr hk
  have h2 : k0_cond2 k = 1#1 := (cond2_iff k).mpr (by omega)
  rw [begins3, dxwait, dwwait, dxflyAt, dwflyAt]
  iintro ⟨⟨⟨%fxo, HXo⟩, ⟨%fwo, HWo⟩, Hx, Hw, Hdl, Hds, ⟨%W, Ho⟩⟩, ⟨%hx, HXf⟩, ⟨%hw, HWf⟩⟩
  dsimp only [t3G]
  sl_unfold [k0_t3_body]
  sl_exec
  sl_step
  rw [ends3, dxfly, dwfly, dxflyAt, dwflyAt, ← dxhome_out c Wv Dl k fxo hx, ← dwhome_out c Xv Ds k fwo hw]
  isplitr [HXf_dst HWf_dst]
  · isplitl [HXf]; · iexists _; iexact HXf
    isplitl [HWf]; · iexists _; iexact HWf
    isplitl [Hx]; · iexact Hx
    isplitl [Hw]; · iexact Hw
    isplitl [Hdl]; · iexact Hdl
    isplitl [Hds]; · iexact Hds
    iexists _; iexact Ho
  isplitl [HXf_dst]; · iexact HXf_dst
  iexact HWf_dst

/-! ## The invariant, one gradient at a time -/

section Side
variable {n : ℕ} (D fly wait : Fin 32 → sProp (MT nD τ sig Unit (Elt F) ℕ (UU nD τ) ℕ)) (free : Fin n → sProp (MT nD τ sig Unit (Elt F) ℕ (UU nD τ) ℕ))
/-- The chunks of one gradient whose ring has `n` slots, before trip `k`. -/
def side (k : ℕ) : sProp 𝕄 :=
  iprop(bigSep (Ring.rangeSet 32 0 (k - n)) D ∗ bigSep (Ring.rangeSet 32 (k - n) k) fly ∗ bigSep (Ring.rangeSet 32 k 32) wait ∗ bigSep (Ring.rangeSet n k n) free)
/-- The chunks a trip leaves alone. -/
def sideFree (k : ℕ) : sProp 𝕄 :=
  iprop(bigSep (Ring.rangeSet 32 0 (k - n)) D ∗ bigSep (Ring.rangeSet 32 (k - n) k) fly ∗ bigSep (Ring.rangeSet 32 (k + 1) 32) wait ∗ bigSep (Ring.rangeSet n (k + 1) n) free)
def sideLate (k : ℕ) : sProp 𝕄 :=
  iprop(bigSep (Ring.rangeSet 32 0 (k - n)) D ∗ bigSep (Ring.rangeSet 32 (k - n + 1) k) fly ∗ bigSep (Ring.rangeSet 32 (k + 1) 32) wait ∗ bigSep (Ring.rangeSet n k n) free)

theorem last_succ (Φ : Fin 32 → sProp (MT nD τ sig Unit (Elt F) ℕ (UU nD τ) ℕ)) (lo : ℕ) (b : Fin 32) (h : lo ≤ b.val) :
    bigSep (Ring.rangeSet 32 lo (b.val + 1)) Φ = iprop(Φ b ∗ bigSep (Ring.rangeSet 32 lo b.val) Φ) := by
  rw [Ring.bigSep_rangeSet_last (Φ := Φ) (by omega) b.isLt]
  rfl
theorem side_open_free (k : Fin 32) (h : k.val < n) :
    side D fly wait free k.val ⊢ iprop(sideFree D fly wait free k.val ∗ wait k ∗ free ⟨k.val, h⟩) := by
  rw [side, sideFree, from_succ wait k, Ring.bigSep_rangeSet_head (Φ := free) h h]
  iintro ⟨HD, HF, ⟨Hk, HW⟩, ⟨Hs, HS⟩⟩
  isplitl [HD HF HW HS]
  · isplitl [HD]; · iexact HD
    isplitl [HF]; · iexact HF
    isplitl [HW]; · iexact HW
    iexact HS
  isplitl [Hk]; · iexact Hk
  iexact Hs
theorem side_close_free (k : Fin 32) (h : k.val < n) :
    iprop(sideFree D fly wait free k.val ∗ fly k) ⊢ side D fly wait free (k.val + 1) := by
  have e : k.val + 1 - n = k.val - n := by omega
  rw [side, sideFree, e, last_succ fly (k.val - n) k (by omega)]
  iintro ⟨⟨HD, HF, HW, HS⟩, Hk⟩
  isplitl [HD]; · iexact HD
  isplitl [HF Hk]
  · isplitl [Hk]; · iexact Hk
    iexact HF
  isplitl [HW]; · iexact HW
  iexact HS
theorem side_open_late (k : Fin 32) (h : n ≤ k.val) (hn : 0 < n) :
    side D fly wait free k.val ⊢ iprop(sideLate D fly wait free k.val ∗ wait k ∗ fly ⟨k.val - n, by omega⟩) := by
  rw [side, sideLate, from_succ wait k, Ring.bigSep_rangeSet_head (Φ := fly) (lo := k.val - n) (hi := k.val) (by omega) (by omega)]
  iintro ⟨HD, ⟨Hf, HF⟩, ⟨Hk, HW⟩, HS⟩
  isplitl [HD HF HW HS]
  · isplitl [HD]; · iexact HD
    isplitl [HF]; · iexact HF
    isplitl [HW]; · iexact HW
    iexact HS
  isplitl [Hk]; · iexact Hk
  iexact Hf
theorem side_close_late (k : Fin 32) (h : n ≤ k.val) (hn : 0 < n) :
    iprop(sideLate D fly wait free k.val ∗ fly k ∗ D ⟨k.val - n, by omega⟩) ⊢ side D fly wait free (k.val + 1) := by
  have e : k.val + 1 - n = k.val - n + 1 := by omega
  rw [side, sideLate, e, last_succ fly (k.val - n + 1) k (by omega),
    last_succ D 0 ⟨k.val - n, by omega⟩ (Nat.zero_le _),
    Ring.bigSep_rangeSet_empty (Φ := free) (lo := k.val) h, Ring.bigSep_rangeSet_empty (Φ := free) (lo := k.val + 1) (by omega)]
  iintro ⟨⟨HD, HF, HW, HS⟩, Hk, Hd⟩
  isplitl [HD Hd]
  · isplitl [Hd]; · iexact Hd
    iexact HD
  isplitl [HF Hk]
  · isplitl [Hk]; · iexact Hk
    iexact HF
  isplitl [HW]; · iexact HW
  iexact HS
end Side

abbrev dxside (k : ℕ) : sProp 𝕄 := side (n := 3) (fun b => dxhome c b (DX c Wv Dl)) (dxfly c Wv Dl) (dxwait c) (dxfree c) k
abbrev dwside (k : ℕ) : sProp 𝕄 := side (n := 2) (fun b => dwhome c b (DW c Xv Ds)) (dwfly c Xv Ds) (dwwait c) (dwfree c) k
abbrev held3 : sProp 𝕄 := iprop(xvP c Xv ∗ wvP c Wv ∗ dlvP c Dl ∗ dsvP c Ds ∗ ∃ W, owes (c : Thread nD τ) 0 W)
/-- Before trip `k` of the third loop: the chunks below `k - 3` (below `k - 2` for the weights) are out, the following ones
    below `k` on their way, and the slots no trip has used yet are free. -/
def inv3 (k : ℕ) : sProp 𝕄 := iprop(dxside c Wv Dl k ∗ dwside c Xv Ds k ∗ held3 c Xv Wv Dl Ds)

theorem trip3 (k : Fin k0_t3_loop.trips) :
    inv3 c Xv Wv Dl Ds k.val ⊢ wp Idealize.ShloMosaic.frame (wpE (defs₀ (F := F)) 𝒱₀ (c : Thread nD τ) none) Set.univ (t3G v1540 k) (fun _ => inv3 c Xv Wv Dl Ds (k.val + 1)) := by
  have hk := k.isLt
  have ht := trips3
  rcases Nat.lt_or_ge k.val 2 with h | h
  · have ed : (⟨(c3 k).val, by show k.val < 3; omega⟩ : Fin 3) = d3 k := Fin.ext (by show k.val = k.val % 3; omega)
    have ee : (⟨(c3 k).val, by show k.val < 2; omega⟩ : Fin 2) = e3 k := Fin.ext (by show k.val = k.val % 2; omega)
    have ox := side_open_free (n := 3) (fun b => dxhome c b (DX c Wv Dl)) (dxfly c Wv Dl) (dxwait c) (dxfree c) (c3 k) (by show k.val < 3; omega)
    have ow := side_open_free (n := 2) (fun b => dwhome c b (DW c Xv Ds)) (dwfly c Xv Ds) (dwwait c) (dwfree c) (c3 k) (by show k.val < 2; omega)
    have cx := side_close_free (n := 3) (fun b => dxhome c b (DX c Wv Dl)) (dxfly c Wv Dl) (dxwait c) (dxfree c) (c3 k) (by show k.val < 3; omega)
    have cw := side_close_free (n := 2) (fun b => dwhome c b (DW c Xv Ds)) (dwfly c Xv Ds) (dwwait c) (dwfree c) (c3 k) (by show k.val < 2; omega)
    rw [ed] at ox
    rw [ee] at ow
    rw [inv3]
    iintro ⟨HX, HW, HH⟩
    ihave HX := ox $$ HX
    ihave HW := ow $$ HW
    icases HX with ⟨HXr, HXw, HXf⟩
    icases HW with ⟨HWr, HWw, HWf⟩
    ihave Hw := (run3_first c Xv Wv Dl Ds v1540 k h) $$ [HXw HWw HH HXf HWf]
    · rw [begins3]
      isplitl [HXw HWw HH]
      · isplitl [HXw]; · iexact HXw
        isplitl [HWw]; · iexact HWw
        iexact HH
      isplitl [HXf]; · iexact HXf
      iexact HWf
    iapply (wp_wand_r Idealize.ShloMosaic.frame (wpE (defs₀ (F := F)) 𝒱₀ (c : Thread nD τ) none) Set.univ)
    isplitl [Hw]; · iexact Hw
    iintro %_
    rw [ends3, inv3]
    iintro ⟨Hx, Hy, HH⟩
    isplitl [HXr Hx]
    · iapply cx; isplitl [HXr]; · iexact HXr
      iexact Hx
    isplitl [HWr Hy]
    · iapply cw; isplitl [HWr]; · iexact HWr
      iexact Hy
    iexact HH
  rcases Nat.lt_or_ge k.val 3 with h3 | h3
  · have h2 : k.val = 2 := by omega
    have ed : (⟨(c3 k).val, by show k.val < 3; omega⟩ : Fin 3) = d3 k := Fin.ext (by show k.val = k.val % 3; omega)
    have ee : dwfly c Xv Ds ⟨(c3 k).val - 2, by show k.val - 2 < 32; omega⟩ = dwflyAt c Xv Ds ⟨(c3 k).val - 2, by show k.val - 2 < 32; omega⟩ (e3 k) := by
      rw [dwfly]; congr 1; exact Fin.ext (by show (k.val - 2) % 2 = k.val % 2; omega)
    have ox := side_open_free (n := 3) (fun b => dxhome c b (DX c Wv Dl)) (dxfly c Wv Dl) (dxwait c) (dxfree c) (c3 k) (by show k.val < 3; omega)
    have ow := side_open_late (n := 2) (fun b => dwhome c b (DW c Xv Ds)) (dwfly c Xv Ds) (dwwait c) (dwfree c) (c3 k) (by show 2 ≤ k.val; omega) (by omega)
    have cx := side_close_free (n := 3) (fun b => dxhome c b (DX c Wv Dl)) (dxfly c Wv Dl) (dxwait c) (dxfree c) (c3 k) (by show k.val < 3; omega)
    have cw := side_close_late (n := 2) (fun b => dwhome c b (DW c Xv Ds)) (dwfly c Xv Ds) (dwwait c) (dwfree c) (c3 k) (by show 2 ≤ k.val; omega) (by omega)
    rw [ed] at ox
    rw [ee] at ow
    rw [inv3]
    iintro ⟨HX, HW, HH⟩
    ihave HX := ox $$ HX
    ihave HW := ow $$ HW
    icases HX with ⟨HXr, HXw, HXf⟩
    icases HW with ⟨HWr, HWw, HWf⟩
    ihave Hw := (run3_mid c Xv Wv Dl Ds v1540 k h2 _) $$ [HXw HWw HH HXf HWf]
    · rw [begins3]
      isplitl [HXw HWw HH]
      · isplitl [HXw]; · iexact HXw
        isplitl [HWw]; · iexact HWw
        iexact HH
      isplitl [HXf]; · iexact HXf
      iexact HWf
    iapply (wp_wand_r Idealize.ShloMosaic.frame (wpE (defs₀ (F := F)) 𝒱₀ (c : Thread nD τ) none) Set.univ)
    isplitl [Hw]; · iexact Hw
    iintro %_
    rw [ends3, inv3]
    iintro ⟨⟨Hx, Hy, HH⟩, HD⟩
    isplitl [HXr Hx]
    · iapply cx; isplitl [HXr]; · iexact HXr
      iexact Hx
    isplitl [HWr Hy HD]
    · iapply cw; isplitl [HWr]; · iexact HWr
      isplitl [Hy]; · iexact Hy
      iexact HD
    iexact HH
  · have ed : dxfly c Wv Dl ⟨(c3 k).val - 3, by show k.val - 3 < 32; omega⟩ = dxflyAt c Wv Dl ⟨(c3 k).val - 3, by show k.val - 3 < 32; omega⟩ (d3 k) := by
      rw [dxfly]; congr 1; exact Fin.ext (by show (k.val - 3) % 3 = k.val % 3; omega)
    have ee : dwfly c Xv Ds ⟨(c3 k).val - 2, by show k.val - 2 < 32; omega⟩ = dwflyAt c Xv Ds ⟨(c3 k).val - 2, by show k.val - 2 < 32; omega⟩ (e3 k) := by
      rw [dwfly]; congr 1; exact Fin.ext (by show (k.val - 2) % 2 = k.val % 2; omega)
    have ox := side_open_late (n := 3) (fun b => dxhome c b (DX c Wv Dl)) (dxfly c Wv Dl) (dxwait c) (dxfree c) (c3 k) (by show 3 ≤ k.val; omega) (by omega)
    have ow := side_open_late (n := 2) (fun b => dwhome c b (DW c Xv Ds)) (dwfly c Xv Ds) (dwwait c) (dwfree c) (c3 k) (by show 2 ≤ k.val; omega) (by omega)
    have cx := side_close_late (n := 3) (fun b => dxhome c b (DX c Wv Dl)) (dxfly c Wv Dl) (dxwait c) (dxfree c) (c3 k) (by show 3 ≤ k.val; omega) (by omega)
    have cw := side_close_late (n := 2) (fun b => dwhome c b (DW c Xv Ds)) (dwfly c Xv Ds) (dwwait c) (dwfree c) (c3 k) (by show 2 ≤ k.val; omega) (by omega)
    rw [ed] at ox
    rw [ee] at ow
    rw [inv3]
    iintro ⟨HX, HW, HH⟩
    ihave HX := ox $$ HX
    ihave HW := ow $$ HW
    icases HX with ⟨HXr, HXw, HXf⟩
    icases HW with ⟨HWr, HWw, HWf⟩
    ihave Hw := (run3_late c Xv Wv Dl Ds v1540 k h3 _ _) $$ [HXw HWw HH HXf HWf]
    · rw [begins3]
      isplitl [HXw HWw HH]
      · isplitl [HXw]; · iexact HXw
        isplitl [HWw]; · iexact HWw
        iexact HH
      isplitl [HXf]; · iexact HXf
      iexact HWf
    iapply (wp_wand_r Idealize.ShloMosaic.frame (wpE (defs₀ (F := F)) 𝒱₀ (c : Thread nD τ) none) Set.univ)
    isplitl [Hw]; · iexact Hw
    iintro %_
    rw [ends3, inv3]
    iintro ⟨⟨Hx, Hy, HH⟩, HDx, HDw⟩
    isplitl [HXr Hx HDx]
    · iapply cx; isplitl [HXr]; · iexact HXr
      isplitl [Hx]; · iexact Hx
      iexact HDx
    isplitl [HWr Hy HDw]
    · iapply cw; isplitl [HWr]; · iexact HWr
      isplitl [Hy]; · iexact Hy
      iexact HDw
    iexact HH

set_option warn.classDefReducibility false in
/-- The third loop's invariant. -/
@[sl_loop] def loopInv3 : LoopInvTy_k0_t3 (F := F) Unit ℕ (UU nD τ) ℕ 𝒱₀ c none Set.univ xM (Memref.isWhole_whole _) scM (Memref.isWhole_whole _) wM (Memref.isWhole_whole _) idM (Memref.isWhole_whole _) auxM (Memref.isWhole_whole _) ztM (Memref.isWhole_whole _) pM (Memref.isWhole_whole _) lseM (Memref.isWhole_whole _) dlogM (Memref.isWhole_whole _) dwM (Memref.isWhole_whole _) dxM (Memref.isWhole_whole _) xvM (Memref.isWhole_whole _) wvM (Memref.isWhole_whole _) scvM (Memref.isWhole_whole _) idvM (Memref.isWhole_whole _) zvM (Memref.isWhole_whole _) dlvM (Memref.isWhole_whole _) dsvM (Memref.isWhole_whole _) dlogvM (Memref.isWhole_whole _) auxvM (Memref.isWhole_whole _) ztvM (Memref.isWhole_whole _) pvM (Memref.isWhole_whole _) lsevM (Memref.isWhole_whole _) dxvM (Memref.isWhole_whole _) dwvM (Memref.isWhole_whole _) cc0_scratch14 cc0_scratch15 cc0_scratch16 cc0_scratch17 cc0_scratch18 cc0_scratch19 v1540 where
  inv k _ := inv3 c Xv Wv Dl Ds k
  step k _ := trip3 c Xv Wv Dl Ds v1540 k

end Grad
end Cert.Proof.KernelIdeal

end
-- ==== Proof.IdealBlocks.lean ====
/- Hand-written, untrusted. The buffers the kernel moves chunk by chunk, held whole and held by their chunks or slots. -/
module

public import proofs.«01_k».proof.Proof.IdealRing

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Key
variable {ℓ : Loc nD τ sig} {n : ℕ} (I : Fin n → Finset (Idx ℓ)) (key : Idx ℓ → Fin n) (hk : ∀ b i, i ∈ I b ↔ key i = b)

include hk in
theorem key_disjoint (b b' : Fin n) (h : b ≠ b') : Disjoint (I b) (I b') :=
  Finset.disjoint_left.mpr fun i hi hi' => h (((hk b i).mp hi).symm.trans ((hk b' i).mp hi'))
include hk in
theorem key_cover : Finset.univ.biUnion I = Finset.univ := by
  ext i
  exact ⟨fun _ => Finset.mem_univ i, fun _ => Finset.mem_biUnion.mpr ⟨key i, Finset.mem_univ _, (hk _ i).mpr rfl⟩⟩
include hk in
/-- A buffer held whole is held piece by piece; -/
theorem key_blocks (f : Buf (Elt F) ℓ) :
    (ℓ ↦{fullShare} f : sProp 𝕄) = bigSep (Ring.rangeSet n 0 n) fun b => ℓ ↦[I b]{fullShare} f := by
  rw [Ring.rangeSet_univ]
  exact Ring.pointsTo_blocks I (key_disjoint I key hk) (key_cover I key hk) f
include hk in
/-- and pieces at contents of their own make it whole again. -/
theorem key_join (f₀ : Buf (Elt F) ℓ) :
    bigSep (Ring.rangeSet n 0 n) (fun b => iprop(∃ f, ℓ ↦[I b]{fullShare} f)) ⊢ (iprop(∃ g, ℓ ↦{fullShare} g) : sProp 𝕄) := by
  rw [Ring.rangeSet_univ]
  exact Ring.pointsTo_blocks_join_exists I (key_disjoint I key hk) (key_cover I key hk) f₀
include hk in
theorem key_split (f : Buf (Elt F) ℓ) :
    (ℓ ↦{fullShare} f : sProp 𝕄) ⊢ bigSep (Ring.rangeSet n 0 n) (fun b => iprop(∃ f, ℓ ↦[I b]{fullShare} f)) := by
  rw [key_blocks I key hk f]
  have h : ∀ b, (ℓ ↦[I b]{fullShare} f : sProp 𝕄) ⊢ iprop(∃ f, ℓ ↦[I b]{fullShare} f) := fun b => by iintro H; iexists f; iexact H
  exact BI.bigSep_mono fun b _ => h b
end Key

/-! ## The element sets -/

theorem xslot_mem (b : Fin 32) (i : S32x2048x512.Idx) : i ∈ (xslot b).view.set ↔ (i 0 : Fin 32) = b := by
  have e : (xslot b).view.set = (Rect.unit (s := S32x2048x512) (slot3 b) S1x2048x512.size (xslot_inb b)).set := (View.set_reshape _ _).trans (View.set_slice_whole _ _)
  refine (Eq.subst (motive := fun A => i ∈ (xslot b).view.set ↔ i ∈ A) e Iff.rfl).trans (Rect.mem_set_unit.trans ⟨fun h => ?_, fun h a => ?_⟩)
  · have h0 := h 0
    exact Fin.ext (by change b.val ≤ (i 0).val ∧ (i 0).val < b.val + 1 at h0; omega)
  · subst h
    have h1 : (i 1).val < 2048 := (i 1).isLt
    have h2 : (i 2).val < 512 := (i 2).isLt
    fin_cases a
    · change (i 0).val ≤ (i 0).val ∧ (i 0).val < (i 0).val + 1; omega
    · change 0 ≤ (i 1).val ∧ (i 1).val < 0 + 2048; omega
    · change 0 ≤ (i 2).val ∧ (i 2).val < 0 + 512; omega
theorem wslot_mem (b : Fin 32) (i : S32x512x128.Idx) : i ∈ (wslot b).view.set ↔ (i 0 : Fin 32) = b := by
  have e : (wslot b).view.set = (Rect.unit (s := S32x512x128) (slot3 b) S1x512x128.size (wslot_inb b)).set := (View.set_reshape _ _).trans (View.set_slice_whole _ _)
  refine (Eq.subst (motive := fun A => i ∈ (wslot b).view.set ↔ i ∈ A) e Iff.rfl).trans (Rect.mem_set_unit.trans ⟨fun h => ?_, fun h a => ?_⟩)
  · have h0 := h 0
    exact Fin.ext (by change b.val ≤ (i 0).val ∧ (i 0).val < b.val + 1 at h0; omega)
  · subst h
    have h1 : (i 1).val < 512 := (i 1).isLt
    have h2 : (i 2).val < 128 := (i 2).isLt
    fin_cases a
    · change (i 0).val ≤ (i 0).val ∧ (i 0).val < (i 0).val + 1; omega
    · change 0 ≤ (i 1).val ∧ (i 1).val < 0 + 512; omega
    · change 0 ≤ (i 2).val ∧ (i 2).val < 0 + 128; omega
theorem dxslot_mem (b : Fin 3) (i : S3x2048x512.Idx) : i ∈ (dxslot b).view.set ↔ (i 0 : Fin 3) = b := by
  have e : (dxslot b).view.set = (Rect.unit (s := S3x2048x512) (slot3 b) S1x2048x512.size (dxslot_inb b)).set := (View.set_reshape _ _).trans (View.set_slice_whole _ _)
  refine (Eq.subst (motive := fun A => i ∈ (dxslot b).view.set ↔ i ∈ A) e Iff.rfl).trans (Rect.mem_set_unit.trans ⟨fun h => ?_, fun h a => ?_⟩)
  · have h0 := h 0
    exact Fin.ext (by change b.val ≤ (i 0).val ∧ (i 0).val < b.val + 1 at h0; omega)
  · subst h
    have h1 : (i 1).val < 2048 := (i 1).isLt
    have h2 : (i 2).val < 512 := (i 2).isLt
    fin_cases a
    · change (i 0).val ≤ (i 0).val ∧ (i 0).val < (i 0).val + 1; omega
    · change 0 ≤ (i 1).val ∧ (i 1).val < 0 + 2048; omega
    · change 0 ≤ (i 2).val ∧ (i 2).val < 0 + 512; omega
theorem dwslot_mem (b : Fin 2) (i : S2x512x128.Idx) : i ∈ (dwslot b).view.set ↔ (i 0 : Fin 2) = b := by
  have e : (dwslot b).view.set = (Rect.unit (s := S2x512x128) (slot3 b) S1x512x128.size (dwslot_inb b)).set := (View.set_reshape _ _).trans (View.set_slice_whole _ _)
  refine (Eq.subst (motive := fun A => i ∈ (dwslot b).view.set ↔ i ∈ A) e Iff.rfl).trans (Rect.mem_set_unit.trans ⟨fun h => ?_, fun h a => ?_⟩)
  · have h0 := h 0
    exact Fin.ext (by change b.val ≤ (i 0).val ∧ (i 0).val < b.val + 1 at h0; omega)
  · subst h
    have h1 : (i 1).val < 512 := (i 1).isLt
    have h2 : (i 2).val < 128 := (i 2).isLt
    fin_cases a
    · change (i 0).val ≤ (i 0).val ∧ (i 0).val < (i 0).val + 1; omega
    · change 0 ≤ (i 1).val ∧ (i 1).val < 0 + 512; omega
    · change 0 ≤ (i 2).val ∧ (i 2).val < 0 + 128; omega
theorem xsrc_mem (b : Fin 32) (i : S2048x16384.Idx) : i ∈ (xsrc b).view.set ↔ (⟨(i 1).val / 512, Nat.div_lt_of_lt_mul (i 1).isLt⟩ : Fin 32) = b := by
  have e : (xsrc b).view.set = (Rect.unit (s := S2048x16384) (colOff b) S2048x512.size (col_inb b)).set := View.set_slice_whole _ _
  refine (Eq.subst (motive := fun A => i ∈ (xsrc b).view.set ↔ i ∈ A) e Iff.rfl).trans (Rect.mem_set_unit.trans ⟨fun h => ?_, fun h a => ?_⟩)
  · have h0 := h 1
    exact Fin.ext (by change 512 * b.val ≤ (i 1).val ∧ (i 1).val < 512 * b.val + 512 at h0; show (i 1).val / 512 = b.val; omega)
  · have hb : b.val = (i 1).val / 512 := (congrArg Fin.val h).symm
    have h1 : (i 0).val < 2048 := (i 0).isLt
    fin_cases a
    · change 0 ≤ (i 0).val ∧ (i 0).val < 0 + 2048; omega
    · change 512 * b.val ≤ (i 1).val ∧ (i 1).val < 512 * b.val + 512; omega
theorem dxdst_mem (b : Fin 32) (i : S2048x16384.Idx) : i ∈ (dxdst b).view.set ↔ (⟨(i 1).val / 512, Nat.div_lt_of_lt_mul (i 1).isLt⟩ : Fin 32) = b := by
  have e : (dxdst b).view.set = (Rect.unit (s := S2048x16384) (colOff b) S2048x512.size (col_inb b)).set := View.set_slice_whole _ _
  refine (Eq.subst (motive := fun A => i ∈ (dxdst b).view.set ↔ i ∈ A) e Iff.rfl).trans (Rect.mem_set_unit.trans ⟨fun h => ?_, fun h a => ?_⟩)
  · have h0 := h 1
    exact Fin.ext (by change 512 * b.val ≤ (i 1).val ∧ (i 1).val < 512 * b.val + 512 at h0; show (i 1).val / 512 = b.val; omega)
  · have hb : b.val = (i 1).val / 512 := (congrArg Fin.val h).symm
    have h1 : (i 0).val < 2048 := (i 0).isLt
    fin_cases a
    · change 0 ≤ (i 0).val ∧ (i 0).val < 0 + 2048; omega
    · change 512 * b.val ≤ (i 1).val ∧ (i 1).val < 512 * b.val + 512; omega
theorem wsrc_mem (b : Fin 32) (i : S16384x128.Idx) : i ∈ (wsrc b).view.set ↔ (⟨(i 0).val / 512, Nat.div_lt_of_lt_mul (i 0).isLt⟩ : Fin 32) = b := by
  have e : (wsrc b).view.set = (Rect.unit (s := S16384x128) (rowOff b) S512x128.size (row_inb b)).set := View.set_slice_whole _ _
  refine (Eq.subst (motive := fun A => i ∈ (wsrc b).view.set ↔ i ∈ A) e Iff.rfl).trans (Rect.mem_set_unit.trans ⟨fun h => ?_, fun h a => ?_⟩)
  · have h0 := h 0
    exact Fin.ext (by change 512 * b.val ≤ (i 0).val ∧ (i 0).val < 512 * b.val + 512 at h0; show (i 0).val / 512 = b.val; omega)
  · have hb : b.val = (i 0).val / 512 := (congrArg Fin.val h).symm
    have h1 : (i 1).val < 128 := (i 1).isLt
    fin_cases a
    · change 512 * b.val ≤ (i 0).val ∧ (i 0).val < 512 * b.val + 512; omega
    · change 0 ≤ (i 1).val ∧ (i 1).val < 0 + 128; omega
theorem dwdst_mem (b : Fin 32) (i : S16384x128.Idx) : i ∈ (dwdst b).view.set ↔ (⟨(i 0).val / 512, Nat.div_lt_of_lt_mul (i 0).isLt⟩ : Fin 32) = b := by
  have e : (dwdst b).view.set = (Rect.unit (s := S16384x128) (rowOff b) S512x128.size (row_inb b)).set := View.set_slice_whole _ _
  refine (Eq.subst (motive := fun A => i ∈ (dwdst b).view.set ↔ i ∈ A) e Iff.rfl).trans (Rect.mem_set_unit.trans ⟨fun h => ?_, fun h a => ?_⟩)
  · have h0 := h 0
    exact Fin.ext (by change 512 * b.val ≤ (i 0).val ∧ (i 0).val < 512 * b.val + 512 at h0; show (i 0).val / 512 = b.val; omega)
  · have hb : b.val = (i 0).val / 512 := (congrArg Fin.val h).symm
    have h1 : (i 1).val < 128 := (i 1).isLt
    fin_cases a
    · change 512 * b.val ≤ (i 0).val ∧ (i 0).val < 512 * b.val + 512; omega
    · change 0 ≤ (i 1).val ∧ (i 1).val < 0 + 128; omega

/-! ## Whole and in pieces -/

section Pieces
variable (c : Dev nD)

theorem xslot_blocks (f : Buf (Elt F) (xvM.view.loc (c : Thread nD τ))) :
    (xvM.view.loc (c : Thread nD τ) ↦{fullShare} f : sProp 𝕄) = bigSep (Ring.rangeSet 32 0 32) fun b => xheld c b f :=
  key_blocks (ℓ := xvM.view.loc (c : Thread nD τ)) (fun b => (xslot b).view.set) _ (xslot_mem) f
theorem xslot_split (f : Buf (Elt F) (xvM.view.loc (c : Thread nD τ))) :
    (xvM.view.loc (c : Thread nD τ) ↦{fullShare} f : sProp 𝕄) ⊢ bigSep (Ring.rangeSet 32 0 32) fun b => iprop(∃ f, xheld c b f) :=
  key_split (ℓ := xvM.view.loc (c : Thread nD τ)) (fun b => (xslot b).view.set) _ (xslot_mem) f
theorem wslot_blocks (f : Buf (Elt F) (wvM.view.loc (c : Thread nD τ))) :
    (wvM.view.loc (c : Thread nD τ) ↦{fullShare} f : sProp 𝕄) = bigSep (Ring.rangeSet 32 0 32) fun b => wheld c b f :=
  key_blocks (ℓ := wvM.view.loc (c : Thread nD τ)) (fun b => (wslot b).view.set) _ (wslot_mem) f
theorem wslot_split (f : Buf (Elt F) (wvM.view.loc (c : Thread nD τ))) :
    (wvM.view.loc (c : Thread nD τ) ↦{fullShare} f : sProp 𝕄) ⊢ bigSep (Ring.rangeSet 32 0 32) fun b => iprop(∃ f, wheld c b f) :=
  key_split (ℓ := wvM.view.loc (c : Thread nD τ)) (fun b => (wslot b).view.set) _ (wslot_mem) f
theorem dxslot_blocks (f : Buf (Elt F) (dxvM.view.loc (c : Thread nD τ))) :
    (dxvM.view.loc (c : Thread nD τ) ↦{fullShare} f : sProp 𝕄) = bigSep (Ring.rangeSet 3 0 3) fun b => dxheld c b f :=
  key_blocks (ℓ := dxvM.view.loc (c : Thread nD τ)) (fun b => (dxslot b).view.set) _ (dxslot_mem) f
theorem dxslot_split (f : Buf (Elt F) (dxvM.view.loc (c : Thread nD τ))) :
    (dxvM.view.loc (c : Thread nD τ) ↦{fullShare} f : sProp 𝕄) ⊢ bigSep (Ring.rangeSet 3 0 3) fun b => iprop(∃ f, dxheld c b f) :=
  key_split (ℓ := dxvM.view.loc (c : Thread nD τ)) (fun b => (dxslot b).view.set) _ (dxslot_mem) f
theorem dxslot_join [∀ e, Nonempty (Elt F e)] :
    bigSep (Ring.rangeSet 3 0 3) (fun b => iprop(∃ f, dxheld c b f)) ⊢ (iprop(∃ f, dxvM.view.loc (c : Thread nD τ) ↦{fullShare} f) : sProp 𝕄) :=
  key_join (ℓ := dxvM.view.loc (c : Thread nD τ)) (fun b => (dxslot b).view.set) _ (dxslot_mem) dxvM.view.junk
theorem dwslot_blocks (f : Buf (Elt F) (dwvM.view.loc (c : Thread nD τ))) :
    (dwvM.view.loc (c : Thread nD τ) ↦{fullShare} f : sProp 𝕄) = bigSep (Ring.rangeSet 2 0 2) fun b => dwheld c b f :=
  key_blocks (ℓ := dwvM.view.loc (c : Thread nD τ)) (fun b => (dwslot b).view.set) _ (dwslot_mem) f
theorem dwslot_split (f : Buf (Elt F) (dwvM.view.loc (c : Thread nD τ))) :
    (dwvM.view.loc (c : Thread nD τ) ↦{fullShare} f : sProp 𝕄) ⊢ bigSep (Ring.rangeSet 2 0 2) fun b => iprop(∃ f, dwheld c b f) :=
  key_split (ℓ := dwvM.view.loc (c : Thread nD τ)) (fun b => (dwslot b).view.set) _ (dwslot_mem) f
theorem dwslot_join [∀ e, Nonempty (Elt F e)] :
    bigSep (Ring.rangeSet 2 0 2) (fun b => iprop(∃ f, dwheld c b f)) ⊢ (iprop(∃ f, dwvM.view.loc (c : Thread nD τ) ↦{fullShare} f) : sProp 𝕄) :=
  key_join (ℓ := dwvM.view.loc (c : Thread nD τ)) (fun b => (dwslot b).view.set) _ (dwslot_mem) dwvM.view.junk
theorem xsrc_blocks (f : Buf (Elt F) (xM.view.loc (c : Thread nD τ))) :
    (xM.view.loc (c : Thread nD τ) ↦{fullShare} f : sProp 𝕄) = bigSep (Ring.rangeSet 32 0 32) fun b => xhome c f b :=
  key_blocks (ℓ := xM.view.loc (c : Thread nD τ)) (fun b => (xsrc b).view.set) _ (xsrc_mem) f
theorem wsrc_blocks (f : Buf (Elt F) (wM.view.loc (c : Thread nD τ))) :
    (wM.view.loc (c : Thread nD τ) ↦{fullShare} f : sProp 𝕄) = bigSep (Ring.rangeSet 32 0 32) fun b => whome c f b :=
  key_blocks (ℓ := wM.view.loc (c : Thread nD τ)) (fun b => (wsrc b).view.set) _ (wsrc_mem) f
theorem dxdst_blocks (f : Buf (Elt F) (dxM.view.loc (c : Thread nD τ))) :
    (dxM.view.loc (c : Thread nD τ) ↦{fullShare} f : sProp 𝕄) = bigSep (Ring.rangeSet 32 0 32) fun b => dxhome c b f :=
  key_blocks (ℓ := dxM.view.loc (c : Thread nD τ)) (fun b => (dxdst b).view.set) _ (dxdst_mem) f
theorem dxdst_split (f : Buf (Elt F) (dxM.view.loc (c : Thread nD τ))) :
    (dxM.view.loc (c : Thread nD τ) ↦{fullShare} f : sProp 𝕄) ⊢ bigSep (Ring.rangeSet 32 0 32) fun b => iprop(∃ f, dxhome c b f) :=
  key_split (ℓ := dxM.view.loc (c : Thread nD τ)) (fun b => (dxdst b).view.set) _ (dxdst_mem) f
theorem dwdst_blocks (f : Buf (Elt F) (dwM.view.loc (c : Thread nD τ))) :
    (dwM.view.loc (c : Thread nD τ) ↦{fullShare} f : sProp 𝕄) = bigSep (Ring.rangeSet 32 0 32) fun b => dwhome c b f :=
  key_blocks (ℓ := dwM.view.loc (c : Thread nD τ)) (fun b => (dwdst b).view.set) _ (dwdst_mem) f
theorem dwdst_split (f : Buf (Elt F) (dwM.view.loc (c : Thread nD τ))) :
    (dwM.view.loc (c : Thread nD τ) ↦{fullShare} f : sProp 𝕄) ⊢ bigSep (Ring.rangeSet 32 0 32) fun b => iprop(∃ f, dwhome c b f) :=
  key_split (ℓ := dwM.view.loc (c : Thread nD τ)) (fun b => (dwdst b).view.set) _ (dwdst_mem) f
end Pieces

end Cert.Proof.KernelIdeal

end
-- ==== Proof.IdealEnds.lean ====
/- Hand-written, untrusted. What the body's run begins and ends with, and the lemmas that open and close it. -/
module

public import proofs.«01_k».proof.Proof.IdealBlocks

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

open Idealize.ShloMosaic.ValueIdx

/-! ## The other semaphores and the last waits' names -/

abbrev idsem : DmaSems sig S_ := (cc0_scratch16.slice (Rect.unit (s := S2) ![1] S1.size inb_S2_S1_1)).squeeze S_ squeezes_S1_S_
abbrev scsem : DmaSems sig S_ := (cc0_scratch16.slice (Rect.unit (s := S2) ![0] S1.size inb_S2_S1_0)).squeeze S_ squeezes_S1_S_
abbrev auxsem : DmaSems sig S_ := (cc0_scratch17.slice (Rect.unit (s := S5) ![0] S1.size inb_S5_S1_0)).squeeze S_ squeezes_S1_S_
abbrev ztsem : DmaSems sig S_ := (cc0_scratch17.slice (Rect.unit (s := S5) ![1] S1.size inb_S5_S1_1)).squeeze S_ squeezes_S1_S_
abbrev psem : DmaSems sig S_ := (cc0_scratch17.slice (Rect.unit (s := S5) ![2] S1.size inb_S5_S1_2)).squeeze S_ squeezes_S1_S_
abbrev lsesem : DmaSems sig S_ := (cc0_scratch17.slice (Rect.unit (s := S5) ![3] S1.size inb_S5_S1_3)).squeeze S_ squeezes_S1_S_
abbrev dlogsem : DmaSems sig S_ := (cc0_scratch17.slice (Rect.unit (s := S5) ![4] S1.size inb_S5_S1_4)).squeeze S_ squeezes_S1_S_

@[sl_canon] theorem e_dxsem2 (hh : ∀ a : Fin 1, (![2] : Fin 1 → Nat) a + S1.size a ≤ S3.size a) :
    (cc0_scratch18.slice (Rect.unit (s := S3) ![2] S1.size hh)).squeeze S_ squeezes_S1_S_ = dxsem (2 : Fin 3) :=
  dxsem_congr (off := ![2]) (b := (2 : Fin 3)) rfl hh
@[sl_canon] theorem e_dxsem0 (hh : ∀ a : Fin 1, (![0] : Fin 1 → Nat) a + S1.size a ≤ S3.size a) :
    (cc0_scratch18.slice (Rect.unit (s := S3) ![0] S1.size hh)).squeeze S_ squeezes_S1_S_ = dxsem (0 : Fin 3) :=
  dxsem_congr (off := ![0]) (b := (0 : Fin 3)) rfl hh
@[sl_canon] theorem e_dxsem1 (hh : ∀ a : Fin 1, (![1] : Fin 1 → Nat) a + S1.size a ≤ S3.size a) :
    (cc0_scratch18.slice (Rect.unit (s := S3) ![1] S1.size hh)).squeeze S_ squeezes_S1_S_ = dxsem (1 : Fin 3) :=
  dxsem_congr (off := ![1]) (b := (1 : Fin 3)) rfl hh
@[sl_canon] theorem e_dwsem0 (hh : ∀ a : Fin 1, (![0] : Fin 1 → Nat) a + S1.size a ≤ S2.size a) :
    (cc0_scratch19.slice (Rect.unit (s := S2) ![0] S1.size hh)).squeeze S_ squeezes_S1_S_ = dwsem (0 : Fin 2) :=
  dwsem_congr (off := ![0]) (b := (0 : Fin 2)) rfl hh
@[sl_canon] theorem e_dwsem1 (hh : ∀ a : Fin 1, (![1] : Fin 1 → Nat) a + S1.size a ≤ S2.size a) :
    (cc0_scratch19.slice (Rect.unit (s := S2) ![1] S1.size hh)).squeeze S_ squeezes_S1_S_ = dwsem (1 : Fin 2) :=
  dwsem_congr (off := ![1]) (b := (1 : Fin 2)) rfl hh

section Body
variable (c : Dev nD)
variable (X : Buf (Elt F) (xM.view.loc (c : Thread nD τ))) (Wt : Buf (Elt F) (wM.view.loc (c : Thread nD τ)))
variable (Sc : Buf (Elt F) (scM.view.loc (c : Thread nD τ))) (Id : Buf (Elt F) (idM.view.loc (c : Thread nD τ)))

abbrev cell0 (s : DmaSems sig S_) : sProp 𝕄 := semVal ((c : Thread nD τ), SemLoc.dma s.sem) 0
abbrev P {sp s e} (m : Memref sig .tc sp s e) (f : Buf (Elt F) (m.view.loc (c : Thread nD τ))) : sProp 𝕄 := m.view.loc (c : Thread nD τ) ↦{fullShare} f

/-- The copy counters of the single transfers, all at rest. -/
def small0 : sProp 𝕄 := iprop(cell0 c idsem ∗ cell0 c scsem ∗ cell0 c auxsem ∗ cell0 c ztsem ∗ cell0 c psem ∗ cell0 c lsesem ∗ cell0 c dlogsem)
/-- The rings at rest. -/
def rings0 : sProp 𝕄 := iprop(bigSep (Ring.rangeSet 3 0 3) (dxfree (F := F) c) ∗ bigSep (Ring.rangeSet 2 0 2) (dwfree (F := F) c))
/-- The VMEM scratch the body writes before it reads. -/
def scratch0 : sProp 𝕄 :=
  iprop((∃ f, P c scvM f) ∗ (∃ f, P c idvM f) ∗ (∃ f, P c zvM f) ∗ (∃ f, P c dlvM f) ∗ (∃ f, P c dsvM f) ∗ (∃ f, P c dlogvM f)
    ∗ (∃ f, P c auxvM f) ∗ (∃ f, P c ztvM f) ∗ (∃ f, P c pvM f) ∗ (∃ f, P c lsevM f))

def bodyPre : sProp 𝕄 :=
  iprop(bigSep (Ring.rangeSet 32 0 32) (waiting c X Wt) ∗ P c scM Sc ∗ P c idM Id ∗ scratch0 c
    ∗ (∃ f, P c auxM f) ∗ (∃ f, P c ztM f) ∗ (∃ f, P c pM f) ∗ (∃ f, P c lseM f) ∗ (∃ f, P c dlogM f)
    ∗ bigSep (Ring.rangeSet 32 0 32) (dxwait (F := F) c) ∗ bigSep (Ring.rangeSet 32 0 32) (dwwait (F := F) c)
    ∗ rings0 c ∗ small0 c ∗ ∃ W, owes (c : Thread nD τ) 0 W)

abbrev bodyG : Prog (TpuEff nD τ sig (Elt F) Λ₀ .tc) PUnit := cc0_router_backward (F := F) xM (Memref.isWhole_whole _) scM (Memref.isWhole_whole _) wM (Memref.isWhole_whole _) idM (Memref.isWhole_whole _) auxM (Memref.isWhole_whole _) ztM (Memref.isWhole_whole _) pM (Memref.isWhole_whole _) lseM (Memref.isWhole_whole _) dlogM (Memref.isWhole_whole _) dwM (Memref.isWhole_whole _) dxM (Memref.isWhole_whole _) xvM (Memref.isWhole_whole _) wvM (Memref.isWhole_whole _) scvM (Memref.isWhole_whole _) idvM (Memref.isWhole_whole _) zvM (Memref.isWhole_whole _) dlvM (Memref.isWhole_whole _) dsvM (Memref.isWhole_whole _) dlogvM (Memref.isWhole_whole _) auxvM (Memref.isWhole_whole _) ztvM (Memref.isWhole_whole _) pvM (Memref.isWhole_whole _) lsevM (Memref.isWhole_whole _) dxvM (Memref.isWhole_whole _) dwvM (Memref.isWhole_whole _) cc0_scratch14 cc0_scratch15 cc0_scratch16 cc0_scratch17 cc0_scratch18 cc0_scratch19

/-- A chunk's sources and counters, at rest again. -/
def home (b : Fin 32) : sProp 𝕄 := iprop(xhome c X b ∗ xcell c b ∗ whome c Wt b ∗ wcell c b)

theorem landed_out {k : ℕ} (hk : k = 32) : bigSep (Ring.rangeSet 32 0 k) (landed c X Wt)
    ⊢ iprop(xvP c (XV c X) ∗ wvP c (WV c Wt) ∗ bigSep (Ring.rangeSet 32 0 32) (home c X Wt)) := by
  subst hk
  have h : ∀ b, landed c X Wt b ⊢ iprop(xheld c b (XV c X) ∗ wheld c b (WV c Wt) ∗ home c X Wt b) := fun b => by
    rw [landed, home]
    iintro ⟨H1, H2, H3, H4, H5, H6⟩
    isplitl [H1]; · iexact H1
    isplitl [H4]; · iexact H4
    isplitl [H2]; · iexact H2
    isplitl [H3]; · iexact H3
    isplitl [H5]; · iexact H5
    iexact H6
  have e1 : bigSep (Ring.rangeSet 32 0 32) (fun b => iprop(xheld c b (XV c X) ∗ wheld c b (WV c Wt) ∗ home c X Wt b))
      = (iprop(bigSep (Ring.rangeSet 32 0 32) (fun b => xheld c b (XV c X)) ∗ bigSep (Ring.rangeSet 32 0 32) (fun b => iprop(wheld c b (WV c Wt) ∗ home c X Wt b))) : sProp 𝕄) :=
    BI.bigSep_sep _ _ _
  have e2 : bigSep (Ring.rangeSet 32 0 32) (fun b => iprop(wheld c b (WV c Wt) ∗ home c X Wt b))
      = (iprop(bigSep (Ring.rangeSet 32 0 32) (fun b => wheld c b (WV c Wt)) ∗ bigSep (Ring.rangeSet 32 0 32) (home c X Wt)) : sProp 𝕄) :=
    BI.bigSep_sep _ _ _
  refine (BI.bigSep_mono fun b _ => h b).trans ?_
  rw [e1, e2, ← xslot_blocks c (XV c X), ← wslot_blocks c (WV c Wt)]
  exact fun _ h => h

theorem none_yet (Φ : Fin 32 → sProp (MT nD τ sig Unit (Elt F) ℕ (UU nD τ) ℕ)) {lo hi : ℕ} (h : hi ≤ lo) :
    (iprop(emp) : sProp 𝕄) ⊢ bigSep (Ring.rangeSet 32 lo hi) Φ := by
  rw [Ring.bigSep_rangeSet_empty (Φ := Φ) h]

/-- Overwriting a whole buffer leaves what is written. -/
theorem write_whole (b : Ref sig .tc) (f w : b.ty.Contents (Elt F)) : (View.whole b : View sig .tc _ _ _).write (Elt F) f w Finset.univ = w := by
  funext i
  exact View.write_emb_of_mem (v := (View.whole b : View sig .tc _ _ _)) (Val := Elt F) f w (M := Finset.univ) (x := i) (Finset.mem_univ _)

/-- A whole buffer whose listed writes cover it holds what they wrote, whatever it held before. -/
theorem rebased {sp s e} (m : Memref sig .tc sp s e) (hw : m.IsWhole) (f : Buf (Elt F) (m.view.loc (c : Thread nD τ))) (L : List (View.Piece (Elt F) s e)) (t : LoadRect.Cov) :
    P c m (m.view.writes (Elt F) f L)
      ⊢ iprop(∃ g, ⌜LoadRect.covChk (L.map Sigma.fst) (LoadRect.whole s) t = true → g = m.view.writes (Elt F) m.view.junk L⌝ ∗ P c m g) := by
  iintro H; iexists _; isplitr
  · ipureintro; intro hc; exact Memref.writes_eq_junk_of_covChk hw f L t hc
  iexact H
theorem rebased_read {sp s e} (m : Memref sig .tc sp s e) (hw : m.IsWhole) (f : Buf (Elt F) (m.view.loc (c : Thread nD τ))) (L : List (View.Piece (Elt F) s e)) (t : LoadRect.Cov)
    (hc : LoadRect.covChk (L.map Sigma.fst) (LoadRect.whole s) t = true) :
    ReadAs.same.apply (m.view.read (Elt F) (m.view.writes (Elt F) f L)) = ReadAs.same.apply (m.view.read (Elt F) (m.view.writes (Elt F) m.view.junk L)) :=
  congrArg (fun g => ReadAs.same.apply (m.view.read (Elt F) g)) (Memref.writes_eq_junk_of_covChk hw f L t hc)

/-- Two rows of four tiles, listed from the last. -/
def covRow : LoadRect.Cov :=
  .split 0 1 (.split 1 256 (.leaf 7) (.split 1 256 (.leaf 6) (.split 1 256 (.leaf 5) (.leaf 4))))
    (.split 1 256 (.leaf 3) (.split 1 256 (.leaf 2) (.split 1 256 (.leaf 1) (.leaf 0))))
/-- Eight tiles along axis `a`, listed from the last. -/
def covCol (a : ℕ) : LoadRect.Cov :=
  .split a 256 (.leaf 7) (.split a 256 (.leaf 6) (.split a 256 (.leaf 5) (.split a 256 (.leaf 4) (.split a 256 (.leaf 3) (.split a 256 (.leaf 2) (.split a 256 (.leaf 1) (.leaf 0)))))))

theorem dx_open (Wv Dl) {k : ℕ} (hk : k = 32) : bigSep (Ring.rangeSet 32 (k - 3) k) (dxfly (F := F) c Wv Dl)
    ⊢ iprop(dxflyAt c Wv Dl 29 2 ∗ dxflyAt c Wv Dl 30 0 ∗ dxflyAt c Wv Dl 31 1) := by
  subst hk
  rw [show (32 - 3 : ℕ) = (29 : Fin 32).val from rfl, from_succ _ 29, show ((29 : Fin 32).val + 1 : ℕ) = (30 : Fin 32).val from rfl, from_succ _ 30,
    show ((30 : Fin 32).val + 1 : ℕ) = (31 : Fin 32).val from rfl, from_succ _ 31,
    show dxfly c Wv Dl 29 = dxflyAt c Wv Dl 29 2 from by rw [dxfly]; rfl, show dxfly c Wv Dl 30 = dxflyAt c Wv Dl 30 0 from by rw [dxfly]; rfl,
    show dxfly c Wv Dl 31 = dxflyAt c Wv Dl 31 1 from by rw [dxfly]; rfl]
  iintro ⟨H1, H2, H3, -⟩
  isplitl [H1]; · iexact H1
  isplitl [H2]; · iexact H2
  iexact H3
theorem dw_open (Xv Ds) {k : ℕ} (hk : k = 32) : bigSep (Ring.rangeSet 32 (k - 2) k) (dwfly (F := F) c Xv Ds)
    ⊢ iprop(dwflyAt c Xv Ds 30 0 ∗ dwflyAt c Xv Ds 31 1) := by
  subst hk
  rw [show (32 - 2 : ℕ) = (30 : Fin 32).val from rfl, from_succ _ 30, show ((30 : Fin 32).val + 1 : ℕ) = (31 : Fin 32).val from rfl, from_succ _ 31,
    show dwfly c Xv Ds 30 = dwflyAt c Xv Ds 30 0 from by rw [dwfly]; rfl, show dwfly c Xv Ds 31 = dwflyAt c Xv Ds 31 1 from by rw [dwfly]; rfl]
  iintro ⟨H1, H2, -⟩
  isplitl [H1]; · iexact H1
  iexact H2
theorem dx_close (Φ : Fin 32 → sProp (MT nD τ sig Unit (Elt F) ℕ (UU nD τ) ℕ)) {k : ℕ} (hk : k = 32) :
    iprop(bigSep (Ring.rangeSet 32 0 (k - 3)) Φ ∗ Φ 29 ∗ Φ 30 ∗ Φ 31) ⊢ bigSep (Ring.rangeSet 32 0 32) Φ := by
  subst hk
  rw [show bigSep (Ring.rangeSet 32 0 32) Φ = bigSep (Ring.rangeSet 32 0 ((31 : Fin 32).val + 1)) Φ from rfl, upTo_succ Φ 31,
    show (31 : Fin 32).val = (30 : Fin 32).val + 1 from rfl, upTo_succ Φ 30, show (30 : Fin 32).val = (29 : Fin 32).val + 1 from rfl, upTo_succ Φ 29]
  iintro ⟨H, H1, H2, H3⟩
  isplitl [H3]; · iexact H3
  isplitl [H2]; · iexact H2
  isplitl [H1]; · iexact H1
  iexact H
theorem dw_close (Φ : Fin 32 → sProp (MT nD τ sig Unit (Elt F) ℕ (UU nD τ) ℕ)) {k : ℕ} (hk : k = 32) :
    iprop(bigSep (Ring.rangeSet 32 0 (k - 2)) Φ ∗ Φ 30 ∗ Φ 31) ⊢ bigSep (Ring.rangeSet 32 0 32) Φ := by
  subst hk
  rw [show bigSep (Ring.rangeSet 32 0 32) Φ = bigSep (Ring.rangeSet 32 0 ((31 : Fin 32).val + 1)) Φ from rfl, upTo_succ Φ 31,
    show (31 : Fin 32).val = (30 : Fin 32).val + 1 from rfl, upTo_succ Φ 30]
  iintro ⟨H, H2, H3⟩
  isplitl [H3]; · iexact H3
  isplitl [H2]; · iexact H2
  iexact H
theorem rings_close : iprop((dxfree (F := F) c 0 ∗ dxfree (F := F) c 1 ∗ dxfree (F := F) c 2) ∗ dwfree (F := F) c 0 ∗ dwfree (F := F) c 1) ⊢ rings0 (F := F) c := by
  have e3 : bigSep (Ring.rangeSet 3 0 3) (dxfree (F := F) c) = (iprop(dxfree (F := F) c 0 ∗ dxfree (F := F) c 1 ∗ dxfree (F := F) c 2) : sProp 𝕄) := by
    rw [show Ring.rangeSet 3 0 3 = {0, 1, 2} by decide, BI.bigSep_insert (by decide), BI.bigSep_insert (by decide), BI.bigSep_singleton]; rfl
  have e2 : bigSep (Ring.rangeSet 2 0 2) (dwfree (F := F) c) = (iprop(dwfree (F := F) c 0 ∗ dwfree (F := F) c 1) : sProp 𝕄) := by
    rw [show Ring.rangeSet 2 0 2 = {0, 1} by decide, BI.bigSep_insert (by decide), BI.bigSep_singleton]; rfl
  rw [rings0, e3, e2]

/-- What the run leaves: the five small results' contents and the logits' gradient in the two layouts the big ones are computed from. -/
structure Outs (F : FTy → Type) [FloatOps F] (c : Dev nD) where
  aux : Buf (Elt F) (auxM.view.loc (c : Thread nD τ))
  zt : Buf (Elt F) (ztM.view.loc (c : Thread nD τ))
  p : Buf (Elt F) (pM.view.loc (c : Thread nD τ))
  lse : Buf (Elt F) (lseM.view.loc (c : Thread nD τ))
  dlog : Buf (Elt F) (dlogM.view.loc (c : Thread nD τ))
  dl : Buf (Elt F) (dlvM.view.loc (c : Thread nD τ))
  ds : Buf (Elt F) (dsvM.view.loc (c : Thread nD τ))

def bodyPost (v : Outs F c) : sProp 𝕄 :=
  iprop(bigSep (Ring.rangeSet 32 0 32) (home c X Wt) ∗ (∃ f, xvP c f) ∗ (∃ f, wvP c f) ∗ P c scM Sc ∗ P c idM Id ∗ scratch0 c
    ∗ P c auxM v.aux ∗ P c ztM v.zt ∗ P c pM v.p ∗ P c lseM v.lse ∗ P c dlogM v.dlog
    ∗ bigSep (Ring.rangeSet 32 0 32) (fun b => dxhome c b (DX c (WV c Wt) v.dl)) ∗ bigSep (Ring.rangeSet 32 0 32) (fun b => dwhome c b (DW c (XV c X) v.ds))
    ∗ rings0 c ∗ small0 c ∗ ∃ W, owes (c : Thread nD τ) 0 W)

end Body
end Cert.Proof.KernelIdeal

end
-- ==== Proof.IdealBody.lean ====
/- Hand-written, untrusted. The kernel's body, run once: the copies in, the histogram of the expert ids, the logits, the
   softmax tiles and the gradients. The contents it leaves in the seven VMEM buffers its results leave through are found by the run. -/
module

public import proofs.«01_k».proof.Proof.IdealEnds

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

open Idealize.ShloMosaic.ValueIdx

section Body
variable (c : Dev nD)
variable (X : Buf (Elt F) (xM.view.loc (c : Thread nD τ))) (Wt : Buf (Elt F) (wM.view.loc (c : Thread nD τ)))
variable (Sc : Buf (Elt F) (scM.view.loc (c : Thread nD τ))) (Id : Buf (Elt F) (idM.view.loc (c : Thread nD τ)))

set_option maxHeartbeats 0 in
/-- The body's run, and the contents it leaves. -/
def bodyRun : { v : Outs F c // bodyPre c X Wt Sc Id ⊢ wp Idealize.ShloMosaic.frame (wpE (defs₀ (F := F)) 𝒱₀ (c : Thread nD τ) none) Set.univ bodyG (fun _ => bodyPost c X Wt Sc Id v) } := by
  refine ⟨⟨?aux, ?zt, ?p, ?lse, ?dlog, ?dl, ?ds⟩, ?run⟩
  case run =>
    rw [bodyPre, scratch0, rings0, small0]
    iintro ⟨HW, Hsc, Hid, ⟨⟨%f1, Hscv⟩, ⟨%f2, Hidv⟩, ⟨%f3, Hzv⟩, ⟨%f4, Hdlv⟩, ⟨%f5, Hdsv⟩, ⟨%f6, Hdlogv⟩, ⟨%f7, Hauxv⟩, ⟨%f8, Hztv⟩, ⟨%f9, Hpv⟩, ⟨%f10, Hlsev⟩⟩,
      ⟨%g1, Haux⟩, ⟨%g2, Hzt⟩, ⟨%g3, Hp⟩, ⟨%g4, Hlse⟩, ⟨%g5, Hdlog⟩, HX, HWw, ⟨HRx, HRw⟩, ⟨Hc1, Hc2, Hc3, Hc4, Hc5, Hc6, Hc7⟩, Ho⟩
    ihave HF : bigSep (Ring.rangeSet 32 0 0) (flying c X Wt) $$ []
    · rw [Ring.bigSep_rangeSet_empty (Φ := flying c X Wt) (lo := 0) (hi := 0) (by omega)]
      iempintro
    ihave HL : bigSep (Ring.rangeSet 32 0 0) (landed c X Wt) $$ []
    · rw [Ring.bigSep_rangeSet_empty (Φ := landed c X Wt) (lo := 0) (hi := 0) (by omega)]
      iempintro
    icases Ho with ⟨%W, Ho⟩
    dsimp only [bodyG]
    sl_unfold [cc0_router_backward, k0_part48, k0_part6]
    set_option sl_exec.maxSteps 6 in sl_exec
    have eid : ∀ w, View.write (Elt F) idvM.view f2 w Finset.univ = w := fun w => write_whole (F := F) cc0_scratch3 f2 w
    have esc : ∀ w, View.write (Elt F) scvM.view f1 w Finset.univ = w := fun w => write_whole (F := F) cc0_scratch2 f1 w
    rw [eid, esc, show bodyRun.sl.dma0 c Id = Id from rfl, show bodyRun.sl.dma0_1 c Sc = Sc from rfl]
    sl_unfold [k0_part7, k0_part8, k0_part9, k0_part10, k0_part11, k0_part12, k0_part13, k0_part14, k0_part15, k0_part16, k0_part17, k0_part18, k0_part19, k0_part20, k0_part21, k0_part22, k0_part23, k0_part24, k0_part25, k0_part26, k0_part27, k0_part28, k0_part29, k0_part30, k0_part31, k0_part32, k0_part33, k0_part34, k0_part35, k0_part36, k0_part37, k0_part38, k0_part39, k0_part40, k0_part41, k0_part42, k0_part43, k0_part44, k0_part45, k0_part46]
    set_option sl_exec.stopBefore "k0_part47" in sl_exec!
    ihave HL := (landed_out c X Wt trips2) $$ HL
    icases HL with ⟨Hxv, Hwv, Hhome⟩
    ihave Hauxv := (rebased c auxvM (Memref.isWhole_whole _) _ _ covRow) $$ Hauxv
    icases Hauxv with ⟨%dauxv, %hdauxv, Hauxv⟩
    have hdauxv := hdauxv (rfl)
    subst hdauxv
    ihave Hztv := (rebased c ztvM (Memref.isWhole_whole _) _ _ covRow) $$ Hztv
    icases Hztv with ⟨%dztv, %hdztv, Hztv⟩
    have hdztv := hdztv (rfl)
    subst hdztv
    ihave Hlsev := (rebased c lsevM (Memref.isWhole_whole _) _ _ covRow) $$ Hlsev
    icases Hlsev with ⟨%dlsev, %hdlsev, Hlsev⟩
    have hdlsev := hdlsev (rfl)
    subst hdlsev
    ihave Hdlogv := (rebased c dlogvM (Memref.isWhole_whole _) _ _ (covCol 0)) $$ Hdlogv
    icases Hdlogv with ⟨%ddlogv, %hddlogv, Hdlogv⟩
    have hddlogv := hddlogv (rfl)
    subst hddlogv
    ihave Hdlv := (rebased c dlvM (Memref.isWhole_whole _) _ _ (covCol 0)) $$ Hdlv
    icases Hdlv with ⟨%Dl, %hDl, Hdlv⟩
    have hDl := hDl rfl
    ihave Hdsv := (rebased c dsvM (Memref.isWhole_whole _) _ _ (covCol 1)) $$ Hdsv
    icases Hdsv with ⟨%Ds, %hDs, Hdsv⟩
    have hDs := hDs rfl
    ihave HE1 := (none_yet (fun b => dxhome c b (DX c (WV c Wt) Dl)) (lo := 0) (hi := 0 - 3) (by omega)) $$ []
    · iempintro
    ihave HE2 := (none_yet (dxfly c (WV c Wt) Dl) (lo := 0 - 3) (hi := 0) (by omega)) $$ []
    · iempintro
    ihave HE3 := (none_yet (fun b => dwhome c b (DW c (XV c X) Ds)) (lo := 0) (hi := 0 - 2) (by omega)) $$ []
    · iempintro
    ihave HE4 := (none_yet (dwfly c (XV c X) Ds) (lo := 0 - 2) (hi := 0) (by omega)) $$ []
    · iempintro
    sl_unfold [k0_part47]
    sl_exec
    ihave HE2 := (dx_open c (WV c Wt) Dl trips3) $$ HE2
    ihave HE4 := (dw_open c (XV c X) Ds trips3) $$ HE4
    rw [dxflyAt, dxflyAt, dxflyAt, dwflyAt, dwflyAt]
    icases HE2 with ⟨⟨%h1, Hx2⟩, ⟨%h2, Hx0⟩, ⟨%h3, Hx1⟩⟩
    icases HE4 with ⟨⟨%h4, Hw0⟩, ⟨%h5, Hw1⟩⟩
    sl_exec
    sl_step
    have eg1 : ∀ w, View.write (Elt F) auxM.view g1 w Finset.univ = w := fun w => write_whole (F := F) main_v2_0 g1 w
    have eg2 : ∀ w, View.write (Elt F) ztM.view g2 w Finset.univ = w := fun w => write_whole (F := F) main_v2_1 g2 w
    have eg3 : ∀ w, View.write (Elt F) pM.view g3 w Finset.univ = w := fun w => write_whole (F := F) main_v2_2 g3 w
    have eg4 : ∀ w, View.write (Elt F) lseM.view g4 w Finset.univ = w := fun w => write_whole (F := F) main_v2_3 g4 w
    have eg5 : ∀ w, View.write (Elt F) dlogM.view g5 w Finset.univ = w := fun w => write_whole (F := F) main_v2_4 g5 w
    rw [eg1, eg2, eg3, eg4, eg5]
    have ep := rebased_read c pvM (Memref.isWhole_whole _) f9 (bodyRun.sl.Hpv_1 c X Wt Sc Id) (.leaf 0) (rfl)
    ihave HX := (dx_close (fun b => dxhome c b (DX c (WV c Wt) Dl)) trips3) $$ [HE1 Hx2_dst Hx0_dst Hx1_dst]
    · isplitl [HE1]; · iexact HE1
      isplitl [Hx2_dst]; · iexact Hx2_dst
      isplitl [Hx0_dst]; · iexact Hx0_dst
      iexact Hx1_dst
    ihave HWw := (dw_close (fun b => dwhome c b (DW c (XV c X) Ds)) trips3) $$ [HE3 Hw0_dst Hw1_dst]
    · isplitl [HE3]; · iexact HE3
      isplitl [Hw0_dst]; · iexact Hw0_dst
      iexact Hw1_dst
    ihave HR := (rings_close c) $$ [Hx0 Hx0_src Hx1 Hx1_src Hx2 Hx2_src Hw0 Hw0_src Hw1 Hw1_src]
    · rw [dxfree, dxfree, dxfree, dwfree, dwfree]
      isplitl [Hx0 Hx0_src Hx1 Hx1_src Hx2 Hx2_src]
      · isplitl [Hx0 Hx0_src]
        · isplitl [Hx0_src]; · iexists _; iexact Hx0_src
          iexact Hx0
        isplitl [Hx1 Hx1_src]
        · isplitl [Hx1_src]; · iexists _; iexact Hx1_src
          iexact Hx1
        isplitl [Hx2_src]; · iexists _; iexact Hx2_src
        iexact Hx2
      isplitl [Hw0 Hw0_src]
      · isplitl [Hw0_src]; · iexists _; iexact Hw0_src
        iexact Hw0
      isplitl [Hw1_src]; · iexists _; iexact Hw1_src
      iexact Hw1
    subst hDl
    subst hDs
    rw [show bodyRun.sl.dma1_2 c X Wt Sc Id f9 = _ from ep, bodyPost, scratch0, small0]
    isplitl [Hhome]; · iexact Hhome
    isplitl [Hxv]; · iexists _; iexact Hxv
    isplitl [Hwv]; · iexists _; iexact Hwv
    isplitl [Hsc]; · iexact Hsc
    isplitl [Hid]; · iexact Hid
    isplitl [Hscv Hidv Hzv Hdlv Hdsv Hdlogv Hauxv Hztv Hpv Hlsev]
    · isplitl [Hscv]; · iexists _; iexact Hscv
      isplitl [Hidv]; · iexists _; iexact Hidv
      isplitl [Hzv]; · iexists _; iexact Hzv
      isplitl [Hdlv]; · iexists _; iexact Hdlv
      isplitl [Hdsv]; · iexists _; iexact Hdsv
      isplitl [Hdlogv]; · iexists _; iexact Hdlogv
      isplitl [Hauxv]; · iexists _; iexact Hauxv
      isplitl [Hztv]; · iexists _; iexact Hztv
      isplitl [Hpv]; · iexists _; iexact Hpv
      iexists _; iexact Hlsev
    isplitl [Haux]; · iexact Haux
    isplitl [Hzt]; · iexact Hzt
    isplitl [Hp]; · iexact Hp
    isplitl [Hlse]; · iexact Hlse
    isplitl [Hdlog]; · iexact Hdlog
    isplitl [HX]; · iexact HX
    isplitl [HWw]; · iexact HWw
    isplitl [HR]; · iexact HR
    isplitl [Hc1 Hc2 Hc3 Hc4 Hc5 Hc6 Hc7]
    · isplitl [Hc1]; · iexact Hc1
      isplitl [Hc2]; · iexact Hc2
      isplitl [Hc3]; · iexact Hc3
      isplitl [Hc4]; · iexact Hc4
      isplitl [Hc5]; · iexact Hc5
      isplitl [Hc6]; · iexact Hc6
      iexact Hc7
    iexists _; iexact Ho

end Body
end Cert.Proof.KernelIdeal

end
-- ==== Proof.IdealCells.lean ====
/- Hand-written, untrusted. The copy counters the kernel owns, kind by kind. -/
module

public import proofs.«01_k».proof.Proof.IdealBlocks

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! ## The kernel's own copy counters -/

/-- The counters of the single transfers: the two copies in, then the five results copied out whole. -/
def lone : Fin 7 → DmaSems sig S_
  | 0 => (cc0_scratch16.slice (Rect.unit (s := S2) ![1] S1.size inb_S2_S1_1)).squeeze S_ squeezes_S1_S_
  | 1 => (cc0_scratch16.slice (Rect.unit (s := S2) ![0] S1.size inb_S2_S1_0)).squeeze S_ squeezes_S1_S_
  | 2 => (cc0_scratch17.slice (Rect.unit (s := S5) ![0] S1.size inb_S5_S1_0)).squeeze S_ squeezes_S1_S_
  | 3 => (cc0_scratch17.slice (Rect.unit (s := S5) ![1] S1.size inb_S5_S1_1)).squeeze S_ squeezes_S1_S_
  | 4 => (cc0_scratch17.slice (Rect.unit (s := S5) ![2] S1.size inb_S5_S1_2)).squeeze S_ squeezes_S1_S_
  | 5 => (cc0_scratch17.slice (Rect.unit (s := S5) ![3] S1.size inb_S5_S1_3)).squeeze S_ squeezes_S1_S_
  | 6 => (cc0_scratch17.slice (Rect.unit (s := S5) ![4] S1.size inb_S5_S1_4)).squeeze S_ squeezes_S1_S_

/-- Every counter the kernel uses: one per chunk of the tokens and of the weights, the rings' and the single transfers'. -/
abbrev Own : Type := Fin 32 ⊕ (Fin 32 ⊕ (Fin 3 ⊕ (Fin 2 ⊕ Fin 7)))
def osem : Own → SemLoc sig
  | .inl b => .dma (xsem b).sem
  | .inr (.inl b) => .dma (wsem b).sem
  | .inr (.inr (.inl s)) => .dma (dxsem s).sem
  | .inr (.inr (.inr (.inl s))) => .dma (dwsem s).sem
  | .inr (.inr (.inr (.inr k))) => .dma (lone k).sem

set_option maxRecDepth 100000 in
theorem ownSemFacts : Pipeline.OwnSemFacts cfg0.spec osem := by decide +kernel

omit [FloatOps F] in
theorem bigSep_inl_inr {A B : Type} [Fintype A] [Fintype B] [DecidableEq A] [DecidableEq B] (Φ : A ⊕ B → sProp (MT nD τ sig Unit (Elt F) ℕ (UU nD τ) ℕ)) :
    bigSep Finset.univ Φ = (iprop(bigSep Finset.univ (fun a => Φ (.inl a)) ∗ bigSep Finset.univ (fun b => Φ (.inr b))) : sProp 𝕄) := by
  have e : (Finset.univ : Finset (A ⊕ B)) = Finset.univ.image Sum.inl ∪ Finset.univ.image Sum.inr := by
    ext x; rcases x with x | x <;> simp
  have hd : Disjoint (Finset.univ.image (Sum.inl : A → A ⊕ B)) (Finset.univ.image (Sum.inr : B → A ⊕ B)) := by
    rw [Finset.disjoint_left]; intro x hx hy
    obtain ⟨a, -, rfl⟩ := Finset.mem_image.mp hx
    obtain ⟨b, -, h⟩ := Finset.mem_image.mp hy
    exact absurd h (by simp)
  rw [e, BI.bigSep_union hd]
  congr 1
  · unfold BI.bigSep; rw [Finset.fold_image (fun a _ b _ h => Sum.inl.inj h)]; rfl
  · unfold BI.bigSep; rw [Finset.fold_image (fun a _ b _ h => Sum.inr.inj h)]; rfl

omit [FloatOps F] in
/-- The counters all at rest, kind by kind. -/
theorem ownSems0_kinds (c : Dev nD) :
    (Pipeline.ownSems0 (Ix := Unit) (Name := ℕ) (U := UU nD τ) (Lvl := ℕ) (Val := Elt F) (τ := τ) osem c : sProp 𝕄)
      = iprop(bigSep (Ring.rangeSet 32 0 32) (xcell (F := F) c) ∗ bigSep (Ring.rangeSet 32 0 32) (wcell (F := F) c)
          ∗ bigSep (Ring.rangeSet 3 0 3) (dxcell (F := F) c) ∗ bigSep (Ring.rangeSet 2 0 2) (dwcell (F := F) c)
          ∗ bigSep Finset.univ fun k => semVal ((c : Thread nD τ), SemLoc.dma (lone k).sem) 0) := by
  rw [Ring.rangeSet_univ, Ring.rangeSet_univ, Ring.rangeSet_univ]
  unfold Pipeline.ownSems0
  rw [bigSep_inl_inr, bigSep_inl_inr, bigSep_inl_inr, bigSep_inl_inr]
  rfl

omit [FloatOps F] in
theorem bigSep_seven (Φ : Fin 7 → sProp (MT nD τ sig Unit (Elt F) ℕ (UU nD τ) ℕ)) :
    bigSep Finset.univ Φ = (iprop(Φ 0 ∗ Φ 1 ∗ Φ 2 ∗ Φ 3 ∗ Φ 4 ∗ Φ 5 ∗ Φ 6) : sProp 𝕄) := by
  rw [bigSep_univ_eq_bigSepL [0, 1, 2, 3, 4, 5, 6] (by decide) (by decide)]
  rfl

end Cert.Proof.KernelIdeal

end
-- ==== Proof.IdealHand.lean ====
/- Hand-written, untrusted. The kernel launched: what its region is handed is what the body starts from, what the body ends
   with is what the region gives back, and so what every buffer holds when @main has ended. -/
module

public import proofs.«01_k».proof.Proof.IdealEnds
public import proofs.«01_k».proof.Proof.IdealCells

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! ## The buffers that go round the pipeline -/

/-- The inputs the body reads by itself. -/
def ins : Finset (Ref sig .tc) := {main_v0, main_arg1, main_arg2, main_v1}
/-- The results it writes by itself. -/
def outs : Finset (Ref sig .tc) := {main_v2_0, main_v2_1, main_v2_2, main_v2_3, main_v2_4, main_v2_5, main_v2_6}

omit [FloatOps F] in
/-- A product of pairs is the pair of the products. -/
theorem sep_pair {n : ℕ} (s : Finset (Fin n)) (Φ Ψ : Fin n → sProp (MT nD τ sig Unit (Elt F) ℕ (UU nD τ) ℕ)) :
    bigSep s (fun b => iprop(Φ b ∗ Ψ b)) = (iprop(bigSep s Φ ∗ bigSep s Ψ) : sProp 𝕄) := BI.bigSep_sep s Φ Ψ

omit [FloatOps F] in
theorem bigSep_ins (Φ : Ref sig .tc → sProp (MT nD τ sig Unit (Elt F) ℕ (UU nD τ) ℕ)) :
    bigSep ins Φ = (iprop(Φ main_v0 ∗ Φ main_arg1 ∗ Φ main_arg2 ∗ Φ main_v1) : sProp 𝕄) := by
  unfold ins
  rw [bigSep_insert (by decide), bigSep_insert (by decide), bigSep_insert (by decide), bigSep_singleton]; rfl
omit [FloatOps F] in
theorem bigSep_outs (Φ : Ref sig .tc → sProp (MT nD τ sig Unit (Elt F) ℕ (UU nD τ) ℕ)) :
    bigSep outs Φ = (iprop(Φ main_v2_0 ∗ Φ main_v2_1 ∗ Φ main_v2_2 ∗ Φ main_v2_3 ∗ Φ main_v2_4 ∗ Φ main_v2_5 ∗ Φ main_v2_6) : sProp 𝕄) := by
  unfold outs
  rw [bigSep_insert (by decide), bigSep_insert (by decide), bigSep_insert (by decide), bigSep_insert (by decide), bigSep_insert (by decide),
    bigSep_insert (by decide), bigSep_singleton]
  rfl

section Region
variable (m : (ℓ : Loc nD τ sig) → Buf (Elt F) ℓ) (c : Dev nD)

/-- Every result's contents after the region; any other buffer's as the region finds them. -/
def G (v : Outs F c) (b : Ref sig .tc) : Buf (Elt F) ((c : Thread nD τ).loc b) :=
  if h0 : b = main_v2_0 then h0 ▸ v.aux
  else if h1 : b = main_v2_1 then h1 ▸ v.zt
  else if h2 : b = main_v2_2 then h2 ▸ v.p
  else if h3 : b = main_v2_3 then h3 ▸ v.lse
  else if h4 : b = main_v2_4 then h4 ▸ v.dlog
  else if h5 : b = main_v2_5 then h5 ▸ DW c (XV c (V m c main_v0)) v.ds
  else if h6 : b = main_v2_6 then h6 ▸ DX c (WV c (V m c main_arg2)) v.dl
  else V m c b

theorem G0 (v : Outs F c) : G m c v main_v2_0 = v.aux := by unfold G; rw [dif_pos rfl]
theorem G1 (v : Outs F c) : G m c v main_v2_1 = v.zt := by unfold G; rw [dif_neg (by decide), dif_pos rfl]
theorem G2 (v : Outs F c) : G m c v main_v2_2 = v.p := by unfold G; rw [dif_neg (by decide), dif_neg (by decide), dif_pos rfl]
theorem G3 (v : Outs F c) : G m c v main_v2_3 = v.lse := by unfold G; rw [dif_neg (by decide), dif_neg (by decide), dif_neg (by decide), dif_pos rfl]
theorem G4 (v : Outs F c) : G m c v main_v2_4 = v.dlog := by
  unfold G; rw [dif_neg (by decide), dif_neg (by decide), dif_neg (by decide), dif_neg (by decide), dif_pos rfl]
theorem G5 (v : Outs F c) : G m c v main_v2_5 = DW c (XV c (V m c main_v0)) v.ds := by
  unfold G; rw [dif_neg (by decide), dif_neg (by decide), dif_neg (by decide), dif_neg (by decide), dif_neg (by decide), dif_pos rfl]
theorem G6 (v : Outs F c) : G m c v main_v2_6 = DX c (WV c (V m c main_arg2)) v.dl := by
  unfold G; rw [dif_neg (by decide), dif_neg (by decide), dif_neg (by decide), dif_neg (by decide), dif_neg (by decide), dif_neg (by decide), dif_pos rfl]

/-- The region's state before and after the body: the scratch at anything, the counters at rest, the inputs as found, the
    results as found or as left. -/
abbrev held (W : (c : Dev nD) → (b : Ref sig .tc) → Buf (Elt F) ((c : Thread nD τ).loc b)) : sProp 𝕄 :=
  Pipeline.ΦDRV osem cfg0.spec ins outs (fun c b => V0 m c (Proc.devRef .tc b)) W c

/-- The chunks' pieces and counters, gathered from the whole buffers. -/
theorem to_waiting (X : Buf (Elt F) (xM.view.loc (c : Thread nD τ))) (Wt : Buf (Elt F) (wM.view.loc (c : Thread nD τ))) :
    (iprop((∃ f, xvP c f) ∗ P c xM X ∗ bigSep (Ring.rangeSet 32 0 32) (xcell (F := F) c)
      ∗ (∃ f, wvP c f) ∗ P c wM Wt ∗ bigSep (Ring.rangeSet 32 0 32) (wcell (F := F) c)) : sProp 𝕄)
      ⊢ bigSep (Ring.rangeSet 32 0 32) (waiting c X Wt) := by
  have e1 := sep_pair (Ring.rangeSet 32 0 32) (fun b => (iprop(∃ f, xheld c b f) : sProp 𝕄)) (fun b => iprop(xhome c X b ∗ xcell c b ∗ (∃ f, wheld c b f) ∗ whome c Wt b ∗ wcell c b))
  have e2 := sep_pair (Ring.rangeSet 32 0 32) (fun b => (xhome c X b : sProp 𝕄)) (fun b => iprop(xcell c b ∗ (∃ f, wheld c b f) ∗ whome c Wt b ∗ wcell c b))
  have e3 := sep_pair (Ring.rangeSet 32 0 32) (fun b => (xcell c b : sProp 𝕄)) (fun b => iprop((∃ f, wheld c b f) ∗ whome c Wt b ∗ wcell c b))
  have e4 := sep_pair (Ring.rangeSet 32 0 32) (fun b => (iprop(∃ f, wheld c b f) : sProp 𝕄)) (fun b => iprop(whome c Wt b ∗ wcell c b))
  have e5 := sep_pair (Ring.rangeSet 32 0 32) (fun b => (whome c Wt b : sProp 𝕄)) (fun b => (wcell c b : sProp 𝕄))
  have h : iprop(bigSep (Ring.rangeSet 32 0 32) (fun b => (iprop(∃ f, xheld c b f) : sProp 𝕄)) ∗ bigSep (Ring.rangeSet 32 0 32) (fun b => (xhome c X b : sProp 𝕄))
      ∗ bigSep (Ring.rangeSet 32 0 32) (fun b => (xcell c b : sProp 𝕄)) ∗ bigSep (Ring.rangeSet 32 0 32) (fun b => (iprop(∃ f, wheld c b f) : sProp 𝕄))
      ∗ bigSep (Ring.rangeSet 32 0 32) (fun b => (whome c Wt b : sProp 𝕄)) ∗ bigSep (Ring.rangeSet 32 0 32) (fun b => (wcell c b : sProp 𝕄)))
      ⊢ bigSep (Ring.rangeSet 32 0 32) (waiting c X Wt) := by
    rw [← e5, ← e4, ← e3, ← e2, ← e1]
    exact fun _ h => h
  refine BIBase.Entails.trans ?_ h
  iintro ⟨⟨%f, Hx⟩, HX, Hxc, ⟨%g, Hw⟩, HW, Hwc⟩
  isplitl [Hx]; · iapply (xslot_split c f); iexact Hx
  isplitl [HX]; · iapply (Entails.of_eq (xsrc_blocks c X)); iexact HX
  isplitl [Hxc]; · iexact Hxc
  isplitl [Hw]; · iapply (wslot_split c g); iexact Hw
  isplitl [HW]; · iapply (Entails.of_eq (wsrc_blocks c Wt)); iexact HW
  iexact Hwc

/-- And given back. -/
theorem of_home (X : Buf (Elt F) (xM.view.loc (c : Thread nD τ))) (Wt : Buf (Elt F) (wM.view.loc (c : Thread nD τ))) :
    (bigSep (Ring.rangeSet 32 0 32) (home c X Wt) : sProp 𝕄)
      ⊢ iprop(P c xM X ∗ bigSep (Ring.rangeSet 32 0 32) (xcell (F := F) c) ∗ P c wM Wt ∗ bigSep (Ring.rangeSet 32 0 32) (wcell (F := F) c)) := by
  have e2 := sep_pair (Ring.rangeSet 32 0 32) (fun b => (xhome c X b : sProp 𝕄)) (fun b => iprop(xcell c b ∗ whome c Wt b ∗ wcell c b))
  have e3 := sep_pair (Ring.rangeSet 32 0 32) (fun b => (xcell c b : sProp 𝕄)) (fun b => iprop(whome c Wt b ∗ wcell c b))
  have e5 := sep_pair (Ring.rangeSet 32 0 32) (fun b => (whome c Wt b : sProp 𝕄)) (fun b => (wcell c b : sProp 𝕄))
  have h : (bigSep (Ring.rangeSet 32 0 32) (home c X Wt) : sProp 𝕄) ⊢ iprop(bigSep (Ring.rangeSet 32 0 32) (fun b => (xhome c X b : sProp 𝕄))
      ∗ bigSep (Ring.rangeSet 32 0 32) (fun b => (xcell c b : sProp 𝕄))
      ∗ bigSep (Ring.rangeSet 32 0 32) (fun b => (whome c Wt b : sProp 𝕄)) ∗ bigSep (Ring.rangeSet 32 0 32) (fun b => (wcell c b : sProp 𝕄))) := by
    rw [← e5, ← e3, ← e2]
    exact fun _ h => h
  refine h.trans ?_
  iintro ⟨HX, Hxc, HW, Hwc⟩
  isplitl [HX]; · iapply (Entails.of_eq (xsrc_blocks c X).symm); iexact HX
  isplitl [Hxc]; · iexact Hxc
  isplitl [HW]; · iapply (Entails.of_eq (wsrc_blocks c Wt).symm); iexact HW
  iexact Hwc

/-- The rings gathered from the whole buffers, -/
theorem to_rings : (iprop((∃ f, P c dxvM f) ∗ (∃ f, P c dwvM f) ∗ bigSep (Ring.rangeSet 3 0 3) (dxcell (F := F) c) ∗ bigSep (Ring.rangeSet 2 0 2) (dwcell (F := F) c)) : sProp 𝕄)
    ⊢ rings0 (F := F) c := by
  have e1 := sep_pair (Ring.rangeSet 3 0 3) (fun s => (iprop(∃ f, dxheld c s f) : sProp 𝕄)) (fun s => (dxcell c s : sProp 𝕄))
  have e2 := sep_pair (Ring.rangeSet 2 0 2) (fun s => (iprop(∃ f, dwheld c s f) : sProp 𝕄)) (fun s => (dwcell c s : sProp 𝕄))
  rw [rings0]
  iintro ⟨⟨%f, Hf⟩, ⟨%g, Hg⟩, Hc, Hd⟩
  isplitl [Hf Hc]
  · iapply (Entails.of_eq e1.symm)
    isplitl [Hf]; · iapply (dxslot_split c f); iexact Hf
    iexact Hc
  iapply (Entails.of_eq e2.symm)
  isplitl [Hg]; · iapply (dwslot_split c g); iexact Hg
  iexact Hd
/-- and given back. -/
theorem of_rings [∀ e, Nonempty (Elt F e)] : rings0 (F := F) c ⊢ (iprop((∃ f, P c dxvM f) ∗ (∃ f, P c dwvM f) ∗ bigSep (Ring.rangeSet 3 0 3) (dxcell (F := F) c) ∗ bigSep (Ring.rangeSet 2 0 2) (dwcell (F := F) c)) : sProp 𝕄) := by
  have e1 := sep_pair (Ring.rangeSet 3 0 3) (fun s => (iprop(∃ f, dxheld c s f) : sProp 𝕄)) (fun s => (dxcell c s : sProp 𝕄))
  have e2 := sep_pair (Ring.rangeSet 2 0 2) (fun s => (iprop(∃ f, dwheld c s f) : sProp 𝕄)) (fun s => (dwcell c s : sProp 𝕄))
  rw [rings0]
  iintro ⟨H1, H2⟩
  ihave H1 := (Entails.of_eq (show bigSep (Ring.rangeSet 3 0 3) (dxfree (F := F) c) = _ from e1)) $$ H1
  ihave H2 := (Entails.of_eq (show bigSep (Ring.rangeSet 2 0 2) (dwfree (F := F) c) = _ from e2)) $$ H2
  icases H1 with ⟨H1, Hc⟩
  icases H2 with ⟨H2, Hd⟩
  isplitl [H1]; · iapply (dxslot_join c); iexact H1
  isplitl [H2]; · iapply (dwslot_join c); iexact H2
  isplitl [Hc]; · iexact Hc
  iexact Hd

/-- What the region hands the body is what the body starts from. -/
theorem start : iprop(held m c (fun c b => V0 m c (Proc.devRef .tc b)) ∗ ∃ W, owes (c : Thread nD τ) 0 W)
    ⊢ (bodyPre c (V m c main_v0) (V m c main_arg2) (V m c main_arg1) (V m c main_v1) : sProp 𝕄) := by
  unfold held Pipeline.ΦDRV
  rw [scopedRest0_eq, ownSems0_kinds, bigSep_ins, bigSep_outs, bigSep_seven, bodyPre, scratch0, small0]
  iintro ⟨⟨⟨S0, S1, S2, S3, S4, S5, S6, S7, S8, S9, S10, S11, S12, S13⟩, ⟨Cx, Cw, Cdx, Cdw, C1, C2, C3, C4, C5, C6, C7⟩, ⟨I0, I1, I2, I3⟩, ⟨R0, R1, R2, R3, R4, R5, R6⟩⟩, Ho⟩
  isplitl [S0 S1 Cx Cw I0 I2]
  · iapply (to_waiting c (V m c main_v0) (V m c main_arg2))
    isplitl [S0]; · iexact S0
    isplitl [I0]; · iexact I0
    isplitl [Cx]; · iexact Cx
    isplitl [S1]; · iexact S1
    isplitl [I2]; · iexact I2
    iexact Cw
  isplitl [I1]; · iexact I1
  isplitl [I3]; · iexact I3
  isplitl [S2 S3 S4 S5 S6 S7 S8 S9 S10 S11]
  · isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    iexact S11
  isplitl [R0]; · iexists _; iexact R0
  isplitl [R1]; · iexists _; iexact R1
  isplitl [R2]; · iexists _; iexact R2
  isplitl [R3]; · iexists _; iexact R3
  isplitl [R4]; · iexists _; iexact R4
  isplitl [R6]; · iapply (dxdst_split c _); iexact R6
  isplitl [R5]; · iapply (dwdst_split c _); iexact R5
  isplitl [S12 S13 Cdx Cdw]
  · iapply (to_rings c)
    isplitl [S12]; · iexact S12
    isplitl [S13]; · iexact S13
    isplitl [Cdx]; · iexact Cdx
    iexact Cdw
  isplitl [C1 C2 C3 C4 C5 C6 C7]
  · isplitl [C1]; · iexact C1
    isplitl [C2]; · iexact C2
    isplitl [C3]; · iexact C3
    isplitl [C4]; · iexact C4
    isplitl [C5]; · iexact C5
    isplitl [C6]; · iexact C6
    iexact C7
  iexact Ho

/-- And what it ends with is what the region gives back. -/
theorem finish (w : (c : Dev nD) → Outs F c) [∀ e, Nonempty (Elt F e)] : (bodyPost c (V m c main_v0) (V m c main_arg2) (V m c main_arg1) (V m c main_v1) (w c) : sProp 𝕄)
    ⊢ iprop(held m c (fun c => G m c (w c)) ∗ ∃ W, owes (c : Thread nD τ) 0 W) := by
  unfold held Pipeline.ΦDRV
  rw [scopedRest0_eq, ownSems0_kinds, bigSep_ins, bigSep_outs, bigSep_seven, bodyPost, scratch0, small0]
  beta_reduce
  rw [G0, G1, G2, G3, G4, G5, G6]
  iintro ⟨Hh, S0, S1, I1, I3, ⟨S2, S3, S4, S5, S6, S7, S8, S9, S10, S11⟩, R0, R1, R2, R3, R4, R6, R5, Hr, ⟨C1, C2, C3, C4, C5, C6, C7⟩, Ho⟩
  ihave Hh := (of_home c _ _) $$ Hh
  icases Hh with ⟨I0, Cx, I2, Cw⟩
  ihave Hr := (of_rings c) $$ Hr
  icases Hr with ⟨S12, S13, Cdx, Cdw⟩
  isplitr [Ho]
  · isplitl [S0 S1 S2 S3 S4 S5 S6 S7 S8 S9 S10 S11 S12 S13]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]; · iexact S11
      isplitl [S12]; · iexact S12
      iexact S13
    isplitl [Cx Cw Cdx Cdw C1 C2 C3 C4 C5 C6 C7]
    · isplitl [Cx]; · iexact Cx
      isplitl [Cw]; · iexact Cw
      isplitl [Cdx]; · iexact Cdx
      isplitl [Cdw]; · iexact Cdw
      isplitl [C1]; · iexact C1
      isplitl [C2]; · iexact C2
      isplitl [C3]; · iexact C3
      isplitl [C4]; · iexact C4
      isplitl [C5]; · iexact C5
      isplitl [C6]; · iexact C6
      iexact C7
    isplitl [I0 I1 I2 I3]
    · isplitl [I0]; · iexact I0
      isplitl [I1]; · iexact I1
      isplitl [I2]; · iexact I2
      iexact I3
    isplitl [R0]; · iexact R0
    isplitl [R1]; · iexact R1
    isplitl [R2]; · iexact R2
    isplitl [R3]; · iexact R3
    isplitl [R4]; · iexact R4
    isplitl [R5]; · iapply (Entails.of_eq (dwdst_blocks c _).symm); iexact R5
    iapply (Entails.of_eq (dxdst_blocks c _).symm); iexact R6
  iexact Ho

end Region
end Cert.Proof.KernelIdeal

end
-- ==== Proof.IdealLaunch.lean ====
/- Hand-written, untrusted. The kernel launched: what every buffer holds when @main has ended, from the body's run. -/
module

public import proofs.«01_k».proof.Proof.IdealHand

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Region
variable (m : (ℓ : Loc nD τ sig) → Buf (Elt F) ℓ) (w : (c : Dev nD) → Outs F c) (c : Dev nD)

/-- The body, from the launch memory `m`, leaves `w`. -/
def runs : Prop := ∀ c : Dev nD, (bodyPre c (V m c main_v0) (V m c main_arg2) (V m c main_arg1) (V m c main_v1) : sProp 𝕄)
  ⊢ wp Idealize.ShloMosaic.frame (wpE (defs₀ (F := F)) 𝒱₀ (c : Thread nD τ) none) Set.univ bodyG
    (fun _ => bodyPost c (V m c main_v0) (V m c main_arg2) (V m c main_arg1) (V m c main_v1) (w c))

/-! ## The region's proof data and its one point -/

/-- No window: only the state before and after the one point. -/
def dats (_ : Fin 1) (c : Dev nD) : Pipeline.Dat τ (Elt F) Unit ℕ (UU nD τ) ℕ cfg0 c where
  A w := w.elim0
  after w _ := w.elim0
  Φ t := if t = 0 then held m c (fun c b => V0 m c (Proc.devRef .tc b)) else held m c (fun c => G m c (w c))
  q _ := fullShare
  owed _ := 0

theorem Φ_first : (dats m w 0 c).Φ 0 = held m c (fun c b => V0 m c (Proc.devRef .tc b)) := by
  unfold dats; dsimp only; exact if_pos rfl
theorem Φ_last : (dats m w 0 c).Φ (Fin.last cfg0.N) = held m c (fun c => G m c (w c)) := by
  unfold dats; dsimp only; exact if_neg (by decide)

theorem defs_tc : (defs₀ (F := F)) .tc cfg0.body = fun _ => bodyG := rfl
theorem prog_eq (t : Fin cfg0.N) : (defs₀ (F := F)) .tc cfg0.body (cfg0.bodyArgs t (cfg0.slots t)) = bodyG :=
  congrFun defs_tc _

set_option backward.isDefEq.respectTransparency.types false in
theorem body_obligation (hb : runs m w) [∀ e, Nonempty (Elt F e)] : Pipeline.BodyObligation (dats m w 0 c) (defs₀ (F := F)) 𝒱₀ () Set.univ := fun t => by
  obtain rfl := fin_N0 t
  have h0 : (dats m w 0 c).Φ (Fin.castSucc t0_0) = held m c (fun c b => V0 m c (Proc.devRef .tc b)) := Φ_first m w c
  have h1 : (dats m w 0 c).Φ (Fin.succ t0_0) = held m c (fun c => G m c (w c)) := Φ_last m w c
  have hb := hb c
  have hs := start m c
  have hf := finish m c w
  rw [h0, h1]
  unfold Pipeline.Dat.owesAt Pipeline.owesWithin
  rw [show (dats m w 0 c).owed (Fin.castSucc t0_0) = 0 from rfl, show (dats m w 0 c).owed (Fin.succ t0_0) = 0 from rfl]
  iintro ⟨HΦ, ⟨%W, -, HW⟩, -⟩
  sl_rw [prog_eq t0_0]
  iapply (wp_wand_r Idealize.ShloMosaic.frame (wpE (defs₀ (F := F)) 𝒱₀ (c : Thread nD τ) none) Set.univ)
  isplitl [HΦ HW]
  · iapply hb
    iapply hs
    isplitl [HΦ]; · iexact HΦ
    iexists _; iexact HW
  iintro %_ HP
  ihave HP := hf $$ HP
  icases HP with ⟨HΦ, ⟨%W', HW⟩⟩
  isplitl [HΦ]; · iexact HΦ
  isplitl [HW]
  · iexists W'; isplitr
    · ipureintro; exact fun _ _ => Or.inl trivial
    iexact HW
  rw [show (Finset.univ : Finset (Fin cfg0.W)) = ∅ from rfl, BI.bigSep_empty]
  iempintro

/-! ## @main's run -/

/-- The contents the lines after the region run from. -/
def after1 : Valuation τ sig (Elt F) := Pipeline.withArrays cfg0.spec c (Pipeline.withR (V0 m c) outs c (G m c (w c))) fun k => (dats m w 0 c).arrAt k cfg0.N

theorem after1_out (b : Ref sig .tc) (hb : b ∈ outs) : after1 m w c (Proc.devRef .tc b) = G m c (w c) b :=
  (Pipeline.withArrays_of_ne _ c _ _ b (fun k => k.elim0)).trans (Pipeline.withR_of_mem _ _ c _ b hb)
theorem after1_other (b : Ref sig .tc) (hb : b ∉ outs) : after1 m w c (Proc.devRef .tc b) = V m c b :=
  (Pipeline.withArrays_of_ne _ c _ _ b (fun k => k.elim0)).trans (Pipeline.withR_of_not_mem _ _ c _ b hb)

/-- A buffer the last lines do not write ends as the region leaves it. -/
theorem final_ne (b : Ref sig .tc) (h3 : b ≠ main_v3) (h4 : b ≠ main_v4) (h5 : b ≠ main_v5) :
    StableHlo.after ([hostOps1 (F := F)] : List (List (HloOp τ sig (Elt F)))).flatten (after1 m w c) (Proc.devRef .tc b) = after1 m w c (Proc.devRef .tc b) :=
  StableHlo.after_of_forall_not_mem (b := Proc.devRef .tc b) _ _ (List.forall_iff_forall_mem.mp (by
    simp only [hostOps1, List.flatten_cons, List.flatten_nil, List.append_nil, List.cons_append,
      List.nil_append, List.Forall, StableHlo.reshape_writes, Finset.mem_singleton]
    exact ⟨StableHlo.devRef_ne_of_ne h3, StableHlo.devRef_ne_of_ne h4, StableHlo.devRef_ne_of_ne h5⟩))
theorem final_v3 : StableHlo.after ([hostOps1 (F := F)] : List (List (HloOp τ sig (Elt F)))).flatten (after1 m w c) (Proc.devRef .tc main_v3)
    = shapeCast S128 (after1 m w c (Proc.devRef .tc main_v2_2)) shapeCasts_S1x128_S128 := by
  simp only [hostOps1, List.flatten_cons, List.flatten_nil, List.append_nil, List.cons_append, List.nil_append]
  after_results <;> rfl
theorem final_v4 : StableHlo.after ([hostOps1 (F := F)] : List (List (HloOp τ sig (Elt F)))).flatten (after1 m w c) (Proc.devRef .tc main_v4)
    = shapeCast S2x1024x128 (after1 m w c (Proc.devRef .tc main_v2_4)) shapeCasts_S2048x128_S2x1024x128 := by
  simp only [hostOps1, List.flatten_cons, List.flatten_nil, List.append_nil, List.cons_append, List.nil_append]
  after_results <;> rfl
theorem final_v5 : StableHlo.after ([hostOps1 (F := F)] : List (List (HloOp τ sig (Elt F)))).flatten (after1 m w c) (Proc.devRef .tc main_v5)
    = shapeCast S2x1024x16384 (after1 m w c (Proc.devRef .tc main_v2_6)) shapeCasts_S2048x16384_S2x1024x16384 := by
  simp only [hostOps1, List.flatten_cons, List.flatten_nil, List.append_nil, List.cons_append, List.nil_append]
  after_results <;> rfl

/-- What the run leaves: the results, the arguments as launched, every semaphore at zero. -/
def Ends (r : PUnit × MemSt nD τ sig (Elt F)) : Prop :=
  (∀ c : Dev nD, (r.2.mem ((c.tc : Thread nD τ).loc main_v2_0) = (w c).aux
      ∧ r.2.mem ((c.tc : Thread nD τ).loc main_v2_1) = (w c).zt
      ∧ r.2.mem ((c.tc : Thread nD τ).loc main_v3) = shapeCast S128 (w c).p shapeCasts_S1x128_S128
      ∧ r.2.mem ((c.tc : Thread nD τ).loc main_v2_3) = (w c).lse
      ∧ r.2.mem ((c.tc : Thread nD τ).loc main_v4) = shapeCast S2x1024x128 (w c).dlog shapeCasts_S2048x128_S2x1024x128
      ∧ r.2.mem ((c.tc : Thread nD τ).loc main_v2_5) = DW c (XV c (V m c main_v0)) (w c).ds
      ∧ r.2.mem ((c.tc : Thread nD τ).loc main_v5) = shapeCast S2x1024x16384 (DX c (WV c (V m c main_arg2)) (w c).dl) shapeCasts_S2048x16384_S2x1024x16384)
    ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
  ∧ r.2.sem = fun _ => 0

theorem ins_sub : ins ⊆ Pipeline.restRefs sig cfg0.spec := by
  intro b hb
  simp only [ins, Finset.mem_insert, Finset.mem_singleton] at hb
  rcases hb with rfl | rfl | rfl | rfl
  all_goals exact Pipeline.mem_restRefs_of _ (by decide) (by decide)
theorem outs_sub : outs ⊆ Pipeline.restRefs sig cfg0.spec \ ins := by
  intro b hb
  simp only [outs, Finset.mem_insert, Finset.mem_singleton] at hb
  rcases hb with rfl | rfl | rfl | rfl | rfl | rfl | rfl
  all_goals exact Finset.mem_sdiff.mpr ⟨Pipeline.mem_restRefs_of _ (by decide) (by decide), by decide⟩

theorem run_ends (ρ : Dev nD → PrngReg) (hb : runs m w) [∀ e, Nonempty (Elt F e)] :
    θ_run defs (onTc (τ := τ) (main (F := F))) ⟨m, fun _ => 0, ρ⟩ (Ends m w) := by
  refine Pipeline.θ_run_frame_dmaR_aroundV cfgs (dats m w) 0 launch0 osem defs₀ 𝒱₀ ownSemFacts ins outs ins_sub outs_sub m ρ main
    (hbody := fun c => (body_obligation m w c hb).loose) (hshare := fun c => (dats m w 0 c).share_full fun _ => rfl) (howed := fun _ _ => rfl)
    (V₀ := V0 m) (opss := [hostOps1]) (hsub := sfx_sub) (hfresh := sfx_fresh) (hkeep := sfx_keeps) (G := fun c => G m c (w c)) (hmain := Pipeline.hmain_around cfgs 0 defs₀ 𝒱₀ m main [hostOps0] [hostOps1] (by simp only [List.Forall]; exact hostOps0_sub)
      (by simp only [List.Forall]; exact hostOps0_fresh) main_chain)
    (hA := fun _ k => k.elim0) (hin := fun c => Entails.of_eq (Φ_first m w c).symm) (hout := fun c => Entails.of_eq (Φ_last m w c)) (Q' := Ends m w) (hQ' := ?_)
  rintro r ⟨h, hz⟩
  refine ⟨fun c => ?_, hz⟩
  have hr : ∀ b ∈ Pipeline.restRefs sig cfg0.spec, r.2.mem ((c.tc : Thread nD τ).loc b)
      = StableHlo.after ([hostOps1 (F := F)] : List (List (HloOp τ sig (Elt F)))).flatten (after1 m w c) (Proc.devRef .tc b) := (h c).2
  have hin : ∀ b ∈ Pipeline.restRefs sig cfg0.spec, b ≠ main_v3 → b ≠ main_v4 → b ≠ main_v5 → b ∉ outs → r.2.mem ((c.tc : Thread nD τ).loc b) = V m c b :=
    fun b hb h3 h4 h5 ho => (hr b hb).trans ((final_ne m w c b h3 h4 h5).trans (after1_other m w c b ho))
  have hout : ∀ b ∈ Pipeline.restRefs sig cfg0.spec, b ≠ main_v3 → b ≠ main_v4 → b ≠ main_v5 → b ∈ outs → r.2.mem ((c.tc : Thread nD τ).loc b) = G m c (w c) b :=
    fun b hb h3 h4 h5 ho => (hr b hb).trans ((final_ne m w c b h3 h4 h5).trans (after1_out m w c b ho))
  have e2 : after1 m w c (Proc.devRef .tc main_v2_2) = (w c).p := (after1_out m w c main_v2_2 (by decide)).trans (G2 m c (w c))
  have e4 : after1 m w c (Proc.devRef .tc main_v2_4) = (w c).dlog := (after1_out m w c main_v2_4 (by decide)).trans (G4 m c (w c))
  have e6 : after1 m w c (Proc.devRef .tc main_v2_6) = DX c (WV c (V m c main_arg2)) (w c).dl := (after1_out m w c main_v2_6 (by decide)).trans (G6 m c (w c))
  refine ⟨⟨?_, ?_, ?_, ?_, ?_, ?_, ?_⟩, ?_, ?_, ?_, ?_⟩
  · exact (hout main_v2_0 (Pipeline.mem_restRefs_of _ (by decide) (by decide)) (by decide) (by decide) (by decide) (by decide)).trans (G0 m c (w c))
  · exact (hout main_v2_1 (Pipeline.mem_restRefs_of _ (by decide) (by decide)) (by decide) (by decide) (by decide) (by decide)).trans (G1 m c (w c))
  · rw [hr main_v3 (Pipeline.mem_restRefs_of _ (by decide) (by decide)), final_v3, e2]
  · exact (hout main_v2_3 (Pipeline.mem_restRefs_of _ (by decide) (by decide)) (by decide) (by decide) (by decide) (by decide)).trans (G3 m c (w c))
  · rw [hr main_v4 (Pipeline.mem_restRefs_of _ (by decide) (by decide)), final_v4, e4]
  · exact (hout main_v2_5 (Pipeline.mem_restRefs_of _ (by decide) (by decide)) (by decide) (by decide) (by decide) (by decide)).trans (G5 m c (w c))
  · rw [hr main_v5 (Pipeline.mem_restRefs_of _ (by decide) (by decide)), final_v5, e6]
  · exact (hin main_arg0 (Pipeline.mem_restRefs_of _ (by decide) (by decide)) (by decide) (by decide) (by decide) (by decide)).trans (V_main_arg0 m c)
  · exact (hin main_arg1 (Pipeline.mem_restRefs_of _ (by decide) (by decide)) (by decide) (by decide) (by decide) (by decide)).trans (V_main_arg1 m c)
  · exact (hin main_arg2 (Pipeline.mem_restRefs_of _ (by decide) (by decide)) (by decide) (by decide) (by decide) (by decide)).trans (V_main_arg2 m c)
  · exact (hin main_arg3 (Pipeline.mem_restRefs_of _ (by decide) (by decide)) (by decide) (by decide) (by decide) (by decide)).trans (V_main_arg3 m c)

end Region
end Cert.Proof.KernelIdeal

end
-- ==== Proof.IdealRun.lean ====
/- Hand-written, untrusted. The whole run of @main: its results as the body's run leaves them, and the frame claim. -/
module

public import proofs.«01_k».proof.Proof.IdealBody
public import proofs.«01_k».proof.Proof.IdealLaunch

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Run
variable (m : (ℓ : Loc nD τ sig) → Buf (Elt F) ℓ)

/-- What the body leaves behind on core `c`. -/
def found (c : Dev nD) : Outs F c := (bodyRun c (V m c main_v0) (V m c main_arg2) (V m c main_arg1) (V m c main_v1)).val

theorem found_runs : runs m (found m) := fun c => (bodyRun c (V m c main_v0) (V m c main_arg2) (V m c main_arg1) (V m c main_v1)).property

theorem run (ρ : Dev nD → PrngReg) [∀ e, Nonempty (Elt F e)] :
    θ_run defs (onTc (τ := τ) (main (F := F))) ⟨m, fun _ => 0, ρ⟩ (Ends m (found m)) := run_ends m (found m) ρ (found_runs m)

/-- The run comes to rest with the arguments as launched and every semaphore at zero. -/
theorem frame (ρ : Dev nD → PrngReg) [∀ e, Nonempty (Elt F e)] :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).2, h.2⟩) (run m ρ)

end Run
end Cert.Proof.KernelIdeal

end
-- ==== Proof.Ref.lean ====
module

public import proofs.«01_k».proof.Proof.Gen.ReferenceIdeal.Run
public import proofs.«01_k».proof.Proof.Gen.ReferenceIdeal.Read
-- ==== Proof.IdealTiles.lean ====
/- Hand-written, untrusted. The contents the body's run leaves, as one function of the tile: every tile's payloads are the last tile's,
   read at that tile's logits and scales. -/
module

public import proofs.«01_k».proof.Proof.IdealRun
import all proofs.«01_k».proof.Proof.IdealBody

@[expose] public section

noncomputable section

namespace Idealize.ShloMosaic.View

variable {sig : RefSig} {κ : Kind} {sp : Space} {s : Shape} {e : EltTy} {Val : EltTy → Type}

/-- An index of tile `j` reads tile `j`'s payload, whatever the order the tiles were written in. -/
theorem read_pieces (v : View sig κ sp s e) (f : v.ty.Contents Val) {n : ℕ} {size : Fin s.rank → ℕ} (off : Fin n → Fin s.rank → ℕ)
    (inb : ∀ j a, off j a + size a ≤ s.size a) (P : ∀ j, (Rect.unit (off j) size (inb j)).shape.Idx → Val e) (j : Fin n) (y : s.Idx)
    (x : (Rect.unit (off j) size (inb j)).shape.Idx) (hx : ∀ a, (y a).val = off j a + (x a).val)
    (hd : ∀ j' : Fin n, j' ≠ j → ∃ a, (y a).val < off j' a ∨ off j' a + size a ≤ (y a).val) (L : List (Fin n)) (hj : j ∈ L) :
    v.read Val (v.writes Val f (L.map fun j => (⟨Rect.unit (off j) size (inb j), P j⟩ : Piece Val s e))) y = P j x := by
  induction L with
  | nil => exact absurd hj (List.not_mem_nil)
  | cons i L ih =>
    by_cases hi : i = j
    · subst hi
      exact read_writes_cons_unit_of_mem v f (inb i) (P i) _ y x rfl hx
    · obtain ⟨a, ha⟩ := hd i hi
      exact (read_writes_cons_unit_of_not_mem v f (inb i) (P i) _ y rfl a ha).trans
        (ih ((List.mem_cons.mp hj).resolve_left fun h => hi h.symm))

end Idealize.ShloMosaic.View

namespace Cert.Proof.KernelIdeal

open Cert.KernelIdeal Cert.KernelIdeal.Gen
open Idealize.ShloMosaic
open Idealize.ShloMosaic.TcCoe Idealize.ShloMosaic.Tactic
open Idealize.SL Idealize.SL.Sem

variable {F : FTy → Type} [FloatOps F]

section Tiles
variable (c : Dev nD) (X : Buf (Elt F) (xM.view.loc (c : Thread nD τ))) (Wt : Buf (Elt F) (wM.view.loc (c : Thread nD τ)))
variable (Sc : Buf (Elt F) (scM.view.loc (c : Thread nD τ))) (Id : Buf (Elt F) (idM.view.loc (c : Thread nD τ)))

/-- The tiles, newest first. -/
def newest : List (Fin 8) := [7, 6, 5, 4, 3, 2, 1, 0]
theorem mem_newest (j : Fin 8) : j ∈ newest := by revert j; decide

/-- Where tile `j` lies in a row of the batch, in the rows of the tokens, in their columns, and in the accumulator. -/
def tOff (j : Fin 8) : Fin 2 → ℕ := ![j.val / 4, 256 * (j.val % 4)]
def rOff (j : Fin 8) : Fin 2 → ℕ := ![256 * j.val, 0]
def cOff (j : Fin 8) : Fin 2 → ℕ := ![0, 256 * j.val]
def zOff (j : Fin 8) : Fin 3 → ℕ := ![j.val, 0, 0]
theorem tInb : ∀ (j : Fin 8) (a : Fin 2), tOff j a + S1x256.size a ≤ S2x1024.size a := by decide
theorem rInb : ∀ (j : Fin 8) (a : Fin 2), rOff j a + S256x128.size a ≤ S2048x128.size a := by decide
theorem cInb : ∀ (j : Fin 8) (a : Fin 2), cOff j a + S128x256.size a ≤ S128x2048.size a := by decide
theorem zInb : ∀ (j : Fin 8) (a : Fin 3), zOff j a + S1x128x256.size a ≤ S8x128x256.size a := by decide

/-- The accumulator as the last chunk leaves it. -/
def zfin : Buf (Elt F) (zvM.view.loc (c : Thread nD τ)) :=
  zAcc c X Wt bodyRun.sl.v9 (bodyRun.sl.r_46 c Id) (bodyRun.sl.r_47 c Id)
    (View.write (Elt F) (zvM.view.slice (Rect.unit ![0, 0, 0] S8x128x256.size inb_S8x128x256_S8x128x256_0_0_0)) (zvM.view.writes (Elt F) zvM.view.junk []) k0_pay73 Finset.univ)
    (Scf.trips k0_t2_loop.lb k0_t2_loop.ub k0_t2_loop.st)
/-- Tile `j`'s logits, before they are scaled, and its scales. -/
def zT (j : Fin 8) : Vec F S1x128x256 .f32 :=
  View.readAt (Elt F) zvM.view (Rect.unit (s := S8x128x256) (zOff j) S1x128x256.size (zInb j)).toLoadRect (zfin c X Wt Id)
def scT (j : Fin 8) : Vec F S1x256 .f32 :=
  View.readAt (Elt F) scvM.view (Rect.unit (s := S2x1024) (tOff j) S1x256.size (tInb j)).toLoadRect Sc
/-- The fraction of the choices that fell on each expert. -/
def frac : FVec F S128x1 .f32 := bodyRun.sl.r_48 c Id

def lseP (j : Fin 8) : FVec F S1x256 .f32 := k0_pay202 (scT c Sc j) (zT c X Wt Id j)
def auxP (j : Fin 8) : FVec F S1x256 .f32 := k0_pay204 (k0_pay203 (frac c Id) (scT c Sc j) (zT c X Wt Id j))
def ztP (j : Fin 8) : FVec F S1x256 .f32 := k0_pay205 (k0_pay198 (scT c Sc j) (zT c X Wt Id j))
def dlogP (j : Fin 8) : FVec F S256x128 .f32 :=
  k0_pay209 (frac c Id) (k0_pay198 (scT c Sc j) (zT c X Wt Id j)) (k0_pay199 (scT c Sc j) (zT c X Wt Id j)) (k0_pay200 (frac c Id) (scT c Sc j) (zT c X Wt Id j))
def dlP (j : Fin 8) : FVec F S256x128 .bf16 :=
  k0_pay210 (frac c Id) (k0_pay198 (scT c Sc j) (zT c X Wt Id j)) (k0_pay199 (scT c Sc j) (zT c X Wt Id j)) (k0_pay200 (frac c Id) (scT c Sc j) (zT c X Wt Id j))
def dsP (j : Fin 8) : FVec F S128x256 .bf16 :=
  k0_pay207 (frac c Id) (scT c Sc j) (k0_pay198 (scT c Sc j) (zT c X Wt Id j)) (k0_pay199 (scT c Sc j) (zT c X Wt Id j)) (k0_pay200 (frac c Id) (scT c Sc j) (zT c X Wt Id j))
/-- The probabilities summed over the tiles. -/
def pAcc : FVec F S128x256 .f32 :=
  newest.foldr (fun j p => addf p (k0_pay199 (scT c Sc j) (zT c X Wt Id j))) k0_pay75

/-- What the run leaves: each of its arrays is written tile by tile. -/
theorem lse_eq : (bodyRun c X Wt Sc Id).val.lse = ReadAs.same.apply (View.read (Elt F) lsevM.view (lsevM.view.writes (Elt F) lsevM.view.junk
    (newest.map fun j => (⟨Rect.unit (s := S2x1024) (tOff j) S1x256.size (tInb j), lseP c X Wt Sc Id j⟩ : View.Piece (Elt F) S2x1024 .f32)))) := by
  unfold bodyRun; rfl
theorem aux_eq : (bodyRun c X Wt Sc Id).val.aux = ReadAs.same.apply (View.read (Elt F) auxvM.view (auxvM.view.writes (Elt F) auxvM.view.junk
    (newest.map fun j => (⟨Rect.unit (s := S2x1024) (tOff j) S1x256.size (tInb j), auxP c X Wt Sc Id j⟩ : View.Piece (Elt F) S2x1024 .f32)))) := by
  unfold bodyRun; rfl
theorem zt_eq : (bodyRun c X Wt Sc Id).val.zt = ReadAs.same.apply (View.read (Elt F) ztvM.view (ztvM.view.writes (Elt F) ztvM.view.junk
    (newest.map fun j => (⟨Rect.unit (s := S2x1024) (tOff j) S1x256.size (tInb j), ztP c X Wt Sc Id j⟩ : View.Piece (Elt F) S2x1024 .f32)))) := by
  unfold bodyRun; rfl
theorem dlog_eq : (bodyRun c X Wt Sc Id).val.dlog = ReadAs.same.apply (View.read (Elt F) dlogvM.view (dlogvM.view.writes (Elt F) dlogvM.view.junk
    (newest.map fun j => (⟨Rect.unit (s := S2048x128) (rOff j) S256x128.size (rInb j), dlogP c X Wt Sc Id j⟩ : View.Piece (Elt F) S2048x128 .f32)))) := by
  unfold bodyRun; rfl
theorem dl_eq : (bodyRun c X Wt Sc Id).val.dl = dlvM.view.writes (Elt F) dlvM.view.junk
    (newest.map fun j => (⟨Rect.unit (s := S2048x128) (rOff j) S256x128.size (rInb j), dlP c X Wt Sc Id j⟩ : View.Piece (Elt F) S2048x128 .bf16)) := by
  unfold bodyRun; rfl
theorem ds_eq : (bodyRun c X Wt Sc Id).val.ds = dsvM.view.writes (Elt F) dsvM.view.junk
    (newest.map fun j => (⟨Rect.unit (s := S128x2048) (cOff j) S128x256.size (cInb j), dsP c X Wt Sc Id j⟩ : View.Piece (Elt F) S128x2048 .bf16)) := by
  unfold bodyRun; rfl
theorem p_eq : (bodyRun c X Wt Sc Id).val.p = ReadAs.same.apply (View.read (Elt F) pvM.view (pvM.view.writes (Elt F) pvM.view.junk
    [(⟨Rect.unit (s := S1x128) ![0, 0] S1x128.size inb_S1x128_S1x128_0_0, k0_pay211 (pAcc c X Wt Sc Id)⟩ : View.Piece (Elt F) S1x128 .f32)])) := by
  unfold bodyRun; rfl

end Tiles
end Cert.Proof.KernelIdeal

end
-- ==== Proof.RouterMath.lean ====
/- Hand-written, untrusted. The router's losses and their gradients on extended reals: one token's row of logits, and the sums over the
   tokens. -/
module

public import Idealize.ShloMosaic.PureOps.Ideal
public import Idealize.ShloMosaic.PureOps.Ideal.Laws
public import Idealize.ShloMosaic.Lib.IdealHost
public import Idealize.ShloMosaic.Lib.ValueIdx

@[expose] public section

noncomputable section

namespace Cert.Proof.Router

open Idealize.ShloMosaic
open scoped BigOperators

/-- The largest logit of a row. -/
def rmax (z : Fin 128 → EReal) : EReal := (Finset.univ : Finset (Fin 128)).fold max ⊥ z
/-- The exponentials of a row, relative to the largest, and their sum. -/
def rexp (z : Fin 128 → EReal) (e : Fin 128) : EReal := Ideal.exp (z e - rmax z)
def rsum (z : Fin 128 → EReal) : EReal := ∑ e, rexp z e
def rlse (z : Fin 128 → EReal) : EReal := rmax z + Ideal.log (rsum z)
/-- The probabilities, as the exponential of a difference. -/
def rp (z : Fin 128 → EReal) (e : Fin 128) : EReal := Ideal.exp ((z e - rmax z) - Ideal.log (rsum z))
def rg (z f : Fin 128 → EReal) : EReal := ∑ e, rp z e * f e

theorem le_rmax (z : Fin 128 → EReal) (e : Fin 128) : z e ≤ rmax z := by
  unfold rmax
  exact Finset.le_fold_max _ |>.mpr (Or.inr ⟨e, Finset.mem_univ _, le_refl _⟩)
theorem exists_rmax (z : Fin 128 → EReal) : rmax z = ⊥ ∨ ∃ e, z e = rmax z := by
  by_cases h : rmax z = ⊥
  · exact Or.inl h
  · right
    by_contra hn
    push Not at hn
    have hlt : rmax z < rmax z := by
      have : (Finset.univ : Finset (Fin 128)).fold max ⊥ z < rmax z :=
        (Finset.fold_max_lt _).mpr ⟨bot_lt_iff_ne_bot.mpr h, fun e _ => lt_of_le_of_ne (le_rmax z e) (hn e)⟩
      exact this
    exact lt_irrefl _ hlt

theorem exp_nonneg (x : EReal) : 0 ≤ Ideal.exp x := by
  induction x with
  | bot => rw [Ideal.exp_bot]
  | top => rw [Ideal.exp_top]; exact le_top
  | coe r => rw [Ideal.exp_coe]; exact_mod_cast (Real.exp_pos r).le

/-- With the largest logit infinite, every exponential is zero. -/
theorem rexp_eq_zero (z : Fin 128 → EReal) (h : rmax z = ⊥ ∨ rmax z = ⊤) (e : Fin 128) : rexp z e = 0 := by
  unfold rexp
  rcases h with h | h
  · have : z e = ⊥ := le_bot_iff.mp (h ▸ le_rmax z e)
    rw [h, this]; simp [sub_eq_add_neg]
  · rw [h]; simp [sub_eq_add_neg]
theorem sub_rmax_eq_bot (z : Fin 128 → EReal) (h : rmax z = ⊥ ∨ rmax z = ⊤) (e : Fin 128) : z e - rmax z = ⊥ := by
  rcases h with h | h
  · have : z e = ⊥ := le_bot_iff.mp (h ▸ le_rmax z e)
    rw [h, this]; simp [sub_eq_add_neg]
  · rw [h]; simp [sub_eq_add_neg]

/-- With the largest logit finite, the exponentials are reals between zero and one and sum to a positive real. -/
theorem rexp_real (z : Fin 128 → EReal) (r : ℝ) (h : rmax z = (r : EReal)) (e : Fin 128) : ∃ y : ℝ, 0 ≤ y ∧ rexp z e = (y : EReal) := by
  unfold rexp
  have hle := h ▸ le_rmax z e
  rw [h]
  induction hz : z e with
  | bot => exact ⟨0, le_refl _, by simp [sub_eq_add_neg]⟩
  | top => rw [hz] at hle; exact absurd (top_le_iff.mp hle) (EReal.coe_ne_top r)
  | coe x => exact ⟨Real.exp (x - r), (Real.exp_pos _).le, by rw [← EReal.coe_sub, Ideal.exp_coe]⟩
theorem rsum_real (z : Fin 128 → EReal) (r : ℝ) (h : rmax z = (r : EReal)) : ∃ s : ℝ, 0 < s ∧ rsum z = (s : EReal) := by
  choose y hy hz using rexp_real z r h
  refine ⟨∑ e, y e, ?_, ?_⟩
  · obtain ⟨e, he⟩ := (exists_rmax z).resolve_left (by rw [h]; exact EReal.coe_ne_bot r)
    refine Finset.sum_pos' (fun e _ => hy e) ⟨e, Finset.mem_univ _, ?_⟩
    have h1 : rexp z e = 1 := by
      unfold rexp
      rw [he, h, ← EReal.coe_sub, Ideal.exp_coe]; simp
    rw [hz e] at h1
    have : y e = 1 := by exact_mod_cast h1
    rw [this]; exact one_pos
  · unfold rsum
    rw [Finset.sum_congr rfl fun e _ => hz e]
    exact (map_sum (⟨⟨((↑) : ℝ → EReal), EReal.coe_zero⟩, EReal.coe_add⟩ : ℝ →+ EReal) y Finset.univ).symm

/-- An exponential times the reciprocal of the sum is the exponential of the difference of logarithms. -/
theorem rexp_mul_recip (z : Fin 128 → EReal) (e : Fin 128) : rexp z e * Ideal.div 1 (rsum z) = rp z e := by
  have inf : rmax z = ⊥ ∨ rmax z = ⊤ → rexp z e * Ideal.div 1 (rsum z) = rp z e := fun h => by
    rw [rexp_eq_zero z h e, zero_mul]
    unfold rp
    rw [sub_rmax_eq_bot z h e]
    simp [sub_eq_add_neg]
  induction h : rmax z with
  | bot => exact inf (Or.inl h)
  | top => exact inf (Or.inr h)
  | coe r =>
    obtain ⟨s, hs, hsum⟩ := rsum_real z r h
    unfold rp
    rw [hsum, Ideal.log_coe, if_neg (not_le.mpr hs), Ideal.div_coe hs.ne', one_mul]
    have hle := h ▸ le_rmax z e
    unfold rexp
    rw [h]
    induction hz : z e with
    | bot => simp [sub_eq_add_neg]
    | top => rw [hz] at hle; exact absurd (top_le_iff.mp hle) (EReal.coe_ne_top r)
    | coe x =>
      rw [← EReal.coe_sub, ← EReal.coe_sub, Ideal.exp_coe, Ideal.exp_coe, ← EReal.coe_mul, Real.exp_sub (x - r) (Real.log s), Real.exp_log hs]
      congr 1
      rw [mul_one_div]

/-- One token's losses and the gradient with respect to its logits, given its expert fractions. -/
def raux (z f : Fin 128 → EReal) : EReal := Ideal.ofBits .f32 0x3A23D70A#32 * rg z f
def rzt (z : Fin 128 → EReal) : EReal := (Ideal.ofBits .f32 0x3503126F#32 * rlse z) * rlse z
def rdlog (z f : Fin 128 → EReal) (e : Fin 128) : EReal :=
  rp z e * (Ideal.ofBits .f32 0x3A23D70A#32 * (f e - rg z f) + Ideal.ofBits .f32 0x3583126F#32 * rlse z)

/-! ## Sums taken in blocks -/

/-- A sum over `a * b` consecutive indices, block by block. -/
theorem sum_blocks {M : Type} [AddCommMonoid M] (a b : ℕ) (f : ℕ → M) :
    ∑ i : Fin (a * b), f i.val = ∑ p : Fin a, ∑ q : Fin b, f (b * p.val + q.val) := by
  rw [← Equiv.sum_comp finProdFinEquiv, Fintype.sum_prod_type]
  refine Finset.sum_congr rfl fun p _ => Finset.sum_congr rfl fun q _ => ?_
  rw [finProdFinEquiv_apply_val, Nat.add_comm]

end Cert.Proof.Router

end
-- ==== Proof.IdealRows.lean ====
/- Hand-written, untrusted. The tile payloads at the extended reals, read at an index: column `l` of a tile is one token's row, whose
   losses and gradient are RouterMath's. -/
module

public import proofs.«01_k».proof.Proof.IdealTiles
public import proofs.«01_k».proof.Proof.RouterMath
public import Idealize.ShloMosaic.Lib.ValueLayout
public import Idealize.ShloMosaic.Lib.IdealHost

@[expose] public section

noncomputable section

namespace Cert.Proof.KernelIdeal

open Cert.KernelIdeal Cert.KernelIdeal.Gen
open Idealize.ShloMosaic Idealize.ShloMosaic.ValueIdx
open Idealize.ShloMosaic.TcCoe Idealize.ShloMosaic.Tactic
open Cert.Proof.Router
open scoped BigOperators

/-- A reduced index of a matrix with the first coordinate put back. -/
theorem lift_ix2_0 {m n : ℕ} (h : (⟨2, ![m, n]⟩ : Shape).Reduces [0] (⟨1, ![n]⟩ : Shape)) (t : Fin n)
    (k : Fin ((⟨2, ![m, n]⟩ : Shape).size 0)) : h.lift (ix1 t) k = ix2 (⟨k.val, k.isLt⟩ : Fin m) t := by
  funext c; apply Fin.ext
  fin_cases c <;> rfl
/-- A reduced index of a matrix with the second coordinate put back. -/
theorem lift_ix2_1 {m n : ℕ} (h : (⟨2, ![m, n]⟩ : Shape).Reduces [1] (⟨1, ![m]⟩ : Shape)) (t : Fin m)
    (k : Fin ((⟨2, ![m, n]⟩ : Shape).size 1)) : h.lift (ix1 t) k = ix2 t (⟨k.val, k.isLt⟩ : Fin n) := by
  funext c; apply Fin.ext
  fin_cases c <;> rfl

theorem ofBits_bot : (Ideal.ofBits .f32 0xFF800000#32 : EReal) = ⊥ := by simp [Ideal.ofBits, Ideal.ieee]

section
variable (sc : Vec Ideal S1x256 .f32) (z : Vec Ideal S1x128x256 .f32) (f : FVec Ideal S128x1 .f32)

/-- Token `l`'s row of scaled logits, and the experts' fractions. -/
def zrow (l : Fin 256) : Fin 128 → EReal := fun e => z (ix3 (0 : Fin 1) e l) * sc (ix2 (0 : Fin 1) l)
def frow : Fin 128 → EReal := fun e => f (ix2 e (0 : Fin 1))

theorem bc_row (v : FVec Ideal S1x256 .f32) (e : Fin 128) (l : Fin 256) :
    broadcastTo S128x256 v broadcasts_S1x256_S128x256 (ix2 e l) = v (ix2 (0 : Fin 1) l) :=
  broadcastTo_1b_ab_apply v broadcasts_S1x256_S128x256 e l
theorem bc_col (v : FVec Ideal S128x1 .f32) (e : Fin 128) (l : Fin 256) :
    broadcastTo S128x256 v broadcasts_S128x1_S128x256 (ix2 e l) = v (ix2 e (0 : Fin 1)) := by
  refine broadcastTo_apply v broadcasts_S128x1_S128x256 (ix2 e l) (ix2 e (0 : Fin 1)) fun ax => ?_
  match ax with
  | ⟨0, _⟩ => rfl
  | ⟨1, _⟩ => rfl
theorem sum_col (v : FVec Ideal S128x256 .f32) (l : Fin 256) :
    shapeCast S1x256 (multiReduction .add [0] S256 v 0x00000000#32 reduces_S128x256_S256 (.inl rfl) rfl) shapeCasts_S256_S1x256 (ix2 (0 : Fin 1) l)
      = ∑ e : Fin 128, v (ix2 e l) := by
  refine (shapeCast_a_1a_apply _ shapeCasts_S256_S1x256 0 l).trans ?_
  refine (Ideal.multiReduction_add_single v _ reduces_S128x256_S256 (.inl rfl) rfl (ix1 l)).trans ?_
  exact Finset.sum_congr rfl fun k _ => congrArg v (lift_ix2_0 reduces_S128x256_S256 l k)

theorem pay194_apply (e : Fin 128) (l : Fin 256) : k0_pay194 sc z (ix2 e l) = zrow sc z l e := by
  unfold k0_pay194 zrow
  refine (mulf_apply _ _ _).trans ?_
  rw [bc_row]
  exact congrArg (· * sc (ix2 (0 : Fin 1) l)) (shapeCast_1ab_ab_apply z shapeCasts_S1x128x256_S128x256 e l)
theorem pay195_apply (l : Fin 256) : k0_pay195 sc z (ix2 (0 : Fin 1) l) = rmax (zrow sc z l) := by
  unfold k0_pay195
  refine (shapeCast_a_1a_apply _ shapeCasts_S256_S1x256 0 l).trans ?_
  refine (Ideal.multiReduction_maximumf_single (k0_pay194 sc z) _ reduces_S128x256_S256 (.inl rfl) rfl (ix1 l)).trans ?_
  have hf : (k0_pay194 sc z) ∘ reduces_S128x256_S256.lift (ix1 l) = zrow sc z l :=
    funext fun k => (congrArg (k0_pay194 sc z) (lift_ix2_0 reduces_S128x256_S256 l k)).trans (pay194_apply sc z k l)
  unfold rmax
  rw [hf]
  exact congrArg (fun b => (Finset.univ : Finset (Fin 128)).fold max b (zrow sc z l)) ofBits_bot
theorem pay196_apply (e : Fin 128) (l : Fin 256) : k0_pay196 sc z (ix2 e l) = rexp (zrow sc z l) e := by
  unfold k0_pay196 rexp
  show Ideal.exp (k0_pay194 sc z (ix2 e l) - broadcastTo S128x256 (k0_pay195 sc z) broadcasts_S1x256_S128x256 (ix2 e l)) = _
  rw [bc_row, pay194_apply, pay195_apply]
theorem pay197_apply (l : Fin 256) : k0_pay197 sc z (ix2 (0 : Fin 1) l) = rsum (zrow sc z l) := by
  unfold k0_pay197 rsum
  refine (sum_col (k0_pay196 sc z) l).trans ?_
  exact Finset.sum_congr rfl fun e _ => pay196_apply sc z e l
theorem pay198_apply (l : Fin 256) : k0_pay198 sc z (ix2 (0 : Fin 1) l) = rlse (zrow sc z l) := by
  unfold k0_pay198 rlse
  show k0_pay195 sc z (ix2 (0 : Fin 1) l) + Ideal.log (k0_pay197 sc z (ix2 (0 : Fin 1) l)) = _
  rw [pay195_apply, pay197_apply]
theorem pay199_apply (e : Fin 128) (l : Fin 256) : k0_pay199 sc z (ix2 e l) = rp (zrow sc z l) e := by
  unfold k0_pay199
  refine (mulf_apply _ _ _).trans ?_
  rw [bc_row, pay196_apply]
  show rexp (zrow sc z l) e * Ideal.div (Ideal.ofBits .f32 0x3F800000#32) (k0_pay197 sc z (ix2 (0 : Fin 1) l)) = _
  rw [pay197_apply, Ideal.ofBits_one_f32, rexp_mul_recip]
theorem pay200_apply (l : Fin 256) : k0_pay200 f sc z (ix2 (0 : Fin 1) l) = rg (zrow sc z l) (frow f) := by
  unfold k0_pay200 rg
  refine (sum_col _ l).trans (Finset.sum_congr rfl fun e _ => ?_)
  refine (mulf_apply _ _ _).trans ?_
  rw [bc_col, pay199_apply]; rfl
theorem cast_self {s : Shape} {α : Type} (x : s.Idx → α) (h : s.ShapeCasts s) (i : s.Idx) : shapeCast s x h i = x i :=
  shapeCast_apply x h _ _ rfl
theorem pay202_apply (l : Fin 256) : k0_pay202 sc z (ix2 (0 : Fin 1) l) = rlse (zrow sc z l) := by
  unfold k0_pay202
  exact (cast_self _ _ _).trans (pay198_apply sc z l)
theorem pay204_apply (l : Fin 256) : k0_pay204 (k0_pay203 f sc z) (ix2 (0 : Fin 1) l) = raux (zrow sc z l) (frow f) := by
  unfold k0_pay204
  refine (cast_self _ _ _).trans ?_
  unfold k0_pay203 raux
  refine (mulf_apply _ _ _).trans ?_
  rw [pay200_apply]; rfl
theorem pay205_apply (l : Fin 256) : k0_pay205 (k0_pay198 sc z) (ix2 (0 : Fin 1) l) = rzt (zrow sc z l) := by
  unfold k0_pay205
  refine (cast_self _ _ _).trans ?_
  unfold rzt
  show (Ideal.ofBits .f32 0x3503126F#32 * k0_pay198 sc z (ix2 (0 : Fin 1) l)) * k0_pay198 sc z (ix2 (0 : Fin 1) l) = _
  rw [pay198_apply]
theorem pay206_apply (e : Fin 128) (l : Fin 256) :
    k0_pay206 f (k0_pay198 sc z) (k0_pay199 sc z) (k0_pay200 f sc z) (ix2 e l) = rdlog (zrow sc z l) (frow f) e := by
  unfold k0_pay206 rdlog
  show k0_pay199 sc z (ix2 e l) * ((Ideal.ofBits .f32 0x3A23D70A#32 * (broadcastTo S128x256 f broadcasts_S128x1_S128x256 (ix2 e l)
    - broadcastTo S128x256 (k0_pay200 f sc z) broadcasts_S1x256_S128x256 (ix2 e l)))
    + broadcastTo S128x256 (mulf (broadcast S1x256 (Scalar.ofBits .f32 0x3583126F#32)) (k0_pay198 sc z)) broadcasts_S1x256_S128x256 (ix2 e l)) = _
  rw [bc_col, bc_row, bc_row, pay199_apply, pay200_apply]
  show _ * (_ + Ideal.ofBits .f32 0x3583126F#32 * k0_pay198 sc z (ix2 (0 : Fin 1) l)) = _
  rw [pay198_apply]; rfl
theorem pay207_apply (e : Fin 128) (l : Fin 256) :
    k0_pay207 f sc (k0_pay198 sc z) (k0_pay199 sc z) (k0_pay200 f sc z) (ix2 e l)
      = rdlog (zrow sc z l) (frow f) e * sc (ix2 (0 : Fin 1) l) := by
  unfold k0_pay207
  refine (cast_self _ _ _).trans ?_
  show k0_pay206 f (k0_pay198 sc z) (k0_pay199 sc z) (k0_pay200 f sc z) (ix2 e l)
    * broadcastTo S128x256 sc broadcasts_S1x256_S128x256 (ix2 e l) = _
  rw [bc_row, pay206_apply]
theorem pay208_apply (l : Fin 256) (e : Fin 128) :
    k0_pay208 f (k0_pay198 sc z) (k0_pay199 sc z) (k0_pay200 f sc z) (ix2 l e) = rdlog (zrow sc z l) (frow f) e := by
  unfold k0_pay208
  exact (transpose_ix2_apply _ transposes_S128x256_p1_0_S256x128 l e).trans (pay206_apply sc z f e l)
theorem pay209_apply (l : Fin 256) (e : Fin 128) :
    k0_pay209 f (k0_pay198 sc z) (k0_pay199 sc z) (k0_pay200 f sc z) (ix2 l e) = rdlog (zrow sc z l) (frow f) e := by
  unfold k0_pay209
  exact (cast_self _ _ _).trans (pay208_apply sc z f l e)
theorem pay210_apply (l : Fin 256) (e : Fin 128) :
    k0_pay210 f (k0_pay198 sc z) (k0_pay199 sc z) (k0_pay200 f sc z) (ix2 l e) = rdlog (zrow sc z l) (frow f) e := by
  unfold k0_pay210
  exact (cast_self _ _ _).trans (pay208_apply sc z f l e)
theorem pay211_apply (p : FVec Ideal S128x256 .f32) (e : Fin 128) :
    k0_pay211 p (ix2 (0 : Fin 1) e) = (∑ l : Fin 256, p (ix2 e l)) * Ideal.ofBits .f32 0x3A000000#32 := by
  unfold k0_pay211
  refine (cast_self _ _ _).trans ?_
  refine (mulf_apply _ _ _).trans ?_
  refine congrArg (· * Ideal.ofBits .f32 0x3A000000#32) ?_
  refine (shapeCast_a_1a_apply _ shapeCasts_S128_S1x128 0 e).trans ?_
  refine (Ideal.multiReduction_add_single _ _ reduces_S256x128_S128 (.inl rfl) rfl (ix1 e)).trans ?_
  refine Finset.sum_congr rfl fun k _ => ?_
  exact (congrArg _ (lift_ix2_0 reduces_S256x128_S128 e k)).trans (transpose_ix2_apply p transposes_S128x256_p1_0_S256x128 k e)
end

end Cert.Proof.KernelIdeal

end
-- ==== Proof.IdealSums.lean ====
/- Hand-written, untrusted. The accumulator after the second loop: each tile's logits are the whole products of the weights and the
   tokens, summed chunk by chunk. -/
module

public import proofs.«01_k».proof.Proof.IdealRows
public import Idealize.ShloMosaic.Lib.MatmulPlain
import all proofs.«01_k».proof.Proof.IdealLogits

@[expose] public section

noncomputable section

namespace Cert.Proof.KernelIdeal

open Cert.KernelIdeal Cert.KernelIdeal.Gen
open Idealize.ShloMosaic Idealize.ShloMosaic.ValueIdx
open Idealize.ShloMosaic.TcCoe Idealize.ShloMosaic.Tactic
open Cert.Proof.Router
open scoped BigOperators

variable {F : FTy → Type} [FloatOps F]

/-- Where trip `k` loads tile `j` of chunk `k`. -/
def xOff (k : Fin k0_t2_loop.trips) (j : Fin 8) : Fin 3 → ℕ :=
  (![k0_off12 k, k0_off13 k, k0_off14 k, k0_off15 k, k0_off16 k, k0_off17 k, k0_off18 k, k0_off19 k] : Fin 8 → Fin 3 → ℕ) j
theorem xOff_eq : ∀ (k : Fin k0_t2_loop.trips) (j : Fin 8), xOff k j = ![k.val, 256 * j.val, 0] := by decide +kernel
theorem xOff_inb (k : Fin k0_t2_loop.trips) (j : Fin 8) : ∀ a, xOff k j a + S1x256x512.size a ≤ S32x2048x512.size a := by
  rw [xOff_eq]
  have hk : k.val < 32 := k.isLt
  intro a
  fin_cases a
  · show k.val + 1 ≤ 32; omega
  · show 256 * j.val + 256 ≤ 2048; omega
  · show 0 + 512 ≤ 512; omega
theorem wOff_eq : ∀ k : Fin k0_t2_loop.trips, k0_off11 k = ![k.val, 0, 0] := by decide +kernel

section
variable (c : Dev nD) (X : Buf (Elt F) (xM.view.loc (c : Thread nD τ))) (Wt : Buf (Elt F) (wM.view.loc (c : Thread nD τ)))

/-- Trip `k`'s loads: chunk `k` of the weights, and tile `j` of chunk `k` of the tokens. -/
def wL (k : Fin k0_t2_loop.trips) : Vec F S1x512x128 .bf16 :=
  View.readAt (Elt F) wvM.view (Rect.unit (s := S32x512x128) (k0_off11 k) S1x512x128.size (k0_off11_inb k)).toLoadRect (wlanded c Wt (c2 k) (wslot (c2 k)).view.junk)
def xL (k : Fin k0_t2_loop.trips) (j : Fin 8) : Vec F S1x256x512 .fp8e4m3 :=
  View.readAt (Elt F) xvM.view (Rect.unit (s := S32x2048x512) (xOff k j) S1x256x512.size (xOff_inb k j)).toLoadRect (xlanded c X (c2 k) (xslot (c2 k)).view.junk)
/-- What trip `k` writes to tile `j` of the accumulator. -/
def zPay (k : Fin k0_t2_loop.trips) (f : Buf (Elt F) (zvM.view.loc (c : Thread nD τ))) (j : Fin 8) : FVec F S1x128x256 .f32 :=
  k0_pay74 (k0_pay1 (wL c Wt k)) (k0_pay3 (View.readAt (Elt F) zvM.view (Rect.unit (s := S8x128x256) (zOff j) S1x128x256.size (zInb j)).toLoadRect f)) (xL c X k j)
section
variable (k : Fin k0_t2_loop.trips) (f : Buf (Elt F) (zvM.view.loc (c : Thread nD τ)))
theorem trip2_p0 : k0_pay2 (trip2.sl.v1602 c Wt k) (View.readAt (Elt F) zvM.view (Rect.unit (s := S8x128x256) ![0, 0, 0] S1x128x256.size inb_S8x128x256_S1x128x256_0_0_0).toLoadRect f) (trip2.sl.v1608 c X k) = zPay c X Wt k f 0 := rfl
theorem trip2_p1 : k0_pay4 (trip2.sl.r c Wt k) (trip2.sl.r_1 c f) (trip2.sl.v1618 c X k) = zPay c X Wt k f 1 := rfl
theorem trip2_p2 : k0_pay5 (trip2.sl.r c Wt k) (trip2.sl.v1625 c f) (trip2.sl.v1628 c X k) = zPay c X Wt k f 2 := rfl
theorem trip2_p3 : k0_pay6 (trip2.sl.r c Wt k) (trip2.sl.v1635 c f) (trip2.sl.v1638 c X k) = zPay c X Wt k f 3 := rfl
theorem trip2_p4 : k0_pay8 (trip2.sl.r c Wt k) (trip2.sl.r_2 c f) (trip2.sl.v1648 c X k) = zPay c X Wt k f 4 := rfl
theorem trip2_p5 : k0_pay9 (trip2.sl.r c Wt k) (trip2.sl.v1655 c f) (trip2.sl.v1658 c X k) = zPay c X Wt k f 5 := rfl
theorem trip2_p6 : k0_pay10 (trip2.sl.r c Wt k) (trip2.sl.v1665 c f) (trip2.sl.v1668 c X k) = zPay c X Wt k f 6 := rfl
theorem trip2_p7 : k0_pay74 (trip2.sl.r c Wt k) (trip2.sl.r_3 c f) (trip2.sl.v1678 c X k) = zPay c X Wt k f 7 := rfl
end
theorem trip2_eq (v9 : IVec S128x128 32) (v1026 : FVec F S128x128 .f32) (v1027 : Vec F S1x1x128 .i32) (k : Fin k0_t2_loop.trips)
    (f : Buf (Elt F) (zvM.view.loc (c : Thread nD τ))) :
    (trip2 c X Wt v9 v1026 v1027 k f).1 = zvM.view.writes (Elt F) f
      (newest.map fun j => ⟨Rect.unit (s := S8x128x256) (zOff j) S1x128x256.size (zInb j), zPay c X Wt k f j⟩) := by
  unfold trip2
  simp only [trip2_p0, trip2_p1, trip2_p2, trip2_p3, trip2_p4, trip2_p5, trip2_p6, trip2_p7]
  rfl
end

/-! At the reals. -/
theorem dot_logits : dot_S128x512_S256x512_S128x256_1_1_0_0_n_n = DotDims.transposedRhs 128 512 256 := rfl

section
variable (c : Dev nD) (X : Buf (Elt Ideal) (xM.view.loc (c : Thread nD τ))) (Wt : Buf (Elt Ideal) (wM.view.loc (c : Thread nD τ)))

/-- The weights and the tokens as VMEM holds them, chunk by chunk. -/
def wv : FVec Ideal S32x512x128 .bf16 := WV c Wt
def xv : FVec Ideal S32x2048x512 .fp8e4m3 := XV c X
/-- The product a tile gains: 512 terms. -/
theorem pay74_apply (w : Vec Ideal S1x512x128 .bf16) (a : Vec Ideal S1x128x256 .f32) (x : Vec Ideal S1x256x512 .fp8e4m3) (e : Fin 128) (l : Fin 256) :
    k0_pay74 (k0_pay1 w) (k0_pay3 a) x (ix3 0 e l) = a (ix3 0 e l) + ∑ q : Fin 512, w (ix3 0 q e) * x (ix3 0 l q) := by
  unfold k0_pay74 k0_pay1 k0_pay3
  rw [shapeCast_ab_1ab_apply, addf_apply, shapeCast_1ab_ab_apply, dot_logits]
  refine (congrArg (a (ix3 0 e l) + ·) (Ideal.matmul_transposedRhs_apply none _ _ _ e l)).trans ?_
  have h0 : constant (F := Ideal) S128x256 .f32 0x00000000#32 (ix2 e l) = (0 : EReal) := Ideal.ofBits_zero_f32
  rw [h0, zero_add]
  refine congrArg (a (ix3 0 e l) + ·) (Finset.sum_congr rfl fun q _ => ?_)
  rw [transpose_ix2_apply, shapeCast_1ab_ab_apply, shapeCast_1ab_ab_apply]

theorem wL_apply (k : Fin k0_t2_loop.trips) (q : Fin 512) (e : Fin 128) :
    wL c Wt k (ix3 0 q e) = wv c Wt (ix3 (c2 k) q e) := by
  refine Eq.trans ?_ (wlanded_at c Wt (c2 k) (wslot (c2 k)).view.junk q e)
  show wlanded c Wt (c2 k) _ ((Rect.unit (s := S32x512x128) (k0_off11 k) S1x512x128.size (k0_off11_inb k)).emb (ix3 0 q e)) = wlanded c Wt (c2 k) _ _
  congr 1; funext a; apply Fin.ext; rw [Rect.emb_apply]
  fin_cases a <;> simp [ix3, wOff_eq, c2]
theorem xload_emb (off : Fin 3 → ℕ) (h : ∀ a, off a + S1x256x512.size a ≤ S32x2048x512.size a) (f : Buf (Elt Ideal) (xvM.view.loc (c : Thread nD τ))) (i : S1x256x512.Idx) :
    View.readAt (Elt Ideal) xvM.view (Rect.unit (s := S32x2048x512) off S1x256x512.size h).toLoadRect f i = f ((Rect.unit (s := S32x2048x512) off S1x256x512.size h).emb i : S32x2048x512.Idx) := rfl
theorem xL_apply (k : Fin k0_t2_loop.trips) (j : Fin 8) (l : Fin 256) (q : Fin 512) :
    xL c X k j (ix3 0 l q) = xv c X (ix3 (c2 k) (⟨256 * j.val + l.val, by omega⟩ : Fin 2048) q) := by
  refine Eq.trans ?_ (xlanded_at c X (c2 k) (xslot (c2 k)).view.junk (⟨256 * j.val + l.val, by omega⟩ : Fin 2048) q)
  refine (xload_emb c _ _ _ _).trans ?_
  congr 1; funext a; apply Fin.ext; rw [Rect.emb_apply]
  fin_cases a <;> simp [ix3, xOff_eq, c2]
theorem zload_apply (f : Buf (Elt Ideal) (zvM.view.loc (c : Thread nD τ))) (j : Fin 8) (e : Fin 128) (l : Fin 256) :
    View.readAt (Elt Ideal) zvM.view (Rect.unit (s := S8x128x256) (zOff j) S1x128x256.size (zInb j)).toLoadRect f (ix3 0 e l)
      = f (ix3 j e l : S8x128x256.Idx) := by
  show f ((Rect.unit (s := S8x128x256) (zOff j) S1x128x256.size (zInb j)).emb (ix3 0 e l)) = f _
  congr 1; funext a; apply Fin.ext; rw [Rect.emb_apply]
  fin_cases a <;> simp [ix3, zOff]

theorem zread (f : Buf (Elt Ideal) (zvM.view.loc (c : Thread nD τ))) : View.read (Elt Ideal) zvM.view f = f := rfl
/-- An index of tile `j` of the accumulator reads what was written to tile `j`. -/
theorem zwrites_apply (f : Buf (Elt Ideal) (zvM.view.loc (c : Thread nD τ))) (P : Fin 8 → FVec Ideal S1x128x256 .f32) (j : Fin 8) (e : Fin 128) (l : Fin 256) :
    zvM.view.writes (Elt Ideal) f (newest.map fun j => (⟨Rect.unit (s := S8x128x256) (zOff j) S1x128x256.size (zInb j), P j⟩ : View.Piece (Elt Ideal) S8x128x256 .f32))
      (ix3 j e l : S8x128x256.Idx) = P j (ix3 0 e l) := by
  have h := View.read_pieces (Val := Elt Ideal) zvM.view f zOff zInb P j (ix3 j e l : S8x128x256.Idx) (ix3 0 e l)
    (by intro a; fin_cases a <;> simp [ix3, zOff])
    (by
      intro j' hj
      refine ⟨0, ?_⟩
      have : j'.val ≠ j.val := fun h => hj (Fin.ext h)
      show j.val < j'.val ∨ j'.val + 1 ≤ j.val
      omega) newest (mem_newest j)
  rw [zread c] at h
  exact h
/-- One trip adds one chunk's 512 terms. -/
theorem trip2_apply (v9 : IVec S128x128 32) (v1026 : FVec Ideal S128x128 .f32) (v1027 : Vec Ideal S1x1x128 .i32) (k : Fin k0_t2_loop.trips)
    (f : Buf (Elt Ideal) (zvM.view.loc (c : Thread nD τ))) (j : Fin 8) (e : Fin 128) (l : Fin 256) :
    (trip2 c X Wt v9 v1026 v1027 k f).1 (ix3 j e l : S8x128x256.Idx) = (show EReal from f (ix3 j e l : S8x128x256.Idx))
      + ∑ q : Fin 512, wv c Wt (ix3 (c2 k) q e) * xv c X (ix3 (c2 k) (⟨256 * j.val + l.val, by omega⟩ : Fin 2048) q) := by
  rw [trip2_eq]
  refine (zwrites_apply c f (zPay c X Wt k f) j e l).trans ?_
  rw [zPay, pay74_apply, zload_apply]
  refine congrArg₂ (HAdd.hAdd (α := EReal) (β := EReal)) rfl (Finset.sum_congr rfl fun q _ => ?_)
  rw [wL_apply, xL_apply]

/-- The weights and the tokens as arrays of reals. -/
def wr : S16384x128.Idx → EReal := Wt
def xr : S2048x16384.Idx → EReal := X
/-- The `d`-th term of a token's logit. -/
def term (t : Fin 2048) (e : Fin 128) (d : ℕ) : EReal :=
  if h : d < 16384 then wr c Wt (ix2 (⟨d, h⟩ : Fin 16384) e) * xr c X (ix2 t (⟨d, h⟩ : Fin 16384)) else 0
theorem chunk_term (k : Fin 32) (t : Fin 2048) (q : Fin 512) (e : Fin 128) :
    (show EReal from wv c Wt (ix3 k q e)) * (show EReal from xv c X (ix3 k t q)) = term c X Wt t e (512 * k.val + q.val) := by
  have h : 512 * k.val + q.val < 16384 := by omega
  rw [term, dif_pos h]
  rfl
theorem zAcc_apply (v9 : IVec S128x128 32) (v1026 : FVec Ideal S128x128 .f32) (v1027 : Vec Ideal S1x1x128 .i32)
    (z0 : Buf (Elt Ideal) (zvM.view.loc (c : Thread nD τ))) (j : Fin 8) (e : Fin 128) (l : Fin 256) (K : ℕ) (hK : K ≤ 32) :
    zAcc c X Wt v9 v1026 v1027 z0 K (ix3 j e l : S8x128x256.Idx) = (show EReal from z0 (ix3 j e l : S8x128x256.Idx))
      + ∑ k ∈ Finset.range K, ∑ q : Fin 512, term c X Wt (⟨256 * j.val + l.val, by omega⟩ : Fin 2048) e (512 * k + q.val) := by
  induction K with
  | zero => rw [zAcc, Finset.range_zero, Finset.sum_empty]; exact (add_zero (show EReal from z0 (ix3 j e l : S8x128x256.Idx))).symm
  | succ K ih =>
    have hk : K < k0_t2_loop.trips := hK
    rw [zAcc, dif_pos hk]
    refine (trip2_apply c X Wt v9 v1026 v1027 ⟨K, hk⟩ _ j e l).trans ?_
    rw [Finset.sum_range_succ, ← add_assoc]
    refine congrArg₂ (HAdd.hAdd (α := EReal) (β := EReal)) (ih (by omega)) (Finset.sum_congr rfl fun q _ => ?_)
    exact chunk_term c X Wt (⟨K, hK⟩ : Fin 32) _ q e

variable (Id : Buf (Elt Ideal) (idM.view.loc (c : Thread nD τ)))
include c in
theorem zstart (j : Fin 8) (e : Fin 128) (l : Fin 256) :
    View.write (Elt Ideal) (zvM.view.slice (Rect.unit ![0, 0, 0] S8x128x256.size inb_S8x128x256_S8x128x256_0_0_0)) (zvM.view.writes (Elt Ideal) zvM.view.junk []) (k0_pay73 (F := Ideal)) Finset.univ
      (ix3 j e l : S8x128x256.Idx) = (0 : EReal) := by
  have h := View.read_writes_cons_unit_of_mem (Val := Elt Ideal) zvM.view zvM.view.junk inb_S8x128x256_S8x128x256_0_0_0 (k0_pay73 (F := Ideal)) []
    (ix3 j e l : S8x128x256.Idx) (ix3 j e l : S8x128x256.Idx) rfl (by intro a; fin_cases a <;> simp [ix3])
  rw [zread c] at h
  exact h.trans Ideal.ofBits_zero_f32
/-- A tile's logits before scaling: all 16384 terms. -/
theorem zT_apply (j : Fin 8) (e : Fin 128) (l : Fin 256) :
    zT c X Wt Id j (ix3 0 e l) = ∑ d : Fin 16384, wr c Wt (ix2 d e) * xr c X (ix2 (⟨256 * j.val + l.val, by omega⟩ : Fin 2048) d) := by
  rw [zT, zload_apply, zfin]
  refine (zAcc_apply c X Wt _ _ _ _ j e l 32 le_rfl).trans ?_
  refine (congrArg₂ (HAdd.hAdd (α := EReal) (β := EReal)) (zstart c j e l) rfl).trans ?_
  refine (zero_add _).trans ?_
  rw [Finset.sum_range (fun k => ∑ q : Fin 512, term c X Wt (⟨256 * j.val + l.val, by omega⟩ : Fin 2048) e (512 * k + q.val))]
  refine (sum_blocks 32 512 (term c X Wt (⟨256 * j.val + l.val, by omega⟩ : Fin 2048) e)).symm.trans (Finset.sum_congr rfl fun d _ => ?_)
  rw [term, dif_pos d.isLt]
end

end Cert.Proof.KernelIdeal

end
-- ==== Proof.RouterSums.lean ====
/- Hand-written, untrusted. The two programs' sums over tokens and choices, in one order; and their constant factors. -/
module

public import proofs.«01_k».proof.Proof.RouterMath
public import Idealize.ShloMosaic.Lib.IdealHost

@[expose] public section

noncomputable section

namespace Cert.Proof.Router

open Idealize.ShloMosaic
open scoped BigOperators

/-- One where two words agree. -/
def ind (a b : BitVec 32) : EReal := if a = b then 1 else 0

theorem ind_uitofp (a b : BitVec 32) : ((((BitVec.ofBool (a == b)).toNat : ℕ) : ℝ) : EReal) = ind a b := by
  unfold ind
  by_cases h : a = b
  · subst h; simp
  · have hb : (a == b) = false := by simpa using h
    rw [hb, if_neg h]; simp

theorem ofBits_tokens : Ideal.ofBits .f32 0x45000000#32 = ((2048 : ℝ) : EReal) := by
  simp [Ideal.ofBits, Ideal.ieee, -EReal.coe_mul]; norm_num
theorem ofBits_inv_tokens : Ideal.ofBits .f32 0x3A000000#32 = ((1 / 2048 : ℝ) : EReal) := by
  simp [Ideal.ofBits, Ideal.ieee, -EReal.coe_mul]; norm_num
theorem ofBits_choices : Ideal.ofBits .f32 0x46800000#32 = ((16384 : ℝ) : EReal) := by
  simp [Ideal.ofBits, Ideal.ieee, -EReal.coe_mul]; norm_num
theorem ofBits_inv_choices : Ideal.ofBits .f32 0x38800000#32 = ((1 / 16384 : ℝ) : EReal) := by
  simp [Ideal.ofBits, Ideal.ieee, -EReal.coe_mul]; norm_num
theorem div_tokens (x : EReal) : Ideal.div x (Ideal.ofBits .f32 0x45000000#32) = x * Ideal.ofBits .f32 0x3A000000#32 := by
  rw [ofBits_tokens, ofBits_inv_tokens, Ideal.div_coe (by norm_num)]
theorem div_choices (x : EReal) : Ideal.div x (Ideal.ofBits .f32 0x46800000#32) = x * Ideal.ofBits .f32 0x38800000#32 := by
  rw [ofBits_choices, ofBits_inv_choices, Ideal.div_coe (by norm_num)]

variable {M : Type} [AddCommMonoid M]

/-- The 2048 tokens by tiles of 256 or by batches of 1024. -/
theorem sum_tokens_tiles (G : ℕ → M) :
    ∑ l : Fin 256, ∑ j : Fin 8, G (256 * j.val + l.val) = ∑ b : Fin 2, ∑ s : Fin 1024, G (1024 * b.val + s.val) := by
  rw [Finset.sum_comm, ← sum_blocks 8 256 G, ← sum_blocks 2 1024 G]
theorem sum_tokens (G : ℕ → M) :
    ∑ t : Fin 2048, G t.val = ∑ b : Fin 2, ∑ s : Fin 1024, G (1024 * b.val + s.val) := sum_blocks 2 1024 G

/-- The choices by rows of 128 or by tokens. -/
theorem sum_choices (g : ℕ → ℕ → ℕ → M) :
    ∑ l : Fin 128, ∑ i ∈ Finset.range 128, g (i / 64 % 2) (i % 8) (128 * (i % 64 / 8) + l.val)
      = ∑ b : Fin 2, ∑ s : Fin 1024, ∑ k : Fin 8, g b.val k.val s.val := by
  have h1 : ∀ l : Fin 128, ∑ i ∈ Finset.range 128, g (i / 64 % 2) (i % 8) (128 * (i % 64 / 8) + l.val)
      = ∑ b : Fin 2, ∑ q : Fin 8, ∑ k : Fin 8, g b.val k.val (128 * q.val + l.val) := fun l => by
    rw [Finset.sum_range (fun i => g (i / 64 % 2) (i % 8) (128 * (i % 64 / 8) + l.val))]
    refine (sum_blocks 2 64 (fun i => g (i / 64 % 2) (i % 8) (128 * (i % 64 / 8) + l.val))).trans (Finset.sum_congr rfl fun b _ => ?_)
    refine (sum_blocks 8 8 (fun r => g ((64 * b.val + r) / 64 % 2) ((64 * b.val + r) % 8) (128 * ((64 * b.val + r) % 64 / 8) + l.val))).trans
      (Finset.sum_congr rfl fun q _ => Finset.sum_congr rfl fun k _ => ?_)
    have hb := b.isLt; have hq := q.isLt; have hk := k.isLt
    congr 1
    · omega
    · omega
    · omega
  rw [Finset.sum_congr rfl fun l _ => h1 l, Finset.sum_comm]
  refine Finset.sum_congr rfl fun b _ => ?_
  rw [Finset.sum_comm]
  refine Eq.trans ?_ (sum_blocks 8 128 (fun s => ∑ k : Fin 8, g b.val k.val s)).symm
  rfl

/-! What both programs compute, of the tokens, the scales, the weights and the choices. -/
section
variable (x : Fin 2 → Fin 1024 → Fin 16384 → EReal) (sc : Fin 2 → Fin 1024 → EReal) (w : Fin 16384 → Fin 128 → EReal)
variable (ids : Fin 2 → Fin 1024 → Fin 8 → BitVec 32)
/-- A token's scaled logits. -/
def row (b : Fin 2) (s : Fin 1024) : Fin 128 → EReal := fun e => (∑ d, x b s d * w d e) * sc b s
/-- The fraction of the choices that fell on each expert. -/
def fr : Fin 128 → EReal := fun e => (∑ b, ∑ s, ∑ k, ind (ids b s k) (BitVec.ofNat 32 e.val)) * Ideal.ofBits .f32 0x38800000#32
/-- The mean probability of each expert, and the gradients of the weights and of the tokens. -/
def rmean (e : Fin 128) : EReal := (∑ b, ∑ s, rp (row x sc w b s) e) * Ideal.ofBits .f32 0x3A000000#32
def rdw (d : Fin 16384) (e : Fin 128) : EReal := ∑ b, ∑ s, x b s d * (rdlog (row x sc w b s) (fr ids) e * sc b s)
def rdx (b : Fin 2) (s : Fin 1024) (d : Fin 16384) : EReal := ∑ k, rdlog (row x sc w b s) (fr ids) k * w d k
end

end Cert.Proof.Router

end
-- ==== Proof.IdealCount.lean ====
/- Hand-written, untrusted. The expert counts: the body compares each of the 128 rows of choices with the experts' numbers and adds. -/
module

public import proofs.«01_k».proof.Proof.IdealRows
public import proofs.«01_k».proof.Proof.RouterSums
public import Idealize.ShloMosaic.Lib.ValueLayoutCasts
import all proofs.«01_k».proof.Proof.IdealBody

@[expose] public section

noncomputable section

namespace Cert.Proof.KernelIdeal

open Cert.KernelIdeal Cert.KernelIdeal.Gen
open Idealize.ShloMosaic Idealize.ShloMosaic.ValueIdx
open Idealize.ShloMosaic.TcCoe Idealize.ShloMosaic.Tactic
open Cert.Proof.Router
open scoped BigOperators

variable {F : FTy → Type} [FloatOps F]

/-- Where the `n`-th row of 128 choices lies: batches, then blocks of 128 tokens, then the choices of one token. -/
def hOff (n : ℕ) : Fin 3 → ℕ := ![n / 64 % 2, n % 8, 128 * (n % 64 / 8)]
theorem hInb (n : ℕ) : ∀ a : Fin 3, hOff n a + S1x1x128.size a ≤ S2x8x1024.size a := by
  intro a
  fin_cases a
  · show n / 64 % 2 + 1 ≤ 2; omega
  · show n % 8 + 1 ≤ 8; omega
  · show 128 * (n % 64 / 8) + 128 ≤ 1024; omega
/-- The experts' numbers down the rows. -/
def hIota : IVec S128x128 32 := iota .tc S128x128 32 [0] iota_S128x128_d0_w32

section
variable (c : Dev nD) (Id : Buf (Elt F) (idM.view.loc (c : Thread nD τ)))
def hLoad (n : ℕ) : Vec F S1x1x128 .i32 :=
  View.readAt (Elt F) idvM.view (Rect.unit (s := S2x8x1024) (hOff n) S1x1x128.size (hInb n)).toLoadRect Id
/-- One row's contribution: one where the choice is the expert. -/
def hInd (row : Vec F S1x1x128 .i32) : FVec F S128x128 .f32 :=
  select (cmpi .eq hIota (broadcastTo S128x128 (shapeCast S1x128 row shapeCasts_S1x1x128_S1x128) broadcasts_S1x128_S128x128))
    (broadcast S128x128 (Scalar.ofBits .f32 0x3F800000#32)) (broadcast S128x128 (Scalar.ofBits .f32 0x00000000#32))
def hrec : ℕ → FVec F S128x128 .f32
  | 0 => broadcast S128x128 (Scalar.ofBits .f32 0x00000000#32)
  | n + 1 => addf (hrec n) (hInd (hLoad c Id n))
theorem frac_eq : frac c Id = mulf (shapeCast S128x1 (multiReduction .add [1] S128 (hrec c Id 128) 0x00000000#32 reduces_S128x128_S128 (.inl rfl) rfl) shapeCasts_S128_S128x1)
    (broadcast S128x1 (Scalar.ofBits .f32 0x38800000#32)) := by
  unfold frac; rfl
end

section
variable (row : Vec Ideal S1x1x128 .i32)
theorem hIota_apply (e l : Fin 128) : hIota (ix2 e l) = BitVec.ofNat 32 e.val := by
  unfold hIota iota
  show BitVec.ofNat 32 (0 * 128 + e.val) = _
  rw [Nat.zero_mul, Nat.zero_add]
theorem hInd_apply (e l : Fin 128) : hInd (F := Ideal) row (ix2 e l) = ind (BitVec.ofNat 32 e.val) (row (ix3 (0 : Fin 1) (0 : Fin 1) l)) := by
  unfold hInd
  rw [select_apply]
  show Scalar.select (IntOp.cmpi .eq (hIota (ix2 e l)) (broadcastTo S128x128 (shapeCast S1x128 row shapeCasts_S1x1x128_S1x128) broadcasts_S1x128_S128x128 (ix2 e l))) _ _ = _
  rw [hIota_apply]
  have hr : broadcastTo S128x128 (shapeCast S1x128 row shapeCasts_S1x1x128_S1x128) broadcasts_S1x128_S128x128 (ix2 e l) = row (ix3 (0 : Fin 1) (0 : Fin 1) l) :=
    (broadcastTo_1b_ab_apply _ broadcasts_S1x128_S128x128 e l).trans (shapeCast_1ab_ab_apply _ shapeCasts_S1x1x128_S1x128 0 l)
  rw [hr]
  have h1 : (broadcast S128x128 (Scalar.ofBits (F := Ideal) .f32 0x3F800000#32) : FVec Ideal S128x128 .f32) (ix2 e l) = (1 : EReal) := Ideal.ofBits_one_f32
  have h0 : (broadcast S128x128 (Scalar.ofBits (F := Ideal) .f32 0x00000000#32) : FVec Ideal S128x128 .f32) (ix2 e l) = (0 : EReal) := Ideal.ofBits_zero_f32
  rw [h1, h0]
  unfold ind IntOp.cmpi
  by_cases h : BitVec.ofNat 32 e.val = row (ix3 (0 : Fin 1) (0 : Fin 1) l)
  · rw [if_pos h, ← h]; simp [Scalar.select]
  · have hb : (BitVec.ofNat 32 e.val == row (ix3 (0 : Fin 1) (0 : Fin 1) l)) = false := by simpa using h
    rw [if_neg h]; simp [Scalar.select, hb]
end

section
variable (c : Dev nD) (Id : Buf (Elt Ideal) (idM.view.loc (c : Thread nD τ)))
/-- The choices as words, and by number. -/
def idr : S2x8x1024.Idx → BitVec 32 := Id
def idn (b k s : ℕ) : BitVec 32 :=
  idr c Id (ix3 (⟨b % 2, Nat.mod_lt _ (by decide)⟩ : Fin 2) (⟨k % 8, Nat.mod_lt _ (by decide)⟩ : Fin 8) (⟨s % 1024, Nat.mod_lt _ (by decide)⟩ : Fin 1024))
theorem hLoad_emb (r : Rect S2x8x1024) (i : r.shape.Idx) : View.readAt (Elt Ideal) idvM.view r.toLoadRect Id i = idr c Id (r.emb i) := rfl
theorem hLoad_apply (n : ℕ) (l : Fin 128) : hLoad c Id n (ix3 (0 : Fin 1) (0 : Fin 1) l) = idn c Id (n / 64 % 2) (n % 8) (128 * (n % 64 / 8) + l.val) := by
  unfold hLoad idn
  refine (hLoad_emb c Id _ _).trans ?_
  congr 1; funext a; apply Fin.ext; rw [Rect.emb_apply]
  have hl := l.isLt
  fin_cases a
  · show n / 64 % 2 + 1 * 0 = n / 64 % 2 % 2; omega
  · show n % 8 + 1 * 0 = n % 8 % 8; omega
  · show 128 * (n % 64 / 8) + 1 * l.val = (128 * (n % 64 / 8) + l.val) % 1024; omega
theorem hrec_apply (n : ℕ) (e l : Fin 128) : hrec c Id n (ix2 e l)
    = ∑ i ∈ Finset.range n, ind (BitVec.ofNat 32 e.val) (idn c Id (i / 64 % 2) (i % 8) (128 * (i % 64 / 8) + l.val)) := by
  induction n with
  | zero => rw [Finset.range_zero, Finset.sum_empty]; exact Ideal.ofBits_zero_f32
  | succ n ih =>
    rw [hrec, addf_apply, ih, hInd_apply, hLoad_apply, Finset.sum_range_succ]
/-- The fractions: over every token and choice, one where the choice is the expert. -/
theorem frac_apply (e : Fin 128) : frac c Id (ix2 e (0 : Fin 1))
    = (∑ b : Fin 2, ∑ s : Fin 1024, ∑ k : Fin 8, ind (BitVec.ofNat 32 e.val) (idr c Id (ix3 b k s))) * Ideal.ofBits .f32 0x38800000#32 := by
  rw [frac_eq]
  refine (mulf_apply _ _ _).trans ?_
  refine congrArg₂ (HMul.hMul (α := EReal) (β := EReal)) ?_ rfl
  refine (shapeCast_a_a1_apply _ shapeCasts_S128_S128x1 e 0).trans ?_
  refine (Ideal.multiReduction_add_single _ _ reduces_S128x128_S128 (.inl rfl) rfl (ix1 e)).trans ?_
  refine (Finset.sum_congr rfl fun l _ => ((congrArg (hrec c Id 128) (lift_ix2_1 reduces_S128x128_S128 e l)).trans (hrec_apply c Id 128 e l))).trans ?_
  refine (sum_choices fun b k s => ind (BitVec.ofNat 32 e.val) (idn c Id b k s)).trans ?_
  refine Finset.sum_congr rfl fun b _ => Finset.sum_congr rfl fun s _ => Finset.sum_congr rfl fun k _ => ?_
  have hb : (⟨b.val % 2, Nat.mod_lt _ (by decide)⟩ : Fin 2) = b := Fin.ext (Nat.mod_eq_of_lt b.isLt)
  have hk : (⟨k.val % 8, Nat.mod_lt _ (by decide)⟩ : Fin 8) = k := Fin.ext (Nat.mod_eq_of_lt k.isLt)
  have hs : (⟨s.val % 1024, Nat.mod_lt _ (by decide)⟩ : Fin 1024) = s := Fin.ext (Nat.mod_eq_of_lt s.isLt)
  show ind _ (idn c Id b.val k.val s.val) = _
  unfold idn
  rw [hb, hk, hs]
end

end Cert.Proof.KernelIdeal

end
-- ==== Proof.IdealFields.lean ====
/- Hand-written, untrusted. The arrays the run leaves, read at an index: token by token, the rows' losses and gradients, and the two
   matrix gradients as sums of products. -/
module

public import proofs.«01_k».proof.Proof.IdealSums
public import proofs.«01_k».proof.Proof.IdealCount
public import Idealize.ShloMosaic.Lib.MatmulPlain

@[expose] public section

noncomputable section

namespace Cert.Proof.KernelIdeal

open Cert.KernelIdeal Cert.KernelIdeal.Gen
open Idealize.ShloMosaic Idealize.ShloMosaic.ValueIdx
open Idealize.ShloMosaic.TcCoe Idealize.ShloMosaic.Tactic
open Cert.Proof.Router
open scoped BigOperators

/-! An index of an array written tile by tile reads its tile's payload. -/
section Reads
variable {κ : Kind} {sp : Space} {e : EltTy}
theorem tread (v : View sig κ sp S2x1024 e) (f : v.ty.Contents (Elt Ideal)) (P : Fin 8 → S1x256.Idx → Elt Ideal e) (b : Fin 2) (s : Fin 1024) :
    v.read (Elt Ideal) (v.writes (Elt Ideal) f (newest.map fun j => (⟨Rect.unit (s := S2x1024) (tOff j) S1x256.size (tInb j), P j⟩ : View.Piece (Elt Ideal) S2x1024 e)))
      (ix2 b s) = P ⟨4 * b.val + s.val / 256, by omega⟩ (ix2 (0 : Fin 1) (⟨s.val % 256, Nat.mod_lt _ (by decide)⟩ : Fin 256)) := by
  have hb := b.isLt
  have hs := s.isLt
  refine View.read_pieces (Val := Elt Ideal) v f tOff tInb P ⟨4 * b.val + s.val / 256, by omega⟩ (ix2 b s : S2x1024.Idx)
    (ix2 (0 : Fin 1) (⟨s.val % 256, Nat.mod_lt _ (by decide)⟩ : Fin 256)) ?_ ?_ newest (mem_newest _)
  · intro a
    fin_cases a
    · show b.val = (4 * b.val + s.val / 256) / 4 + 0; omega
    · show s.val = 256 * ((4 * b.val + s.val / 256) % 4) + s.val % 256; omega
  · intro j' hj
    have hne : j'.val ≠ 4 * b.val + s.val / 256 := fun h => hj (Fin.ext h)
    by_cases h : b.val = j'.val / 4
    · refine ⟨1, ?_⟩
      show s.val < 256 * (j'.val % 4) ∨ 256 * (j'.val % 4) + 256 ≤ s.val
      omega
    · refine ⟨0, ?_⟩
      show b.val < j'.val / 4 ∨ j'.val / 4 + 1 ≤ b.val
      omega
theorem rread (v : View sig κ sp S2048x128 e) (f : v.ty.Contents (Elt Ideal)) (P : Fin 8 → S256x128.Idx → Elt Ideal e) (t : Fin 2048) (n : Fin 128) :
    v.read (Elt Ideal) (v.writes (Elt Ideal) f (newest.map fun j => (⟨Rect.unit (s := S2048x128) (rOff j) S256x128.size (rInb j), P j⟩ : View.Piece (Elt Ideal) S2048x128 e)))
      (ix2 t n) = P ⟨t.val / 256, by omega⟩ (ix2 (⟨t.val % 256, Nat.mod_lt _ (by decide)⟩ : Fin 256) n) := by
  have ht := t.isLt
  refine View.read_pieces (Val := Elt Ideal) v f rOff rInb P ⟨t.val / 256, by omega⟩ (ix2 t n : S2048x128.Idx)
    (ix2 (⟨t.val % 256, Nat.mod_lt _ (by decide)⟩ : Fin 256) n) ?_ ?_ newest (mem_newest _)
  · intro a
    fin_cases a
    · show t.val = 256 * (t.val / 256) + t.val % 256; omega
    · show n.val = 0 + n.val; omega
  · intro j' hj
    have hne : j'.val ≠ t.val / 256 := fun h => hj (Fin.ext h)
    refine ⟨0, ?_⟩
    show t.val < 256 * j'.val ∨ 256 * j'.val + 256 ≤ t.val
    omega
theorem cread (v : View sig κ sp S128x2048 e) (f : v.ty.Contents (Elt Ideal)) (P : Fin 8 → S128x256.Idx → Elt Ideal e) (n : Fin 128) (t : Fin 2048) :
    v.read (Elt Ideal) (v.writes (Elt Ideal) f (newest.map fun j => (⟨Rect.unit (s := S128x2048) (cOff j) S128x256.size (cInb j), P j⟩ : View.Piece (Elt Ideal) S128x2048 e)))
      (ix2 n t) = P ⟨t.val / 256, by omega⟩ (ix2 n (⟨t.val % 256, Nat.mod_lt _ (by decide)⟩ : Fin 256)) := by
  have ht := t.isLt
  refine View.read_pieces (Val := Elt Ideal) v f cOff cInb P ⟨t.val / 256, by omega⟩ (ix2 n t : S128x2048.Idx)
    (ix2 n (⟨t.val % 256, Nat.mod_lt _ (by decide)⟩ : Fin 256)) ?_ ?_ newest (mem_newest _)
  · intro a
    fin_cases a
    · show n.val = 0 + n.val; omega
    · show t.val = 256 * (t.val / 256) + t.val % 256; omega
  · intro j' hj
    have hne : j'.val ≠ t.val / 256 := fun h => hj (Fin.ext h)
    refine ⟨1, ?_⟩
    show t.val < 256 * j'.val ∨ 256 * j'.val + 256 ≤ t.val
    omega
theorem oread (v : View sig κ sp S1x128 e) (f : v.ty.Contents (Elt Ideal)) (P : S1x128.Idx → Elt Ideal e) (n : Fin 128) :
    v.read (Elt Ideal) (v.writes (Elt Ideal) f [(⟨Rect.unit (s := S1x128) ![0, 0] S1x128.size inb_S1x128_S1x128_0_0, P⟩ : View.Piece (Elt Ideal) S1x128 e)])
      (ix2 (0 : Fin 1) n) = P (ix2 (0 : Fin 1) n) := by
  refine View.read_writes_cons_unit_of_mem (Val := Elt Ideal) v f inb_S1x128_S1x128_0_0 P [] (ix2 (0 : Fin 1) n : S1x128.Idx) (ix2 (0 : Fin 1) n) rfl ?_
  intro a
  fin_cases a
  · rfl
  · show n.val = 0 + n.val; omega
end Reads

section
variable (c : Dev nD) (X : Buf (Elt Ideal) (xM.view.loc (c : Thread nD τ))) (Wt : Buf (Elt Ideal) (wM.view.loc (c : Thread nD τ)))
variable (Sc : Buf (Elt Ideal) (scM.view.loc (c : Thread nD τ))) (Id : Buf (Elt Ideal) (idM.view.loc (c : Thread nD τ)))

/-- The scales as an array of reals. -/
def scr : S2x1024.Idx → EReal := Sc
theorem scload_emb (r : Rect S2x1024) (i : r.shape.Idx) : View.readAt (Elt Ideal) scvM.view r.toLoadRect Sc i = scr c Sc (r.emb i) := rfl
theorem scT_apply (j : Fin 8) (l : Fin 256) : scT c Sc j (ix2 (0 : Fin 1) l)
    = scr c Sc (ix2 (⟨j.val / 4, by omega⟩ : Fin 2) (⟨256 * (j.val % 4) + l.val, by omega⟩ : Fin 1024)) := by
  unfold scT
  refine (scload_emb c Sc _ _).trans ?_
  congr 1; funext a; apply Fin.ext; rw [Rect.emb_apply]
  fin_cases a
  · show j.val / 4 + 1 * 0 = j.val / 4; omega
  · show 256 * (j.val % 4) + 1 * l.val = 256 * (j.val % 4) + l.val; omega

/-- Token `t`'s scaled logits. -/
def krow (t : ℕ) : Fin 128 → EReal := fun e =>
  (∑ d : Fin 16384, wr c Wt (ix2 d e) * xr c X (ix2 (⟨t % 2048, Nat.mod_lt _ (by decide)⟩ : Fin 2048) d))
    * scr c Sc (ix2 (⟨t / 1024 % 2, Nat.mod_lt _ (by decide)⟩ : Fin 2) (⟨t % 1024, Nat.mod_lt _ (by decide)⟩ : Fin 1024))
/-- Column `l` of tile `j` is token `256 j + l`. -/
theorem zrow_tile (j : Fin 8) (l : Fin 256) : zrow (scT c Sc j) (zT c X Wt Id j) l = krow c X Wt Sc (256 * j.val + l.val) := by
  funext e
  unfold zrow krow
  have hj := j.isLt; have hl := l.isLt
  rw [zT_apply, scT_apply]
  have h1 : (⟨256 * j.val + l.val, by omega⟩ : Fin 2048) = ⟨(256 * j.val + l.val) % 2048, Nat.mod_lt _ (by decide)⟩ := Fin.ext (by show 256 * j.val + l.val = (256 * j.val + l.val) % 2048; omega)
  have h2 : (⟨j.val / 4, by omega⟩ : Fin 2) = ⟨(256 * j.val + l.val) / 1024 % 2, Nat.mod_lt _ (by decide)⟩ := Fin.ext (by show _ / _ = _ % _; omega)
  have h3 : (⟨256 * (j.val % 4) + l.val, by omega⟩ : Fin 1024) = ⟨(256 * j.val + l.val) % 1024, Nat.mod_lt _ (by decide)⟩ := Fin.ext (by show 256 * (j.val % 4) + l.val = (256 * j.val + l.val) % 1024; omega)
  rw [h1, h2, h3]
/-- The fractions as a row. -/
def kfrow : Fin 128 → EReal := frow (frac c Id)

theorem tok_tile (b : Fin 2) (s : Fin 1024) : 256 * (4 * b.val + s.val / 256) + s.val % 256 = 1024 * b.val + s.val := by omega
theorem lse_apply (b : Fin 2) (s : Fin 1024) : (bodyRun c X Wt Sc Id).val.lse (ix2 b s : S2x1024.Idx) = rlse (krow c X Wt Sc (1024 * b.val + s.val)) := by
  rw [lse_eq]
  refine (tread lsevM.view _ (lseP c X Wt Sc Id) b s).trans ?_
  unfold lseP
  rw [pay202_apply, zrow_tile]
  exact congrArg (fun t => rlse (krow c X Wt Sc t)) (tok_tile b s)
theorem aux_apply (b : Fin 2) (s : Fin 1024) : (bodyRun c X Wt Sc Id).val.aux (ix2 b s : S2x1024.Idx) = raux (krow c X Wt Sc (1024 * b.val + s.val)) (kfrow c Id) := by
  rw [aux_eq]
  refine (tread auxvM.view _ (auxP c X Wt Sc Id) b s).trans ?_
  unfold auxP
  rw [pay204_apply, zrow_tile]
  exact congrArg (fun t => raux (krow c X Wt Sc t) (kfrow c Id)) (tok_tile b s)
theorem zt_apply (b : Fin 2) (s : Fin 1024) : (bodyRun c X Wt Sc Id).val.zt (ix2 b s : S2x1024.Idx) = rzt (krow c X Wt Sc (1024 * b.val + s.val)) := by
  rw [zt_eq]
  refine (tread ztvM.view _ (ztP c X Wt Sc Id) b s).trans ?_
  unfold ztP
  rw [pay205_apply, zrow_tile]
  exact congrArg (fun t => rzt (krow c X Wt Sc t)) (tok_tile b s)

theorem tok_row (t : Fin 2048) : 256 * (t.val / 256) + t.val % 256 = t.val := by omega
theorem dlog_apply (t : Fin 2048) (e : Fin 128) : (bodyRun c X Wt Sc Id).val.dlog (ix2 t e : S2048x128.Idx) = rdlog (krow c X Wt Sc t.val) (kfrow c Id) e := by
  rw [dlog_eq]
  refine (rread dlogvM.view _ (dlogP c X Wt Sc Id) t e).trans ?_
  unfold dlogP
  rw [pay209_apply, zrow_tile]
  exact congrArg (fun t => rdlog (krow c X Wt Sc t) (kfrow c Id) e) (tok_row t)
theorem dl_apply (t : Fin 2048) (e : Fin 128) : (bodyRun c X Wt Sc Id).val.dl (ix2 t e : S2048x128.Idx) = rdlog (krow c X Wt Sc t.val) (kfrow c Id) e := by
  rw [dl_eq]
  refine (rread dlvM.view dlvM.view.junk (dlP c X Wt Sc Id) t e).trans ?_
  unfold dlP
  rw [pay210_apply, zrow_tile]
  exact congrArg (fun t => rdlog (krow c X Wt Sc t) (kfrow c Id) e) (tok_row t)
/-- The scale of token `t`. -/
def ksc (t : ℕ) : EReal := scr c Sc (ix2 (⟨t / 1024 % 2, Nat.mod_lt _ (by decide)⟩ : Fin 2) (⟨t % 1024, Nat.mod_lt _ (by decide)⟩ : Fin 1024))
theorem ds_apply (e : Fin 128) (t : Fin 2048) : (bodyRun c X Wt Sc Id).val.ds (ix2 e t : S128x2048.Idx) = rdlog (krow c X Wt Sc t.val) (kfrow c Id) e * ksc c Sc t.val := by
  rw [ds_eq]
  refine (cread dsvM.view dsvM.view.junk (dsP c X Wt Sc Id) e t).trans ?_
  unfold dsP
  rw [pay207_apply, zrow_tile, scT_apply]
  have ht := t.isLt
  refine congrArg₂ (HMul.hMul (α := EReal) (β := EReal)) (congrArg (fun t => rdlog (krow c X Wt Sc t) (kfrow c Id) e) (tok_row t)) ?_
  unfold ksc
  have h2 : (⟨t.val / 256 / 4, by omega⟩ : Fin 2) = ⟨t.val / 1024 % 2, Nat.mod_lt _ (by decide)⟩ := Fin.ext (by show _ / _ = _ % _; omega)
  have h3 : (⟨256 * (t.val / 256 % 4) + t.val % 256, by omega⟩ : Fin 1024) = ⟨t.val % 1024, Nat.mod_lt _ (by decide)⟩ := Fin.ext (by show 256 * (t.val / 256 % 4) + t.val % 256 = t.val % 1024; omega)
  exact congrArg (scr c Sc) (congrArg₂ ix2 h2 h3)

theorem pAcc_apply (e : Fin 128) (l : Fin 256) : pAcc c X Wt Sc Id (ix2 e l) = ∑ j : Fin 8, rp (krow c X Wt Sc (256 * j.val + l.val)) e := by
  have h0 : (k0_pay75 (F := Ideal)) (ix2 e l) = (0 : EReal) := Ideal.ofBits_zero_f32
  have hj : ∀ j : Fin 8, k0_pay199 (scT c Sc j) (zT c X Wt Id j) (ix2 e l) = rp (krow c X Wt Sc (256 * j.val + l.val)) e := fun j => by
    rw [pay199_apply, zrow_tile]
  unfold pAcc newest
  simp only [List.foldr_cons, List.foldr_nil, addf_apply, hj, h0, zero_add, Fin.sum_univ_eight]
theorem p_apply (e : Fin 128) : (bodyRun c X Wt Sc Id).val.p (ix2 (0 : Fin 1) e : S1x128.Idx)
    = (∑ b : Fin 2, ∑ s : Fin 1024, rp (krow c X Wt Sc (1024 * b.val + s.val)) e) * Ideal.ofBits .f32 0x3A000000#32 := by
  rw [p_eq]
  refine (oread pvM.view _ (k0_pay211 (pAcc c X Wt Sc Id)) e).trans ?_
  rw [pay211_apply]
  refine congrArg₂ (HMul.hMul (α := EReal) (β := EReal)) ?_ rfl
  rw [← sum_tokens_tiles fun t => rp (krow c X Wt Sc t) e]
  exact Finset.sum_congr rfl fun l _ => pAcc_apply c X Wt Sc Id e l
end

/-! The matrix gradients. -/
theorem dot_dx : dot_S256x128_S512x128_S256x512_1_1_0_0_n_n = DotDims.transposedRhs 256 128 512 := rfl
theorem dot_dw : dot_S128x2048_S2048x512_S128x512_1_0_0_1_n_n = DotDims.plain 128 2048 512 := rfl
theorem pay13_apply (w : Vec Ideal S1x512x128 .bf16) (a : Vec Ideal S256x128 .bf16) (l : Fin 256) (q : Fin 512) :
    k0_pay13 w a (ix3 (0 : Fin 1) l q) = ∑ k : Fin 128, a (ix2 l k) * w (ix3 (0 : Fin 1) q k) := by
  unfold k0_pay13 k0_pay12
  refine (shapeCast_ab_1ab_apply _ _ 0 l q).trans ?_
  rw [dot_dx]
  refine (Ideal.matmul_transposedRhs_apply (φ₁ := .bf16) (φ₂ := .bf16) none _ _ _ l q).trans ?_
  have h0 : constant (F := Ideal) S256x512 .f32 0x00000000#32 (ix2 l q) = (0 : EReal) := Ideal.ofBits_zero_f32
  rw [h0, zero_add]
  refine Finset.sum_congr rfl fun k _ => ?_
  rw [shapeCast_1ab_ab_apply]
theorem pay213_apply (a : Vec Ideal S128x2048 .bf16) (x : Vec Ideal S1x2048x512 .fp8e4m3) (q : Fin 512) (n : Fin 128) :
    k0_pay213 a x (ix3 (0 : Fin 1) q n) = ∑ t : Fin 2048, a (ix2 n t) * x (ix3 (0 : Fin 1) t q) := by
  unfold k0_pay213
  refine (shapeCast_ab_1ab_apply _ _ 0 q n).trans ?_
  refine (transpose_ix2_apply _ _ q n).trans ?_
  rw [dot_dw]
  refine (Ideal.matmul_plain_apply none _ _ _ n q).trans ?_
  have h0 : constant (F := Ideal) S128x512 .f32 0x00000000#32 (ix2 n q) = (0 : EReal) := Ideal.ofBits_zero_f32
  rw [h0, zero_add]
  refine Finset.sum_congr rfl fun k _ => ?_
  rw [shapeCast_1ab_ab_apply]

section
variable (c : Dev nD) (X : Buf (Elt Ideal) (xM.view.loc (c : Thread nD τ))) (Wt : Buf (Elt Ideal) (wM.view.loc (c : Thread nD τ)))
variable (Dl : Buf (Elt Ideal) (dlvM.view.loc (c : Thread nD τ))) (Ds : Buf (Elt Ideal) (dsvM.view.loc (c : Thread nD τ)))
/-- The logits' gradients as arrays of reals. -/
def dlr : S2048x128.Idx → EReal := Dl
def dsr : S128x2048.Idx → EReal := Ds

theorem dltile_apply (j : Fin 8) (l : Fin 256) (k : Fin 128) : dltile c Dl j (ix2 l k) = dlr c Dl (ix2 (⟨256 * j.val + l.val, by omega⟩ : Fin 2048) k) := rfl
theorem wload_apply (b : Fin 32) (q : Fin 512) (k : Fin 128) : wload c (WV c Wt) b (ix3 (0 : Fin 1) q k) = wr c Wt (ix2 (⟨512 * b.val + q.val, by omega⟩ : Fin 16384) k) := rfl
theorem xload_apply (b : Fin 32) (t : Fin 2048) (q : Fin 512) : xload c (XV c X) b (ix3 (0 : Fin 1) t q) = xr c X (ix2 t (⟨512 * b.val + q.val, by omega⟩ : Fin 16384)) := rfl
theorem dsload_apply (n : Fin 128) (t : Fin 2048) : dsload c Ds (ix2 n t) = dsr c Ds (ix2 n t) := rfl

theorem DX_apply (t : Fin 2048) (d : Fin 16384) : DX c (WV c Wt) Dl (ix2 t d : S2048x16384.Idx) = ∑ k : Fin 128, dlr c Dl (ix2 t k) * wr c Wt (ix2 d k) := by
  unfold DX DXc
  refine (pay13_apply _ _ _ _).trans (Finset.sum_congr rfl fun k _ => ?_)
  rw [dltile_apply, wload_apply]
  have h1 : (⟨256 * (t.val / 256) + t.val % 256, by omega⟩ : Fin 2048) = t := Fin.ext (by show 256 * (t.val / 256) + t.val % 256 = t.val; omega)
  have h2 : (⟨512 * (d.val / 512) + d.val % 512, by omega⟩ : Fin 16384) = d := Fin.ext (by show 512 * (d.val / 512) + d.val % 512 = d.val; omega)
  exact congrArg₂ (HMul.hMul (α := EReal) (β := EReal)) (congrArg (fun t => dlr c Dl (ix2 t k)) h1) (congrArg (fun d => wr c Wt (ix2 d k)) h2)
theorem DW_apply (d : Fin 16384) (n : Fin 128) : DW c (XV c X) Ds (ix2 d n : S16384x128.Idx) = ∑ t : Fin 2048, dsr c Ds (ix2 n t) * xr c X (ix2 t d) := by
  unfold DW DWc
  refine (pay213_apply _ _ _ _).trans (Finset.sum_congr rfl fun t _ => ?_)
  rw [xload_apply]
  have h2 : (⟨512 * (d.val / 512) + d.val % 512, by omega⟩ : Fin 16384) = d := Fin.ext (by show 512 * (d.val / 512) + d.val % 512 = d.val; omega)
  exact congrArg₂ (HMul.hMul (α := EReal) (β := EReal)) rfl (congrArg (fun d => xr c X (ix2 t d)) h2)
end

end Cert.Proof.KernelIdeal

end
-- ==== Proof.IdealResults.lean ====
/- Hand-written, untrusted. The kernel's results at the reals, as functions of the launch arguments. -/
module

public import proofs.«01_k».proof.Proof.IdealFields

@[expose] public section

noncomputable section

namespace Cert.Proof.KernelIdeal

open Cert.KernelIdeal Cert.KernelIdeal.Gen
open Idealize.ShloMosaic Idealize.ShloMosaic.ValueIdx
open Idealize.ShloMosaic.TcCoe Idealize.ShloMosaic.Tactic
open Cert.Proof.Router
open scoped BigOperators

/-- Splitting the tokens into batches, and joining them. -/
theorem shapeCast_split {α : Type} {n : ℕ} (x : (⟨2, ![2048, n]⟩ : Shape).Idx → α) (h : (⟨2, ![2048, n]⟩ : Shape).ShapeCasts ⟨3, ![2, 1024, n]⟩)
    (b : Fin 2) (s : Fin 1024) (e : Fin n) :
    shapeCast ⟨3, ![2, 1024, n]⟩ x h (ix3 b s e) = x (ix2 (⟨1024 * b.val + s.val, by omega⟩ : Fin 2048) e) :=
  shapeCast_apply x h _ _ (by
    rw [Shape.rowMajor_val_three, Shape.rowMajor_val_two]
    show (1024 * b.val + s.val) * n + e.val = (b.val * 1024 + s.val) * n + e.val
    rw [Nat.mul_comm 1024 b.val])
theorem shapeCast_join {α : Type} {n : ℕ} (x : (⟨3, ![2, 1024, n]⟩ : Shape).Idx → α) (h : (⟨3, ![2, 1024, n]⟩ : Shape).ShapeCasts ⟨2, ![2048, n]⟩)
    (b : Fin 2) (s : Fin 1024) (e : Fin n) :
    shapeCast ⟨2, ![2048, n]⟩ x h (ix2 (⟨1024 * b.val + s.val, by omega⟩ : Fin 2048) e) = x (ix3 b s e) :=
  shapeCast_apply x h _ _ (by
    rw [Shape.rowMajor_val_three, Shape.rowMajor_val_two]
    show (b.val * 1024 + s.val) * n + e.val = (1024 * b.val + s.val) * n + e.val
    rw [Nat.mul_comm 1024 b.val])

/-! The body's arrays, from what its inputs hold. -/
section
variable (c : Dev nD) (X : Buf (Elt Ideal) (xM.view.loc (c : Thread nD τ))) (Wt : Buf (Elt Ideal) (wM.view.loc (c : Thread nD τ)))
variable (Sc : Buf (Elt Ideal) (scM.view.loc (c : Thread nD τ))) (Id : Buf (Elt Ideal) (idM.view.loc (c : Thread nD τ)))
variable (x : Fin 2 → Fin 1024 → Fin 16384 → EReal) (sc : Fin 2 → Fin 1024 → EReal) (w : Fin 16384 → Fin 128 → EReal)
variable (ids : Fin 2 → Fin 1024 → Fin 8 → BitVec 32)

/-- The body's inputs hold the tokens joined, the weights, the scales, and the choices transposed. -/
structure Holds : Prop where
  tokens : ∀ b s d, xr c X (ix2 (⟨1024 * b.val + s.val, by omega⟩ : Fin 2048) d) = x b s d
  weights : ∀ d e, wr c Wt (ix2 d e) = w d e
  scales : ∀ b s, scr c Sc (ix2 b s) = sc b s
  choices : ∀ b s k, idr c Id (ix3 b k s) = ids b s k

variable {X Wt Sc Id x sc w ids} (H : Holds c X Wt Sc Id x sc w ids)
include H
theorem token_mod (b : Fin 2) (s : Fin 1024) (d : Fin 16384) :
    xr c X (ix2 (⟨(1024 * b.val + s.val) % 2048, Nat.mod_lt _ (by decide)⟩ : Fin 2048) d) = x b s d := by
  rw [← H.tokens b s d]
  have hb := b.isLt; have hs := s.isLt
  have h : (⟨(1024 * b.val + s.val) % 2048, Nat.mod_lt _ (by decide)⟩ : Fin 2048) = ⟨1024 * b.val + s.val, by omega⟩ :=
    Fin.ext (by show (1024 * b.val + s.val) % 2048 = 1024 * b.val + s.val; omega)
  rw [h]
theorem ksc_eq (b : Fin 2) (s : Fin 1024) : ksc c Sc (1024 * b.val + s.val) = sc b s := by
  rw [← H.scales b s]
  unfold ksc
  have hb := b.isLt; have hs := s.isLt
  have h2 : (⟨(1024 * b.val + s.val) / 1024 % 2, Nat.mod_lt _ (by decide)⟩ : Fin 2) = b := Fin.ext (by show (1024 * b.val + s.val) / 1024 % 2 = b.val; omega)
  have h3 : (⟨(1024 * b.val + s.val) % 1024, Nat.mod_lt _ (by decide)⟩ : Fin 1024) = s := Fin.ext (by show (1024 * b.val + s.val) % 1024 = s.val; omega)
  rw [h2, h3]
theorem krow_eq (b : Fin 2) (s : Fin 1024) : krow c X Wt Sc (1024 * b.val + s.val) = row x sc w b s := by
  funext e
  refine Eq.trans (b := (∑ d : Fin 16384, wr c Wt (ix2 d e) * xr c X (ix2 (⟨(1024 * b.val + s.val) % 2048, Nat.mod_lt _ (by decide)⟩ : Fin 2048) d)) * ksc c Sc (1024 * b.val + s.val)) rfl ?_
  unfold row
  rw [ksc_eq c H b s]
  refine congrArg (fun u : EReal => u * sc b s) (Finset.sum_congr rfl fun d _ => ?_)
  rw [token_mod c H b s d, H.weights d e, mul_comm]
theorem kfrow_eq : kfrow c Id = fr ids := by
  funext e
  refine (frac_apply c Id e).trans ?_
  unfold fr
  refine congrArg (fun u : EReal => u * Ideal.ofBits .f32 0x38800000#32) (Finset.sum_congr rfl fun b _ => Finset.sum_congr rfl fun s _ => Finset.sum_congr rfl fun k _ => ?_)
  rw [H.choices b s k]
  unfold ind
  exact if_congr eq_comm rfl rfl

theorem aux_val (b : Fin 2) (s : Fin 1024) : (bodyRun c X Wt Sc Id).val.aux (ix2 b s : S2x1024.Idx) = raux (row x sc w b s) (fr ids) := by
  rw [aux_apply, krow_eq c H, kfrow_eq c H]
theorem zt_val (b : Fin 2) (s : Fin 1024) : (bodyRun c X Wt Sc Id).val.zt (ix2 b s : S2x1024.Idx) = rzt (row x sc w b s) := by
  rw [zt_apply, krow_eq c H]
theorem lse_val (b : Fin 2) (s : Fin 1024) : (bodyRun c X Wt Sc Id).val.lse (ix2 b s : S2x1024.Idx) = rlse (row x sc w b s) := by
  rw [lse_apply, krow_eq c H]
theorem p_val (e : Fin 128) : (bodyRun c X Wt Sc Id).val.p (ix2 (0 : Fin 1) e : S1x128.Idx) = rmean x sc w e := by
  rw [p_apply]
  unfold rmean
  refine congrArg (fun u : EReal => u * Ideal.ofBits .f32 0x3A000000#32) (Finset.sum_congr rfl fun b _ => Finset.sum_congr rfl fun s _ => ?_)
  rw [krow_eq c H]
theorem dlog_val (b : Fin 2) (s : Fin 1024) (e : Fin 128) :
    (bodyRun c X Wt Sc Id).val.dlog (ix2 (⟨1024 * b.val + s.val, by omega⟩ : Fin 2048) e : S2048x128.Idx) = rdlog (row x sc w b s) (fr ids) e := by
  rw [dlog_apply, krow_eq c H, kfrow_eq c H]
theorem dw_val (d : Fin 16384) (e : Fin 128) :
    DW c (XV c X) (bodyRun c X Wt Sc Id).val.ds (ix2 d e : S16384x128.Idx) = rdw x sc w ids d e := by
  rw [DW_apply]
  have h : ∀ t : Fin 2048, dsr c (bodyRun c X Wt Sc Id).val.ds (ix2 e t) * xr c X (ix2 t d)
      = rdlog (krow c X Wt Sc t.val) (kfrow c Id) e * ksc c Sc t.val * xr c X (ix2 (⟨t.val % 2048, Nat.mod_lt _ (by decide)⟩ : Fin 2048) d) := fun t => by
    have ht : (⟨t.val % 2048, Nat.mod_lt _ (by decide)⟩ : Fin 2048) = t := Fin.ext (Nat.mod_eq_of_lt t.isLt)
    rw [ht]
    exact congrArg (fun u : EReal => u * xr c X (ix2 t d)) (ds_apply c X Wt Sc Id e t)
  refine (Finset.sum_congr rfl fun t _ => h t).trans ?_
  refine (sum_tokens fun t => rdlog (krow c X Wt Sc t) (kfrow c Id) e * ksc c Sc t * xr c X (ix2 (⟨t % 2048, Nat.mod_lt _ (by decide)⟩ : Fin 2048) d)).trans ?_
  unfold rdw
  refine Finset.sum_congr rfl fun b _ => Finset.sum_congr rfl fun s _ => ?_
  rw [krow_eq c H, kfrow_eq c H, ksc_eq c H, token_mod c H, mul_comm]
theorem dx_val (b : Fin 2) (s : Fin 1024) (d : Fin 16384) :
    DX c (WV c Wt) (bodyRun c X Wt Sc Id).val.dl (ix2 (⟨1024 * b.val + s.val, by omega⟩ : Fin 2048) d : S2048x16384.Idx) = rdx x sc w ids b s d := by
  have h : (∑ k : Fin 128, dlr c (bodyRun c X Wt Sc Id).val.dl (ix2 (⟨1024 * b.val + s.val, by omega⟩ : Fin 2048) k) * wr c Wt (ix2 d k)) = rdx x sc w ids b s d := by
    unfold rdx
    refine Finset.sum_congr rfl fun k _ => ?_
    rw [H.weights d k, ← krow_eq c H b s, ← kfrow_eq c H]
    exact congrArg (fun u : EReal => u * w d k) (dl_apply c X Wt Sc Id _ k)
  exact (DX_apply c Wt _ _ d).trans h
end

/-! The launch. -/
section
variable (m : (ℓ : Loc nD τ sig) → Buf (Elt Ideal) ℓ) (c : Dev nD)
/-- The arguments at launch. -/
def mx : S2x1024x16384.Idx → EReal := m ((c.tc : Thread nD τ).loc main_arg0)
def msc : S2x1024.Idx → EReal := m ((c.tc : Thread nD τ).loc main_arg1)
def mw : S16384x128.Idx → EReal := m ((c.tc : Thread nD τ).loc main_arg2)
def mids : S2x1024x8.Idx → BitVec 32 := m ((c.tc : Thread nD τ).loc main_arg3)
def ax (b : Fin 2) (s : Fin 1024) (d : Fin 16384) : EReal := mx m c (ix3 b s d)
def asc (b : Fin 2) (s : Fin 1024) : EReal := msc m c (ix2 b s)
def aw (d : Fin 16384) (e : Fin 128) : EReal := mw m c (ix2 d e)
def aids (b : Fin 2) (s : Fin 1024) (k : Fin 8) : BitVec 32 := mids m c (ix3 b s k)

theorem V_v0 : V m c main_v0 = shapeCast S2048x16384 (mx m c) shapeCasts_S2x1024x16384_S2048x16384 := by
  show StableHlo.after (List.flatten [hostOps0]) (fun b => m (c, b)) (Proc.devRef .tc main_v0) = _
  simp only [hostOps0, List.flatten_cons, List.flatten_nil, List.append_nil, List.cons_append, List.nil_append]
  after_results <;> rfl
theorem V_v1 : V m c main_v1 = transpose S2x8x1024 [0, 2, 1] (mids m c) transposes_S2x1024x8_S2x8x1024_0_2_1 := by
  show StableHlo.after (List.flatten [hostOps0]) (fun b => m (c, b)) (Proc.devRef .tc main_v1) = _
  simp only [hostOps0, List.flatten_cons, List.flatten_nil, List.append_nil, List.cons_append, List.nil_append]
  after_results <;> rfl
theorem holds : Holds c (V m c main_v0) (V m c main_arg2) (V m c main_arg1) (V m c main_v1) (ax m c) (asc m c) (aw m c) (aids m c) where
  tokens b s d := (congrFun (V_v0 m c) _).trans (shapeCast_join (mx m c) shapeCasts_S2x1024x16384_S2048x16384 b s d)
  weights d e := congrFun (V_main_arg2 m c) (ix2 d e)
  scales b s := congrFun (V_main_arg1 m c) (ix2 b s)
  choices b s k := (congrFun (V_v1 m c) _).trans (transpose_ix3_021_apply (mids m c) transposes_S2x1024x8_S2x8x1024_0_2_1 b k s)

/-! Each result, at an index. -/
theorem res_aux (b : Fin 2) (s : Fin 1024) : (found m c).aux (ix2 b s : S2x1024.Idx) = raux (row (ax m c) (asc m c) (aw m c) b s) (fr (aids m c)) :=
  aux_val c (holds m c) b s
theorem res_zt (b : Fin 2) (s : Fin 1024) : (found m c).zt (ix2 b s : S2x1024.Idx) = rzt (row (ax m c) (asc m c) (aw m c) b s) :=
  zt_val c (holds m c) b s
theorem res_lse (b : Fin 2) (s : Fin 1024) : (found m c).lse (ix2 b s : S2x1024.Idx) = rlse (row (ax m c) (asc m c) (aw m c) b s) :=
  lse_val c (holds m c) b s
theorem res_p (e : Fin 128) : shapeCast S128 (found m c).p shapeCasts_S1x128_S128 (ix1 e) = rmean (ax m c) (asc m c) (aw m c) e :=
  (shapeCast_1a_a_apply _ shapeCasts_S1x128_S128 e).trans (p_val c (holds m c) e)
theorem res_dlog (b : Fin 2) (s : Fin 1024) (e : Fin 128) :
    shapeCast S2x1024x128 (found m c).dlog shapeCasts_S2048x128_S2x1024x128 (ix3 b s e) = rdlog (row (ax m c) (asc m c) (aw m c) b s) (fr (aids m c)) e :=
  (shapeCast_split _ shapeCasts_S2048x128_S2x1024x128 b s e).trans (dlog_val c (holds m c) b s e)
theorem res_dw (d : Fin 16384) (e : Fin 128) :
    DW c (XV c (V m c main_v0)) (found m c).ds (ix2 d e : S16384x128.Idx) = rdw (ax m c) (asc m c) (aw m c) (aids m c) d e :=
  dw_val c (holds m c) d e
theorem res_dx (b : Fin 2) (s : Fin 1024) (d : Fin 16384) :
    shapeCast S2x1024x16384 (DX c (WV c (V m c main_arg2)) (found m c).dl) shapeCasts_S2048x16384_S2x1024x16384 (ix3 b s d)
      = rdx (ax m c) (asc m c) (aw m c) (aids m c) b s d :=
  (shapeCast_split _ shapeCasts_S2048x16384_S2x1024x16384 b s d).trans (dx_val c (holds m c) b s d)
end

end Cert.Proof.KernelIdeal

end
-- ==== Proof.RefRows.lean ====
/- Hand-written, untrusted. The reference's values at the extended reals, read at an index: one token's row. -/
module

public import proofs.«01_k».proof.Proof.Ref
public import proofs.«01_k».proof.Proof.Gen.ReferenceIdeal.Read
public import proofs.«01_k».proof.Proof.RouterMath
public import Idealize.ShloMosaic.Lib.ValueLayout

@[expose] public section

noncomputable section

namespace Cert.Proof.RefRows

open Cert.ReferenceIdeal Cert.ReferenceIdeal.Gen Cert.ReferenceIdeal.Read
open Idealize.ShloMosaic Idealize.ShloMosaic.ValueIdx
open Idealize.ShloMosaic.TcCoe Idealize.ShloMosaic.StableHlo
open Cert.Proof.Router
open scoped BigOperators

/-- A reduced index of a stack of rows with the last coordinate put back. -/
theorem lift_ix3_2 {a b n : ℕ} (h : (⟨3, ![a, b, n]⟩ : Shape).Reduces [2] (⟨2, ![a, b]⟩ : Shape)) (p : Fin a) (q : Fin b)
    (k : Fin ((⟨3, ![a, b, n]⟩ : Shape).size 2)) : h.lift (ix2 p q) k = ix3 p q (⟨k.val, k.isLt⟩ : Fin n) := by
  funext c; apply Fin.ext
  fin_cases c <;> rfl
theorem ofBits_bot : (Ideal.ofBits .f32 0xFF800000#32 : EReal) = ⊥ := by simp [Ideal.ofBits, Ideal.ieee]

theorem hostExp (x : EReal) : FloatOps.hostUnary (F := Ideal) (φ := .f32) .exp x = Ideal.exp x := rfl
theorem hostLog (x : EReal) : FloatOps.hostUnary (F := Ideal) (φ := .f32) .log x = Ideal.log x := rfl

section
variable (x1 : (⟨S2x1024, .f32⟩ : BufTy).Contents (Elt Ideal)) (x2 : (⟨S16384x128, .bf16⟩ : BufTy).Contents (Elt Ideal))
variable (r0 : (⟨S2x1024x16384, .bf16⟩ : BufTy).Contents (Elt Ideal)) (e0 : (⟨S128, .f32⟩ : BufTy).Contents (Elt Ideal))

/-- Token (b, s)'s row of scaled logits, and the experts' fractions. -/
def zrow (b : Fin 2) (s : Fin 1024) : Fin 128 → EReal := fun e =>
  (∑ d : Fin 16384, r0 (ix3 b s d) * x2 (ix2 d e)) * x1 (ix2 b s)
def frow : Fin 128 → EReal := fun e => e0 (ix1 e)

variable (b : Fin 2) (s : Fin 1024) (e : Fin 128)

theorem v14_apply : val_main_v14 (F := Ideal) x1 x2 r0 (ix3 b s e) = zrow x1 x2 r0 b s e := by
  rw [val_main_v14_apply, val_main_v11_apply, val_main_v13_apply, val_main_v12_apply]
  unfold zrow
  refine congrArg₂ (fun u v : EReal => u * v) (Finset.sum_congr rfl fun d _ => ?_) (congrArg x1 ?_)
  · refine congrArg₂ (fun u v : EReal => u * v) (congrArg r0 ?_) (congrArg x2 ?_)
    · funext a; fin_cases a <;> rfl
    · funext a; fin_cases a <;> rfl
  · funext a; fin_cases a <;> rfl
theorem v15_apply : val_main_v15 (F := Ideal) x1 x2 r0 (ix2 b s) = rmax (zrow x1 x2 r0 b s) := by
  unfold val_main_v15
  have hr : S2x1024x128.Reduces [2] S2x1024 := by decide
  refine (Host.reduce_eq_fold_single (FloatOps.maximumf (F := Ideal) (φ := .f32)) _ _ reducesTo_S2x1024x128_S2x1024_d2 hr h_S_ (ix2 b s)).trans ?_
  have hf : (val_main_v14 (F := Ideal) x1 x2 r0) ∘ hr.lift (ix2 b s) = zrow x1 x2 r0 b s :=
    funext fun k => (congrArg (val_main_v14 (F := Ideal) x1 x2 r0) (lift_ix3_2 hr b s k)).trans (v14_apply x1 x2 r0 b s k)
  rw [hf]
  exact congrArg (fun b' => (Finset.univ : Finset (Fin 128)).fold max b' (zrow x1 x2 r0 b s)) ofBits_bot
theorem v18_apply : val_main_v18 (F := Ideal) x1 x2 r0 (ix3 b s e) = zrow x1 x2 r0 b s e - rmax (zrow x1 x2 r0 b s) := by
  rw [val_main_v18_apply, v14_apply, val_main_v17_apply, val_main_v16_apply]
  refine congrArg (fun u : EReal => zrow x1 x2 r0 b s e - u) ((congrArg _ ?_).trans (v15_apply x1 x2 r0 b s))
  funext a; fin_cases a <;> rfl
theorem v20_apply : val_main_v20 (F := Ideal) x1 x2 r0 (ix2 b s) = rsum (zrow x1 x2 r0 b s) := by
  rw [val_main_v20_apply]
  unfold rsum
  have h0 : (val_main_cst_2 (F := Ideal)) (Shape.Idx.first h_S_) = (0 : EReal) := Ideal.ofBits_zero_f32
  rw [h0, zero_add]
  refine Finset.sum_congr rfl fun k _ => ?_
  have hk : idx_main_v20 (ix2 b s) k = ix3 b s k := by funext a; fin_cases a <;> rfl
  rw [hk, val_main_v19_apply, v18_apply]
  exact hostExp _
theorem v21_apply : val_main_v21 (F := Ideal) x1 x2 r0 (ix2 b s) = Ideal.log (rsum (zrow x1 x2 r0 b s)) := by
  rw [val_main_v21_apply, v20_apply]; exact hostLog _
theorem v22_apply : val_main_v22 (F := Ideal) x1 x2 r0 (ix2 b s) = rlse (zrow x1 x2 r0 b s) := by
  rw [val_main_v22_apply, v15_apply, v21_apply]; rfl
theorem v29_apply : val_main_v29 (F := Ideal) x1 x2 r0 (ix3 b s e) = rp (zrow x1 x2 r0 b s) e := by
  rw [val_main_v29_apply, val_main_v28_apply, val_main_v25_apply, v14_apply, val_main_v24_apply, val_main_v23_apply,
    val_main_v27_apply, val_main_v26_apply]
  have h1 : idx_main_v23 (idx_main_v24 (ix3 b s e)) = ix2 b s := by funext a; fin_cases a <;> rfl
  have h2 : idx_main_v26 (idx_main_v27 (ix3 b s e)) = ix2 b s := by funext a; fin_cases a <;> rfl
  rw [h1, h2, v15_apply, v21_apply]; exact hostExp _
theorem v36_apply : val_main_v36 (F := Ideal) x1 x2 r0 e0 (ix2 b s) = rg (zrow x1 x2 r0 b s) (frow e0) := by
  rw [val_main_v36_apply]
  unfold rg
  have h0 : (val_main_cst_5 (F := Ideal)) (Shape.Idx.first h_S_) = (0 : EReal) := Ideal.ofBits_zero_f32
  rw [h0, zero_add]
  refine Finset.sum_congr rfl fun k _ => ?_
  have hk : idx_main_v36 (ix2 b s) k = ix3 b s k := by funext a; fin_cases a <;> rfl
  rw [hk, val_main_v35_apply, v29_apply, val_main_v34_apply, val_main_v33_apply]
  have h1 : idx_main_v33 (idx_main_v34 (ix3 b s k)) = ix1 k := by funext a; fin_cases a <;> rfl
  rw [h1]; rfl
theorem v38_apply : val_main_v38 (F := Ideal) x1 x2 r0 e0 (ix2 b s) = raux (zrow x1 x2 r0 b s) (frow e0) := by
  rw [val_main_v38_apply, v36_apply, val_main_v37_apply]; rfl
theorem v41_apply : val_main_v41 (F := Ideal) x1 x2 r0 (ix2 b s) = rzt (zrow x1 x2 r0 b s) := by
  rw [val_main_v41_apply, val_main_v40_apply, v22_apply, val_main_v39_apply]; rfl
theorem v54_apply : val_main_v54 (F := Ideal) x1 x2 r0 e0 (ix3 b s e) = rdlog (zrow x1 x2 r0 b s) (frow e0) e := by
  rw [val_main_v54_apply, v29_apply, val_main_v53_apply, val_main_v48_apply, val_main_v46_apply, val_main_v44_apply, val_main_v43_apply,
    val_main_v45_apply, val_main_v42_apply, val_main_v52_apply, val_main_v51_apply, val_main_v49_apply, val_main_v47_apply, val_main_v50_apply]
  have h1 : idx_main_v43 (idx_main_v44 (ix3 b s e)) = ix1 e := by funext a; fin_cases a <;> rfl
  have h2 : idx_main_v42 (idx_main_v45 (ix3 b s e)) = ix2 b s := by funext a; fin_cases a <;> rfl
  have h3 : idx_main_v49 (idx_main_v52 (ix3 b s e)) = ix2 b s := by funext a; fin_cases a <;> rfl
  rw [h1, h2, h3, v36_apply, v22_apply]; rfl
theorem v58_apply : val_main_v58 (F := Ideal) x1 x2 r0 e0 (ix3 b s e) = rdlog (zrow x1 x2 r0 b s) (frow e0) e * x1 (ix2 b s) := by
  rw [val_main_v58_apply, val_main_v57_apply, v54_apply, val_main_v56_apply, val_main_v55_apply]
  have h1 : idx_main_v55 (idx_main_v56 (ix3 b s e)) = ix2 b s := by funext a; fin_cases a <;> rfl
  rw [h1]; rfl
theorem v62_apply (d : Fin 16384) : val_main_v62 (F := Ideal) x1 x2 r0 e0 (ix3 b s d)
    = ∑ k : Fin 128, rdlog (zrow x1 x2 r0 b s) (frow e0) k * x2 (ix2 d k) := by
  rw [val_main_v62_apply, val_main_v61_apply]
  refine Finset.sum_congr rfl fun k _ => ?_
  have hk : lidx_main_v61 (ix3 b s d) k = ix3 b s k := by funext a; fin_cases a <;> rfl
  have hd : ridx_main_v61 (ix3 b s d) k = ix2 d k := by funext a; fin_cases a <;> rfl
  rw [hk, hd, val_main_v60_apply, v54_apply]; rfl
end

end Cert.Proof.RefRows

end
-- ==== Proof.RefSums.lean ====
/- Hand-written, untrusted. The reference's sums over all the tokens, read at an index: the experts' fractions, the mean
   probabilities, and the weights' gradient. -/
module

public import proofs.«01_k».proof.Proof.RefRows
public import proofs.«01_k».proof.Proof.RouterSums
public import Idealize.ShloMosaic.Lib.IdealHost
public import Idealize.ShloMosaic.Lib.Pointwise
public import Idealize.ShloMosaic.Lib.TwoAxisContraction

@[expose] public section

noncomputable section

namespace Cert.Proof.RefRows

open Cert.ReferenceIdeal Cert.ReferenceIdeal.Gen Cert.ReferenceIdeal.Read
open Idealize.ShloMosaic hiding ix0 ix1 ix2 ix3 ix4
open Idealize.ShloMosaic.ValueIdx
open Idealize.ShloMosaic.TcCoe Idealize.ShloMosaic.StableHlo
open Cert.Proof.Router
open scoped BigOperators

/-- A sum over the leading axes of three, or of four. -/
theorem fiber3 (h : S2x1024x128.ReducesTo [0, 1] S128) (x : S2x1024x128.Idx → EReal) (e : Fin 128) :
    ∑ i ∈ Finset.univ.filter (fun i => h.drop i = ix1 e), x i = ∑ b : Fin 2, ∑ s : Fin 1024, x (ix3 b s e) := by
  rw [Finset.sum_filter]
  refine (sum_idx3 (n0 := 2) (n1 := 1024) (n2 := 128) fun i => if h.drop i = ix1 e then x i else 0).trans ?_
  refine Finset.sum_congr rfl fun b _ => Finset.sum_congr rfl fun s _ => ?_
  have hd : ∀ c : Fin 128, (h.drop (ix3 b s c) = ix1 e) ↔ c = e := fun c => by
    have hv : (h.drop (ix3 b s c) 0 : ℕ) = c.val := h.drop_apply_val_of_eq (ix3 b s c) 0 2
    constructor
    · intro hh
      rw [hh] at hv
      exact Fin.ext hv.symm
    · rintro rfl
      funext a
      have ha : a = 0 := Fin.eq_zero a
      subst ha
      exact Fin.ext hv
  rw [Finset.sum_eq_single e]
  · exact if_pos ((hd e).mpr rfl)
  · intro c _ hc; exact if_neg fun hh => hc ((hd c).mp hh)
  · intro hh; exact absurd (Finset.mem_univ e) hh
theorem fiber4 (h : S2x1024x8x128.ReducesTo [0, 1, 2] S128) (x : S2x1024x8x128.Idx → EReal) (e : Fin 128) :
    ∑ i ∈ Finset.univ.filter (fun i => h.drop i = ix1 e), x i = ∑ b : Fin 2, ∑ s : Fin 1024, ∑ k : Fin 8, x (ix4 b s k e) := by
  rw [Finset.sum_filter]
  refine (sum_idx4 (n0 := 2) (n1 := 1024) (n2 := 8) (n3 := 128) fun i => if h.drop i = ix1 e then x i else 0).trans ?_
  refine Finset.sum_congr rfl fun b _ => Finset.sum_congr rfl fun s _ => Finset.sum_congr rfl fun k _ => ?_
  have hd : ∀ c : Fin 128, (h.drop (ix4 b s k c) = ix1 e) ↔ c = e := fun c => by
    have hv : (h.drop (ix4 b s k c) 0 : ℕ) = c.val := h.drop_apply_val_of_eq (ix4 b s k c) 0 3
    constructor
    · intro hh
      rw [hh] at hv
      exact Fin.ext hv.symm
    · rintro rfl
      funext a
      have ha : a = 0 := Fin.eq_zero a
      subst ha
      exact Fin.ext hv
  rw [Finset.sum_eq_single e]
  · exact if_pos ((hd e).mpr rfl)
  · intro c _ hc; exact if_neg fun hh => hc ((hd c).mp hh)
  · intro hh; exact absurd (Finset.mem_univ e) hh

section
variable (x1 : (⟨S2x1024, .f32⟩ : BufTy).Contents (Elt Ideal)) (x2 : (⟨S16384x128, .bf16⟩ : BufTy).Contents (Elt Ideal))
variable (r0 : (⟨S2x1024x16384, .bf16⟩ : BufTy).Contents (Elt Ideal)) (e0 : (⟨S128, .f32⟩ : BufTy).Contents (Elt Ideal))
variable (ids : (⟨S2x1024x8, .i32⟩ : BufTy).Contents (Elt Ideal))

/-- The mean probability of each expert. -/
theorem v32_apply (e : Fin 128) : val_main_v32 (F := Ideal) x1 x2 r0 (ix1 e)
    = (∑ b : Fin 2, ∑ s : Fin 1024, rp (zrow x1 x2 r0 b s) e) * Ideal.ofBits .f32 0x3A000000#32 := by
  rw [← div_tokens, val_main_v32_apply, val_main_v31_apply]
  refine congrArg₂ Ideal.div ?_ rfl
  unfold val_main_v30
  rw [hostReduceAdd_apply]
  unfold Ideal.hostReduceAdd
  have h0 : (val_main_cst_3 (F := Ideal)) (Shape.Idx.first h_S_) = (0 : EReal) := Ideal.ofBits_zero_f32
  rw [h0, zero_add, fiber3]
  exact Finset.sum_congr rfl fun b _ => Finset.sum_congr rfl fun s _ => v29_apply x1 x2 r0 b s e

/-- The experts' fractions. -/
def fracs : (⟨S128, .f32⟩ : BufTy).Contents (Elt Ideal) :=
  Host.divf (F := Ideal) (φ := .f32) (Host.reduceAdd (uitofp .f32 (cmpi .eq (broadcastInDim S2x1024x8x128 ![0, 1, 2, 3] bcast_S2x1024x8x1_S2x1024x8x128_0_1_2_3 (broadcastInDim S2x1024x8x1 ![0, 1, 2] bcast_S2x1024x8_S2x1024x8x1_0_1_2 ids)) (broadcastInDim S2x1024x8x128 ![0, 1, 2, 3] bcast_S1x1x1x128_S2x1024x8x128_0_1_2_3 (broadcastInDim S1x1x1x128 ![3] bcast_S128_S1x1x1x128_3 (iotaInDim S128 32 0))))) (constant S_ .f32 0x00000000#32) reducesTo_S2x1024x8x128_S128_d0_1_2 h_S_) (broadcastInDim S128 ![] bcast_S_S128 (constant S_ .f32 0x46800000#32))
theorem fracs_apply (e : Fin 128) : fracs ids (ix1 e)
    = (∑ b : Fin 2, ∑ s : Fin 1024, ∑ k : Fin 8, ind (ids (ix3 b s k)) (BitVec.ofNat 32 e.val)) * Ideal.ofBits .f32 0x38800000#32 := by
  rw [← div_choices]
  unfold fracs
  rw [hostDivf_apply, broadcastInDim_scalar_apply]
  refine congrArg₂ Ideal.div ?_ rfl
  rw [hostReduceAdd_apply]
  unfold Ideal.hostReduceAdd
  have h0 : (constant (F := Ideal) S_ .f32 0x00000000#32) (Shape.Idx.first h_S_) = (0 : EReal) := Ideal.ofBits_zero_f32
  rw [h0, zero_add, fiber4]
  refine Finset.sum_congr rfl fun b _ => Finset.sum_congr rfl fun s _ => Finset.sum_congr rfl fun k _ => ?_
  rw [uitofp_apply, cmpi_apply]
  have hl : broadcastInDim S2x1024x8x128 ![0, 1, 2, 3] bcast_S2x1024x8x1_S2x1024x8x128_0_1_2_3 (broadcastInDim S2x1024x8x1 ![0, 1, 2] bcast_S2x1024x8_S2x1024x8x1_0_1_2 ids) (ix4 b s k e) = ids (ix3 b s k) := by
    rw [broadcastInDim_apply _ _ _ (ix4 b s k e) (ix4 b s k 0 : S2x1024x8x1.Idx) (fun a => by fin_cases a <;> rfl),
      broadcastInDim_apply _ _ _ (ix4 b s k 0 : S2x1024x8x1.Idx) (ix3 b s k : S2x1024x8.Idx) (fun a => by fin_cases a <;> rfl)]
  have hr : broadcastInDim S2x1024x8x128 ![0, 1, 2, 3] bcast_S1x1x1x128_S2x1024x8x128_0_1_2_3 (broadcastInDim S1x1x1x128 ![3] bcast_S128_S1x1x1x128_3 (iotaInDim S128 32 0)) (ix4 b s k e) = BitVec.ofNat 32 e.val := by
    rw [broadcastInDim_apply _ _ _ (ix4 b s k e) (ix4 0 0 0 e : S1x1x1x128.Idx) (fun a => by fin_cases a <;> rfl),
      broadcastInDim_apply _ _ _ (ix4 0 0 0 e : S1x1x1x128.Idx) (ix1 e : S128.Idx) (fun a => by fin_cases a; rfl)]
    rfl
  rw [hl, hr]
  exact ind_uitofp _ _

/-- The weights' gradient. -/
theorem v59_apply (d : Fin 16384) (e : Fin 128) : val_main_v59 (F := Ideal) x1 x2 r0 e0 (ix2 d e)
    = ∑ b : Fin 2, ∑ s : Fin 1024, r0 (ix3 b s d) * (rdlog (zrow x1 x2 r0 b s) (frow e0) e * x1 (ix2 b s)) := by
  unfold val_main_v59
  have hr : dot_S2x1024x16384_S2x1024x128_S16384x128_01_01_2_2_n_n.contr.rank = 2 := rfl
  have c0 : dot_S2x1024x16384_S2x1024x128_S16384x128_01_01_2_2_n_n.contr.size ⟨0, by rw [hr]; omega⟩ = 2 := rfl
  have c1 : dot_S2x1024x16384_S2x1024x128_S16384x128_01_01_2_2_n_n.contr.size ⟨1, by rw [hr]; omega⟩ = 1024 := rfl
  rw [show Host.dotGeneral (F := Ideal) (φ₁ := .bf16) (φ₂ := .bf16) dot_S2x1024x16384_S2x1024x128_S16384x128_01_01_2_2_n_n none r0 (val_main_v58 x1 x2 r0 e0) (ix2 d e) = _ from Ideal.dotGeneral_apply _ _ _ _ _ (ix2 d e)]
  rw [sum_contr2 dot_S2x1024x16384_S2x1024x128_S16384x128_01_01_2_2_n_n 2 1024 hr c0 c1]
  refine Finset.sum_congr rfl fun b _ => Finset.sum_congr rfl fun s _ => ?_
  have k0 := contrEquiv2_symm_val0 dot_S2x1024x16384_S2x1024x128_S16384x128_01_01_2_2_n_n 2 1024 hr c0 c1 (b, s)
  have k1 := contrEquiv2_symm_val1 dot_S2x1024x16384_S2x1024x128_S16384x128_01_01_2_2_n_n 2 1024 hr c0 c1 (b, s)
  have el : dot_S2x1024x16384_S2x1024x128_S16384x128_01_01_2_2_n_n.lhsIdx (ix2 d e)
      ((contrEquiv2 dot_S2x1024x16384_S2x1024x128_S16384x128_01_01_2_2_n_n 2 1024 hr c0 c1).symm (b, s)) = ix3 b s d := by
    funext a; apply Fin.ext
    match a with
    | ⟨0, _⟩ => exact k0
    | ⟨1, _⟩ => exact k1
    | ⟨2, _⟩ => rfl
  have er : dot_S2x1024x16384_S2x1024x128_S16384x128_01_01_2_2_n_n.rhsIdx (ix2 d e)
      ((contrEquiv2 dot_S2x1024x16384_S2x1024x128_S16384x128_01_01_2_2_n_n 2 1024 hr c0 c1).symm (b, s)) = ix3 b s e := by
    funext a; apply Fin.ext
    match a with
    | ⟨0, _⟩ => exact k0
    | ⟨1, _⟩ => exact k1
    | ⟨2, _⟩ => rfl
  rw [el, er, v58_apply]
end

end Cert.Proof.RefRows

end
-- ==== Proof.RefRegion.lean ====
/- Hand-written, untrusted. The reference's one kernel widens the tokens: read at the reals, its result is the tokens. -/
module

public import proofs.«01_k».proof.Proof.Gen.ReferenceIdeal.Run
public import Idealize.ShloMosaic.Lib.Pipeline.ValueKit

@[expose] public section

noncomputable section

namespace Cert.Proof.RefRows

open Cert.ReferenceIdeal Cert.ReferenceIdeal.Gen Cert.ReferenceIdeal.Value
open Idealize.ShloMosaic Idealize.ShloMosaic.TcCoe

variable (m : (ℓ : Loc nD τ sig) → Buf (Elt Ideal) ℓ)

/-- The tokens at launch, as an array of reals. -/
def xin (c : Dev nD) : S2x1024x16384.Idx → EReal := m ((c.tc : Thread nD τ).loc main_arg0)

theorem reg_eq (c : Dev nD) : reg_main_v10 m c = (xin m c : (⟨S2x1024x16384, .bf16⟩ : BufTy).Contents (Elt Ideal)) := by
  unfold reg_main_v10
  refine (dats m 0 c).arrAt_eq_of_covers 1 _ (by decide +kernel) fun t hf y => ?_
  blk_simp
  rw [after0_1]
  frame_out
  unfold k0_pay1
  refine Eq.trans (b := xin m c ((win0_0.blk t).view.emb y)) ?_ ?_
  · exact congrFun (V_main_arg0 m c) ((win0_0.blk t).view.emb y)
  · rfl

end Cert.Proof.RefRows

end
-- ==== Proof.RefResults.lean ====
/- Hand-written, untrusted. The reference's results at the reals, as functions of the launch arguments. -/
module

public import proofs.«01_k».proof.Proof.Ref
public import proofs.«01_k».proof.Proof.RefSums
public import proofs.«01_k».proof.Proof.RefRegion

@[expose] public section

noncomputable section

namespace Cert.Proof.RefRows

open Cert.ReferenceIdeal Cert.ReferenceIdeal.Gen Cert.ReferenceIdeal.Read Cert.ReferenceIdeal.Value
open Idealize.ShloMosaic hiding ix0 ix1 ix2 ix3 ix4
open Idealize.ShloMosaic.ValueIdx
open Idealize.ShloMosaic.TcCoe Idealize.ShloMosaic.StableHlo
open Cert.Proof.Router
open scoped BigOperators

variable (m : (ℓ : Loc nD τ sig) → Buf (Elt Ideal) ℓ) (c : Dev nD)
/-- The arguments at launch. -/
def xsc : S2x1024.Idx → EReal := m ((c.tc : Thread nD τ).loc main_arg1)
def xw : S16384x128.Idx → EReal := m ((c.tc : Thread nD τ).loc main_arg2)
def xids : S2x1024x8.Idx → BitVec 32 := m ((c.tc : Thread nD τ).loc main_arg3)
def ax (b : Fin 2) (s : Fin 1024) (d : Fin 16384) : EReal := xin m c (ix3 b s d)
def asc (b : Fin 2) (s : Fin 1024) : EReal := xsc m c (ix2 b s)
def aw (d : Fin 16384) (e : Fin 128) : EReal := xw m c (ix2 d e)
def aids (b : Fin 2) (s : Fin 1024) (k : Fin 8) : BitVec 32 := xids m c (ix3 b s k)

theorem at_arg1 : exitV m c (Proc.devRef .tc main_arg1) = xsc m c := exit_main_arg1 m c
theorem at_arg2 : exitV m c (Proc.devRef .tc main_arg2) = xw m c := exit_main_arg2 m c
theorem at_v10 : exitV m c (Proc.devRef .tc main_v10) = xin m c := (exit_main_v10 m c).trans (reg_eq m c)
theorem at_v9 : exitV m c (Proc.devRef .tc main_v9) = fracs (xids m c) := exit_main_v9 m c

theorem zrow_eq (b : Fin 2) (s : Fin 1024) : zrow (xsc m c) (xw m c) (xin m c) b s = row (ax m c) (asc m c) (aw m c) b s := rfl
theorem frow_eq : frow (fracs (xids m c)) = fr (aids m c) := funext fun e => fracs_apply (xids m c) e

/-! Each result, at an index. -/
theorem res_aux (b : Fin 2) (s : Fin 1024) : val_main_v38 (F := Ideal) (xsc m c) (xw m c) (xin m c) (fracs (xids m c)) (ix2 b s)
    = raux (row (ax m c) (asc m c) (aw m c) b s) (fr (aids m c)) := by rw [v38_apply, zrow_eq, frow_eq]
theorem res_zt (b : Fin 2) (s : Fin 1024) : val_main_v41 (F := Ideal) (xsc m c) (xw m c) (xin m c) (ix2 b s)
    = rzt (row (ax m c) (asc m c) (aw m c) b s) := by rw [v41_apply, zrow_eq]
theorem res_lse (b : Fin 2) (s : Fin 1024) : val_main_v22 (F := Ideal) (xsc m c) (xw m c) (xin m c) (ix2 b s)
    = rlse (row (ax m c) (asc m c) (aw m c) b s) := by rw [v22_apply, zrow_eq]
theorem res_p (e : Fin 128) : val_main_v32 (F := Ideal) (xsc m c) (xw m c) (xin m c) (ix1 e) = rmean (ax m c) (asc m c) (aw m c) e := v32_apply _ _ _ e
theorem res_dlog (b : Fin 2) (s : Fin 1024) (e : Fin 128) : val_main_v54 (F := Ideal) (xsc m c) (xw m c) (xin m c) (fracs (xids m c)) (ix3 b s e)
    = rdlog (row (ax m c) (asc m c) (aw m c) b s) (fr (aids m c)) e := by rw [v54_apply, zrow_eq, frow_eq]
theorem res_dw (d : Fin 16384) (e : Fin 128) : val_main_v59 (F := Ideal) (xsc m c) (xw m c) (xin m c) (fracs (xids m c)) (ix2 d e)
    = rdw (ax m c) (asc m c) (aw m c) (aids m c) d e := by
  rw [v59_apply, frow_eq]; rfl
theorem res_dx (b : Fin 2) (s : Fin 1024) (d : Fin 16384) : val_main_v62 (F := Ideal) (xsc m c) (xw m c) (xin m c) (fracs (xids m c)) (ix3 b s d)
    = rdx (ax m c) (asc m c) (aw m c) (aids m c) b s d := by
  rw [v62_apply, frow_eq]; rfl

end Cert.Proof.RefRows

end
-- ==== Proof.Agree.lean ====
/- Hand-written, untrusted. The kernel's and the reference's results agree at the reals, element for element. -/
module

public import proofs.«01_k».proof.Defs
public import proofs.«01_k».proof.Proof.IdealResults
public import proofs.«01_k».proof.Proof.RefResults

@[expose] public section

noncomputable section

namespace Cert.Proof

open Idealize.ShloMosaic hiding ix0 ix1 ix2 ix3 ix4 eq_ix1 eq_ix2 eq_ix3
open Idealize.ShloMosaic.ValueIdx
open Idealize.ShloMosaic.TcCoe Idealize.SL.Sem
open Cert.Proof.Router

section
variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The two programs are launched on the same arguments. -/
structure Same (c : Dev Cert.KernelIdeal.nD) : Prop where
  tokens : RefRows.xin m' c = KernelIdeal.mx m c
  scales : RefRows.xsc m' c = KernelIdeal.msc m c
  weights : RefRows.xw m' c = KernelIdeal.mw m c
  choices : RefRows.xids m' c = KernelIdeal.mids m c

variable {m m'} {c : Dev Cert.KernelIdeal.nD} (S : Same m m' c)
include S
theorem same_ax : RefRows.ax m' c = KernelIdeal.ax m c := by unfold RefRows.ax KernelIdeal.ax; rw [S.tokens]
theorem same_asc : RefRows.asc m' c = KernelIdeal.asc m c := by unfold RefRows.asc KernelIdeal.asc; rw [S.scales]
theorem same_aw : RefRows.aw m' c = KernelIdeal.aw m c := by unfold RefRows.aw KernelIdeal.aw; rw [S.weights]
theorem same_aids : RefRows.aids m' c = KernelIdeal.aids m c := by unfold RefRows.aids KernelIdeal.aids; rw [S.choices]

theorem agree_aux : Cert.ReferenceIdeal.Read.val_main_v38 (F := Ideal) (RefRows.xsc m' c) (RefRows.xw m' c) (RefRows.xin m' c) (RefRows.fracs (RefRows.xids m' c))
    = (KernelIdeal.found m c).aux := by
  funext i
  obtain ⟨b, s, rfl⟩ : ∃ (b : Fin 2) (s : Fin 1024), i = ix2 b s := ⟨_, _, eq_ix2 i⟩
  refine (RefRows.res_aux m' c b s).trans ?_
  rw [same_ax S, same_asc S, same_aw S, same_aids S]
  exact (KernelIdeal.res_aux m c b s).symm
theorem agree_zt : Cert.ReferenceIdeal.Read.val_main_v41 (F := Ideal) (RefRows.xsc m' c) (RefRows.xw m' c) (RefRows.xin m' c)
    = (KernelIdeal.found m c).zt := by
  funext i
  obtain ⟨b, s, rfl⟩ : ∃ (b : Fin 2) (s : Fin 1024), i = ix2 b s := ⟨_, _, eq_ix2 i⟩
  refine (RefRows.res_zt m' c b s).trans ?_
  rw [same_ax S, same_asc S, same_aw S]
  exact (KernelIdeal.res_zt m c b s).symm
theorem agree_p : Cert.ReferenceIdeal.Read.val_main_v32 (F := Ideal) (RefRows.xsc m' c) (RefRows.xw m' c) (RefRows.xin m' c)
    = shapeCast Cert.KernelIdeal.S128 (KernelIdeal.found m c).p Cert.KernelIdeal.Gen.shapeCasts_S1x128_S128 := by
  funext i
  obtain ⟨e, rfl⟩ : ∃ e : Fin 128, i = ix1 e := ⟨_, eq_ix1 i⟩
  refine (RefRows.res_p m' c e).trans ?_
  rw [same_ax S, same_asc S, same_aw S]
  exact (KernelIdeal.res_p m c e).symm
theorem agree_lse : Cert.ReferenceIdeal.Read.val_main_v22 (F := Ideal) (RefRows.xsc m' c) (RefRows.xw m' c) (RefRows.xin m' c)
    = (KernelIdeal.found m c).lse := by
  funext i
  obtain ⟨b, s, rfl⟩ : ∃ (b : Fin 2) (s : Fin 1024), i = ix2 b s := ⟨_, _, eq_ix2 i⟩
  refine (RefRows.res_lse m' c b s).trans ?_
  rw [same_ax S, same_asc S, same_aw S]
  exact (KernelIdeal.res_lse m c b s).symm
theorem agree_dlog : Cert.ReferenceIdeal.Read.val_main_v54 (F := Ideal) (RefRows.xsc m' c) (RefRows.xw m' c) (RefRows.xin m' c) (RefRows.fracs (RefRows.xids m' c))
    = shapeCast Cert.KernelIdeal.S2x1024x128 (KernelIdeal.found m c).dlog Cert.KernelIdeal.Gen.shapeCasts_S2048x128_S2x1024x128 := by
  funext i
  obtain ⟨b, s, e, rfl⟩ : ∃ (b : Fin 2) (s : Fin 1024) (e : Fin 128), i = ix3 b s e := ⟨_, _, _, eq_ix3 i⟩
  refine (RefRows.res_dlog m' c b s e).trans ?_
  rw [same_ax S, same_asc S, same_aw S, same_aids S]
  exact (KernelIdeal.res_dlog m c b s e).symm
theorem agree_dw : Cert.ReferenceIdeal.Read.val_main_v59 (F := Ideal) (RefRows.xsc m' c) (RefRows.xw m' c) (RefRows.xin m' c) (RefRows.fracs (RefRows.xids m' c))
    = KernelIdeal.DW c (KernelIdeal.XV c (Cert.KernelIdeal.Gen.V m c Cert.KernelIdeal.main_v0)) (KernelIdeal.found m c).ds := by
  funext i
  obtain ⟨d, e, rfl⟩ : ∃ (d : Fin 16384) (e : Fin 128), i = ix2 d e := ⟨_, _, eq_ix2 i⟩
  refine (RefRows.res_dw m' c d e).trans ?_
  rw [same_ax S, same_asc S, same_aw S, same_aids S]
  exact (KernelIdeal.res_dw m c d e).symm
theorem agree_dx : Cert.ReferenceIdeal.Read.val_main_v62 (F := Ideal) (RefRows.xsc m' c) (RefRows.xw m' c) (RefRows.xin m' c) (RefRows.fracs (RefRows.xids m' c))
    = shapeCast Cert.KernelIdeal.S2x1024x16384 (KernelIdeal.DX c (KernelIdeal.WV c (Cert.KernelIdeal.Gen.V m c Cert.KernelIdeal.main_arg2)) (KernelIdeal.found m c).dl)
      Cert.KernelIdeal.Gen.shapeCasts_S2048x16384_S2x1024x16384 := by
  funext i
  obtain ⟨b, s, d, rfl⟩ : ∃ (b : Fin 2) (s : Fin 1024) (d : Fin 16384), i = ix3 b s d := ⟨_, _, _, eq_ix3 i⟩
  refine (RefRows.res_dx m' c b s d).trans ?_
  rw [same_ax S, same_asc S, same_aw S, same_aids S]
  exact (KernelIdeal.res_dx m c b s d).symm
end

/-- Launched on the same arguments, the kernel and the reference end with equal results: what the kernel leaves, the reference leaves. -/
theorem algebraic : Cert.algebraic_KernelIdeal_ReferenceIdeal (hKernelIdeal := Cert.KernelIdeal.Gen.facts) (hReferenceIdeal := Cert.ReferenceIdeal.Gen.facts) := by
  intro m g m' g' _ hm
  have S : ∀ c, Same m m' c := fun c => ⟨(hm c).1, (hm c).2.1, (hm c).2.2.1, (hm c).2.2.2⟩
  refine ⟨fun c => (KernelIdeal.found m c).aux, fun c => (KernelIdeal.found m c).zt,
    fun c => shapeCast Cert.KernelIdeal.S128 (KernelIdeal.found m c).p Cert.KernelIdeal.Gen.facts.shapeCasts_S1x128_S128,
    fun c => (KernelIdeal.found m c).lse,
    fun c => shapeCast Cert.KernelIdeal.S2x1024x128 (KernelIdeal.found m c).dlog Cert.KernelIdeal.Gen.facts.shapeCasts_S2048x128_S2x1024x128,
    fun c => KernelIdeal.DW c (KernelIdeal.XV c (Cert.KernelIdeal.Gen.V m c Cert.KernelIdeal.main_v0)) (KernelIdeal.found m c).ds,
    fun c => shapeCast Cert.KernelIdeal.S2x1024x16384 (KernelIdeal.DX c (KernelIdeal.WV c (Cert.KernelIdeal.Gen.V m c Cert.KernelIdeal.main_arg2)) (KernelIdeal.found m c).dl)
      Cert.KernelIdeal.Gen.facts.shapeCasts_S2048x16384_S2x1024x16384, ?_, ?_⟩
  · refine (θ_run _ _ _).mono (fun r h c => ?_) (KernelIdeal.run m g)
    obtain ⟨⟨h0, h1, h2, h3, h4, h5, h6⟩, ha0, ha1, ha2, ha3⟩ := h.1 c
    exact ⟨h0, h1, h2, h3, h4, h5, h6, ha0, ha1, ha2, ha3⟩
  · refine (θ_run _ _ _).mono (fun r h c => ?_) (Cert.ReferenceIdeal.Value.run m' g')
    obtain ⟨h0, h1, h2, h3, h4, h5, h6, ha⟩ := h c
    have e1 := RefRows.at_arg1 m' c
    have e2 := RefRows.at_arg2 m' c
    have e3 := RefRows.at_v10 m' c
    have e4 := RefRows.at_v9 m' c
    rw [Cert.ReferenceIdeal.Read.val_main_v38_eq, e1, e2, e3, e4] at h0
    rw [Cert.ReferenceIdeal.Read.val_main_v41_eq, e1, e2, e3] at h1
    rw [Cert.ReferenceIdeal.Read.val_main_v32_eq, e1, e2, e3] at h2
    rw [Cert.ReferenceIdeal.Read.val_main_v22_eq, e1, e2, e3] at h3
    rw [Cert.ReferenceIdeal.Read.val_main_v54_eq, e1, e2, e3, e4] at h4
    rw [Cert.ReferenceIdeal.Read.val_main_v59_eq, e1, e2, e3, e4] at h5
    rw [Cert.ReferenceIdeal.Read.val_main_v62_eq, e1, e2, e3, e4] at h6
    exact ⟨h0.trans (agree_aux (S c)), h1.trans (agree_zt (S c)), h2.trans (agree_p (S c)), h3.trans (agree_lse (S c)),
      h4.trans (agree_dlog (S c)), h5.trans (agree_dw (S c)), h6.trans (agree_dx (S c)), ha⟩

end Cert.Proof

end
-- ==== Proof.lean ====
/- Hand-written, untrusted. The proof of `Cert.Claim`: the kernel, its idealization and the reference each run to the end,
   with their arguments as launched and every semaphore at zero, the idealization preserves the kernel,
   and the idealized kernel's seven results are the reference's. -/
module

public import proofs.«01_k».proof.Defs
public import proofs.«01_k».proof.Proof.BitsRun
public import proofs.«01_k».proof.Proof.IdealRun
public import proofs.«01_k».proof.Proof.Ref
public import proofs.«01_k».proof.Proof.Gen.ReferenceIdeal.Frame
public import proofs.«01_k».proof.Proof.Agree
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  fun m g _ => Kernel.frame m g, fun m g _ => KernelIdeal.frame m g, fun m g _ => Cert.ReferenceIdeal.Gen.frame m g, trivial, algebraic⟩

end Cert.Proof

end
